-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_pre [hPre_attn_pre : Cert.Pre_attn_pre.Facts] (m : (ℓ : Loc Cert.AttnIdeal.nD Cert.AttnIdeal.τ Cert.AttnIdeal.sig) → Buf (Elt Ideal) ℓ) : Prop :=
  ∀ c : Dev Cert.AttnIdeal.nD,
    (Cert.Pre_attn_pre.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_pre [hPre_attn_pre : Cert.Pre_attn_pre.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_pre.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_IdxProj (m : (ℓ : Loc Cert.IdxProj.nD Cert.IdxProj.τ Cert.IdxProj.sig) → Buf (Elt Bits) ℓ) : Prop :=
  True

def Pre_IdxProjIdeal (m : (ℓ : Loc Cert.IdxProjIdeal.nD Cert.IdxProjIdeal.τ Cert.IdxProjIdeal.sig) → Buf (Elt Ideal) ℓ) : Prop :=
  True

def Pre_IdxProjRefIdeal (m : (ℓ : Loc Cert.IdxProjRefIdeal.nD Cert.IdxProjRefIdeal.τ Cert.IdxProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnIdeal_pre_attn_pre [hAttnIdeal : Cert.AttnIdeal.Facts] [hPre_attn_pre : Cert.Pre_attn_pre.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_pre m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_AttnRefIdeal_pre_attn_pre [hAttnRefIdeal : Cert.AttnRefIdeal.Facts] [hPre_attn_pre : Cert.Pre_attn_pre.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_pre m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_IdxProj [hIdxProj : Cert.IdxProj.Facts] : Prop :=
  ∀ (m : (ℓ : Loc Cert.IdxProj.nD Cert.IdxProj.τ Cert.IdxProj.sig) → Buf (Elt Bits) ℓ) (g : Dev Cert.IdxProj.nD → PrngReg), Pre_IdxProj m →
    θ_run (Cert.IdxProj.defs (F := Bits)) (onTc (τ := Cert.IdxProj.τ) (Cert.IdxProj.main (F := Bits))) ⟨m, fun _ => 0, g⟩ (fun r => (∀ c : Dev Cert.IdxProj.nD,
      r.2.mem ((c.tc : Thread Cert.IdxProj.nD Cert.IdxProj.τ).loc Cert.IdxProj.main_arg0) = m ((c.tc : Thread Cert.IdxProj.nD Cert.IdxProj.τ).loc Cert.IdxProj.main_arg0)
      ∧ r.2.mem ((c.tc : Thread Cert.IdxProj.nD Cert.IdxProj.τ).loc Cert.IdxProj.main_arg1) = m ((c.tc : Thread Cert.IdxProj.nD Cert.IdxProj.τ).loc Cert.IdxProj.main_arg1)
      ∧ r.2.mem ((c.tc : Thread Cert.IdxProj.nD Cert.IdxProj.τ).loc Cert.IdxProj.main_arg2) = m ((c.tc : Thread Cert.IdxProj.nD Cert.IdxProj.τ).loc Cert.IdxProj.main_arg2)
      ∧ r.2.mem ((c.tc : Thread Cert.IdxProj.nD Cert.IdxProj.τ).loc Cert.IdxProj.main_arg3) = m ((c.tc : Thread Cert.IdxProj.nD Cert.IdxProj.τ).loc Cert.IdxProj.main_arg3))
      ∧ r.2.sem = fun _ => 0)

def quiescent_IdxProjIdeal [hIdxProjIdeal : Cert.IdxProjIdeal.Facts] : Prop :=
  ∀ (m : (ℓ : Loc Cert.IdxProjIdeal.nD Cert.IdxProjIdeal.τ Cert.IdxProjIdeal.sig) → Buf (Elt Ideal) ℓ) (g : Dev Cert.IdxProjIdeal.nD → PrngReg), Pre_IdxProjIdeal m →
    θ_run (Cert.IdxProjIdeal.defs (F := Ideal)) (onTc (τ := Cert.IdxProjIdeal.τ) (Cert.IdxProjIdeal.main (F := Ideal))) ⟨m, fun _ => 0, g⟩ (fun r => (∀ c : Dev Cert.IdxProjIdeal.nD,
      r.2.mem ((c.tc : Thread Cert.IdxProjIdeal.nD Cert.IdxProjIdeal.τ).loc Cert.IdxProjIdeal.main_arg0) = m ((c.tc : Thread Cert.IdxProjIdeal.nD Cert.IdxProjIdeal.τ).loc Cert.IdxProjIdeal.main_arg0)
      ∧ r.2.mem ((c.tc : Thread Cert.IdxProjIdeal.nD Cert.IdxProjIdeal.τ).loc Cert.IdxProjIdeal.main_arg1) = m ((c.tc : Thread Cert.IdxProjIdeal.nD Cert.IdxProjIdeal.τ).loc Cert.IdxProjIdeal.main_arg1)
      ∧ r.2.mem ((c.tc : Thread Cert.IdxProjIdeal.nD Cert.IdxProjIdeal.τ).loc Cert.IdxProjIdeal.main_arg2) = m ((c.tc : Thread Cert.IdxProjIdeal.nD Cert.IdxProjIdeal.τ).loc Cert.IdxProjIdeal.main_arg2)
      ∧ r.2.mem ((c.tc : Thread Cert.IdxProjIdeal.nD Cert.IdxProjIdeal.τ).loc Cert.IdxProjIdeal.main_arg3) = m ((c.tc : Thread Cert.IdxProjIdeal.nD Cert.IdxProjIdeal.τ).loc Cert.IdxProjIdeal.main_arg3))
      ∧ r.2.sem = fun _ => 0)

def quiescent_IdxProjRefIdeal [hIdxProjRefIdeal : Cert.IdxProjRefIdeal.Facts] : Prop :=
  ∀ (m : (ℓ : Loc Cert.IdxProjRefIdeal.nD Cert.IdxProjRefIdeal.τ Cert.IdxProjRefIdeal.sig) → Buf (Elt Ideal) ℓ) (g : Dev Cert.IdxProjRefIdeal.nD → PrngReg), Pre_IdxProjRefIdeal m →
    θ_run (Cert.IdxProjRefIdeal.defs (F := Ideal)) (onTc (τ := Cert.IdxProjRefIdeal.τ) (Cert.IdxProjRefIdeal.main (F := Ideal))) ⟨m, fun _ => 0, g⟩ (fun r => (∀ c : Dev Cert.IdxProjRefIdeal.nD,
      r.2.mem ((c.tc : Thread Cert.IdxProjRefIdeal.nD Cert.IdxProjRefIdeal.τ).loc Cert.IdxProjRefIdeal.main_arg0) = m ((c.tc : Thread Cert.IdxProjRefIdeal.nD Cert.IdxProjRefIdeal.τ).loc Cert.IdxProjRefIdeal.main_arg0)
      ∧ r.2.mem ((c.tc : Thread Cert.IdxProjRefIdeal.nD Cert.IdxProjRefIdeal.τ).loc Cert.IdxProjRefIdeal.main_arg1) = m ((c.tc : Thread Cert.IdxProjRefIdeal.nD Cert.IdxProjRefIdeal.τ).loc Cert.IdxProjRefIdeal.main_arg1)
      ∧ r.2.mem ((c.tc : Thread Cert.IdxProjRefIdeal.nD Cert.IdxProjRefIdeal.τ).loc Cert.IdxProjRefIdeal.main_arg2) = m ((c.tc : Thread Cert.IdxProjRefIdeal.nD Cert.IdxProjRefIdeal.τ).loc Cert.IdxProjRefIdeal.main_arg2)
      ∧ r.2.mem ((c.tc : Thread Cert.IdxProjRefIdeal.nD Cert.IdxProjRefIdeal.τ).loc Cert.IdxProjRefIdeal.main_arg3) = m ((c.tc : Thread Cert.IdxProjRefIdeal.nD Cert.IdxProjRefIdeal.τ).loc Cert.IdxProjRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3)
      ∧ r.2.mem ((c.tc : Thread Cert.FfnUp.nD Cert.FfnUp.τ).loc Cert.FfnUp.main_arg4) = m ((c.tc : Thread Cert.FfnUp.nD Cert.FfnUp.τ).loc Cert.FfnUp.main_arg4))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
      ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2)
      ∧ r.2.mem ((c.tc : Thread Cert.FfnUpRefIdeal.nD Cert.FfnUpRefIdeal.τ).loc Cert.FfnUpRefIdeal.main_arg3) = m ((c.tc : Thread Cert.FfnUpRefIdeal.nD Cert.FfnUpRefIdeal.τ).loc Cert.FfnUpRefIdeal.main_arg3)
      ∧ r.2.mem ((c.tc : Thread Cert.FfnUpRefIdeal.nD Cert.FfnUpRefIdeal.τ).loc Cert.FfnUpRefIdeal.main_arg4) = m ((c.tc : Thread Cert.FfnUpRefIdeal.nD Cert.FfnUpRefIdeal.τ).loc Cert.FfnUpRefIdeal.main_arg4))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3))
      ∧ r.2.sem = fun _ => 0)

def preserves_Attn_AttnIdeal : Prop :=
  IdealRules.named_const.Statement Cert.AttnIdeal.κ "scale_log2e" .f32 0x3E0293EE#32 (((Real.sqrt 128)⁻¹ * (Real.log 2)⁻¹ : ℝ) : EReal)
  ∧ IdealRules.named_const.Statement Cert.AttnIdeal.κ "mask" .f32 0xF149F2CA#32 ⊥

def algebraic_AttnIdeal_AttnRefIdeal_pre_attn_pre [hAttnIdeal : Cert.AttnIdeal.Facts] [hAttnRefIdeal : Cert.AttnRefIdeal.Facts] [hPre_attn_pre : Cert.Pre_attn_pre.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_pre m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)) →
    ∃ (v0 : (c : Dev Cert.AttnIdeal.nD) → Buf (Elt Ideal) ((c.tc : Thread Cert.AttnIdeal.nD Cert.AttnIdeal.τ).loc Cert.AttnIdeal.main_v11)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v11) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v43) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v14) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_IdxProj_IdxProjIdeal : Prop :=
  True

def algebraic_IdxProjIdeal_IdxProjRefIdeal [hIdxProjIdeal : Cert.IdxProjIdeal.Facts] [hIdxProjRefIdeal : Cert.IdxProjRefIdeal.Facts] : Prop :=
  ∀ (m : (ℓ : Loc Cert.IdxProjIdeal.nD Cert.IdxProjIdeal.τ Cert.IdxProjIdeal.sig) → Buf (Elt Ideal) ℓ) (g : Dev Cert.IdxProjIdeal.nD → PrngReg)
    (m' : (ℓ : Loc Cert.IdxProjRefIdeal.nD Cert.IdxProjRefIdeal.τ Cert.IdxProjRefIdeal.sig) → Buf (Elt Ideal) ℓ) (g' : Dev Cert.IdxProjRefIdeal.nD → PrngReg), Pre_IdxProjIdeal m →
    (∀ c : Dev Cert.IdxProjIdeal.nD,
      m' ((c.tc : Thread Cert.IdxProjRefIdeal.nD Cert.IdxProjRefIdeal.τ).loc Cert.IdxProjRefIdeal.main_arg0) = m ((c.tc : Thread Cert.IdxProjIdeal.nD Cert.IdxProjIdeal.τ).loc Cert.IdxProjIdeal.main_arg0)
      ∧ m' ((c.tc : Thread Cert.IdxProjRefIdeal.nD Cert.IdxProjRefIdeal.τ).loc Cert.IdxProjRefIdeal.main_arg1) = m ((c.tc : Thread Cert.IdxProjIdeal.nD Cert.IdxProjIdeal.τ).loc Cert.IdxProjIdeal.main_arg1)
      ∧ m' ((c.tc : Thread Cert.IdxProjRefIdeal.nD Cert.IdxProjRefIdeal.τ).loc Cert.IdxProjRefIdeal.main_arg2) = m ((c.tc : Thread Cert.IdxProjIdeal.nD Cert.IdxProjIdeal.τ).loc Cert.IdxProjIdeal.main_arg2)
      ∧ m' ((c.tc : Thread Cert.IdxProjRefIdeal.nD Cert.IdxProjRefIdeal.τ).loc Cert.IdxProjRefIdeal.main_arg3) = m ((c.tc : Thread Cert.IdxProjIdeal.nD Cert.IdxProjIdeal.τ).loc Cert.IdxProjIdeal.main_arg3)) →
    ∃ (v0 : (c : Dev Cert.IdxProjIdeal.nD) → Buf (Elt Ideal) ((c.tc : Thread Cert.IdxProjIdeal.nD Cert.IdxProjIdeal.τ).loc Cert.IdxProjIdeal.main_v5_0)) (v1 : (c : Dev Cert.IdxProjIdeal.nD) → Buf (Elt Ideal) ((c.tc : Thread Cert.IdxProjIdeal.nD Cert.IdxProjIdeal.τ).loc Cert.IdxProjIdeal.main_v5_1)) (v2 : (c : Dev Cert.IdxProjIdeal.nD) → Buf (Elt Ideal) ((c.tc : Thread Cert.IdxProjIdeal.nD Cert.IdxProjIdeal.τ).loc Cert.IdxProjIdeal.main_v5_2)),
      θ_run (Cert.IdxProjIdeal.defs (F := Ideal)) (onTc (τ := Cert.IdxProjIdeal.τ) (Cert.IdxProjIdeal.main (F := Ideal))) ⟨m, fun _ => 0, g⟩ (fun r => ∀ c : Dev Cert.IdxProjIdeal.nD,
          r.2.mem ((c.tc : Thread Cert.IdxProjIdeal.nD Cert.IdxProjIdeal.τ).loc Cert.IdxProjIdeal.main_v5_0) = v0 c
          ∧ r.2.mem ((c.tc : Thread Cert.IdxProjIdeal.nD Cert.IdxProjIdeal.τ).loc Cert.IdxProjIdeal.main_v5_1) = v1 c
          ∧ r.2.mem ((c.tc : Thread Cert.IdxProjIdeal.nD Cert.IdxProjIdeal.τ).loc Cert.IdxProjIdeal.main_v5_2) = v2 c
          ∧ r.2.mem ((c.tc : Thread Cert.IdxProjIdeal.nD Cert.IdxProjIdeal.τ).loc Cert.IdxProjIdeal.main_arg0) = m ((c.tc : Thread Cert.IdxProjIdeal.nD Cert.IdxProjIdeal.τ).loc Cert.IdxProjIdeal.main_arg0)
          ∧ r.2.mem ((c.tc : Thread Cert.IdxProjIdeal.nD Cert.IdxProjIdeal.τ).loc Cert.IdxProjIdeal.main_arg1) = m ((c.tc : Thread Cert.IdxProjIdeal.nD Cert.IdxProjIdeal.τ).loc Cert.IdxProjIdeal.main_arg1)
          ∧ r.2.mem ((c.tc : Thread Cert.IdxProjIdeal.nD Cert.IdxProjIdeal.τ).loc Cert.IdxProjIdeal.main_arg2) = m ((c.tc : Thread Cert.IdxProjIdeal.nD Cert.IdxProjIdeal.τ).loc Cert.IdxProjIdeal.main_arg2)
          ∧ r.2.mem ((c.tc : Thread Cert.IdxProjIdeal.nD Cert.IdxProjIdeal.τ).loc Cert.IdxProjIdeal.main_arg3) = m ((c.tc : Thread Cert.IdxProjIdeal.nD Cert.IdxProjIdeal.τ).loc Cert.IdxProjIdeal.main_arg3))
      ∧ θ_run (Cert.IdxProjRefIdeal.defs (F := Ideal)) (onTc (τ := Cert.IdxProjRefIdeal.τ) (Cert.IdxProjRefIdeal.main (F := Ideal))) ⟨m', fun _ => 0, g'⟩ (fun r => ∀ c : Dev Cert.IdxProjRefIdeal.nD,
          r.2.mem ((c.tc : Thread Cert.IdxProjRefIdeal.nD Cert.IdxProjRefIdeal.τ).loc Cert.IdxProjRefIdeal.main_v29) = v0 c
          ∧ r.2.mem ((c.tc : Thread Cert.IdxProjRefIdeal.nD Cert.IdxProjRefIdeal.τ).loc Cert.IdxProjRefIdeal.main_v30) = v1 c
          ∧ r.2.mem ((c.tc : Thread Cert.IdxProjRefIdeal.nD Cert.IdxProjRefIdeal.τ).loc Cert.IdxProjRefIdeal.main_v31) = v2 c
          ∧ r.2.mem ((c.tc : Thread Cert.IdxProjRefIdeal.nD Cert.IdxProjRefIdeal.τ).loc Cert.IdxProjRefIdeal.main_arg0) = m' ((c.tc : Thread Cert.IdxProjRefIdeal.nD Cert.IdxProjRefIdeal.τ).loc Cert.IdxProjRefIdeal.main_arg0)
          ∧ r.2.mem ((c.tc : Thread Cert.IdxProjRefIdeal.nD Cert.IdxProjRefIdeal.τ).loc Cert.IdxProjRefIdeal.main_arg1) = m' ((c.tc : Thread Cert.IdxProjRefIdeal.nD Cert.IdxProjRefIdeal.τ).loc Cert.IdxProjRefIdeal.main_arg1)
          ∧ r.2.mem ((c.tc : Thread Cert.IdxProjRefIdeal.nD Cert.IdxProjRefIdeal.τ).loc Cert.IdxProjRefIdeal.main_arg2) = m' ((c.tc : Thread Cert.IdxProjRefIdeal.nD Cert.IdxProjRefIdeal.τ).loc Cert.IdxProjRefIdeal.main_arg2)
          ∧ r.2.mem ((c.tc : Thread Cert.IdxProjRefIdeal.nD Cert.IdxProjRefIdeal.τ).loc Cert.IdxProjRefIdeal.main_arg3) = m' ((c.tc : Thread Cert.IdxProjRefIdeal.nD Cert.IdxProjRefIdeal.τ).loc Cert.IdxProjRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v22) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v2_0)) (v1 : (c : Dev Cert.OutProjIdeal.nD) → Buf (Elt Ideal) ((c.tc : Thread Cert.OutProjIdeal.nD Cert.OutProjIdeal.τ).loc Cert.OutProjIdeal.main_v2_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2_0) = v0 c
          ∧ r.2.mem ((c.tc : Thread Cert.OutProjIdeal.nD Cert.OutProjIdeal.τ).loc Cert.OutProjIdeal.main_v2_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_v16) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)
      ∧ m' ((c.tc : Thread Cert.FfnUpRefIdeal.nD Cert.FfnUpRefIdeal.τ).loc Cert.FfnUpRefIdeal.main_arg3) = m ((c.tc : Thread Cert.FfnUpIdeal.nD Cert.FfnUpIdeal.τ).loc Cert.FfnUpIdeal.main_arg3)
      ∧ m' ((c.tc : Thread Cert.FfnUpRefIdeal.nD Cert.FfnUpRefIdeal.τ).loc Cert.FfnUpRefIdeal.main_arg4) = m ((c.tc : Thread Cert.FfnUpIdeal.nD Cert.FfnUpIdeal.τ).loc Cert.FfnUpIdeal.main_arg4)) →
    ∃ (v0 : (c : Dev Cert.FfnUpIdeal.nD) → Buf (Elt Ideal) ((c.tc : Thread Cert.FfnUpIdeal.nD Cert.FfnUpIdeal.τ).loc Cert.FfnUpIdeal.main_v4)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v4) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
          ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v33) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2)
          ∧ r.2.mem ((c.tc : Thread Cert.FfnUpRefIdeal.nD Cert.FfnUpRefIdeal.τ).loc Cert.FfnUpRefIdeal.main_arg3) = m' ((c.tc : Thread Cert.FfnUpRefIdeal.nD Cert.FfnUpRefIdeal.τ).loc Cert.FfnUpRefIdeal.main_arg3)
          ∧ r.2.mem ((c.tc : Thread Cert.FfnUpRefIdeal.nD Cert.FfnUpRefIdeal.τ).loc Cert.FfnUpRefIdeal.main_arg4) = m' ((c.tc : Thread Cert.FfnUpRefIdeal.nD Cert.FfnUpRefIdeal.τ).loc Cert.FfnUpRefIdeal.main_arg4))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)) →
    ∃ (v0 : (c : Dev Cert.FfnDownIdeal.nD) → Buf (Elt Ideal) ((c.tc : Thread Cert.FfnDownIdeal.nD Cert.FfnDownIdeal.τ).loc Cert.FfnDownIdeal.main_v2)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v2) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v18) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3))

def Claim : Prop :=
  ∃ (hAttn : Cert.Attn.Facts) (hAttnIdeal : Cert.AttnIdeal.Facts) (hAttnRefIdeal : Cert.AttnRefIdeal.Facts) (hInProj : Cert.InProj.Facts) (hInProjIdeal : Cert.InProjIdeal.Facts) (hInProjRefIdeal : Cert.InProjRefIdeal.Facts) (hIdxProj : Cert.IdxProj.Facts) (hIdxProjIdeal : Cert.IdxProjIdeal.Facts) (hIdxProjRefIdeal : Cert.IdxProjRefIdeal.Facts) (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hPre_attn_pre : Cert.Pre_attn_pre.Facts),
    quiescent_Attn (hAttn := hAttn)
    ∧ quiescent_AttnIdeal (hAttnIdeal := hAttnIdeal)
    ∧ quiescent_AttnIdeal_pre_attn_pre (hAttnIdeal := hAttnIdeal) (hPre_attn_pre := hPre_attn_pre)
    ∧ quiescent_AttnRefIdeal (hAttnRefIdeal := hAttnRefIdeal)
    ∧ quiescent_AttnRefIdeal_pre_attn_pre (hAttnRefIdeal := hAttnRefIdeal) (hPre_attn_pre := hPre_attn_pre)
    ∧ quiescent_InProj (hInProj := hInProj)
    ∧ quiescent_InProjIdeal (hInProjIdeal := hInProjIdeal)
    ∧ quiescent_InProjRefIdeal (hInProjRefIdeal := hInProjRefIdeal)
    ∧ quiescent_IdxProj (hIdxProj := hIdxProj)
    ∧ quiescent_IdxProjIdeal (hIdxProjIdeal := hIdxProjIdeal)
    ∧ quiescent_IdxProjRefIdeal (hIdxProjRefIdeal := hIdxProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ preserves_Attn_AttnIdeal
    ∧ algebraic_AttnIdeal_AttnRefIdeal_pre_attn_pre (hAttnIdeal := hAttnIdeal) (hAttnRefIdeal := hAttnRefIdeal) (hPre_attn_pre := hPre_attn_pre)
    ∧ preserves_InProj_InProjIdeal
    ∧ algebraic_InProjIdeal_InProjRefIdeal (hInProjIdeal := hInProjIdeal) (hInProjRefIdeal := hInProjRefIdeal)
    ∧ preserves_IdxProj_IdxProjIdeal
    ∧ algebraic_IdxProjIdeal_IdxProjRefIdeal (hIdxProjIdeal := hIdxProjIdeal) (hIdxProjRefIdeal := hIdxProjRefIdeal)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal (hOutProjIdeal := hOutProjIdeal) (hOutProjRefIdeal := hOutProjRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
-- ==== Pre_attn_pre.lean ====
abbrev S2x8704x12288 : Shape := ⟨3, ![2, 8704, 12288]⟩
abbrev S2x8704x8704 : Shape := ⟨3, ![2, 8704, 8704]⟩
abbrev S2x8704x3072 : Shape := ⟨3, ![2, 8704, 3072]⟩
abbrev S_ : Shape := ⟨0, ![]⟩
abbrev S8704 : Shape := ⟨1, ![8704]⟩
abbrev S8704x1 : Shape := ⟨2, ![8704, 1]⟩
abbrev S1x8704 : Shape := ⟨2, ![1, 8704]⟩
abbrev S8704x8704 : Shape := ⟨2, ![8704, 8704]⟩
abbrev S1x8704x8704 : Shape := ⟨3, ![1, 8704, 8704]⟩
abbrev S2x8704 : Shape := ⟨2, ![2, 8704]⟩

class Facts : Prop where
  slices_S2x8704x12288_S2x8704x3072_0_0_4096 : S2x8704x12288.Slices ![0, 0, 4096] S2x8704x3072
  bitsLt_bf16_f32 : FTy.bits .bf16 < FTy.bits .f32
  bcast_S_S2x8704x3072 : S_.BroadcastsInDim S2x8704x3072 (![] : Fin 0 → Fin S2x8704x3072.rank)
  bcast_S_S2x8704x8704 : S_.BroadcastsInDim S2x8704x8704 (![] : Fin 0 → Fin S2x8704x8704.rank)
  bcast_S8704_S8704x1_0 : S8704.BroadcastsInDim S8704x1 (![0] : Fin 1 → Fin S8704x1.rank)
  bcast_S8704_S1x8704_1 : S8704.BroadcastsInDim S1x8704 (![1] : Fin 1 → Fin S1x8704.rank)
  bcast_S8704x1_S8704x8704_0_1 : S8704x1.BroadcastsInDim S8704x8704 (![0, 1] : Fin 2 → Fin S8704x8704.rank)
  bcast_S1x8704_S8704x8704_0_1 : S1x8704.BroadcastsInDim S8704x8704 (![0, 1] : Fin 2 → Fin S8704x8704.rank)
  bcast_S8704x8704_S1x8704x8704_1_2 : S8704x8704.BroadcastsInDim S1x8704x8704 (![1, 2] : Fin 2 → Fin S1x8704x8704.rank)
  bcast_S1x8704x8704_S2x8704x8704_0_1_2 : S1x8704x8704.BroadcastsInDim S2x8704x8704 (![0, 1, 2] : Fin 3 → Fin S2x8704x8704.rank)
  reducesTo_S2x8704x8704_S2x8704_d1 : S2x8704x8704.ReducesTo [1] S2x8704
  h_S_ : 0 < S_.numel
  bcast_S_S8704 : S_.BroadcastsInDim S8704 (![] : Fin 0 → Fin S8704.rank)
  bcast_S1x8704_S2x8704_0_1 : S1x8704.BroadcastsInDim S2x8704 (![0, 1] : Fin 2 → Fin S2x8704.rank)
  reducesTo_S2x8704x3072_S_d0_1_2 : S2x8704x3072.ReducesTo [0, 1, 2] S_
  bcast_S_S2x8704 : S_.BroadcastsInDim S2x8704 (![] : Fin 0 → Fin S2x8704.rank)

variable [Facts]

def fn_part1 {F : FTy → Type} [FloatOps F] (main_v4 : IVec S2x8704x3072 1) (main_v16 : IVec S2x8704 1) (main_v19 : IVec S1x8704 1) : IVec S2x8704 1 :=
  let main_v20 : IVec S2x8704 1 := broadcastInDim S2x8704 ![0, 1] bcast_S1x8704_S2x8704_0_1 main_v19
  let main_v21 : IVec S2x8704 1 := ori main_v16 main_v20
  let main_c_2 : IVec S_ 1 := constantI S_ 1 1#1
  let main_v22 : IVec S_ 1 := (fun x v => Host.reduce IntOp.andi x v reducesTo_S2x8704x3072_S_d0_1_2 h_S_) main_v4 main_c_2
  let main_v23 : IVec S2x8704 1 := broadcastInDim S2x8704 ![] bcast_S_S2x8704 main_v22
  let main_v24 : IVec S2x8704 1 := andi main_v21 main_v23
  main_v24

def fn {F : FTy → Type} [FloatOps F] (main_arg0 : FVec F S2x8704x12288 .bf16) (main_arg1 : IVec S2x8704x8704 32) : IVec S2x8704 1 :=
  let main_v0 : FVec F S2x8704x3072 .bf16 := (extractStridedSlice S2x8704x3072 ![0, 0, 4096] · slices_S2x8704x12288_S2x8704x3072_0_0_4096) main_arg0
  let main_v1 : FVec F S2x8704x3072 .f32 := (extf .f32 · bitsLt_bf16_f32) main_v0
  let main_v2 : FVec F S2x8704x3072 .f32 := Host.absf main_v1
  let main_cst : FVec F S_ .f32 := constant S_ .f32 0x7F800000#32
  let main_v3 : FVec F S2x8704x3072 .f32 := broadcastInDim S2x8704x3072 ![] bcast_S_S2x8704x3072 main_cst
  let main_v4 : IVec S2x8704x3072 1 := cmpf .olt main_v2 main_v3
  let main_v5 : IVec S8704 32 := iotaInDim S8704 32 0
  let main_c : IVec S_ 32 := constantI S_ 32 0#32
  let main_v6 : IVec S2x8704x8704 32 := broadcastInDim S2x8704x8704 ![] bcast_S_S2x8704x8704 main_c
  let main_v7 : IVec S2x8704x8704 1 := cmpi .ne main_arg1 main_v6
  let main_v8 : IVec S8704x1 32 := broadcastInDim S8704x1 ![0] bcast_S8704_S8704x1_0 main_v5
  let main_v9 : IVec S1x8704 32 := broadcastInDim S1x8704 ![1] bcast_S8704_S1x8704_1 main_v5
  let main_v10 : IVec S8704x8704 32 := broadcastInDim S8704x8704 ![0, 1] bcast_S8704x1_S8704x8704_0_1 main_v8
  let main_v11 : IVec S8704x8704 32 := broadcastInDim S8704x8704 ![0, 1] bcast_S1x8704_S8704x8704_0_1 main_v9
  let main_v12 : IVec S8704x8704 1 := cmpi .sle main_v10 main_v11
  let main_v13 : IVec S1x8704x8704 1 := broadcastInDim S1x8704x8704 ![1, 2] bcast_S8704x8704_S1x8704x8704_1_2 main_v12
  let main_v14 : IVec S2x8704x8704 1 := broadcastInDim S2x8704x8704 ![0, 1, 2] bcast_S1x8704x8704_S2x8704x8704_0_1_2 main_v13
  let main_v15 : IVec S2x8704x8704 1 := andi main_v7 main_v14
  let main_c_0 : IVec S_ 1 := constantI S_ 1 0#1
  let main_v16 : IVec S2x8704 1 := (fun x v => Host.reduce IntOp.ori x v reducesTo_S2x8704x8704_S2x8704_d1 h_S_) main_v15 main_c_0
  let main_c_1 : IVec S_ 32 := constantI S_ 32 496#32
  let main_v17 : IVec S8704 32 := broadcastInDim S8704 ![] bcast_S_S8704 main_c_1
  let main_v18 : IVec S8704 1 := cmpi .slt main_v5 main_v17
  let main_v19 : IVec S1x8704 1 := broadcastInDim S1x8704 ![1] bcast_S8704_S1x8704_1 main_v18
  fn_part1 (F := F) main_v4 main_v16 main_v19
-- ==== Attn.lean ====
abbrev S2x8704x12288 : Shape := ⟨3, ![2, 8704, 12288]⟩
abbrev S2x8704x8704 : Shape := ⟨3, ![2, 8704, 8704]⟩
abbrev S_ : Shape := ⟨0, ![]⟩
abbrev S2x8704x1024 : Shape := ⟨3, ![2, 8704, 1024]⟩
abbrev S2x17x512x1024 : Shape := ⟨4, ![2, 17, 512, 1024]⟩
abbrev S2x17x1024x512 : Shape := ⟨4, ![2, 17, 1024, 512]⟩
abbrev S1x256x512 : Shape := ⟨3, ![1, 256, 512]⟩
abbrev S1x8704x512 : Shape := ⟨3, ![1, 8704, 512]⟩
abbrev S1x17x512x512 : Shape := ⟨4, ![1, 17, 512, 512]⟩
abbrev S1x8704x256 : Shape := ⟨3, ![1, 8704, 256]⟩
abbrev S256x512 : Shape := ⟨2, ![256, 512]⟩
abbrev S4x256 : Shape := ⟨2, ![4, 256]⟩
abbrev S4x128x256 : Shape := ⟨3, ![4, 128, 256]⟩
abbrev S1x512x256 : Shape := ⟨3, ![1, 512, 256]⟩
abbrev S512x256 : Shape := ⟨2, ![512, 256]⟩
abbrev S1x512x128 : Shape := ⟨3, ![1, 512, 128]⟩
abbrev S512x128 : Shape := ⟨2, ![512, 128]⟩
abbrev S256x128 : Shape := ⟨2, ![256, 128]⟩
abbrev S1x256 : Shape := ⟨2, ![1, 256]⟩
abbrev S256 : Shape := ⟨1, ![256]⟩
abbrev S1x1x128x512 : Shape := ⟨4, ![1, 1, 128, 512]⟩
abbrev S128x512 : Shape := ⟨2, ![128, 512]⟩
abbrev S128x256 : Shape := ⟨2, ![128, 256]⟩
abbrev S1x128x256 : Shape := ⟨3, ![1, 128, 256]⟩
abbrev S1x256x128 : Shape := ⟨3, ![1, 256, 128]⟩

abbrev nBuf : Space → Nat
  | .hbm => 19
  | .vmem => 14
  | .smem => 0
  | _ => 0

abbrev bufTy : (tb : Table) → Fin (tcTables nBuf tb) → BufTy
  | .hbm, ⟨0, _⟩ => ⟨S2x8704x12288, .bf16⟩
  | .hbm, ⟨1, _⟩ => ⟨S2x8704x8704, .i32⟩
  | .hbm, ⟨2, _⟩ => ⟨S2x8704x8704, .i32⟩
  | .hbm, ⟨3, _⟩ => ⟨S2x8704x8704, .i32⟩
  | .hbm, ⟨4, _⟩ => ⟨S_, .i32⟩
  | .hbm, ⟨5, _⟩ => ⟨S2x8704x8704, .i32⟩
  | .hbm, ⟨6, _⟩ => ⟨S2x8704x8704, .i1⟩
  | .hbm, ⟨7, _⟩ => ⟨S2x8704x8704, .i1⟩
  | .hbm, ⟨8, _⟩ => ⟨S2x8704x8704, .i1⟩
  | .hbm, ⟨9, _⟩ => ⟨S_, .f32⟩
  | .hbm, ⟨10, _⟩ => ⟨S_, .f32⟩
  | .hbm, ⟨11, _⟩ => ⟨S2x8704x8704, .f32⟩
  | .hbm, ⟨12, _⟩ => ⟨S2x8704x8704, .f32⟩
  | .hbm, ⟨13, _⟩ => ⟨S2x8704x8704, .f32⟩
  | .hbm, ⟨14, _⟩ => ⟨S2x8704x8704, .bf16⟩
  | .hbm, ⟨15, _⟩ => ⟨S2x8704x1024, .bf16⟩
  | .hbm, ⟨16, _⟩ => ⟨S2x17x512x1024, .bf16⟩
  | .hbm, ⟨17, _⟩ => ⟨S2x17x1024x512, .bf16⟩
  | .hbm, ⟨18, _⟩ => ⟨S2x8704x1024, .bf16⟩
  | .local _ .vmem, ⟨0, _⟩ => ⟨S1x256x512, .bf16⟩
  | .local _ .vmem, ⟨1, _⟩ => ⟨S1x256x512, .bf16⟩
  | .local _ .vmem, ⟨2, _⟩ => ⟨S1x8704x512, .bf16⟩
  | .local _ .vmem, ⟨3, _⟩ => ⟨S1x8704x512, .bf16⟩
  | .local _ .vmem, ⟨4, _⟩ => ⟨S1x17x512x512, .bf16⟩
  | .local _ .vmem, ⟨5, _⟩ => ⟨S1x17x512x512, .bf16⟩
  | .local _ .vmem, ⟨6, _⟩ => ⟨S1x8704x256, .bf16⟩
  | .local _ .vmem, ⟨7, _⟩ => ⟨S1x8704x256, .bf16⟩
  | .local _ .vmem, ⟨8, _⟩ => ⟨S1x256x512, .bf16⟩
  | .local _ .vmem, ⟨9, _⟩ => ⟨S1x256x512, .bf16⟩
  | .local _ .vmem, ⟨10, _⟩ => ⟨S256x512, .bf16⟩
  | .local _ .vmem, ⟨11, _⟩ => ⟨S4x256, .f32⟩
  | .local _ .vmem, ⟨12, _⟩ => ⟨S4x256, .f32⟩
  | .local _ .vmem, ⟨13, _⟩ => ⟨S4x128x256, .f32⟩
  | _, _ => ⟨S2x8704x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 34], ![false, false, false]⟩

@[reducible] def k0_t1_loop (i : grid0.Coords) : Scf.Loop 32 :=
  let c0_i32_22 : BitVec 32 := 0#32
  let arg2 : BitVec 32 := BitVec.ofNat 32 (i 2).val
  let c256_i32 : BitVec 32 := 256#32
  let v0 : BitVec 32 := Scalar.muli arg2 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v42 : BitVec 32 := Scalar.subi v20 c0_i32_22
  let c1_i32_23 : BitVec 32 := 1#32
  let v44 : BitVec 32 := Scalar.divsi v42 c1_i32_23
  let v45 : BitVec 32 := Scalar.muli v44 c1_i32_23
  let v46 : BitVec 32 := Scalar.addi c0_i32_22 v45
  let c1_i32_24 : BitVec 32 := 1#32
  ⟨c0_i32_22, v46, c1_i32_24⟩
def k0_mult1 (i : grid0.Coords) (k0_t1 : Fin (k0_t1_loop i).trips) : BitVec 32 :=
  let c0_i32_22 : BitVec 32 := 0#32
  let c1_i32_24 : BitVec 32 := 1#32
  let arg12 : BitVec 32 := Scf.iv c0_i32_22 c1_i32_24 k0_t1
  let c512_i32_56 : BitVec 32 := 512#32
  let v108 : BitVec 32 := Scalar.muli arg12 c512_i32_56
  v108
def k0_off1 (i : grid0.Coords) (k0_t1 : Fin (k0_t1_loop i).trips) : Fin 3 → Nat :=
  let c0_57 : Index := 0#32
  let c0_i32_22 : BitVec 32 := 0#32
  let c1_i32_24 : BitVec 32 := 1#32
  let arg12 : BitVec 32 := Scf.iv c0_i32_22 c1_i32_24 k0_t1
  let c512_i32_56 : BitVec 32 := 512#32
  let v108 : BitVec 32 := Scalar.muli arg12 c512_i32_56
  let v109 : BitVec 32 := v108
  let v110 : Index := Scalar.indexCast v109
  let c0_58 : Index := 0#32
  ![0, v110.toNat, 0]
def k0_off2 (i : grid0.Coords) (k0_t1 : Fin (k0_t1_loop i).trips) : Fin 3 → Nat :=
  let c0_59 : Index := 0#32
  let c0_i32_22 : BitVec 32 := 0#32
  let c1_i32_24 : BitVec 32 := 1#32
  let arg12 : BitVec 32 := Scf.iv c0_i32_22 c1_i32_24 k0_t1
  let c512_i32_56 : BitVec 32 := 512#32
  let v108 : BitVec 32 := Scalar.muli arg12 c512_i32_56
  let v109 : BitVec 32 := v108
  let v114 : Index := Scalar.indexCast v109
  let c0_60 : Index := 0#32
  ![0, v114.toNat, 0]
def k0_off3 (i : grid0.Coords) (k0_t1 : Fin (k0_t1_loop i).trips) : Fin 4 → Nat :=
  let c0_72 : Index := 0#32
  let c0_i32_22 : BitVec 32 := 0#32
  let c1_i32_24 : BitVec 32 := 1#32
  let arg12 : BitVec 32 := Scf.iv c0_i32_22 c1_i32_24 k0_t1
  let v137 : Index := Scalar.indexCast arg12
  let c0_73 : Index := 0#32
  let c0_74 : Index := 0#32
  ![0, v137.toNat, 0, 0]
def k0_off4 (i : grid0.Coords) (k0_t1 : Fin (k0_t1_loop i).trips) : Fin 3 → Nat :=
  let c0_84 : Index := 0#32
  let c0_i32_22 : BitVec 32 := 0#32
  let c1_i32_24 : BitVec 32 := 1#32
  let arg12 : BitVec 32 := Scf.iv c0_i32_22 c1_i32_24 k0_t1
  let c512_i32_56 : BitVec 32 := 512#32
  let v108 : BitVec 32 := Scalar.muli arg12 c512_i32_56
  let v109 : BitVec 32 := v108
  let v153 : Index := Scalar.indexCast v109
  let c128_85 : Index := 128#32
  ![0, v153.toNat, 128]
def k0_off5 (i : grid0.Coords) (k0_t1 : Fin (k0_t1_loop i).trips) : Fin 4 → Nat :=
  let c0_97 : Index := 0#32
  let c0_i32_22 : BitVec 32 := 0#32
  let c1_i32_24 : BitVec 32 := 1#32
  let arg12 : BitVec 32 := Scf.iv c0_i32_22 c1_i32_24 k0_t1
  let v176 : Index := Scalar.indexCast arg12
  let c128_98 : Index := 128#32
  let c0_99 : Index := 0#32
  ![0, v176.toNat, 128, 0]
def k0_off6 (i : grid0.Coords) (k0_t1 : Fin (k0_t1_loop i).trips) : Fin 3 → Nat :=
  let c0_109 : Index := 0#32
  let c0_i32_22 : BitVec 32 := 0#32
  let c1_i32_24 : BitVec 32 := 1#32
  let arg12 : BitVec 32 := Scf.iv c0_i32_22 c1_i32_24 k0_t1
  let c512_i32_56 : BitVec 32 := 512#32
  let v108 : BitVec 32 := Scalar.muli arg12 c512_i32_56
  let v109 : BitVec 32 := v108
  let v192 : Index := Scalar.indexCast v109
  let c256_110 : Index := 256#32
  ![0, v192.toNat, 256]
def k0_off7 (i : grid0.Coords) (k0_t1 : Fin (k0_t1_loop i).trips) : Fin 4 → Nat :=
  let c0_122 : Index := 0#32
  let c0_i32_22 : BitVec 32 := 0#32
  let c1_i32_24 : BitVec 32 := 1#32
  let arg12 : BitVec 32 := Scf.iv c0_i32_22 c1_i32_24 k0_t1
  let v215 : Index := Scalar.indexCast arg12
  let c256_123 : Index := 256#32
  let c0_124 : Index := 0#32
  ![0, v215.toNat, 256, 0]
def k0_off8 (i : grid0.Coords) (k0_t1 : Fin (k0_t1_loop i).trips) : Fin 3 → Nat :=
  let c0_134 : Index := 0#32
  let c0_i32_22 : BitVec 32 := 0#32
  let c1_i32_24 : BitVec 32 := 1#32
  let arg12 : BitVec 32 := Scf.iv c0_i32_22 c1_i32_24 k0_t1
  let c512_i32_56 : BitVec 32 := 512#32
  let v108 : BitVec 32 := Scalar.muli arg12 c512_i32_56
  let v109 : BitVec 32 := v108
  let v231 : Index := Scalar.indexCast v109
  let c384_135 : Index := 384#32
  ![0, v231.toNat, 384]
def k0_off9 (i : grid0.Coords) (k0_t1 : Fin (k0_t1_loop i).trips) : Fin 4 → Nat :=
  let c0_147 : Index := 0#32
  let c0_i32_22 : BitVec 32 := 0#32
  let c1_i32_24 : BitVec 32 := 1#32
  let arg12 : BitVec 32 := Scf.iv c0_i32_22 c1_i32_24 k0_t1
  let v254 : Index := Scalar.indexCast arg12
  let c384_148 : Index := 384#32
  let c0_149 : Index := 0#32
  ![0, v254.toNat, 384, 0]
@[reducible] def k0_t2_loop (i : grid0.Coords) : Scf.Loop 32 :=
  let c0_i32_22 : BitVec 32 := 0#32
  let arg2 : BitVec 32 := BitVec.ofNat 32 (i 2).val
  let c256_i32 : BitVec 32 := 256#32
  let v0 : BitVec 32 := Scalar.muli arg2 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v42 : BitVec 32 := Scalar.subi v20 c0_i32_22
  let c1_i32_23 : BitVec 32 := 1#32
  let v44 : BitVec 32 := Scalar.divsi v42 c1_i32_23
  let v45 : BitVec 32 := Scalar.muli v44 c1_i32_23
  let v46 : BitVec 32 := Scalar.addi c0_i32_22 v45
  let v43 : BitVec 32 := Scalar.addi c0_i32_22 v42
  let c1_i32_25 : BitVec 32 := 1#32
  ⟨v46, v43, c1_i32_25⟩
def k0_mult2 (i : grid0.Coords) (k0_t2 : Fin (k0_t2_loop i).trips) : BitVec 32 :=
  let c0_i32_22 : BitVec 32 := 0#32
  let arg2 : BitVec 32 := BitVec.ofNat 32 (i 2).val
  let c256_i32 : BitVec 32 := 256#32
  let v0 : BitVec 32 := Scalar.muli arg2 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v42 : BitVec 32 := Scalar.subi v20 c0_i32_22
  let c1_i32_23 : BitVec 32 := 1#32
  let v44 : BitVec 32 := Scalar.divsi v42 c1_i32_23
  let v45 : BitVec 32 := Scalar.muli v44 c1_i32_23
  let v46 : BitVec 32 := Scalar.addi c0_i32_22 v45
  let c1_i32_25 : BitVec 32 := 1#32
  let arg12 : BitVec 32 := Scf.iv v46 c1_i32_25 k0_t2
  let c512_i32_56 : BitVec 32 := 512#32
  let v108 : BitVec 32 := Scalar.muli arg12 c512_i32_56
  v108
def k0_off10 (i : grid0.Coords) (k0_t2 : Fin (k0_t2_loop i).trips) : Fin 3 → Nat :=
  let c0_57 : Index := 0#32
  let c0_i32_22 : BitVec 32 := 0#32
  let arg2 : BitVec 32 := BitVec.ofNat 32 (i 2).val
  let c256_i32 : BitVec 32 := 256#32
  let v0 : BitVec 32 := Scalar.muli arg2 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v42 : BitVec 32 := Scalar.subi v20 c0_i32_22
  let c1_i32_23 : BitVec 32 := 1#32
  let v44 : BitVec 32 := Scalar.divsi v42 c1_i32_23
  let v45 : BitVec 32 := Scalar.muli v44 c1_i32_23
  let v46 : BitVec 32 := Scalar.addi c0_i32_22 v45
  let c1_i32_25 : BitVec 32 := 1#32
  let arg12 : BitVec 32 := Scf.iv v46 c1_i32_25 k0_t2
  let c512_i32_56 : BitVec 32 := 512#32
  let v108 : BitVec 32 := Scalar.muli arg12 c512_i32_56
  let v109 : BitVec 32 := v108
  let v110 : Index := Scalar.indexCast v109
  let c0_58 : Index := 0#32
  ![0, v110.toNat, 0]
def k0_off11 (i : grid0.Coords) (k0_t2 : Fin (k0_t2_loop i).trips) : Fin 3 → Nat :=
  let c0_59 : Index := 0#32
  let c0_i32_22 : BitVec 32 := 0#32
  let arg2 : BitVec 32 := BitVec.ofNat 32 (i 2).val
  let c256_i32 : BitVec 32 := 256#32
  let v0 : BitVec 32 := Scalar.muli arg2 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v42 : BitVec 32 := Scalar.subi v20 c0_i32_22
  let c1_i32_23 : BitVec 32 := 1#32
  let v44 : BitVec 32 := Scalar.divsi v42 c1_i32_23
  let v45 : BitVec 32 := Scalar.muli v44 c1_i32_23
  let v46 : BitVec 32 := Scalar.addi c0_i32_22 v45
  let c1_i32_25 : BitVec 32 := 1#32
  let arg12 : BitVec 32 := Scf.iv v46 c1_i32_25 k0_t2
  let c512_i32_56 : BitVec 32 := 512#32
  let v108 : BitVec 32 := Scalar.muli arg12 c512_i32_56
  let v109 : BitVec 32 := v108
  let v114 : Index := Scalar.indexCast v109
  let c0_60 : Index := 0#32
  ![0, v114.toNat, 0]
def k0_off12 (i : grid0.Coords) (k0_t2 : Fin (k0_t2_loop i).trips) : Fin 4 → Nat :=
  let c0_72 : Index := 0#32
  let c0_i32_22 : BitVec 32 := 0#32
  let arg2 : BitVec 32 := BitVec.ofNat 32 (i 2).val
  let c256_i32 : BitVec 32 := 256#32
  let v0 : BitVec 32 := Scalar.muli arg2 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v42 : BitVec 32 := Scalar.subi v20 c0_i32_22
  let c1_i32_23 : BitVec 32 := 1#32
  let v44 : BitVec 32 := Scalar.divsi v42 c1_i32_23
  let v45 : BitVec 32 := Scalar.muli v44 c1_i32_23
  let v46 : BitVec 32 := Scalar.addi c0_i32_22 v45
  let c1_i32_25 : BitVec 32 := 1#32
  let arg12 : BitVec 32 := Scf.iv v46 c1_i32_25 k0_t2
  let v137 : Index := Scalar.indexCast arg12
  let c0_73 : Index := 0#32
  let c0_74 : Index := 0#32
  ![0, v137.toNat, 0, 0]
def k0_off13 (i : grid0.Coords) (k0_t2 : Fin (k0_t2_loop i).trips) : Fin 3 → Nat :=
  let c0_84 : Index := 0#32
  let c0_i32_22 : BitVec 32 := 0#32
  let arg2 : BitVec 32 := BitVec.ofNat 32 (i 2).val
  let c256_i32 : BitVec 32 := 256#32
  let v0 : BitVec 32 := Scalar.muli arg2 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v42 : BitVec 32 := Scalar.subi v20 c0_i32_22
  let c1_i32_23 : BitVec 32 := 1#32
  let v44 : BitVec 32 := Scalar.divsi v42 c1_i32_23
  let v45 : BitVec 32 := Scalar.muli v44 c1_i32_23
  let v46 : BitVec 32 := Scalar.addi c0_i32_22 v45
  let c1_i32_25 : BitVec 32 := 1#32
  let arg12 : BitVec 32 := Scf.iv v46 c1_i32_25 k0_t2
  let c512_i32_56 : BitVec 32 := 512#32
  let v108 : BitVec 32 := Scalar.muli arg12 c512_i32_56
  let v109 : BitVec 32 := v108
  let v153 : Index := Scalar.indexCast v109
  let c128_85 : Index := 128#32
  ![0, v153.toNat, 128]
def k0_off14 (i : grid0.Coords) (k0_t2 : Fin (k0_t2_loop i).trips) : Fin 4 → Nat :=
  let c0_97 : Index := 0#32
  let c0_i32_22 : BitVec 32 := 0#32
  let arg2 : BitVec 32 := BitVec.ofNat 32 (i 2).val
  let c256_i32 : BitVec 32 := 256#32
  let v0 : BitVec 32 := Scalar.muli arg2 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v42 : BitVec 32 := Scalar.subi v20 c0_i32_22
  let c1_i32_23 : BitVec 32 := 1#32
  let v44 : BitVec 32 := Scalar.divsi v42 c1_i32_23
  let v45 : BitVec 32 := Scalar.muli v44 c1_i32_23
  let v46 : BitVec 32 := Scalar.addi c0_i32_22 v45
  let c1_i32_25 : BitVec 32 := 1#32
  let arg12 : BitVec 32 := Scf.iv v46 c1_i32_25 k0_t2
  let v176 : Index := Scalar.indexCast arg12
  let c128_98 : Index := 128#32
  let c0_99 : Index := 0#32
  ![0, v176.toNat, 128, 0]
def k0_off15 (i : grid0.Coords) (k0_t2 : Fin (k0_t2_loop i).trips) : Fin 3 → Nat :=
  let c0_109 : Index := 0#32
  let c0_i32_22 : BitVec 32 := 0#32
  let arg2 : BitVec 32 := BitVec.ofNat 32 (i 2).val
  let c256_i32 : BitVec 32 := 256#32
  let v0 : BitVec 32 := Scalar.muli arg2 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v42 : BitVec 32 := Scalar.subi v20 c0_i32_22
  let c1_i32_23 : BitVec 32 := 1#32
  let v44 : BitVec 32 := Scalar.divsi v42 c1_i32_23
  let v45 : BitVec 32 := Scalar.muli v44 c1_i32_23
  let v46 : BitVec 32 := Scalar.addi c0_i32_22 v45
  let c1_i32_25 : BitVec 32 := 1#32
  let arg12 : BitVec 32 := Scf.iv v46 c1_i32_25 k0_t2
  let c512_i32_56 : BitVec 32 := 512#32
  let v108 : BitVec 32 := Scalar.muli arg12 c512_i32_56
  let v109 : BitVec 32 := v108
  let v192 : Index := Scalar.indexCast v109
  let c256_110 : Index := 256#32
  ![0, v192.toNat, 256]
def k0_off16 (i : grid0.Coords) (k0_t2 : Fin (k0_t2_loop i).trips) : Fin 4 → Nat :=
  let c0_122 : Index := 0#32
  let c0_i32_22 : BitVec 32 := 0#32
  let arg2 : BitVec 32 := BitVec.ofNat 32 (i 2).val
  let c256_i32 : BitVec 32 := 256#32
  let v0 : BitVec 32 := Scalar.muli arg2 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v42 : BitVec 32 := Scalar.subi v20 c0_i32_22
  let c1_i32_23 : BitVec 32 := 1#32
  let v44 : BitVec 32 := Scalar.divsi v42 c1_i32_23
  let v45 : BitVec 32 := Scalar.muli v44 c1_i32_23
  let v46 : BitVec 32 := Scalar.addi c0_i32_22 v45
  let c1_i32_25 : BitVec 32 := 1#32
  let arg12 : BitVec 32 := Scf.iv v46 c1_i32_25 k0_t2
  let v215 : Index := Scalar.indexCast arg12
  let c256_123 : Index := 256#32
  let c0_124 : Index := 0#32
  ![0, v215.toNat, 256, 0]
def k0_off17 (i : grid0.Coords) (k0_t2 : Fin (k0_t2_loop i).trips) : Fin 3 → Nat :=
  let c0_134 : Index := 0#32
  let c0_i32_22 : BitVec 32 := 0#32
  let arg2 : BitVec 32 := BitVec.ofNat 32 (i 2).val
  let c256_i32 : BitVec 32 := 256#32
  let v0 : BitVec 32 := Scalar.muli arg2 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v42 : BitVec 32 := Scalar.subi v20 c0_i32_22
  let c1_i32_23 : BitVec 32 := 1#32
  let v44 : BitVec 32 := Scalar.divsi v42 c1_i32_23
  let v45 : BitVec 32 := Scalar.muli v44 c1_i32_23
  let v46 : BitVec 32 := Scalar.addi c0_i32_22 v45
  let c1_i32_25 : BitVec 32 := 1#32
  let arg12 : BitVec 32 := Scf.iv v46 c1_i32_25 k0_t2
  let c512_i32_56 : BitVec 32 := 512#32
  let v108 : BitVec 32 := Scalar.muli arg12 c512_i32_56
  let v109 : BitVec 32 := v108
  let v231 : Index := Scalar.indexCast v109
  let c384_135 : Index := 384#32
  ![0, v231.toNat, 384]
def k0_off18 (i : grid0.Coords) (k0_t2 : Fin (k0_t2_loop i).trips) : Fin 4 → Nat :=
  let c0_147 : Index := 0#32
  let c0_i32_22 : BitVec 32 := 0#32
  let arg2 : BitVec 32 := BitVec.ofNat 32 (i 2).val
  let c256_i32 : BitVec 32 := 256#32
  let v0 : BitVec 32 := Scalar.muli arg2 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c512_i32 : BitVec 32 := 512#32
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let v3 : BitVec 32 := Scalar.divsi v2 c512_i32
  let c1_i32_5 : BitVec 32 := 1#32
  let v18 : BitVec 32 := Scalar.subi v3 c1_i32_5
  let v19 : BitVec 32 := Scalar.select v17 v18 v3
  let c1_i32_6 : BitVec 32 := 1#32
  let v20 : BitVec 32 := Scalar.addi v19 c1_i32_6
  let v42 : BitVec 32 := Scalar.subi v20 c0_i32_22
  let c1_i32_23 : BitVec 32 := 1#32
  let v44 : BitVec 32 := Scalar.divsi v42 c1_i32_23
  let v45 : BitVec 32 := Scalar.muli v44 c1_i32_23
  let v46 : BitVec 32 := Scalar.addi c0_i32_22 v45
  let c1_i32_25 : BitVec 32 := 1#32
  let arg12 : BitVec 32 := Scf.iv v46 c1_i32_25 k0_t2
  let v254 : Index := Scalar.indexCast arg12
  let c384_148 : Index := 384#32
  let c0_149 : Index := 0#32
  ![0, v254.toNat, 384, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg1
  let c0_i32 : BitVec 32 := 0#32
  let c0_i32_0 : BitVec 32 := 0#32
  ![arg0.toNat, c0_i32.toNat, v0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8704x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x17x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8704x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== AttnIdeal.lean ====
variable {F : FTy → Type} [FloatOps F] [Named F]
def κ : String → Option EReal := fun
  | "mask" => some ⊥
  | "scale_log2e" => some (((Real.sqrt 128)⁻¹ * (Real.log 2)⁻¹ : ℝ) : EReal)
  | _ => none
-- ==== AttnRefIdeal.lean ====
abbrev S2x8704x12288 : Shape := ⟨3, ![2, 8704, 12288]⟩
abbrev S2x8704x8704 : Shape := ⟨3, ![2, 8704, 8704]⟩
abbrev S2x8704x1024 : Shape := ⟨3, ![2, 8704, 1024]⟩
abbrev S2x8704x8x128 : Shape := ⟨4, ![2, 8704, 8, 128]⟩
abbrev S8704 : Shape := ⟨1, ![8704]⟩
abbrev S8704x1 : Shape := ⟨2, ![8704, 1]⟩
abbrev S1x8704 : Shape := ⟨2, ![1, 8704]⟩
abbrev S8704x8704 : Shape := ⟨2, ![8704, 8704]⟩
abbrev S_ : Shape := ⟨0, ![]⟩
abbrev S1x8704x8704 : Shape := ⟨3, ![1, 8704, 8704]⟩
abbrev S2x8x8704x8704 : Shape := ⟨4, ![2, 8, 8704, 8704]⟩
abbrev S2x1x8704x8704 : Shape := ⟨4, ![2, 1, 8704, 8704]⟩
abbrev S2x8x8704 : Shape := ⟨3, ![2, 8, 8704]⟩
abbrev S2x8x8704x1 : Shape := ⟨4, ![2, 8, 8704, 1]⟩
abbrev S2x8x128x8704 : Shape := ⟨4, ![2, 8, 128, 8704]⟩
abbrev S1x8704x1 : Shape := ⟨3, ![1, 8704, 1]⟩

abbrev nBuf : Space → Nat
  | .hbm => 60
  | .vmem => 0
  | .smem => 0
  | _ => 0

abbrev bufTy : (tb : Table) → Fin (tcTables nBuf tb) → BufTy
  | .hbm, ⟨0, _⟩ => ⟨S2x8704x12288, .bf16⟩
  | .hbm, ⟨1, _⟩ => ⟨S2x8704x8704, .i32⟩
  | .hbm, ⟨2, _⟩ => ⟨S2x8704x12288, .f32⟩
  | .hbm, ⟨3, _⟩ => ⟨S2x8704x1024, .f32⟩
  | .hbm, ⟨4, _⟩ => ⟨S2x8704x8x128, .f32⟩
  | .hbm, ⟨5, _⟩ => ⟨S2x8704x1024, .f32⟩
  | .hbm, ⟨6, _⟩ => ⟨S2x8704x8x128, .f32⟩
  | .hbm, ⟨7, _⟩ => ⟨S2x8704x1024, .f32⟩
  | .hbm, ⟨8, _⟩ => ⟨S2x8704x8x128, .f32⟩
  | .hbm, ⟨9, _⟩ => ⟨S8704, .i32⟩
  | .hbm, ⟨10, _⟩ => ⟨S8704x1, .i32⟩
  | .hbm, ⟨11, _⟩ => ⟨S1x8704, .i32⟩
  | .hbm, ⟨12, _⟩ => ⟨S8704x8704, .i32⟩
  | .hbm, ⟨13, _⟩ => ⟨S8704x8704, .i32⟩
  | .hbm, ⟨14, _⟩ => ⟨S8704x8704, .i1⟩
  | .hbm, ⟨15, _⟩ => ⟨S_, .i32⟩
  | .hbm, ⟨16, _⟩ => ⟨S2x8704x8704, .i32⟩
  | .hbm, ⟨17, _⟩ => ⟨S2x8704x8704, .i1⟩
  | .hbm, ⟨18, _⟩ => ⟨S1x8704x8704, .i1⟩
  | .hbm, ⟨19, _⟩ => ⟨S2x8704x8704, .i1⟩
  | .hbm, ⟨20, _⟩ => ⟨S2x8704x8704, .i1⟩
  | .hbm, ⟨21, _⟩ => ⟨S2x8x8704x8704, .f32⟩
  | .hbm, ⟨22, _⟩ => ⟨S_, .f32⟩
  | .hbm, ⟨23, _⟩ => ⟨S_, .f32⟩
  | .hbm, ⟨24, _⟩ => ⟨S2x8x8704x8704, .f32⟩
  | .hbm, ⟨25, _⟩ => ⟨S2x8x8704x8704, .f32⟩
  | .hbm, ⟨26, _⟩ => ⟨S2x8704x8704, .i1⟩
  | .hbm, ⟨27, _⟩ => ⟨S2x1x8704x8704, .i1⟩
  | .hbm, ⟨28, _⟩ => ⟨S_, .f32⟩
  | .hbm, ⟨29, _⟩ => ⟨S_, .f32⟩
  | .hbm, ⟨30, _⟩ => ⟨S2x8x8704x8704, .i1⟩
  | .hbm, ⟨31, _⟩ => ⟨S2x8x8704x8704, .f32⟩
  | .hbm, ⟨32, _⟩ => ⟨S2x8x8704x8704, .f32⟩
  | .hbm, ⟨33, _⟩ => ⟨S_, .f32⟩
  | .hbm, ⟨34, _⟩ => ⟨S2x8x8704, .f32⟩
  | .hbm, ⟨35, _⟩ => ⟨S_, .f32⟩
  | .hbm, ⟨36, _⟩ => ⟨S2x8x8704, .f32⟩
  | .hbm, ⟨37, _⟩ => ⟨S2x8x8704, .f32⟩
  | .hbm, ⟨38, _⟩ => ⟨S2x8x8704x1, .f32⟩
  | .hbm, ⟨39, _⟩ => ⟨S2x8x8704x8704, .f32⟩
  | .hbm, ⟨40, _⟩ => ⟨S2x8x8704x8704, .f32⟩
  | .hbm, ⟨41, _⟩ => ⟨S2x8x8704x8704, .f32⟩
  | .hbm, ⟨42, _⟩ => ⟨S_, .f32⟩
  | .hbm, ⟨43, _⟩ => ⟨S2x8x8704, .f32⟩
  | .hbm, ⟨44, _⟩ => ⟨S2x8x8704x1, .f32⟩
  | .hbm, ⟨45, _⟩ => ⟨S2x8x8704x8704, .f32⟩
  | .hbm, ⟨46, _⟩ => ⟨S2x8x8704x8704, .f32⟩
  | .hbm, ⟨47, _⟩ => ⟨S2x8x128x8704, .f32⟩
  | .hbm, ⟨48, _⟩ => ⟨S2x8704x8x128, .f32⟩
  | .hbm, ⟨49, _⟩ => ⟨S2x8704x1024, .f32⟩
  | .hbm, ⟨50, _⟩ => ⟨S_, .i32⟩
  | .hbm, ⟨51, _⟩ => ⟨S8704, .i32⟩
  | .hbm, ⟨52, _⟩ => ⟨S8704, .i1⟩
  | .hbm, ⟨53, _⟩ => ⟨S1x8704x1, .i1⟩
  | .hbm, ⟨54, _⟩ => ⟨S_, .f32⟩
  | .hbm, ⟨55, _⟩ => ⟨S_, .f32⟩
  | .hbm, ⟨56, _⟩ => ⟨S2x8704x1024, .i1⟩
  | .hbm, ⟨57, _⟩ => ⟨S2x8704x1024, .f32⟩
  | .hbm, ⟨58, _⟩ => ⟨S2x8704x1024, .f32⟩
  | .hbm, ⟨59, _⟩ => ⟨S2x8704x1024, .bf16⟩
  | _, _ => ⟨S2x8704x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_c_4 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== InProj.lean ====
abbrev S17408x2048 : Shape := ⟨2, ![17408, 2048]⟩
abbrev S2048 : Shape := ⟨1, ![2048]⟩
abbrev S2048x12288 : Shape := ⟨2, ![2048, 12288]⟩
abbrev S1x2048 : Shape := ⟨2, ![1, 2048]⟩
abbrev S17408x12288 : Shape := ⟨2, ![17408, 12288]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S17408x2048, .f32⟩
  | .hbm, ⟨1, _⟩ => ⟨S2048, .f32⟩
  | .hbm, ⟨2, _⟩ => ⟨S2048x12288, .f32⟩
  | .hbm, ⟨3, _⟩ => ⟨S1x2048, .f32⟩
  | .hbm, ⟨4, _⟩ => ⟨S2048x12288, .bf16⟩
  | .hbm, ⟨5, _⟩ => ⟨S17408x12288, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![17, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjRefIdeal.lean ====
abbrev S17408x2048 : Shape := ⟨2, ![17408, 2048]⟩
abbrev S2048 : Shape := ⟨1, ![2048]⟩
abbrev S2048x12288 : Shape := ⟨2, ![2048, 12288]⟩
abbrev S_ : Shape := ⟨0, ![]⟩
abbrev S17408 : Shape := ⟨1, ![17408]⟩
abbrev S17408x1 : Shape := ⟨2, ![17408, 1]⟩
abbrev S1x2048 : Shape := ⟨2, ![1, 2048]⟩
abbrev S17408x12288 : Shape := ⟨2, ![17408, 12288]⟩

abbrev nBuf : Space → Nat
  | .hbm => 21
  | .vmem => 0
  | .smem => 0
  | _ => 0

abbrev bufTy : (tb : Table) → Fin (tcTables nBuf tb) → BufTy
  | .hbm, ⟨0, _⟩ => ⟨S17408x2048, .f32⟩
  | .hbm, ⟨1, _⟩ => ⟨S2048, .f32⟩
  | .hbm, ⟨2, _⟩ => ⟨S2048x12288, .f32⟩
  | .hbm, ⟨3, _⟩ => ⟨S17408x2048, .f32⟩
  | .hbm, ⟨4, _⟩ => ⟨S_, .f32⟩
  | .hbm, ⟨5, _⟩ => ⟨S17408, .f32⟩
  | .hbm, ⟨6, _⟩ => ⟨S17408x1, .f32⟩
  | .hbm, ⟨7, _⟩ => ⟨S_, .f32⟩
  | .hbm, ⟨8, _⟩ => ⟨S17408x1, .f32⟩
  | .hbm, ⟨9, _⟩ => ⟨S17408x1, .f32⟩
  | .hbm, ⟨10, _⟩ => ⟨S_, .f32⟩
  | .hbm, ⟨11, _⟩ => ⟨S17408x1, .f32⟩
  | .hbm, ⟨12, _⟩ => ⟨S17408x1, .f32⟩
  | .hbm, ⟨13, _⟩ => ⟨S17408x1, .f32⟩
  | .hbm, ⟨14, _⟩ => ⟨S17408x2048, .f32⟩
  | .hbm, ⟨15, _⟩ => ⟨S17408x2048, .f32⟩
  | .hbm, ⟨16, _⟩ => ⟨S1x2048, .f32⟩
  | .hbm, ⟨17, _⟩ => ⟨S17408x2048, .f32⟩
  | .hbm, ⟨18, _⟩ => ⟨S17408x2048, .f32⟩
  | .hbm, ⟨19, _⟩ => ⟨S17408x12288, .f32⟩
  | .hbm, ⟨20, _⟩ => ⟨S17408x12288, .bf16⟩
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== IdxProj.lean ====
abbrev S17408x2048 : Shape := ⟨2, ![17408, 2048]⟩
abbrev S2048 : Shape := ⟨1, ![2048]⟩
abbrev S2048x80 : Shape := ⟨2, ![2048, 80]⟩
abbrev S64 : Shape := ⟨1, ![64]⟩
abbrev S_ : Shape := ⟨0, ![]⟩
abbrev S2048x128 : Shape := ⟨2, ![2048, 128]⟩
abbrev S128 : Shape := ⟨1, ![128]⟩
abbrev S1x128 : Shape := ⟨2, ![1, 128]⟩
abbrev S1x2048 : Shape := ⟨2, ![1, 2048]⟩
abbrev S17408x128 : Shape := ⟨2, ![17408, 128]⟩
abbrev S1024x2048 : Shape := ⟨2, ![1024, 2048]⟩
abbrev S1024x128 : Shape := ⟨2, ![1024, 128]⟩
abbrev S1024 : Shape := ⟨1, ![1024]⟩
abbrev S1024x1 : Shape := ⟨2, ![1024, 1]⟩

abbrev nBuf : Space → Nat
  | .hbm => 16
  | .vmem => 11
  | .smem => 0
  | _ => 0

abbrev bufTy : (tb : Table) → Fin (tcTables nBuf tb) → BufTy
  | .hbm, ⟨0, _⟩ => ⟨S17408x2048, .f32⟩
  | .hbm, ⟨1, _⟩ => ⟨S2048, .f32⟩
  | .hbm, ⟨2, _⟩ => ⟨S2048x80, .f32⟩
  | .hbm, ⟨3, _⟩ => ⟨S64, .f32⟩
  | .hbm, ⟨4, _⟩ => ⟨S_, .i32⟩
  | .hbm, ⟨5, _⟩ => ⟨S_, .f32⟩
  | .hbm, ⟨6, _⟩ => ⟨S2048x128, .f32⟩
  | .hbm, ⟨7, _⟩ => ⟨S2048x128, .bf16⟩
  | .hbm, ⟨8, _⟩ => ⟨S_, .i32⟩
  | .hbm, ⟨9, _⟩ => ⟨S_, .f32⟩
  | .hbm, ⟨10, _⟩ => ⟨S128, .f32⟩
  | .hbm, ⟨11, _⟩ => ⟨S1x128, .f32⟩
  | .hbm, ⟨12, _⟩ => ⟨S1x2048, .f32⟩
  | .hbm, ⟨13, _⟩ => ⟨S17408x128, .f32⟩
  | .hbm, ⟨14, _⟩ => ⟨S17408x128, .bf16⟩
  | .hbm, ⟨15, _⟩ => ⟨S17408x128, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x128, .bf16⟩
  | .local _ .vmem, ⟨4, _⟩ => ⟨S1x128, .f32⟩
  | .local _ .vmem, ⟨5, _⟩ => ⟨S1024x128, .f32⟩
  | .local _ .vmem, ⟨6, _⟩ => ⟨S1024x128, .f32⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S1024x128, .bf16⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call1_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== IdxProjRefIdeal.lean ====
abbrev S17408x2048 : Shape := ⟨2, ![17408, 2048]⟩
abbrev S2048 : Shape := ⟨1, ![2048]⟩
abbrev S2048x80 : Shape := ⟨2, ![2048, 80]⟩
abbrev S64 : Shape := ⟨1, ![64]⟩
abbrev S_ : Shape := ⟨0, ![]⟩
abbrev S17408 : Shape := ⟨1, ![17408]⟩
abbrev S17408x1 : Shape := ⟨2, ![17408, 1]⟩
abbrev S1x2048 : Shape := ⟨2, ![1, 2048]⟩
abbrev S17408x80 : Shape := ⟨2, ![17408, 80]⟩
abbrev S17408x64 : Shape := ⟨2, ![17408, 64]⟩
abbrev S1x64 : Shape := ⟨2, ![1, 64]⟩
abbrev S17408x128 : Shape := ⟨2, ![17408, 128]⟩

abbrev nBuf : Space → Nat
  | .hbm => 48
  | .vmem => 0
  | .smem => 0
  | _ => 0

abbrev bufTy : (tb : Table) → Fin (tcTables nBuf tb) → BufTy
  | .hbm, ⟨0, _⟩ => ⟨S17408x2048, .f32⟩
  | .hbm, ⟨1, _⟩ => ⟨S2048, .f32⟩
  | .hbm, ⟨2, _⟩ => ⟨S2048x80, .f32⟩
  | .hbm, ⟨3, _⟩ => ⟨S64, .f32⟩
  | .hbm, ⟨4, _⟩ => ⟨S17408x2048, .f32⟩
  | .hbm, ⟨5, _⟩ => ⟨S_, .f32⟩
  | .hbm, ⟨6, _⟩ => ⟨S17408, .f32⟩
  | .hbm, ⟨7, _⟩ => ⟨S17408x1, .f32⟩
  | .hbm, ⟨8, _⟩ => ⟨S_, .f32⟩
  | .hbm, ⟨9, _⟩ => ⟨S17408x1, .f32⟩
  | .hbm, ⟨10, _⟩ => ⟨S17408x1, .f32⟩
  | .hbm, ⟨11, _⟩ => ⟨S_, .f32⟩
  | .hbm, ⟨12, _⟩ => ⟨S17408x1, .f32⟩
  | .hbm, ⟨13, _⟩ => ⟨S17408x1, .f32⟩
  | .hbm, ⟨14, _⟩ => ⟨S17408x1, .f32⟩
  | .hbm, ⟨15, _⟩ => ⟨S17408x2048, .f32⟩
  | .hbm, ⟨16, _⟩ => ⟨S17408x2048, .f32⟩
  | .hbm, ⟨17, _⟩ => ⟨S1x2048, .f32⟩
  | .hbm, ⟨18, _⟩ => ⟨S17408x2048, .f32⟩
  | .hbm, ⟨19, _⟩ => ⟨S17408x2048, .f32⟩
  | .hbm, ⟨20, _⟩ => ⟨S17408x80, .f32⟩
  | .hbm, ⟨21, _⟩ => ⟨S17408x64, .f32⟩
  | .hbm, ⟨22, _⟩ => ⟨S17408x64, .f32⟩
  | .hbm, ⟨23, _⟩ => ⟨S_, .f32⟩
  | .hbm, ⟨24, _⟩ => ⟨S17408, .f32⟩
  | .hbm, ⟨25, _⟩ => ⟨S17408x1, .f32⟩
  | .hbm, ⟨26, _⟩ => ⟨S_, .f32⟩
  | .hbm, ⟨27, _⟩ => ⟨S17408x1, .f32⟩
  | .hbm, ⟨28, _⟩ => ⟨S17408x1, .f32⟩
  | .hbm, ⟨29, _⟩ => ⟨S_, .f32⟩
  | .hbm, ⟨30, _⟩ => ⟨S17408x1, .f32⟩
  | .hbm, ⟨31, _⟩ => ⟨S17408x1, .f32⟩
  | .hbm, ⟨32, _⟩ => ⟨S17408x1, .f32⟩
  | .hbm, ⟨33, _⟩ => ⟨S17408x64, .f32⟩
  | .hbm, ⟨34, _⟩ => ⟨S17408x64, .f32⟩
  | .hbm, ⟨35, _⟩ => ⟨S1x64, .f32⟩
  | .hbm, ⟨36, _⟩ => ⟨S17408x64, .f32⟩
  | .hbm, ⟨37, _⟩ => ⟨S17408x64, .f32⟩
  | .hbm, ⟨38, _⟩ => ⟨S17408x64, .bf16⟩
  | .hbm, ⟨39, _⟩ => ⟨S_, .i32⟩
  | .hbm, ⟨40, _⟩ => ⟨S_, .f32⟩
  | .hbm, ⟨41, _⟩ => ⟨S17408x128, .f32⟩
  | .hbm, ⟨42, _⟩ => ⟨S_, .i32⟩
  | .hbm, ⟨43, _⟩ => ⟨S_, .bf16⟩
  | .hbm, ⟨44, _⟩ => ⟨S17408x128, .bf16⟩
  | .hbm, ⟨45, _⟩ => ⟨S_, .i32⟩
  | .hbm, ⟨46, _⟩ => ⟨S_, .bf16⟩
  | .hbm, ⟨47, _⟩ => ⟨S17408x128, .bf16⟩
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c : Ref sig .tc := ⟨.hbm, 39, rfl⟩
abbrev main_call0_v0 : Ref sig .tc := ⟨.hbm, 40, rfl⟩
abbrev main_v29 : Ref sig .tc := ⟨.hbm, 41, rfl⟩
abbrev main_c_5 : Ref sig .tc := ⟨.hbm, 42, rfl⟩
abbrev main_call1_v0 : Ref sig .tc := ⟨.hbm, 43, rfl⟩
abbrev main_v30 : Ref sig .tc := ⟨.hbm, 44, rfl⟩
abbrev main_c_6 : Ref sig .tc := ⟨.hbm, 45, rfl⟩
abbrev main_call2_v0 : Ref sig .tc := ⟨.hbm, 46, rfl⟩
abbrev main_v31 : Ref sig .tc := ⟨.hbm, 47, rfl⟩

abbrev nD : Nat := 1
abbrev τ : Topo := Topo.v7x

variable {F : FTy → Type} [FloatOps F]
-- ==== Merge.lean ====
abbrev S17408x1024 : Shape := ⟨2, ![17408, 1024]⟩
abbrev S17408x12288 : Shape := ⟨2, ![17408, 12288]⟩
abbrev S1024x2048 : Shape := ⟨2, ![1024, 2048]⟩
abbrev S17408x2048 : Shape := ⟨2, ![17408, 2048]⟩
abbrev S1024x1024 : Shape := ⟨2, ![1024, 1024]⟩

abbrev nBuf : Space → Nat
  | .hbm => 8
  | .vmem => 14
  | .smem => 0
  | _ => 0

abbrev bufTy : (tb : Table) → Fin (tcTables nBuf tb) → BufTy
  | .hbm, ⟨0, _⟩ => ⟨S17408x1024, .bf16⟩
  | .hbm, ⟨1, _⟩ => ⟨S17408x1024, .bf16⟩
  | .hbm, ⟨2, _⟩ => ⟨S17408x12288, .bf16⟩
  | .hbm, ⟨3, _⟩ => ⟨S1024x2048, .f32⟩
  | .hbm, ⟨4, _⟩ => ⟨S1024x2048, .f32⟩
  | .hbm, ⟨5, _⟩ => ⟨S1024x2048, .bf16⟩
  | .hbm, ⟨6, _⟩ => ⟨S1024x2048, .bf16⟩
  | .hbm, ⟨7, _⟩ => ⟨S17408x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S17408x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![17, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S17408x1024 : Shape := ⟨2, ![17408, 1024]⟩
abbrev S17408x12288 : Shape := ⟨2, ![17408, 12288]⟩
abbrev S1024x2048 : Shape := ⟨2, ![1024, 2048]⟩
abbrev S17408x2048 : Shape := ⟨2, ![17408, 2048]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S17408x1024, .bf16⟩
  | .hbm, ⟨1, _⟩ => ⟨S17408x1024, .bf16⟩
  | .hbm, ⟨2, _⟩ => ⟨S17408x12288, .bf16⟩
  | .hbm, ⟨3, _⟩ => ⟨S1024x2048, .f32⟩
  | .hbm, ⟨4, _⟩ => ⟨S1024x2048, .f32⟩
  | .hbm, ⟨5, _⟩ => ⟨S17408x1024, .f32⟩
  | .hbm, ⟨6, _⟩ => ⟨S17408x1024, .f32⟩
  | .hbm, ⟨7, _⟩ => ⟨S17408x12288, .f32⟩
  | .hbm, ⟨8, _⟩ => ⟨S17408x2048, .f32⟩
  | .hbm, ⟨9, _⟩ => ⟨S17408x2048, .f32⟩
  | .hbm, ⟨10, _⟩ => ⟨S17408x2048, .f32⟩
  | .hbm, ⟨11, _⟩ => ⟨S17408x2048, .f32⟩
  | .hbm, ⟨12, _⟩ => ⟨S_, .f32⟩
  | .hbm, ⟨13, _⟩ => ⟨S17408x2048, .f32⟩
  | .hbm, ⟨14, _⟩ => ⟨S17408x2048, .f32⟩
  | .hbm, ⟨15, _⟩ => ⟨S_, .f32⟩
  | .hbm, ⟨16, _⟩ => ⟨S17408x2048, .f32⟩
  | .hbm, ⟨17, _⟩ => ⟨S17408x2048, .f32⟩
  | .hbm, ⟨18, _⟩ => ⟨S17408x2048, .f32⟩
  | .hbm, ⟨19, _⟩ => ⟨S17408x2048, .f32⟩
  | .hbm, ⟨20, _⟩ => ⟨S17408x2048, .f32⟩
  | .hbm, ⟨21, _⟩ => ⟨S17408x2048, .f32⟩
  | .hbm, ⟨22, _⟩ => ⟨S_, .f32⟩
  | .hbm, ⟨23, _⟩ => ⟨S17408x2048, .f32⟩
  | .hbm, ⟨24, _⟩ => ⟨S17408x2048, .f32⟩
  | .hbm, ⟨25, _⟩ => ⟨S_, .f32⟩
  | .hbm, ⟨26, _⟩ => ⟨S17408x2048, .f32⟩
  | .hbm, ⟨27, _⟩ => ⟨S17408x2048, .f32⟩
  | .hbm, ⟨28, _⟩ => ⟨S17408x2048, .f32⟩
  | .hbm, ⟨29, _⟩ => ⟨S17408x2048, .f32⟩
  | .hbm, ⟨30, _⟩ => ⟨S17408x2048, .f32⟩
  | .hbm, ⟨31, _⟩ => ⟨S17408x2048, .bf16⟩
  | _, _ => ⟨S17408x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== OutProj.lean ====
abbrev S17408x2048 : Shape := ⟨2, ![17408, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S17408x2048, .f32⟩
  | .hbm, ⟨1, _⟩ => ⟨S17408x2048, .bf16⟩
  | .hbm, ⟨2, _⟩ => ⟨S2048x2048, .f32⟩
  | .hbm, ⟨3, _⟩ => ⟨S2048, .f32⟩
  | .hbm, ⟨4, _⟩ => ⟨S2048x2048, .bf16⟩
  | .hbm, ⟨5, _⟩ => ⟨S1x2048, .f32⟩
  | .hbm, ⟨6, _⟩ => ⟨S17408x2048, .f32⟩
  | .hbm, ⟨7, _⟩ => ⟨S17408x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutProjRefIdeal.lean ====
abbrev S17408x2048 : Shape := ⟨2, ![17408, 2048]⟩
abbrev S2048x2048 : Shape := ⟨2, ![2048, 2048]⟩
abbrev S2048 : Shape := ⟨1, ![2048]⟩
abbrev S_ : Shape := ⟨0, ![]⟩
abbrev S17408 : Shape := ⟨1, ![17408]⟩
abbrev S17408x1 : Shape := ⟨2, ![17408, 1]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S17408x2048, .f32⟩
  | .hbm, ⟨1, _⟩ => ⟨S17408x2048, .bf16⟩
  | .hbm, ⟨2, _⟩ => ⟨S2048x2048, .f32⟩
  | .hbm, ⟨3, _⟩ => ⟨S2048, .f32⟩
  | .hbm, ⟨4, _⟩ => ⟨S17408x2048, .f32⟩
  | .hbm, ⟨5, _⟩ => ⟨S17408x2048, .f32⟩
  | .hbm, ⟨6, _⟩ => ⟨S17408x2048, .f32⟩
  | .hbm, ⟨7, _⟩ => ⟨S17408x2048, .f32⟩
  | .hbm, ⟨8, _⟩ => ⟨S_, .f32⟩
  | .hbm, ⟨9, _⟩ => ⟨S17408, .f32⟩
  | .hbm, ⟨10, _⟩ => ⟨S17408x1, .f32⟩
  | .hbm, ⟨11, _⟩ => ⟨S_, .f32⟩
  | .hbm, ⟨12, _⟩ => ⟨S17408x1, .f32⟩
  | .hbm, ⟨13, _⟩ => ⟨S17408x1, .f32⟩
  | .hbm, ⟨14, _⟩ => ⟨S_, .f32⟩
  | .hbm, ⟨15, _⟩ => ⟨S17408x1, .f32⟩
  | .hbm, ⟨16, _⟩ => ⟨S17408x1, .f32⟩
  | .hbm, ⟨17, _⟩ => ⟨S17408x1, .f32⟩
  | .hbm, ⟨18, _⟩ => ⟨S17408x2048, .f32⟩
  | .hbm, ⟨19, _⟩ => ⟨S17408x2048, .f32⟩
  | .hbm, ⟨20, _⟩ => ⟨S1x2048, .f32⟩
  | .hbm, ⟨21, _⟩ => ⟨S17408x2048, .f32⟩
  | .hbm, ⟨22, _⟩ => ⟨S17408x2048, .f32⟩
  | .hbm, ⟨23, _⟩ => ⟨S17408x2048, .bf16⟩
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== FfnUp.lean ====
abbrev S17408x2048 : Shape := ⟨2, ![17408, 2048]⟩
abbrev S2048x5632 : Shape := ⟨2, ![2048, 5632]⟩
abbrev S3x5632 : Shape := ⟨2, ![3, 5632]⟩
abbrev S5632 : Shape := ⟨1, ![5632]⟩
abbrev S_ : Shape := ⟨0, ![]⟩
abbrev S8x5632 : Shape := ⟨2, ![8, 5632]⟩
abbrev S1x5632 : Shape := ⟨2, ![1, 5632]⟩
abbrev S17408x5632 : Shape := ⟨2, ![17408, 5632]⟩
abbrev S512x2048 : Shape := ⟨2, ![512, 2048]⟩
abbrev S2048x512 : Shape := ⟨2, ![2048, 512]⟩
abbrev S8x512 : Shape := ⟨2, ![8, 512]⟩
abbrev S1x512 : Shape := ⟨2, ![1, 512]⟩
abbrev S512x512 : Shape := ⟨2, ![512, 512]⟩
abbrev S512x1 : Shape := ⟨2, ![512, 1]⟩

abbrev nBuf : Space → Nat
  | .hbm => 12
  | .vmem => 13
  | .smem => 0
  | _ => 0

abbrev bufTy : (tb : Table) → Fin (tcTables nBuf tb) → BufTy
  | .hbm, ⟨0, _⟩ => ⟨S17408x2048, .bf16⟩
  | .hbm, ⟨1, _⟩ => ⟨S2048x5632, .f32⟩
  | .hbm, ⟨2, _⟩ => ⟨S2048x5632, .f32⟩
  | .hbm, ⟨3, _⟩ => ⟨S3x5632, .f32⟩
  | .hbm, ⟨4, _⟩ => ⟨S5632, .f32⟩
  | .hbm, ⟨5, _⟩ => ⟨S_, .i32⟩
  | .hbm, ⟨6, _⟩ => ⟨S_, .f32⟩
  | .hbm, ⟨7, _⟩ => ⟨S8x5632, .f32⟩
  | .hbm, ⟨8, _⟩ => ⟨S2048x5632, .bf16⟩
  | .hbm, ⟨9, _⟩ => ⟨S2048x5632, .bf16⟩
  | .hbm, ⟨10, _⟩ => ⟨S1x5632, .f32⟩
  | .hbm, ⟨11, _⟩ => ⟨S17408x5632, .bf16⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S8x512, .f32⟩
  | .local _ .vmem, ⟨7, _⟩ => ⟨S8x512, .f32⟩
  | .local _ .vmem, ⟨8, _⟩ => ⟨S1x512, .f32⟩
  | .local _ .vmem, ⟨9, _⟩ => ⟨S1x512, .f32⟩
  | .local _ .vmem, ⟨10, _⟩ => ⟨S512x512, .bf16⟩
  | .local _ .vmem, ⟨11, _⟩ => ⟨S512x512, .bf16⟩
  | .local _ .vmem, ⟨12, _⟩ => ⟨S8x512, .f32⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![11, 34], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpRefIdeal.lean ====
abbrev S17408x2048 : Shape := ⟨2, ![17408, 2048]⟩
abbrev S2048x5632 : Shape := ⟨2, ![2048, 5632]⟩
abbrev S3x5632 : Shape := ⟨2, ![3, 5632]⟩
abbrev S5632 : Shape := ⟨1, ![5632]⟩
abbrev S2x8704x2048 : Shape := ⟨3, ![2, 8704, 2048]⟩
abbrev S2x8704x5632 : Shape := ⟨3, ![2, 8704, 5632]⟩
abbrev S_ : Shape := ⟨0, ![]⟩
abbrev S2x8706x5632 : Shape := ⟨3, ![2, 8706, 5632]⟩
abbrev S1x5632 : Shape := ⟨2, ![1, 5632]⟩
abbrev S1x1x5632 : Shape := ⟨3, ![1, 1, 5632]⟩
abbrev S17408x5632 : Shape := ⟨2, ![17408, 5632]⟩

abbrev nBuf : Space → Nat
  | .hbm => 50
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S2048x5632, .f32⟩
  | .hbm, ⟨2, _⟩ => ⟨S2048x5632, .f32⟩
  | .hbm, ⟨3, _⟩ => ⟨S3x5632, .f32⟩
  | .hbm, ⟨4, _⟩ => ⟨S5632, .f32⟩
  | .hbm, ⟨5, _⟩ => ⟨S17408x2048, .f32⟩
  | .hbm, ⟨6, _⟩ => ⟨S2x8704x2048, .f32⟩
  | .hbm, ⟨7, _⟩ => ⟨S2x8704x5632, .f32⟩
  | .hbm, ⟨8, _⟩ => ⟨S_, .i32⟩
  | .hbm, ⟨9, _⟩ => ⟨S_, .f32⟩
  | .hbm, ⟨10, _⟩ => ⟨S2x8706x5632, .f32⟩
  | .hbm, ⟨11, _⟩ => ⟨S2x8704x5632, .f32⟩
  | .hbm, ⟨12, _⟩ => ⟨S1x5632, .f32⟩
  | .hbm, ⟨13, _⟩ => ⟨S5632, .f32⟩
  | .hbm, ⟨14, _⟩ => ⟨S1x1x5632, .f32⟩
  | .hbm, ⟨15, _⟩ => ⟨S2x8704x5632, .f32⟩
  | .hbm, ⟨16, _⟩ => ⟨S2x8704x5632, .f32⟩
  | .hbm, ⟨17, _⟩ => ⟨S_, .f32⟩
  | .hbm, ⟨18, _⟩ => ⟨S2x8704x5632, .f32⟩
  | .hbm, ⟨19, _⟩ => ⟨S2x8704x5632, .f32⟩
  | .hbm, ⟨20, _⟩ => ⟨S2x8704x5632, .f32⟩
  | .hbm, ⟨21, _⟩ => ⟨S1x5632, .f32⟩
  | .hbm, ⟨22, _⟩ => ⟨S5632, .f32⟩
  | .hbm, ⟨23, _⟩ => ⟨S1x1x5632, .f32⟩
  | .hbm, ⟨24, _⟩ => ⟨S2x8704x5632, .f32⟩
  | .hbm, ⟨25, _⟩ => ⟨S2x8704x5632, .f32⟩
  | .hbm, ⟨26, _⟩ => ⟨S2x8704x5632, .f32⟩
  | .hbm, ⟨27, _⟩ => ⟨S2x8704x5632, .f32⟩
  | .hbm, ⟨28, _⟩ => ⟨S1x5632, .f32⟩
  | .hbm, ⟨29, _⟩ => ⟨S5632, .f32⟩
  | .hbm, ⟨30, _⟩ => ⟨S1x1x5632, .f32⟩
  | .hbm, ⟨31, _⟩ => ⟨S2x8704x5632, .f32⟩
  | .hbm, ⟨32, _⟩ => ⟨S2x8704x5632, .f32⟩
  | .hbm, ⟨33, _⟩ => ⟨S2x8704x5632, .f32⟩
  | .hbm, ⟨34, _⟩ => ⟨S1x1x5632, .f32⟩
  | .hbm, ⟨35, _⟩ => ⟨S2x8704x5632, .f32⟩
  | .hbm, ⟨36, _⟩ => ⟨S2x8704x5632, .f32⟩
  | .hbm, ⟨37, _⟩ => ⟨S2x8704x5632, .f32⟩
  | .hbm, ⟨38, _⟩ => ⟨S2x8704x5632, .f32⟩
  | .hbm, ⟨39, _⟩ => ⟨S_, .f32⟩
  | .hbm, ⟨40, _⟩ => ⟨S2x8704x5632, .f32⟩
  | .hbm, ⟨41, _⟩ => ⟨S2x8704x5632, .f32⟩
  | .hbm, ⟨42, _⟩ => ⟨S_, .f32⟩
  | .hbm, ⟨43, _⟩ => ⟨S2x8704x5632, .f32⟩
  | .hbm, ⟨44, _⟩ => ⟨S2x8704x5632, .f32⟩
  | .hbm, ⟨45, _⟩ => ⟨S2x8704x5632, .f32⟩
  | .hbm, ⟨46, _⟩ => ⟨S2x8704x5632, .f32⟩
  | .hbm, ⟨47, _⟩ => ⟨S2x8704x5632, .f32⟩
  | .hbm, ⟨48, _⟩ => ⟨S2x8704x5632, .bf16⟩
  | .hbm, ⟨49, _⟩ => ⟨S17408x5632, .bf16⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_call1_v0 : Ref sig .tc := ⟨.hbm, 37, rfl⟩
abbrev main_call1_v1 : Ref sig .tc := ⟨.hbm, 38, rfl⟩
abbrev main_call1_cst : Ref sig .tc := ⟨.hbm, 39, rfl⟩
abbrev main_call1_v2 : Ref sig .tc := ⟨.hbm, 40, rfl⟩
abbrev main_call1_v3 : Ref sig .tc := ⟨.hbm, 41, rfl⟩
abbrev main_call1_cst_0 : Ref sig .tc := ⟨.hbm, 42, rfl⟩
abbrev main_call1_v4 : Ref sig .tc := ⟨.hbm, 43, rfl⟩
abbrev main_call1_v5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]
-- ==== FfnDown.lean ====
abbrev S17408x5632 : Shape := ⟨2, ![17408, 5632]⟩
abbrev S5632x2048 : Shape := ⟨2, ![5632, 2048]⟩
abbrev S17408x2048 : Shape := ⟨2, ![17408, 2048]⟩
abbrev S2048 : Shape := ⟨1, ![2048]⟩
abbrev S1x2048 : Shape := ⟨2, ![1, 2048]⟩
abbrev S16384x2048 : Shape := ⟨2, ![16384, 2048]⟩
abbrev S512x1408 : Shape := ⟨2, ![512, 1408]⟩
abbrev S1408x2048 : Shape := ⟨2, ![1408, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S17408x5632, .bf16⟩
  | .hbm, ⟨1, _⟩ => ⟨S5632x2048, .f32⟩
  | .hbm, ⟨2, _⟩ => ⟨S17408x2048, .f32⟩
  | .hbm, ⟨3, _⟩ => ⟨S2048, .f32⟩
  | .hbm, ⟨4, _⟩ => ⟨S5632x2048, .bf16⟩
  | .hbm, ⟨5, _⟩ => ⟨S1x2048, .f32⟩
  | .hbm, ⟨6, _⟩ => ⟨S16384x2048, .f32⟩
  | .local _ .vmem, ⟨0, _⟩ => ⟨S512x1408, .bf16⟩
  | .local _ .vmem, ⟨1, _⟩ => ⟨S512x1408, .bf16⟩
  | .local _ .vmem, ⟨2, _⟩ => ⟨S1408x2048, .bf16⟩
  | .local _ .vmem, ⟨3, _⟩ => ⟨S1408x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | _, _ => ⟨S17408x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c17_i32 : BitVec 32 := 17#32
  let v17 : BitVec 32 := Scalar.muli v16 c17_i32
  let c1_i32_4 : BitVec 32 := 1#32
  let v18 : BitVec 32 := Scalar.addi v17 c1_i32_4
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let v29 : BitVec 32 := Scalar.addi v18 v28
  let c0_i32_11 : BitVec 32 := 0#32
  ![v29.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c17_i32 : BitVec 32 := 17#32
  let v17 : BitVec 32 := Scalar.muli v16 c17_i32
  let c1_i32_4 : BitVec 32 := 1#32
  let v18 : BitVec 32 := Scalar.addi v17 c1_i32_4
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let v29 : BitVec 32 := Scalar.addi v18 v28
  let c0_i32_11 : BitVec 32 := 0#32
  let c0_i32_12 : BitVec 32 := 0#32
  ![v29.toNat, c0_i32_11.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== FfnDownRefIdeal.lean ====
abbrev S17408x5632 : Shape := ⟨2, ![17408, 5632]⟩
abbrev S5632x2048 : Shape := ⟨2, ![5632, 2048]⟩
abbrev S17408x2048 : Shape := ⟨2, ![17408, 2048]⟩
abbrev S2048 : Shape := ⟨1, ![2048]⟩
abbrev S_ : Shape := ⟨0, ![]⟩
abbrev S17408 : Shape := ⟨1, ![17408]⟩
abbrev S17408x1 : Shape := ⟨2, ![17408, 1]⟩
abbrev S1x2048 : Shape := ⟨2, ![1, 2048]⟩
abbrev S2x8704x2048 : Shape := ⟨3, ![2, 8704, 2048]⟩
abbrev S2x8192x2048 : Shape := ⟨3, ![2, 8192, 2048]⟩
abbrev S16384x2048 : Shape := ⟨2, ![16384, 2048]⟩

abbrev nBuf : Space → Nat
  | .hbm => 26
  | .vmem => 0
  | .smem => 0
  | _ => 0

abbrev bufTy : (tb : Table) → Fin (tcTables nBuf tb) → BufTy
  | .hbm, ⟨0, _⟩ => ⟨S17408x5632, .bf16⟩
  | .hbm, ⟨1, _⟩ => ⟨S5632x2048, .f32⟩
  | .hbm, ⟨2, _⟩ => ⟨S17408x2048, .f32⟩
  | .hbm, ⟨3, _⟩ => ⟨S2048, .f32⟩
  | .hbm, ⟨4, _⟩ => ⟨S17408x5632, .f32⟩
  | .hbm, ⟨5, _⟩ => ⟨S17408x2048, .f32⟩
  | .hbm, ⟨6, _⟩ => ⟨S17408x2048, .f32⟩
  | .hbm, ⟨7, _⟩ => ⟨S17408x2048, .f32⟩
  | .hbm, ⟨8, _⟩ => ⟨S_, .f32⟩
  | .hbm, ⟨9, _⟩ => ⟨S17408, .f32⟩
  | .hbm, ⟨10, _⟩ => ⟨S17408x1, .f32⟩
  | .hbm, ⟨11, _⟩ => ⟨S_, .f32⟩
  | .hbm, ⟨12, _⟩ => ⟨S17408x1, .f32⟩
  | .hbm, ⟨13, _⟩ => ⟨S17408x1, .f32⟩
  | .hbm, ⟨14, _⟩ => ⟨S_, .f32⟩
  | .hbm, ⟨15, _⟩ => ⟨S17408x1, .f32⟩
  | .hbm, ⟨16, _⟩ => ⟨S17408x1, .f32⟩
  | .hbm, ⟨17, _⟩ => ⟨S17408x1, .f32⟩
  | .hbm, ⟨18, _⟩ => ⟨S17408x2048, .f32⟩
  | .hbm, ⟨19, _⟩ => ⟨S17408x2048, .f32⟩
  | .hbm, ⟨20, _⟩ => ⟨S1x2048, .f32⟩
  | .hbm, ⟨21, _⟩ => ⟨S17408x2048, .f32⟩
  | .hbm, ⟨22, _⟩ => ⟨S17408x2048, .f32⟩
  | .hbm, ⟨23, _⟩ => ⟨S2x8704x2048, .f32⟩
  | .hbm, ⟨24, _⟩ => ⟨S2x8192x2048, .f32⟩
  | .hbm, ⟨25, _⟩ => ⟨S16384x2048, .f32⟩
  | _, _ => ⟨S17408x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Proof.AttnTrip.lean ====
module

public import proofs.«01_k».proof.Proof.Gen.AttnIdeal.Value
public import Idealize.ShloMosaic.Lib.Pointwise
public import Idealize.ShloMosaic.Lib.Pipeline.ReadBack
public import Idealize.ShloMosaic.Lib.Pipeline.ValueKit.Tiles

@[expose] public section

set_option maxRecDepth 16384

noncomputable section

namespace Cert.AttnIdeal.RefValue
open Cert.AttnIdeal Cert.AttnIdeal.Gen Idealize.ShloMosaic Idealize.ShloMosaic.TcCoe Idealize.SL.Sem
open Idealize.ShloMosaic.Tactic Idealize.ShloMosaic.ValueIdx
open Idealize.ShloMosaic.Pipeline (Dat)

/-- The new running maximum of one head, over a chunk. -/
def newM (B : Vec Ideal S1x512x256 .bf16) (K : Vec Ideal S1x512x128 .bf16) (Q : Vec Ideal S256x128 .bf16) (m : Vec Ideal S1x256 .f32) : Vec Ideal S1x256 .f32 :=
  k0_pay10 (k0_pay4 B K Q m)
/-- The new normalizer of one head. -/
def newL (B : Vec Ideal S1x512x256 .bf16) (K : Vec Ideal S1x512x128 .bf16) (Q : Vec Ideal S256x128 .bf16) (m l : Vec Ideal S1x256 .f32) : Vec Ideal S1x256 .f32 :=
  k0_pay7 B K Q m l
/-- The new numerator of one head. -/
def newA (B : Vec Ideal S1x512x256 .bf16) (K : Vec Ideal S1x512x128 .bf16) (Q : Vec Ideal S256x128 .bf16) (V : Vec Ideal S1x1x128x512 .bf16) (m : Vec Ideal S1x256 .f32) (a : Vec Ideal S1x128x256 .f32) : Vec Ideal S1x128x256 .f32 :=
  k0_pay9 (k0_pay5 B K Q m) (k0_pay8 B K Q m V) a

/-- What a trip stores of the running maxima: one row per head, the last head first. -/
theorem p9 (𝒱 : Variants) (c : Dev nD) (bd : Option 𝒱.V) (i : grid0.Coords) (arg3 : Memref sig .tc .vmem S1x256x512 .bf16) (harg3 : arg3.IsWhole) (arg4 : Memref sig .tc .vmem S1x8704x512 .bf16) (harg4 : arg4.IsWhole) (arg5 : Memref sig .tc .vmem S1x17x512x512 .bf16) (harg5 : arg5.IsWhole) (arg6 : Memref sig .tc .vmem S1x8704x256 .bf16) (harg6 : arg6.IsWhole) (arg7 : Memref sig .tc .vmem S1x256x512 .bf16) (harg7 : arg7.IsWhole) (arg8 : Memref sig .tc .vmem S256x512 .bf16) (harg8 : arg8.IsWhole) (arg9 : Memref sig .tc .vmem S4x256 .f32) (harg9 : arg9.IsWhole) (arg10 : Memref sig .tc .vmem S4x256 .f32) (harg10 : arg10.IsWhole) (arg11 : Memref sig .tc .vmem S4x128x256 .f32) (harg11 : arg11.IsWhole) (v0 : BitVec 32) (v20 : BitVec 32) (cst_14 : Ideal .f32) (X_arg4 : BufTy.Contents (Elt Ideal) arg4.view.ty) (X_arg5 : BufTy.Contents (Elt Ideal) arg5.view.ty) (X_arg6 : BufTy.Contents (Elt Ideal) arg6.view.ty) (X_arg8 : BufTy.Contents (Elt Ideal) arg8.view.ty) (k : Fin (k0_t1_loop i).trips) (f_arg9 : BufTy.Contents (Elt Ideal) arg9.view.ty) (f_arg10 : BufTy.Contents (Elt Ideal) arg10.view.ty) (f_arg11 : BufTy.Contents (Elt Ideal) arg11.view.ty) :
   (trip_k0_t1 (F := Ideal) 𝒱 c bd i arg3 harg3 arg4 harg4 arg5 harg5 arg6 harg6 arg7 harg7 arg8 harg8 arg9 harg9 arg10 harg10 arg11 harg11 v0 v20 cst_14 X_arg4 X_arg5 X_arg6 X_arg8 k).1 f_arg9 f_arg10 f_arg11 =
    [⟨(Rect.unit (s := S4x256) ![3, 0] S1x256.size inb_S4x256_S1x256_3_0), newM (View.ld (Val := Elt Ideal) (S := S1x8704x256) (e' := EltTy.bf16) (View.read (Elt Ideal) arg6.view X_arg6) (Rect.unit (s := S1x8704x256) (k0_off1 i k) S1x512x256.size (k0_off1_inb i k))) (View.ld (Val := Elt Ideal) (S := S1x8704x512) (e' := EltTy.bf16) (View.read (Elt Ideal) arg4.view X_arg4) (Rect.unit (s := S1x8704x512) (k0_off8 i k) S1x512x128.size (k0_off8_inb i k))) (View.ld (Val := Elt Ideal) (S := S256x512) (e' := EltTy.bf16) (View.read (Elt Ideal) arg8.view X_arg8) (Rect.unit (s := S256x512) ![0, 384] S256x128.size inb_S256x512_S256x128_0_384)) (View.ld (Val := Elt Ideal) (S := S4x256) (e' := EltTy.f32) (View.read (Elt Ideal) arg9.view f_arg9) (Rect.unit (s := S4x256) ![3, 0] S1x256.size inb_S4x256_S1x256_3_0))⟩,
     ⟨(Rect.unit (s := S4x256) ![2, 0] S1x256.size inb_S4x256_S1x256_2_0), newM (View.ld (Val := Elt Ideal) (S := S1x8704x256) (e' := EltTy.bf16) (View.read (Elt Ideal) arg6.view X_arg6) (Rect.unit (s := S1x8704x256) (k0_off1 i k) S1x512x256.size (k0_off1_inb i k))) (View.ld (Val := Elt Ideal) (S := S1x8704x512) (e' := EltTy.bf16) (View.read (Elt Ideal) arg4.view X_arg4) (Rect.unit (s := S1x8704x512) (k0_off6 i k) S1x512x128.size (k0_off6_inb i k))) (View.ld (Val := Elt Ideal) (S := S256x512) (e' := EltTy.bf16) (View.read (Elt Ideal) arg8.view X_arg8) (Rect.unit (s := S256x512) ![0, 256] S256x128.size inb_S256x512_S256x128_0_256)) (View.ld (Val := Elt Ideal) (S := S4x256) (e' := EltTy.f32) (View.read (Elt Ideal) arg9.view f_arg9) (Rect.unit (s := S4x256) ![2, 0] S1x256.size inb_S4x256_S1x256_2_0))⟩,
     ⟨(Rect.unit (s := S4x256) ![1, 0] S1x256.size inb_S4x256_S1x256_1_0), newM (View.ld (Val := Elt Ideal) (S := S1x8704x256) (e' := EltTy.bf16) (View.read (Elt Ideal) arg6.view X_arg6) (Rect.unit (s := S1x8704x256) (k0_off1 i k) S1x512x256.size (k0_off1_inb i k))) (View.ld (Val := Elt Ideal) (S := S1x8704x512) (e' := EltTy.bf16) (View.read (Elt Ideal) arg4.view X_arg4) (Rect.unit (s := S1x8704x512) (k0_off4 i k) S1x512x128.size (k0_off4_inb i k))) (View.ld (Val := Elt Ideal) (S := S256x512) (e' := EltTy.bf16) (View.read (Elt Ideal) arg8.view X_arg8) (Rect.unit (s := S256x512) ![0, 128] S256x128.size inb_S256x512_S256x128_0_128)) (View.ld (Val := Elt Ideal) (S := S4x256) (e' := EltTy.f32) (View.read (Elt Ideal) arg9.view f_arg9) (Rect.unit (s := S4x256) ![1, 0] S1x256.size inb_S4x256_S1x256_1_0))⟩,
     ⟨(Rect.unit (s := S4x256) ![0, 0] S1x256.size inb_S4x256_S1x256_0_0), newM (View.ld (Val := Elt Ideal) (S := S1x8704x256) (e' := EltTy.bf16) (View.read (Elt Ideal) arg6.view X_arg6) (Rect.unit (s := S1x8704x256) (k0_off1 i k) S1x512x256.size (k0_off1_inb i k))) (View.ld (Val := Elt Ideal) (S := S1x8704x512) (e' := EltTy.bf16) (View.read (Elt Ideal) arg4.view X_arg4) (Rect.unit (s := S1x8704x512) (k0_off2 i k) S1x512x128.size (k0_off2_inb i k))) (View.ld (Val := Elt Ideal) (S := S256x512) (e' := EltTy.bf16) (View.read (Elt Ideal) arg8.view X_arg8) (Rect.unit (s := S256x512) ![0, 0] S256x128.size inb_S256x512_S256x128_0_0)) (View.ld (Val := Elt Ideal) (S := S4x256) (e' := EltTy.f32) (View.read (Elt Ideal) arg9.view f_arg9) (Rect.unit (s := S4x256) ![0, 0] S1x256.size inb_S4x256_S1x256_0_0))⟩] := by
  unfold trip_k0_t1
  dsimp only
  sl_unfold_words
  simp only [View.readAt_eq_ld]
  rfl
/-- What a trip stores of the normalizers: one row per head, the last head first. -/
theorem p10 (𝒱 : Variants) (c : Dev nD) (bd : Option 𝒱.V) (i : grid0.Coords) (arg3 : Memref sig .tc .vmem S1x256x512 .bf16) (harg3 : arg3.IsWhole) (arg4 : Memref sig .tc .vmem S1x8704x512 .bf16) (harg4 : arg4.IsWhole) (arg5 : Memref sig .tc .vmem S1x17x512x512 .bf16) (harg5 : arg5.IsWhole) (arg6 : Memref sig .tc .vmem S1x8704x256 .bf16) (harg6 : arg6.IsWhole) (arg7 : Memref sig .tc .vmem S1x256x512 .bf16) (harg7 : arg7.IsWhole) (arg8 : Memref sig .tc .vmem S256x512 .bf16) (harg8 : arg8.IsWhole) (arg9 : Memref sig .tc .vmem S4x256 .f32) (harg9 : arg9.IsWhole) (arg10 : Memref sig .tc .vmem S4x256 .f32) (harg10 : arg10.IsWhole) (arg11 : Memref sig .tc .vmem S4x128x256 .f32) (harg11 : arg11.IsWhole) (v0 : BitVec 32) (v20 : BitVec 32) (cst_14 : Ideal .f32) (X_arg4 : BufTy.Contents (Elt Ideal) arg4.view.ty) (X_arg5 : BufTy.Contents (Elt Ideal) arg5.view.ty) (X_arg6 : BufTy.Contents (Elt Ideal) arg6.view.ty) (X_arg8 : BufTy.Contents (Elt Ideal) arg8.view.ty) (k : Fin (k0_t1_loop i).trips) (f_arg9 : BufTy.Contents (Elt Ideal) arg9.view.ty) (f_arg10 : BufTy.Contents (Elt Ideal) arg10.view.ty) (f_arg11 : BufTy.Contents (Elt Ideal) arg11.view.ty) :
   (trip_k0_t1 (F := Ideal) 𝒱 c bd i arg3 harg3 arg4 harg4 arg5 harg5 arg6 harg6 arg7 harg7 arg8 harg8 arg9 harg9 arg10 harg10 arg11 harg11 v0 v20 cst_14 X_arg4 X_arg5 X_arg6 X_arg8 k).2.1 f_arg9 f_arg10 f_arg11 =
    [⟨(Rect.unit (s := S4x256) ![3, 0] S1x256.size inb_S4x256_S1x256_3_0), newL (View.ld (Val := Elt Ideal) (S := S1x8704x256) (e' := EltTy.bf16) (View.read (Elt Ideal) arg6.view X_arg6) (Rect.unit (s := S1x8704x256) (k0_off1 i k) S1x512x256.size (k0_off1_inb i k))) (View.ld (Val := Elt Ideal) (S := S1x8704x512) (e' := EltTy.bf16) (View.read (Elt Ideal) arg4.view X_arg4) (Rect.unit (s := S1x8704x512) (k0_off8 i k) S1x512x128.size (k0_off8_inb i k))) (View.ld (Val := Elt Ideal) (S := S256x512) (e' := EltTy.bf16) (View.read (Elt Ideal) arg8.view X_arg8) (Rect.unit (s := S256x512) ![0, 384] S256x128.size inb_S256x512_S256x128_0_384)) (View.ld (Val := Elt Ideal) (S := S4x256) (e' := EltTy.f32) (View.read (Elt Ideal) arg9.view f_arg9) (Rect.unit (s := S4x256) ![3, 0] S1x256.size inb_S4x256_S1x256_3_0)) (View.ld (Val := Elt Ideal) (S := S4x256) (e' := EltTy.f32) (View.read (Elt Ideal) arg10.view f_arg10) (Rect.unit (s := S4x256) ![3, 0] S1x256.size inb_S4x256_S1x256_3_0))⟩,
     ⟨(Rect.unit (s := S4x256) ![2, 0] S1x256.size inb_S4x256_S1x256_2_0), newL (View.ld (Val := Elt Ideal) (S := S1x8704x256) (e' := EltTy.bf16) (View.read (Elt Ideal) arg6.view X_arg6) (Rect.unit (s := S1x8704x256) (k0_off1 i k) S1x512x256.size (k0_off1_inb i k))) (View.ld (Val := Elt Ideal) (S := S1x8704x512) (e' := EltTy.bf16) (View.read (Elt Ideal) arg4.view X_arg4) (Rect.unit (s := S1x8704x512) (k0_off6 i k) S1x512x128.size (k0_off6_inb i k))) (View.ld (Val := Elt Ideal) (S := S256x512) (e' := EltTy.bf16) (View.read (Elt Ideal) arg8.view X_arg8) (Rect.unit (s := S256x512) ![0, 256] S256x128.size inb_S256x512_S256x128_0_256)) (View.ld (Val := Elt Ideal) (S := S4x256) (e' := EltTy.f32) (View.read (Elt Ideal) arg9.view f_arg9) (Rect.unit (s := S4x256) ![2, 0] S1x256.size inb_S4x256_S1x256_2_0)) (View.ld (Val := Elt Ideal) (S := S4x256) (e' := EltTy.f32) (View.read (Elt Ideal) arg10.view f_arg10) (Rect.unit (s := S4x256) ![2, 0] S1x256.size inb_S4x256_S1x256_2_0))⟩,
     ⟨(Rect.unit (s := S4x256) ![1, 0] S1x256.size inb_S4x256_S1x256_1_0), newL (View.ld (Val := Elt Ideal) (S := S1x8704x256) (e' := EltTy.bf16) (View.read (Elt Ideal) arg6.view X_arg6) (Rect.unit (s := S1x8704x256) (k0_off1 i k) S1x512x256.size (k0_off1_inb i k))) (View.ld (Val := Elt Ideal) (S := S1x8704x512) (e' := EltTy.bf16) (View.read (Elt Ideal) arg4.view X_arg4) (Rect.unit (s := S1x8704x512) (k0_off4 i k) S1x512x128.size (k0_off4_inb i k))) (View.ld (Val := Elt Ideal) (S := S256x512) (e' := EltTy.bf16) (View.read (Elt Ideal) arg8.view X_arg8) (Rect.unit (s := S256x512) ![0, 128] S256x128.size inb_S256x512_S256x128_0_128)) (View.ld (Val := Elt Ideal) (S := S4x256) (e' := EltTy.f32) (View.read (Elt Ideal) arg9.view f_arg9) (Rect.unit (s := S4x256) ![1, 0] S1x256.size inb_S4x256_S1x256_1_0)) (View.ld (Val := Elt Ideal) (S := S4x256) (e' := EltTy.f32) (View.read (Elt Ideal) arg10.view f_arg10) (Rect.unit (s := S4x256) ![1, 0] S1x256.size inb_S4x256_S1x256_1_0))⟩,
     ⟨(Rect.unit (s := S4x256) ![0, 0] S1x256.size inb_S4x256_S1x256_0_0), newL (View.ld (Val := Elt Ideal) (S := S1x8704x256) (e' := EltTy.bf16) (View.read (Elt Ideal) arg6.view X_arg6) (Rect.unit (s := S1x8704x256) (k0_off1 i k) S1x512x256.size (k0_off1_inb i k))) (View.ld (Val := Elt Ideal) (S := S1x8704x512) (e' := EltTy.bf16) (View.read (Elt Ideal) arg4.view X_arg4) (Rect.unit (s := S1x8704x512) (k0_off2 i k) S1x512x128.size (k0_off2_inb i k))) (View.ld (Val := Elt Ideal) (S := S256x512) (e' := EltTy.bf16) (View.read (Elt Ideal) arg8.view X_arg8) (Rect.unit (s := S256x512) ![0, 0] S256x128.size inb_S256x512_S256x128_0_0)) (View.ld (Val := Elt Ideal) (S := S4x256) (e' := EltTy.f32) (View.read (Elt Ideal) arg9.view f_arg9) (Rect.unit (s := S4x256) ![0, 0] S1x256.size inb_S4x256_S1x256_0_0)) (View.ld (Val := Elt Ideal) (S := S4x256) (e' := EltTy.f32) (View.read (Elt Ideal) arg10.view f_arg10) (Rect.unit (s := S4x256) ![0, 0] S1x256.size inb_S4x256_S1x256_0_0))⟩] := by
  unfold trip_k0_t1
  dsimp only
  sl_unfold_words
  simp only [View.readAt_eq_ld]
  rfl
/-- What a trip stores of the numerators: one row per head, the last head first. -/
theorem p11 (𝒱 : Variants) (c : Dev nD) (bd : Option 𝒱.V) (i : grid0.Coords) (arg3 : Memref sig .tc .vmem S1x256x512 .bf16) (harg3 : arg3.IsWhole) (arg4 : Memref sig .tc .vmem S1x8704x512 .bf16) (harg4 : arg4.IsWhole) (arg5 : Memref sig .tc .vmem S1x17x512x512 .bf16) (harg5 : arg5.IsWhole) (arg6 : Memref sig .tc .vmem S1x8704x256 .bf16) (harg6 : arg6.IsWhole) (arg7 : Memref sig .tc .vmem S1x256x512 .bf16) (harg7 : arg7.IsWhole) (arg8 : Memref sig .tc .vmem S256x512 .bf16) (harg8 : arg8.IsWhole) (arg9 : Memref sig .tc .vmem S4x256 .f32) (harg9 : arg9.IsWhole) (arg10 : Memref sig .tc .vmem S4x256 .f32) (harg10 : arg10.IsWhole) (arg11 : Memref sig .tc .vmem S4x128x256 .f32) (harg11 : arg11.IsWhole) (v0 : BitVec 32) (v20 : BitVec 32) (cst_14 : Ideal .f32) (X_arg4 : BufTy.Contents (Elt Ideal) arg4.view.ty) (X_arg5 : BufTy.Contents (Elt Ideal) arg5.view.ty) (X_arg6 : BufTy.Contents (Elt Ideal) arg6.view.ty) (X_arg8 : BufTy.Contents (Elt Ideal) arg8.view.ty) (k : Fin (k0_t1_loop i).trips) (f_arg9 : BufTy.Contents (Elt Ideal) arg9.view.ty) (f_arg10 : BufTy.Contents (Elt Ideal) arg10.view.ty) (f_arg11 : BufTy.Contents (Elt Ideal) arg11.view.ty) :
   (trip_k0_t1 (F := Ideal) 𝒱 c bd i arg3 harg3 arg4 harg4 arg5 harg5 arg6 harg6 arg7 harg7 arg8 harg8 arg9 harg9 arg10 harg10 arg11 harg11 v0 v20 cst_14 X_arg4 X_arg5 X_arg6 X_arg8 k).2.2.1 f_arg9 f_arg10 f_arg11 =
    [⟨(Rect.unit (s := S4x128x256) ![3, 0, 0] S1x128x256.size inb_S4x128x256_S1x128x256_3_0_0), newA (View.ld (Val := Elt Ideal) (S := S1x8704x256) (e' := EltTy.bf16) (View.read (Elt Ideal) arg6.view X_arg6) (Rect.unit (s := S1x8704x256) (k0_off1 i k) S1x512x256.size (k0_off1_inb i k))) (View.ld (Val := Elt Ideal) (S := S1x8704x512) (e' := EltTy.bf16) (View.read (Elt Ideal) arg4.view X_arg4) (Rect.unit (s := S1x8704x512) (k0_off8 i k) S1x512x128.size (k0_off8_inb i k))) (View.ld (Val := Elt Ideal) (S := S256x512) (e' := EltTy.bf16) (View.read (Elt Ideal) arg8.view X_arg8) (Rect.unit (s := S256x512) ![0, 384] S256x128.size inb_S256x512_S256x128_0_384)) (View.ld (Val := Elt Ideal) (S := S1x17x512x512) (e' := EltTy.bf16) (View.read (Elt Ideal) arg5.view X_arg5) (Rect.unit (s := S1x17x512x512) (k0_off9 i k) S1x1x128x512.size (k0_off9_inb i k))) (View.ld (Val := Elt Ideal) (S := S4x256) (e' := EltTy.f32) (View.read (Elt Ideal) arg9.view f_arg9) (Rect.unit (s := S4x256) ![3, 0] S1x256.size inb_S4x256_S1x256_3_0)) (View.ld (Val := Elt Ideal) (S := S4x128x256) (e' := EltTy.f32) (View.read (Elt Ideal) arg11.view f_arg11) (Rect.unit (s := S4x128x256) ![3, 0, 0] S1x128x256.size inb_S4x128x256_S1x128x256_3_0_0))⟩,
     ⟨(Rect.unit (s := S4x128x256) ![2, 0, 0] S1x128x256.size inb_S4x128x256_S1x128x256_2_0_0), newA (View.ld (Val := Elt Ideal) (S := S1x8704x256) (e' := EltTy.bf16) (View.read (Elt Ideal) arg6.view X_arg6) (Rect.unit (s := S1x8704x256) (k0_off1 i k) S1x512x256.size (k0_off1_inb i k))) (View.ld (Val := Elt Ideal) (S := S1x8704x512) (e' := EltTy.bf16) (View.read (Elt Ideal) arg4.view X_arg4) (Rect.unit (s := S1x8704x512) (k0_off6 i k) S1x512x128.size (k0_off6_inb i k))) (View.ld (Val := Elt Ideal) (S := S256x512) (e' := EltTy.bf16) (View.read (Elt Ideal) arg8.view X_arg8) (Rect.unit (s := S256x512) ![0, 256] S256x128.size inb_S256x512_S256x128_0_256)) (View.ld (Val := Elt Ideal) (S := S1x17x512x512) (e' := EltTy.bf16) (View.read (Elt Ideal) arg5.view X_arg5) (Rect.unit (s := S1x17x512x512) (k0_off7 i k) S1x1x128x512.size (k0_off7_inb i k))) (View.ld (Val := Elt Ideal) (S := S4x256) (e' := EltTy.f32) (View.read (Elt Ideal) arg9.view f_arg9) (Rect.unit (s := S4x256) ![2, 0] S1x256.size inb_S4x256_S1x256_2_0)) (View.ld (Val := Elt Ideal) (S := S4x128x256) (e' := EltTy.f32) (View.read (Elt Ideal) arg11.view f_arg11) (Rect.unit (s := S4x128x256) ![2, 0, 0] S1x128x256.size inb_S4x128x256_S1x128x256_2_0_0))⟩,
     ⟨(Rect.unit (s := S4x128x256) ![1, 0, 0] S1x128x256.size inb_S4x128x256_S1x128x256_1_0_0), newA (View.ld (Val := Elt Ideal) (S := S1x8704x256) (e' := EltTy.bf16) (View.read (Elt Ideal) arg6.view X_arg6) (Rect.unit (s := S1x8704x256) (k0_off1 i k) S1x512x256.size (k0_off1_inb i k))) (View.ld (Val := Elt Ideal) (S := S1x8704x512) (e' := EltTy.bf16) (View.read (Elt Ideal) arg4.view X_arg4) (Rect.unit (s := S1x8704x512) (k0_off4 i k) S1x512x128.size (k0_off4_inb i k))) (View.ld (Val := Elt Ideal) (S := S256x512) (e' := EltTy.bf16) (View.read (Elt Ideal) arg8.view X_arg8) (Rect.unit (s := S256x512) ![0, 128] S256x128.size inb_S256x512_S256x128_0_128)) (View.ld (Val := Elt Ideal) (S := S1x17x512x512) (e' := EltTy.bf16) (View.read (Elt Ideal) arg5.view X_arg5) (Rect.unit (s := S1x17x512x512) (k0_off5 i k) S1x1x128x512.size (k0_off5_inb i k))) (View.ld (Val := Elt Ideal) (S := S4x256) (e' := EltTy.f32) (View.read (Elt Ideal) arg9.view f_arg9) (Rect.unit (s := S4x256) ![1, 0] S1x256.size inb_S4x256_S1x256_1_0)) (View.ld (Val := Elt Ideal) (S := S4x128x256) (e' := EltTy.f32) (View.read (Elt Ideal) arg11.view f_arg11) (Rect.unit (s := S4x128x256) ![1, 0, 0] S1x128x256.size inb_S4x128x256_S1x128x256_1_0_0))⟩,
     ⟨(Rect.unit (s := S4x128x256) ![0, 0, 0] S1x128x256.size inb_S4x128x256_S1x128x256_0_0_0), newA (View.ld (Val := Elt Ideal) (S := S1x8704x256) (e' := EltTy.bf16) (View.read (Elt Ideal) arg6.view X_arg6) (Rect.unit (s := S1x8704x256) (k0_off1 i k) S1x512x256.size (k0_off1_inb i k))) (View.ld (Val := Elt Ideal) (S := S1x8704x512) (e' := EltTy.bf16) (View.read (Elt Ideal) arg4.view X_arg4) (Rect.unit (s := S1x8704x512) (k0_off2 i k) S1x512x128.size (k0_off2_inb i k))) (View.ld (Val := Elt Ideal) (S := S256x512) (e' := EltTy.bf16) (View.read (Elt Ideal) arg8.view X_arg8) (Rect.unit (s := S256x512) ![0, 0] S256x128.size inb_S256x512_S256x128_0_0)) (View.ld (Val := Elt Ideal) (S := S1x17x512x512) (e' := EltTy.bf16) (View.read (Elt Ideal) arg5.view X_arg5) (Rect.unit (s := S1x17x512x512) (k0_off3 i k) S1x1x128x512.size (k0_off3_inb i k))) (View.ld (Val := Elt Ideal) (S := S4x256) (e' := EltTy.f32) (View.read (Elt Ideal) arg9.view f_arg9) (Rect.unit (s := S4x256) ![0, 0] S1x256.size inb_S4x256_S1x256_0_0)) (View.ld (Val := Elt Ideal) (S := S4x128x256) (e' := EltTy.f32) (View.read (Elt Ideal) arg11.view f_arg11) (Rect.unit (s := S4x128x256) ![0, 0, 0] S1x128x256.size inb_S4x128x256_S1x128x256_0_0_0))⟩] := by
  unfold trip_k0_t1
  dsimp only
  sl_unfold_words
  simp only [View.readAt_eq_ld]
  rfl

end Cert.AttnIdeal.RefValue
end
-- ==== Proof.AttnMath.lean ====
module

public import Idealize.ShloMosaic.Lib.Pointwise
public import Idealize.ShloMosaic.Lib.StableHlo.Predicate

@[expose] public section

noncomputable section

open Idealize.ShloMosaic

namespace Cert.AttnMath

/-- Multiplying by a negative power of two and adding exponents, for the power function as the exponential is
    written by. -/
theorem rpow_sub (x M : ℝ) : Real.rpow 2 (x - M) = Real.rpow 2 x * Real.rpow 2 (-M) := by
  show (2:ℝ) ^ (x - M) = (2:ℝ) ^ x * (2:ℝ) ^ (-M)
  rw [sub_eq_add_neg, Real.rpow_add (by norm_num)]

/-- A power of two is positive. -/
theorem rpow_pos (x : ℝ) : 0 < Real.rpow 2 x := Real.rpow_pos_of_pos (by norm_num) x

/-- A finite sum of real numbers is the same among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A logit and its weight: a masked logit weighs nothing, a real logit `x` weighs `2 ^ x`. -/
def Wt (g : EReal) (w : ℝ) : Prop := (g = ⊥ ∧ w = 0) ∨ ∃ x : ℝ, g = (x : EReal) ∧ w = Real.rpow 2 x

/-- The exponential of a logit less a real number is its weight scaled. -/
theorem Wt.exp2_sub {g : EReal} {w : ℝ} (h : Wt g w) (M : ℝ) :
    Ideal.exp2 (g - (M : EReal)) = ((w * Real.rpow 2 (-M) : ℝ) : EReal) := by
  obtain ⟨rfl, rfl⟩ | ⟨x, rfl, rfl⟩ := h
  · rw [EReal.bot_sub, Ideal.exp2_bot, zero_mul, EReal.coe_zero]
  · rw [← EReal.coe_sub, Ideal.exp2_coe, rpow_sub]

/-- The largest of some extended reals, none of which is `⊤`, is `⊥` where all are and real elsewhere. -/
theorem fold_max {n : ℕ} (g : Fin n → EReal) (h : ∀ r, g r = ⊥ ∨ ∃ x : ℝ, g r = (x : EReal)) :
    (Finset.fold max ⊥ g Finset.univ = ⊥ ∧ ∀ r, g r = ⊥) ∨ ∃ M : ℝ, Finset.fold max ⊥ g Finset.univ = (M : EReal) := by
  by_cases hb : ∀ r, g r = ⊥
  · left
    refine ⟨?_, hb⟩
    show Finset.univ.sup g = ⊥
    exact (Finset.sup_eq_bot_iff g Finset.univ).2 fun r _ => hb r
  · right
    obtain ⟨r, hr⟩ := not_forall.1 hb
    show ∃ M : ℝ, Finset.univ.sup g = (M : EReal)
    obtain ⟨r', -, hr'⟩ := Finset.exists_mem_eq_sup Finset.univ ⟨r, Finset.mem_univ r⟩ g
    obtain h' | ⟨x, hx⟩ := h r'
    · have : Finset.univ.sup g = ⊥ := hr'.trans h'
      exact absurd ((Finset.sup_eq_bot_iff g Finset.univ).1 this r (Finset.mem_univ r)) hr
    · exact ⟨x, hr'.trans hx⟩

/-- Where one of the numbers is real, the largest is. -/
theorem fold_max_real {n : ℕ} (g : Fin n → EReal) (h : ∀ r, g r = ⊥ ∨ ∃ x : ℝ, g r = (x : EReal)) (r : Fin n) (hr : g r ≠ ⊥) :
    ∃ M : ℝ, Finset.fold max ⊥ g Finset.univ = (M : EReal) := by
  obtain ⟨-, hb⟩ | hM := fold_max g h
  · exact absurd (hb r) hr
  · exact hM

/-- The state of the online softmax after the first `n` keys, of weights `w` and values `v`: either none of them
    weighs anything and the state is the first one, or the maximum is some real `M` and normalizer and numerator are
    the sums scaled by `2 ^ (-M)`. -/
def Inv (m l a : EReal) (w v : ℕ → ℝ) (n : ℕ) : Prop :=
  (m = ⊥ ∧ l = 0 ∧ a = 0 ∧ ∀ s < n, w s = 0) ∨
  ∃ M : ℝ, m = (M : EReal) ∧ l = ((∑ s ∈ Finset.range n, w s * Real.rpow 2 (-M) : ℝ) : EReal) ∧
    a = ((∑ s ∈ Finset.range n, v s * (w s * Real.rpow 2 (-M)) : ℝ) : EReal)

/-- The state before the first key. -/
theorem Inv.zero (w v : ℕ → ℝ) : Inv ⊥ 0 0 w v 0 := .inl ⟨rfl, rfl, rfl, fun _ h => absurd h (Nat.not_lt_zero _)⟩

/-- Over a masked chunk and with no maximum so far, everything stays as it was. -/
theorem exp2_bot_sub : Ideal.exp2 (⊥ - ⊥ : EReal) = 0 := by
  rw [EReal.bot_sub, Ideal.exp2_bot]

/-- The sums over a chunk, of the keys `n`, …, `n + 511`. -/
theorem chunk {p : ℕ} (w : ℕ → ℝ) (n : ℕ) : ∑ s ∈ Finset.range (n + p), w s = ∑ s ∈ Finset.range n, w s + ∑ r : Fin p, w (n + r.val) := by
  rw [Finset.sum_range_add, Finset.sum_range (fun x => w (n + x))]

/-- One chunk of the online softmax. -/
theorem Inv.step {p : ℕ} {m l a : EReal} {w v : ℕ → ℝ} {n : ℕ} (h : Inv m l a w v n) (g : Fin p → EReal)
    (hg : ∀ r, Wt (g r) (w (n + r.val))) {m' l' a' : EReal} (hm : m' = max m (Finset.fold max ⊥ g Finset.univ))
    (hl : l' = Ideal.exp2 (m - m') * l + ∑ r, Ideal.exp2 (g r - m'))
    (ha : a' = Ideal.exp2 (m - m') * a + ∑ r, (v (n + r.val) : EReal) * Ideal.exp2 (g r - m')) :
    Inv m' l' a' w v (n + p) := by
  have hb : ∀ r, g r = ⊥ ∨ ∃ x : ℝ, g r = (x : EReal) := fun r => (hg r).imp And.left fun ⟨x, hx, _⟩ => ⟨x, hx⟩
  obtain ⟨rfl, rfl, rfl, hw⟩ | ⟨M, rfl, rfl, rfl⟩ := h
  · obtain ⟨hf, hall⟩ | ⟨M, hf⟩ := fold_max g hb
    · left
      have hm' : m' = ⊥ := by rw [hm, hf]; exact max_self _
      subst hm'
      refine ⟨rfl, ?_, ?_, ?_⟩
      · rw [hl, exp2_bot_sub, zero_mul, zero_add]
        exact Finset.sum_eq_zero fun r _ => by rw [hall r, exp2_bot_sub]
      · rw [ha, exp2_bot_sub, zero_mul, zero_add]
        exact Finset.sum_eq_zero fun r _ => by rw [hall r, exp2_bot_sub, mul_zero]
      · intro s hs
        by_cases hsn : s < n
        · exact hw s hsn
        · have := hg ⟨s - n, by omega⟩
          rw [show n + (⟨s - n, by omega⟩ : Fin p).val = s by show n + (s - n) = s; omega] at this
          obtain ⟨-, h0⟩ | ⟨x, hx, -⟩ := this
          · exact h0
          · rw [hall] at hx; exact absurd hx (EReal.bot_ne_coe x)
    · right
      have hm' : m' = (M : EReal) := by rw [hm, hf]; exact max_eq_right bot_le
      subst hm'
      have hz : ∑ s ∈ Finset.range n, w s * Real.rpow 2 (-M) = 0 := Finset.sum_eq_zero fun s hs => by rw [hw s (Finset.mem_range.1 hs), zero_mul]
      have hz' : ∑ s ∈ Finset.range n, v s * (w s * Real.rpow 2 (-M)) = 0 := Finset.sum_eq_zero fun s hs => by rw [hw s (Finset.mem_range.1 hs), zero_mul, mul_zero]
      refine ⟨M, rfl, ?_, ?_⟩
      · rw [hl, mul_zero, zero_add, chunk, hz, zero_add, coe_sum]
        exact Finset.sum_congr rfl fun r _ => (hg r).exp2_sub M
      · rw [ha, mul_zero, zero_add, chunk, hz', zero_add, coe_sum]
        exact Finset.sum_congr rfl fun r _ => by rw [(hg r).exp2_sub M, ← EReal.coe_mul]
  · right
    have hM' : ∃ M' : ℝ, m' = (M' : EReal) := by
      obtain ⟨hf, -⟩ | ⟨M₁, hf⟩ := fold_max g hb
      · exact ⟨M, by rw [hm, hf]; exact max_eq_left bot_le⟩
      · obtain hle | hle := le_total (M : EReal) (M₁ : EReal)
        · exact ⟨M₁, by rw [hm, hf]; exact max_eq_right hle⟩
        · exact ⟨M, by rw [hm, hf]; exact max_eq_left hle⟩
    obtain ⟨M', rfl⟩ := hM'
    have hsc : ∀ x : ℝ, Real.rpow 2 (M - M') * (x * Real.rpow 2 (-M)) = x * Real.rpow 2 (-M') := fun x => by
      have : Real.rpow 2 (M - M') * Real.rpow 2 (-M) = Real.rpow 2 (-M') := by
        show (2:ℝ) ^ (M - M') * (2:ℝ) ^ (-M) = (2:ℝ) ^ (-M')
        rw [← Real.rpow_add (by norm_num)]
        congr 1
        ring
      rw [← this]; ring
    refine ⟨M', rfl, ?_, ?_⟩
    · rw [hl, ← EReal.coe_sub, Ideal.exp2_coe, ← EReal.coe_mul, chunk, EReal.coe_add, coe_sum Finset.univ]
      congr 1
      · rw [Finset.mul_sum]
        exact congrArg _ (Finset.sum_congr rfl fun s _ => hsc _)
      · exact Finset.sum_congr rfl fun r _ => (hg r).exp2_sub M'
    · rw [ha, ← EReal.coe_sub, Ideal.exp2_coe, ← EReal.coe_mul, chunk, EReal.coe_add, coe_sum Finset.univ]
      congr 1
      · rw [Finset.mul_sum]
        refine congrArg _ (Finset.sum_congr rfl fun s _ => ?_)
        rw [← hsc (w s)]; ring
      · exact Finset.sum_congr rfl fun r _ => by rw [(hg r).exp2_sub M', ← EReal.coe_mul]

/-- The quotient at the end, where some key weighs something: the weighted mean of the values. -/
theorem Inv.div {m l a : EReal} {w v : ℕ → ℝ} {n : ℕ} (h : Inv m l a w v n) (hw : 0 < ∑ s ∈ Finset.range n, w s) :
    Ideal.div a l = (((∑ s ∈ Finset.range n, v s * w s) / (∑ s ∈ Finset.range n, w s) : ℝ) : EReal) := by
  obtain ⟨-, -, -, h0⟩ | ⟨M, -, rfl, rfl⟩ := h
  · rw [Finset.sum_eq_zero fun s hs => h0 s (Finset.mem_range.1 hs)] at hw
    exact absurd hw (lt_irrefl _)
  · have hp := rpow_pos (-M)
    have h1 : ∑ s ∈ Finset.range n, w s * Real.rpow 2 (-M) = (∑ s ∈ Finset.range n, w s) * Real.rpow 2 (-M) := (Finset.sum_mul ..).symm
    have h2 : ∑ s ∈ Finset.range n, v s * (w s * Real.rpow 2 (-M)) = (∑ s ∈ Finset.range n, v s * w s) * Real.rpow 2 (-M) := by
      rw [Finset.sum_mul]; exact Finset.sum_congr rfl fun s _ => by ring
    rw [h1, h2, Ideal.div_coe (mul_pos hw hp).ne', ← EReal.coe_mul]
    congr 1
    field_simp

/-- The softmax of logits `z`, of weights `w`, over some values: the weighted mean of the values. -/
theorem softmax {n : ℕ} (z : Fin n → EReal) (w v : Fin n → ℝ)
    (hz : ∀ s, (z s = ⊥ ∧ w s = 0) ∨ ∃ x : ℝ, z s = (x : EReal) ∧ w s = Real.exp x) (s₀ : Fin n) (h0 : w s₀ ≠ 0) {Z : EReal}
    (hZ : Z = Finset.fold max ⊥ z Finset.univ) :
    ∑ s, (v s : EReal) * Ideal.div (Ideal.exp (z s - Z)) (∑ t, Ideal.exp (z t - Z)) = (((∑ s, v s * w s) / (∑ s, w s) : ℝ) : EReal) := by
  have hb : ∀ r, z r = ⊥ ∨ ∃ x : ℝ, z r = (x : EReal) := fun r => (hz r).imp And.left fun ⟨x, hx, _⟩ => ⟨x, hx⟩
  have hne : z s₀ ≠ ⊥ := by
    obtain ⟨-, h⟩ | ⟨x, hx, -⟩ := hz s₀
    · exact absurd h h0
    · rw [hx]; exact EReal.coe_ne_bot x
  obtain ⟨M, hM⟩ := fold_max_real z hb s₀ hne
  rw [hM] at hZ
  subst hZ
  have he : ∀ s, Ideal.exp (z s - (M : EReal)) = ((w s * Real.exp (-M) : ℝ) : EReal) := fun s => by
    obtain ⟨hs, hw⟩ | ⟨x, hs, hw⟩ := hz s
    · rw [hs, hw, EReal.bot_sub, Ideal.exp_bot, zero_mul, EReal.coe_zero]
    · rw [hs, hw, ← EReal.coe_sub, Ideal.exp_coe, sub_eq_add_neg, Real.exp_add]
  have hnn : ∀ s, 0 ≤ w s := fun s => by
    obtain ⟨-, hw⟩ | ⟨x, -, hw⟩ := hz s
    · rw [hw]
    · rw [hw]; exact (Real.exp_pos x).le
  have hpos : 0 < ∑ s, w s := Finset.sum_pos' (fun s _ => hnn s) ⟨s₀, Finset.mem_univ _, lt_of_le_of_ne (hnn s₀) (Ne.symm h0)⟩
  have hp := Real.exp_pos (-M)
  have hsum : ∑ t, Ideal.exp (z t - (M : EReal)) = (((∑ s, w s) * Real.exp (-M) : ℝ) : EReal) := by
    rw [Finset.sum_mul, coe_sum]
    exact Finset.sum_congr rfl fun s _ => he s
  rw [hsum, Finset.sum_div, coe_sum]
  refine Finset.sum_congr rfl fun s _ => ?_
  rw [he s, Ideal.div_coe (mul_pos hpos hp).ne', ← EReal.coe_mul, ← EReal.coe_mul]
  congr 1
  field_simp

/-- The float constant `-∞`. -/
theorem ofBits_bot : Ideal.ofBits FTy.f32 4286578688#32 = ⊥ := by simp [Ideal.ofBits, Ideal.ieee]
/-- The float constant `+∞`. -/
theorem ofBits_top : Ideal.ofBits FTy.f32 2139095040#32 = ⊤ := by simp [Ideal.ofBits, Ideal.ieee]
/-- The float constant 128. -/
theorem ofBits_128 : Ideal.ofBits FTy.f32 1124073472#32 = ((128 : ℝ) : EReal) := by
  simp [Ideal.ofBits, Ideal.ieee]
  rw [← EReal.coe_mul]
  norm_num

/-- Two bits are both set exactly where their conjunction is. -/
theorem andi_iff (a b : BitVec 1) : IntOp.andi a b = 1#1 ↔ a = 1#1 ∧ b = 1#1 := by revert a b; decide
/-- One of two bits is set exactly where their disjunction is. -/
theorem ori_iff (a b : BitVec 1) : IntOp.ori a b = 1#1 ↔ a = 1#1 ∨ b = 1#1 := by revert a b; decide
/-- A word differs from another where the comparison says so. -/
theorem ne_iff (a b : BitVec 32) : IntOp.cmpi .ne a b = 1#1 ↔ a ≠ b := by
  simp only [IntOp.cmpi, StableHlo.Predicate.ofBool_eq_one_iff, bne_iff_ne]
/-- Two small numbers compared as words. -/
theorem sle_iff (a b : ℕ) (ha : a < 2 ^ 31) (hb : b < 2 ^ 31) : IntOp.cmpi .sle (BitVec.ofNat 32 a) (BitVec.ofNat 32 b) = 1#1 ↔ a ≤ b :=
  StableHlo.Predicate.sle_ofNat_iff a b ha hb
/-- Two small numbers compared as words, the other way around. -/
theorem sge_iff (a b : ℕ) (ha : a < 2 ^ 31) (hb : b < 2 ^ 31) : IntOp.cmpi .sge (BitVec.ofNat 32 a) (BitVec.ofNat 32 b) = 1#1 ↔ b ≤ a :=
  StableHlo.Predicate.sle_ofNat_iff b a hb ha

/-! ## The attention -/

/-- Query `t` may look at key `s`: the key is selected and not after the query. -/
def Ok (Y : Fin 2 → Fin 8704 → Fin 8704 → BitVec 32) (b : Fin 2) (s t : Fin 8704) : Prop := Y b s t ≠ 0#32 ∧ s.val ≤ t.val

/-- The product of a query and a key, for head `h`. -/
def qk (X : Fin 2 → Fin 8704 → Fin 12288 → ℝ) (b : Fin 2) (t s : Fin 8704) (h : ℕ) (hh : h < 8) : ℝ :=
  ∑ d : Fin 128, X b t ⟨4096 + (h * 128 + d.val), by omega⟩ * X b s ⟨5120 + (h * 128 + d.val), by omega⟩

open Classical in
/-- What a key weighs for a query. -/
def wt (X : Fin 2 → Fin 8704 → Fin 12288 → ℝ) (Y : Fin 2 → Fin 8704 → Fin 8704 → BitVec 32) (b : Fin 2) (t : Fin 8704) (h : ℕ) (hh : h < 8)
    (s : Fin 8704) : ℝ :=
  if Ok Y b s t then Real.exp (qk X b t s h hh * (1 / Real.sqrt 128)) else 0

/-- The weighted mean of the values: one element of the attention's result. -/
def out (X : Fin 2 → Fin 8704 → Fin 12288 → ℝ) (Y : Fin 2 → Fin 8704 → Fin 8704 → BitVec 32) (b : Fin 2) (t : Fin 8704) (n : Fin 1024) : ℝ :=
  (∑ s : Fin 8704, X b s ⟨6144 + n.val, by omega⟩ * wt X Y b t (n.val / 128) (by omega) s) / ∑ s, wt X Y b t (n.val / 128) (by omega) s

end Cert.AttnMath
end
-- ==== Proof.AttnHead.lean ====
module

public import proofs.«01_k».proof.Proof.AttnTrip
public import proofs.«01_k».proof.Proof.AttnMath
public import Idealize.ShloMosaic.Lib.Pointwise
public import Idealize.ShloMosaic.Lib.Pipeline.ReadBack
public import Idealize.ShloMosaic.Lib.Pipeline.ValueKit.Tiles

@[expose] public section

set_option maxRecDepth 16384

noncomputable section

namespace Cert.AttnIdeal.RefValue
open Cert.AttnIdeal Cert.AttnIdeal.Gen Idealize.ShloMosaic Idealize.ShloMosaic.TcCoe Idealize.SL.Sem
open Idealize.ShloMosaic.Tactic Cert.AttnMath
open Idealize.ShloMosaic.Pipeline (Dat)

/-- The logit of key `s` for query `j` of the block and head `h`; keys past the last count as masked. -/
def lg (xb : FVec Ideal S1x8704x256 .bf16) (xk : FVec Ideal S1x8704x512 .bf16) (xq : FVec Ideal S256x512 .bf16) (h : Fin 4) (j : Fin 256) (s : ℕ) : EReal :=
  if hs : s < 8704 then (∑ d : Fin 128, (xk (ix3 0 ⟨s, hs⟩ ⟨128 * h.val + d.val, by omega⟩) : EReal) * xq (ix2 j ⟨128 * h.val + d.val, by omega⟩)) + xb (ix3 0 ⟨s, hs⟩ j) else ⊥

/-- Channel `d` of the value of key `s`, head `h`. -/
def vl (xv : FVec Ideal S1x17x512x512 .bf16) (h : Fin 4) (d : Fin 128) (s : ℕ) : EReal :=
  if hs : s < 8704 then xv (ix4 0 ⟨s / 512, by omega⟩ ⟨128 * h.val + d.val, by omega⟩ ⟨s % 512, by omega⟩) else 0

/-- The logits of a chunk. -/
theorem pay3_apply (B : Vec Ideal S1x512x256 .bf16) (K : Vec Ideal S1x512x128 .bf16) (Q : Vec Ideal S256x128 .bf16) (r : Fin 512) (j : Fin 256) :
    (k0_pay3 B K Q (ix2 r j) : EReal) = (∑ d : Fin 128, (K (ix3 0 r d) : EReal) * Q (ix2 j d)) + B (ix3 0 r j) := by
  pointwise [k0_pay3, k0_pay2]

/-- The maximum is stored as computed. -/
theorem newM_eq (B : Vec Ideal S1x512x256 .bf16) (K : Vec Ideal S1x512x128 .bf16) (Q : Vec Ideal S256x128 .bf16) (m : Vec Ideal S1x256 .f32) (j : Fin 256) :
    (newM B K Q m (ix2 0 j) : EReal) = k0_pay4 B K Q m (ix2 0 j) := by
  have e : ∀ x : Vec Ideal S1x256 .f32, (k0_pay10 (F := Ideal) x (ix2 0 j) : EReal) = x (ix2 0 j) := by
    intro x
    pointwise [k0_pay10]
  exact e _

/-- The running maximum after a chunk. -/
theorem newM_apply (B : Vec Ideal S1x512x256 .bf16) (K : Vec Ideal S1x512x128 .bf16) (Q : Vec Ideal S256x128 .bf16) (m : Vec Ideal S1x256 .f32) (j : Fin 256) :
    (newM B K Q m (ix2 0 j) : EReal) = max (m (ix2 0 j) : EReal) (Finset.fold max ⊥ (fun r : Fin 512 => (k0_pay3 B K Q (ix2 r j) : EReal)) Finset.univ) := by
  have e : (k0_pay4 B K Q m (ix2 0 j) : EReal) = max (m (ix2 0 j) : EReal) (Finset.fold max (Ideal.ofBits FTy.f32 4286578688#32) (fun r : Fin 512 => (k0_pay3 B K Q (ix2 r j) : EReal)) Finset.univ) := by
    pointwise [k0_pay4]
  rw [ofBits_bot, ← newM_eq] at e
  exact e

/-- The normalizer after a chunk. -/
theorem newL_apply (B : Vec Ideal S1x512x256 .bf16) (K : Vec Ideal S1x512x128 .bf16) (Q : Vec Ideal S256x128 .bf16) (m l : Vec Ideal S1x256 .f32) (j : Fin 256) :
    (newL B K Q m l (ix2 0 j) : EReal) = Ideal.exp2 ((m (ix2 0 j) : EReal) - newM B K Q m (ix2 0 j)) * l (ix2 0 j) + ∑ r : Fin 512, Ideal.exp2 ((k0_pay3 B K Q (ix2 r j) : EReal) - newM B K Q m (ix2 0 j)) := by
  have e : (k0_pay7 B K Q m l (ix2 0 j) : EReal) = Ideal.exp2 ((m (ix2 0 j) : EReal) - k0_pay4 B K Q m (ix2 0 j)) * l (ix2 0 j) + ∑ r : Fin 512, Ideal.exp2 ((k0_pay3 B K Q (ix2 r j) : EReal) - k0_pay4 B K Q m (ix2 0 j)) := by
    pointwise [k0_pay7, k0_pay6, k0_pay5]
    rfl
  rw [← newM_eq] at e
  exact e

/-- The numerator after a chunk. -/
theorem newA_apply (B : Vec Ideal S1x512x256 .bf16) (K : Vec Ideal S1x512x128 .bf16) (Q : Vec Ideal S256x128 .bf16) (V : Vec Ideal S1x1x128x512 .bf16) (m : Vec Ideal S1x256 .f32) (a : Vec Ideal S1x128x256 .f32) (j : Fin 256) (d : Fin 128) :
    (newA B K Q V m a (ix3 0 d j) : EReal) = Ideal.exp2 ((m (ix2 0 j) : EReal) - newM B K Q m (ix2 0 j)) * a (ix3 0 d j) + ∑ r : Fin 512, (V (ix4 0 0 d r) : EReal) * Ideal.exp2 ((k0_pay3 B K Q (ix2 r j) : EReal) - newM B K Q m (ix2 0 j)) := by
  have e : (k0_pay9 (k0_pay5 B K Q m) (k0_pay8 B K Q m V) a (ix3 0 d j) : EReal) = Ideal.exp2 ((m (ix2 0 j) : EReal) - k0_pay4 B K Q m (ix2 0 j)) * a (ix3 0 d j) + ∑ r : Fin 512, (V (ix4 0 0 d r) : EReal) * Ideal.exp2 ((k0_pay3 B K Q (ix2 r j) : EReal) - k0_pay4 B K Q m (ix2 0 j)) := by
    pointwise [k0_pay9, k0_pay5, k0_pay8, k0_pay6]
    rfl
  rw [← newM_eq] at e
  exact e

/-- One head over one chunk: the state stays the state of the softmax over the keys seen. -/
theorem head_step (xb : FVec Ideal S1x8704x256 .bf16) (xk : FVec Ideal S1x8704x512 .bf16) (xq : FVec Ideal S256x512 .bf16) (xv : FVec Ideal S1x17x512x512 .bf16)
    (k : ℕ) (hk : k < 17) (h : Fin 4) (j : Fin 256) (d : Fin 128)
    (B : Vec Ideal S1x512x256 .bf16) (K : Vec Ideal S1x512x128 .bf16) (Q : Vec Ideal S256x128 .bf16) (V : Vec Ideal S1x1x128x512 .bf16) (m l : Vec Ideal S1x256 .f32) (a : Vec Ideal S1x128x256 .f32)
    (hB : ∀ (r : Fin 512), (B (ix3 0 r j) : EReal) = xb (ix3 0 ⟨512 * k + r.val, by omega⟩ j))
    (hK : ∀ (r : Fin 512) (e : Fin 128), (K (ix3 0 r e) : EReal) = xk (ix3 0 ⟨512 * k + r.val, by omega⟩ ⟨128 * h.val + e.val, by omega⟩))
    (hQ : ∀ (e : Fin 128), (Q (ix2 j e) : EReal) = xq (ix2 j ⟨128 * h.val + e.val, by omega⟩))
    (hV : ∀ (r : Fin 512), (V (ix4 0 0 d r) : EReal) = xv (ix4 0 ⟨k, hk⟩ ⟨128 * h.val + d.val, by omega⟩ r))
    (w v : ℕ → ℝ) (hw : ∀ s < 8704, Wt (lg xb xk xq h j s) (w s)) (hv : ∀ s < 8704, vl xv h d s = (v s : EReal))
    {m0 l0 a0 : EReal} (hm : (m (ix2 0 j) : EReal) = m0) (hl : (l (ix2 0 j) : EReal) = l0) (ha : (a (ix3 0 d j) : EReal) = a0)
    (inv : Inv m0 l0 a0 w v (512 * k)) :
    Inv (newM B K Q m (ix2 0 j)) (newL B K Q m l (ix2 0 j)) (newA B K Q V m a (ix3 0 d j)) w v (512 * k + 512) := by
  subst hm hl ha
  have hp : ∀ r : Fin 512, (k0_pay3 B K Q (ix2 r j) : EReal) = lg xb xk xq h j (512 * k + r.val) := by
    intro r
    rw [pay3_apply, lg, dif_pos (by omega), hB r]
    congr 1
    exact Finset.sum_congr rfl fun e _ => congrArg₂ (· * ·) (hK r e) (hQ e)
  have hq : ∀ r : Fin 512, (V (ix4 0 0 d r) : EReal) = (v (512 * k + r.val) : EReal) := by
    intro r
    rw [← hv _ (by omega), vl, dif_pos (by omega), hV r]
    have e1 : (512 * k + r.val) / 512 = k := by omega
    have e2 : (512 * k + r.val) % 512 = r.val := by omega
    congr 2 <;> exact Fin.ext (by simp only [e1, e2])
  refine Inv.step inv (fun r : Fin 512 => (k0_pay3 B K Q (ix2 r j) : EReal)) (fun r => ?_) (newM_apply B K Q m j) (newL_apply B K Q m l j) ?_
  · show Wt (k0_pay3 B K Q (ix2 r j) : EReal) _
    rw [hp r]
    exact hw _ (by omega)
  · rw [newA_apply]
    congr 1
    exact Finset.sum_congr rfl fun r _ => congrArg (· * _) (hq r)

end Cert.AttnIdeal.RefValue
-- ==== Proof.AttnLoop.lean ====
module

public import proofs.«01_k».proof.Proof.AttnHead
public import Idealize.ShloMosaic.Lib.WritesUnit
public import Idealize.ShloMosaic.Lib.Pointwise
public import Idealize.ShloMosaic.Lib.Pipeline.ReadBack
public import Idealize.ShloMosaic.Lib.Pipeline.ValueKit.Tiles

@[expose] public section

set_option maxRecDepth 16384

noncomputable section

namespace Cert.AttnIdeal.RefValue
open Cert.AttnIdeal Cert.AttnIdeal.Gen Idealize.ShloMosaic Idealize.ShloMosaic.TcCoe Idealize.SL.Sem
open Idealize.ShloMosaic.Tactic Cert.AttnMath
open Idealize.ShloMosaic.Pipeline (Dat)

/-- Row 0 of four stored rows. -/
theorem row2_0 {κ : Kind} {sp : Space} (a : View sig κ sp S4x256 .f32) (f : BufTy.Contents (Elt Ideal) a.ty) (w3 w2 w1 w0 : Vec Ideal S1x256 .f32) (j : Fin 256) :
    (View.read (Elt Ideal) a (a.writes (Elt Ideal) f [⟨Rect.unit (s := S4x256) ![3, 0] S1x256.size inb_S4x256_S1x256_3_0, w3⟩, ⟨Rect.unit (s := S4x256) ![2, 0] S1x256.size inb_S4x256_S1x256_2_0, w2⟩, ⟨Rect.unit (s := S4x256) ![1, 0] S1x256.size inb_S4x256_S1x256_1_0, w1⟩, ⟨Rect.unit (s := S4x256) ![0, 0] S1x256.size inb_S4x256_S1x256_0_0, w0⟩]) (ix2 0 j) : EReal) = w0 (ix2 0 j) := by
  refine (View.read_writes_cons_unit_of_not_mem (Val := Elt Ideal) a f inb_S4x256_S1x256_3_0 w3 _ (ix2 0 j) rfl (0 : Fin 2) (by left; show 0 < 3; omega)).trans ?_
  refine (View.read_writes_cons_unit_of_not_mem (Val := Elt Ideal) a f inb_S4x256_S1x256_2_0 w2 _ (ix2 0 j) rfl (0 : Fin 2) (by left; show 0 < 2; omega)).trans ?_
  refine (View.read_writes_cons_unit_of_not_mem (Val := Elt Ideal) a f inb_S4x256_S1x256_1_0 w1 _ (ix2 0 j) rfl (0 : Fin 2) (by left; show 0 < 1; omega)).trans ?_
  exact View.read_writes_cons_unit_of_mem (Val := Elt Ideal) a f inb_S4x256_S1x256_0_0 w0 _ (ix2 0 j) (ix2 0 j) rfl (fun a => match a with
    | ⟨0, _⟩ => rfl
    | ⟨1, _⟩ => (Nat.zero_add _).symm)

/-- Plane 0 of four stored planes. -/
theorem row3_0 {κ : Kind} {sp : Space} (a : View sig κ sp S4x128x256 .f32) (f : BufTy.Contents (Elt Ideal) a.ty) (w3 w2 w1 w0 : Vec Ideal S1x128x256 .f32) (d : Fin 128) (j : Fin 256) :
    (View.read (Elt Ideal) a (a.writes (Elt Ideal) f [⟨Rect.unit (s := S4x128x256) ![3, 0, 0] S1x128x256.size inb_S4x128x256_S1x128x256_3_0_0, w3⟩, ⟨Rect.unit (s := S4x128x256) ![2, 0, 0] S1x128x256.size inb_S4x128x256_S1x128x256_2_0_0, w2⟩, ⟨Rect.unit (s := S4x128x256) ![1, 0, 0] S1x128x256.size inb_S4x128x256_S1x128x256_1_0_0, w1⟩, ⟨Rect.unit (s := S4x128x256) ![0, 0, 0] S1x128x256.size inb_S4x128x256_S1x128x256_0_0_0, w0⟩]) (ix3 0 d j) : EReal) = w0 (ix3 0 d j) := by
  refine (View.read_writes_cons_unit_of_not_mem (Val := Elt Ideal) a f inb_S4x128x256_S1x128x256_3_0_0 w3 _ (ix3 0 d j) rfl (0 : Fin 3) (by left; show 0 < 3; omega)).trans ?_
  refine (View.read_writes_cons_unit_of_not_mem (Val := Elt Ideal) a f inb_S4x128x256_S1x128x256_2_0_0 w2 _ (ix3 0 d j) rfl (0 : Fin 3) (by left; show 0 < 2; omega)).trans ?_
  refine (View.read_writes_cons_unit_of_not_mem (Val := Elt Ideal) a f inb_S4x128x256_S1x128x256_1_0_0 w1 _ (ix3 0 d j) rfl (0 : Fin 3) (by left; show 0 < 1; omega)).trans ?_
  exact View.read_writes_cons_unit_of_mem (Val := Elt Ideal) a f inb_S4x128x256_S1x128x256_0_0_0 w0 _ (ix3 0 d j) (ix3 0 d j) rfl (fun a => match a with
    | ⟨0, _⟩ => rfl
    | ⟨1, _⟩ => (Nat.zero_add _).symm
    | ⟨2, _⟩ => (Nat.zero_add _).symm)

/-- Row 1 of four stored rows. -/
theorem row2_1 {κ : Kind} {sp : Space} (a : View sig κ sp S4x256 .f32) (f : BufTy.Contents (Elt Ideal) a.ty) (w3 w2 w1 w0 : Vec Ideal S1x256 .f32) (j : Fin 256) :
    (View.read (Elt Ideal) a (a.writes (Elt Ideal) f [⟨Rect.unit (s := S4x256) ![3, 0] S1x256.size inb_S4x256_S1x256_3_0, w3⟩, ⟨Rect.unit (s := S4x256) ![2, 0] S1x256.size inb_S4x256_S1x256_2_0, w2⟩, ⟨Rect.unit (s := S4x256) ![1, 0] S1x256.size inb_S4x256_S1x256_1_0, w1⟩, ⟨Rect.unit (s := S4x256) ![0, 0] S1x256.size inb_S4x256_S1x256_0_0, w0⟩]) (ix2 1 j) : EReal) = w1 (ix2 0 j) := by
  refine (View.read_writes_cons_unit_of_not_mem (Val := Elt Ideal) a f inb_S4x256_S1x256_3_0 w3 _ (ix2 1 j) rfl (0 : Fin 2) (by left; show 1 < 3; omega)).trans ?_
  refine (View.read_writes_cons_unit_of_not_mem (Val := Elt Ideal) a f inb_S4x256_S1x256_2_0 w2 _ (ix2 1 j) rfl (0 : Fin 2) (by left; show 1 < 2; omega)).trans ?_
  exact View.read_writes_cons_unit_of_mem (Val := Elt Ideal) a f inb_S4x256_S1x256_1_0 w1 _ (ix2 1 j) (ix2 0 j) rfl (fun a => match a with
    | ⟨0, _⟩ => rfl
    | ⟨1, _⟩ => (Nat.zero_add _).symm)

/-- Plane 1 of four stored planes. -/
theorem row3_1 {κ : Kind} {sp : Space} (a : View sig κ sp S4x128x256 .f32) (f : BufTy.Contents (Elt Ideal) a.ty) (w3 w2 w1 w0 : Vec Ideal S1x128x256 .f32) (d : Fin 128) (j : Fin 256) :
    (View.read (Elt Ideal) a (a.writes (Elt Ideal) f [⟨Rect.unit (s := S4x128x256) ![3, 0, 0] S1x128x256.size inb_S4x128x256_S1x128x256_3_0_0, w3⟩, ⟨Rect.unit (s := S4x128x256) ![2, 0, 0] S1x128x256.size inb_S4x128x256_S1x128x256_2_0_0, w2⟩, ⟨Rect.unit (s := S4x128x256) ![1, 0, 0] S1x128x256.size inb_S4x128x256_S1x128x256_1_0_0, w1⟩, ⟨Rect.unit (s := S4x128x256) ![0, 0, 0] S1x128x256.size inb_S4x128x256_S1x128x256_0_0_0, w0⟩]) (ix3 1 d j) : EReal) = w1 (ix3 0 d j) := by
  refine (View.read_writes_cons_unit_of_not_mem (Val := Elt Ideal) a f inb_S4x128x256_S1x128x256_3_0_0 w3 _ (ix3 1 d j) rfl (0 : Fin 3) (by left; show 1 < 3; omega)).trans ?_
  refine (View.read_writes_cons_unit_of_not_mem (Val := Elt Ideal) a f inb_S4x128x256_S1x128x256_2_0_0 w2 _ (ix3 1 d j) rfl (0 : Fin 3) (by left; show 1 < 2; omega)).trans ?_
  exact View.read_writes_cons_unit_of_mem (Val := Elt Ideal) a f inb_S4x128x256_S1x128x256_1_0_0 w1 _ (ix3 1 d j) (ix3 0 d j) rfl (fun a => match a with
    | ⟨0, _⟩ => rfl
    | ⟨1, _⟩ => (Nat.zero_add _).symm
    | ⟨2, _⟩ => (Nat.zero_add _).symm)

/-- Row 2 of four stored rows. -/
theorem row2_2 {κ : Kind} {sp : Space} (a : View sig κ sp S4x256 .f32) (f : BufTy.Contents (Elt Ideal) a.ty) (w3 w2 w1 w0 : Vec Ideal S1x256 .f32) (j : Fin 256) :
    (View.read (Elt Ideal) a (a.writes (Elt Ideal) f [⟨Rect.unit (s := S4x256) ![3, 0] S1x256.size inb_S4x256_S1x256_3_0, w3⟩, ⟨Rect.unit (s := S4x256) ![2, 0] S1x256.size inb_S4x256_S1x256_2_0, w2⟩, ⟨Rect.unit (s := S4x256) ![1, 0] S1x256.size inb_S4x256_S1x256_1_0, w1⟩, ⟨Rect.unit (s := S4x256) ![0, 0] S1x256.size inb_S4x256_S1x256_0_0, w0⟩]) (ix2 2 j) : EReal) = w2 (ix2 0 j) := by
  refine (View.read_writes_cons_unit_of_not_mem (Val := Elt Ideal) a f inb_S4x256_S1x256_3_0 w3 _ (ix2 2 j) rfl (0 : Fin 2) (by left; show 2 < 3; omega)).trans ?_
  exact View.read_writes_cons_unit_of_mem (Val := Elt Ideal) a f inb_S4x256_S1x256_2_0 w2 _ (ix2 2 j) (ix2 0 j) rfl (fun a => match a with
    | ⟨0, _⟩ => rfl
    | ⟨1, _⟩ => (Nat.zero_add _).symm)

/-- Plane 2 of four stored planes. -/
theorem row3_2 {κ : Kind} {sp : Space} (a : View sig κ sp S4x128x256 .f32) (f : BufTy.Contents (Elt Ideal) a.ty) (w3 w2 w1 w0 : Vec Ideal S1x128x256 .f32) (d : Fin 128) (j : Fin 256) :
    (View.read (Elt Ideal) a (a.writes (Elt Ideal) f [⟨Rect.unit (s := S4x128x256) ![3, 0, 0] S1x128x256.size inb_S4x128x256_S1x128x256_3_0_0, w3⟩, ⟨Rect.unit (s := S4x128x256) ![2, 0, 0] S1x128x256.size inb_S4x128x256_S1x128x256_2_0_0, w2⟩, ⟨Rect.unit (s := S4x128x256) ![1, 0, 0] S1x128x256.size inb_S4x128x256_S1x128x256_1_0_0, w1⟩, ⟨Rect.unit (s := S4x128x256) ![0, 0, 0] S1x128x256.size inb_S4x128x256_S1x128x256_0_0_0, w0⟩]) (ix3 2 d j) : EReal) = w2 (ix3 0 d j) := by
  refine (View.read_writes_cons_unit_of_not_mem (Val := Elt Ideal) a f inb_S4x128x256_S1x128x256_3_0_0 w3 _ (ix3 2 d j) rfl (0 : Fin 3) (by left; show 2 < 3; omega)).trans ?_
  exact View.read_writes_cons_unit_of_mem (Val := Elt Ideal) a f inb_S4x128x256_S1x128x256_2_0_0 w2 _ (ix3 2 d j) (ix3 0 d j) rfl (fun a => match a with
    | ⟨0, _⟩ => rfl
    | ⟨1, _⟩ => (Nat.zero_add _).symm
    | ⟨2, _⟩ => (Nat.zero_add _).symm)

/-- Row 3 of four stored rows. -/
theorem row2_3 {κ : Kind} {sp : Space} (a : View sig κ sp S4x256 .f32) (f : BufTy.Contents (Elt Ideal) a.ty) (w3 w2 w1 w0 : Vec Ideal S1x256 .f32) (j : Fin 256) :
    (View.read (Elt Ideal) a (a.writes (Elt Ideal) f [⟨Rect.unit (s := S4x256) ![3, 0] S1x256.size inb_S4x256_S1x256_3_0, w3⟩, ⟨Rect.unit (s := S4x256) ![2, 0] S1x256.size inb_S4x256_S1x256_2_0, w2⟩, ⟨Rect.unit (s := S4x256) ![1, 0] S1x256.size inb_S4x256_S1x256_1_0, w1⟩, ⟨Rect.unit (s := S4x256) ![0, 0] S1x256.size inb_S4x256_S1x256_0_0, w0⟩]) (ix2 3 j) : EReal) = w3 (ix2 0 j) := by
  exact View.read_writes_cons_unit_of_mem (Val := Elt Ideal) a f inb_S4x256_S1x256_3_0 w3 _ (ix2 3 j) (ix2 0 j) rfl (fun a => match a with
    | ⟨0, _⟩ => rfl
    | ⟨1, _⟩ => (Nat.zero_add _).symm)

/-- Plane 3 of four stored planes. -/
theorem row3_3 {κ : Kind} {sp : Space} (a : View sig κ sp S4x128x256 .f32) (f : BufTy.Contents (Elt Ideal) a.ty) (w3 w2 w1 w0 : Vec Ideal S1x128x256 .f32) (d : Fin 128) (j : Fin 256) :
    (View.read (Elt Ideal) a (a.writes (Elt Ideal) f [⟨Rect.unit (s := S4x128x256) ![3, 0, 0] S1x128x256.size inb_S4x128x256_S1x128x256_3_0_0, w3⟩, ⟨Rect.unit (s := S4x128x256) ![2, 0, 0] S1x128x256.size inb_S4x128x256_S1x128x256_2_0_0, w2⟩, ⟨Rect.unit (s := S4x128x256) ![1, 0, 0] S1x128x256.size inb_S4x128x256_S1x128x256_1_0_0, w1⟩, ⟨Rect.unit (s := S4x128x256) ![0, 0, 0] S1x128x256.size inb_S4x128x256_S1x128x256_0_0_0, w0⟩]) (ix3 3 d j) : EReal) = w3 (ix3 0 d j) := by
  exact View.read_writes_cons_unit_of_mem (Val := Elt Ideal) a f inb_S4x128x256_S1x128x256_3_0_0 w3 _ (ix3 3 d j) (ix3 0 d j) rfl (fun a => match a with
    | ⟨0, _⟩ => rfl
    | ⟨1, _⟩ => (Nat.zero_add _).symm
    | ⟨2, _⟩ => (Nat.zero_add _).symm)

/-- A trip, read in head 0: the state stays the state of the softmax over the keys seen. -/
theorem step0 (𝒱 : Variants) (c : Dev nD) (bd : Option 𝒱.V) (i : grid0.Coords) (arg3 : Memref sig .tc .vmem S1x256x512 .bf16) (harg3 : arg3.IsWhole) (arg4 : Memref sig .tc .vmem S1x8704x512 .bf16) (harg4 : arg4.IsWhole) (arg5 : Memref sig .tc .vmem S1x17x512x512 .bf16) (harg5 : arg5.IsWhole) (arg6 : Memref sig .tc .vmem S1x8704x256 .bf16) (harg6 : arg6.IsWhole) (arg7 : Memref sig .tc .vmem S1x256x512 .bf16) (harg7 : arg7.IsWhole) (arg8 : Memref sig .tc .vmem S256x512 .bf16) (harg8 : arg8.IsWhole) (arg9 : Memref sig .tc .vmem S4x256 .f32) (harg9 : arg9.IsWhole) (arg10 : Memref sig .tc .vmem S4x256 .f32) (harg10 : arg10.IsWhole) (arg11 : Memref sig .tc .vmem S4x128x256 .f32) (harg11 : arg11.IsWhole) (v0 : BitVec 32) (v20 : BitVec 32) (cst_14 : Ideal .f32) (X_arg4 : BufTy.Contents (Elt Ideal) arg4.view.ty) (X_arg5 : BufTy.Contents (Elt Ideal) arg5.view.ty) (X_arg6 : BufTy.Contents (Elt Ideal) arg6.view.ty) (X_arg8 : BufTy.Contents (Elt Ideal) arg8.view.ty) (k : Fin (k0_t1_loop i).trips) (f_arg9 : BufTy.Contents (Elt Ideal) arg9.view.ty) (f_arg10 : BufTy.Contents (Elt Ideal) arg10.view.ty) (f_arg11 : BufTy.Contents (Elt Ideal) arg11.view.ty) (j : Fin 256) (d : Fin 128)
    (w v : ℕ → ℝ) (hw : ∀ s < 8704, Wt (lg (View.read (Elt Ideal) arg6.view X_arg6) (View.read (Elt Ideal) arg4.view X_arg4) (View.read (Elt Ideal) arg8.view X_arg8) 0 j s) (w s)) (hv : ∀ s < 8704, vl (View.read (Elt Ideal) arg5.view X_arg5) 0 d s = (v s : EReal))
    (inv : Inv (View.read (Elt Ideal) arg9.view f_arg9 (ix2 0 j)) (View.read (Elt Ideal) arg10.view f_arg10 (ix2 0 j)) (View.read (Elt Ideal) arg11.view f_arg11 (ix3 0 d j)) w v (512 * k.val)) :
    Inv (View.read (Elt Ideal) arg9.view (arg9.view.writes (Elt Ideal) f_arg9 ((trip_k0_t1 (F := Ideal) 𝒱 c bd i arg3 harg3 arg4 harg4 arg5 harg5 arg6 harg6 arg7 harg7 arg8 harg8 arg9 harg9 arg10 harg10 arg11 harg11 v0 v20 cst_14 X_arg4 X_arg5 X_arg6 X_arg8 k).1 f_arg9 f_arg10 f_arg11)) (ix2 0 j)) (View.read (Elt Ideal) arg10.view (arg10.view.writes (Elt Ideal) f_arg10 ((trip_k0_t1 (F := Ideal) 𝒱 c bd i arg3 harg3 arg4 harg4 arg5 harg5 arg6 harg6 arg7 harg7 arg8 harg8 arg9 harg9 arg10 harg10 arg11 harg11 v0 v20 cst_14 X_arg4 X_arg5 X_arg6 X_arg8 k).2.1 f_arg9 f_arg10 f_arg11)) (ix2 0 j)) (View.read (Elt Ideal) arg11.view (arg11.view.writes (Elt Ideal) f_arg11 ((trip_k0_t1 (F := Ideal) 𝒱 c bd i arg3 harg3 arg4 harg4 arg5 harg5 arg6 harg6 arg7 harg7 arg8 harg8 arg9 harg9 arg10 harg10 arg11 harg11 v0 v20 cst_14 X_arg4 X_arg5 X_arg6 X_arg8 k).2.2.1 f_arg9 f_arg10 f_arg11)) (ix3 0 d j)) w v (512 * k.val + 512) := by
  have hk : k.val < 17 := lt_of_lt_of_le k.isLt (k0_t1_abs i).2.1
  rw [p9 𝒱 c bd i arg3 harg3 arg4 harg4 arg5 harg5 arg6 harg6 arg7 harg7 arg8 harg8 arg9 harg9 arg10 harg10 arg11 harg11 v0 v20 cst_14 X_arg4 X_arg5 X_arg6 X_arg8 k f_arg9 f_arg10 f_arg11, p10 𝒱 c bd i arg3 harg3 arg4 harg4 arg5 harg5 arg6 harg6 arg7 harg7 arg8 harg8 arg9 harg9 arg10 harg10 arg11 harg11 v0 v20 cst_14 X_arg4 X_arg5 X_arg6 X_arg8 k f_arg9 f_arg10 f_arg11, p11 𝒱 c bd i arg3 harg3 arg4 harg4 arg5 harg5 arg6 harg6 arg7 harg7 arg8 harg8 arg9 harg9 arg10 harg10 arg11 harg11 v0 v20 cst_14 X_arg4 X_arg5 X_arg6 X_arg8 k f_arg9 f_arg10 f_arg11]
  rw [row2_0 arg9.view f_arg9, row2_0 arg10.view f_arg10, row3_0 arg11.view f_arg11]
  refine head_step (View.read (Elt Ideal) arg6.view X_arg6) (View.read (Elt Ideal) arg4.view X_arg4) (View.read (Elt Ideal) arg8.view X_arg8) (View.read (Elt Ideal) arg5.view X_arg5) k.val hk 0 j d _ _ _ _ _ _ _ (fun r => ?_) (fun r e => ?_) (fun e => ?_) (fun r => ?_) w v hw hv (m0 := View.read (Elt Ideal) arg9.view f_arg9 (ix2 0 j)) (l0 := View.read (Elt Ideal) arg10.view f_arg10 (ix2 0 j)) (a0 := View.read (Elt Ideal) arg11.view f_arg11 (ix3 0 d j)) ?_ ?_ ?_ inv
  · exact View.ld_unit_apply_of (Val := Elt Ideal) (S := S1x8704x256) (e := .bf16) _ _ _ _ _ _ (fun a => by
      refine Eq.trans ?_ (congrArg (· + _) (congrFun (k0_off1_eq i k) a)).symm
      exact match a with
      | ⟨0, _⟩ => rfl
      | ⟨1, _⟩ => rfl
      | ⟨2, _⟩ => (Nat.zero_add _).symm)
  · exact View.ld_unit_apply_of (Val := Elt Ideal) (S := S1x8704x512) (e := .bf16) _ _ _ _ _ _ (fun a => by
      refine Eq.trans ?_ (congrArg (· + _) (congrFun (k0_off2_eq i k) a)).symm
      exact match a with
      | ⟨0, _⟩ => rfl
      | ⟨1, _⟩ => rfl
      | ⟨2, _⟩ => rfl)
  · exact View.ld_unit_apply_of (Val := Elt Ideal) (S := S256x512) (e := .bf16) _ _ _ _ _ _ (fun a => match a with
      | ⟨0, _⟩ => (Nat.zero_add _).symm
      | ⟨1, _⟩ => rfl)
  · exact View.ld_unit_apply_of (Val := Elt Ideal) (S := S1x17x512x512) (e := .bf16) _ _ _ _ _ _ (fun a => by
      refine Eq.trans ?_ (congrArg (· + _) (congrFun (k0_off3_eq i k) a)).symm
      exact match a with
      | ⟨0, _⟩ => rfl
      | ⟨1, _⟩ => rfl
      | ⟨2, _⟩ => rfl
      | ⟨3, _⟩ => (Nat.zero_add _).symm)
  · exact View.ld_unit_apply_of (Val := Elt Ideal) (S := S4x256) (e := .f32) _ _ _ _ _ _ (fun a => match a with
      | ⟨0, _⟩ => rfl
      | ⟨1, _⟩ => (Nat.zero_add _).symm)
  · exact View.ld_unit_apply_of (Val := Elt Ideal) (S := S4x256) (e := .f32) _ _ _ _ _ _ (fun a => match a with
      | ⟨0, _⟩ => rfl
      | ⟨1, _⟩ => (Nat.zero_add _).symm)
  · exact View.ld_unit_apply_of (Val := Elt Ideal) (S := S4x128x256) (e := .f32) _ _ _ _ _ _ (fun a => match a with
      | ⟨0, _⟩ => rfl
      | ⟨1, _⟩ => (Nat.zero_add _).symm
      | ⟨2, _⟩ => (Nat.zero_add _).symm)

/-- A trip, read in head 1: the state stays the state of the softmax over the keys seen. -/
theorem step1 (𝒱 : Variants) (c : Dev nD) (bd : Option 𝒱.V) (i : grid0.Coords) (arg3 : Memref sig .tc .vmem S1x256x512 .bf16) (harg3 : arg3.IsWhole) (arg4 : Memref sig .tc .vmem S1x8704x512 .bf16) (harg4 : arg4.IsWhole) (arg5 : Memref sig .tc .vmem S1x17x512x512 .bf16) (harg5 : arg5.IsWhole) (arg6 : Memref sig .tc .vmem S1x8704x256 .bf16) (harg6 : arg6.IsWhole) (arg7 : Memref sig .tc .vmem S1x256x512 .bf16) (harg7 : arg7.IsWhole) (arg8 : Memref sig .tc .vmem S256x512 .bf16) (harg8 : arg8.IsWhole) (arg9 : Memref sig .tc .vmem S4x256 .f32) (harg9 : arg9.IsWhole) (arg10 : Memref sig .tc .vmem S4x256 .f32) (harg10 : arg10.IsWhole) (arg11 : Memref sig .tc .vmem S4x128x256 .f32) (harg11 : arg11.IsWhole) (v0 : BitVec 32) (v20 : BitVec 32) (cst_14 : Ideal .f32) (X_arg4 : BufTy.Contents (Elt Ideal) arg4.view.ty) (X_arg5 : BufTy.Contents (Elt Ideal) arg5.view.ty) (X_arg6 : BufTy.Contents (Elt Ideal) arg6.view.ty) (X_arg8 : BufTy.Contents (Elt Ideal) arg8.view.ty) (k : Fin (k0_t1_loop i).trips) (f_arg9 : BufTy.Contents (Elt Ideal) arg9.view.ty) (f_arg10 : BufTy.Contents (Elt Ideal) arg10.view.ty) (f_arg11 : BufTy.Contents (Elt Ideal) arg11.view.ty) (j : Fin 256) (d : Fin 128)
    (w v : ℕ → ℝ) (hw : ∀ s < 8704, Wt (lg (View.read (Elt Ideal) arg6.view X_arg6) (View.read (Elt Ideal) arg4.view X_arg4) (View.read (Elt Ideal) arg8.view X_arg8) 1 j s) (w s)) (hv : ∀ s < 8704, vl (View.read (Elt Ideal) arg5.view X_arg5) 1 d s = (v s : EReal))
    (inv : Inv (View.read (Elt Ideal) arg9.view f_arg9 (ix2 1 j)) (View.read (Elt Ideal) arg10.view f_arg10 (ix2 1 j)) (View.read (Elt Ideal) arg11.view f_arg11 (ix3 1 d j)) w v (512 * k.val)) :
    Inv (View.read (Elt Ideal) arg9.view (arg9.view.writes (Elt Ideal) f_arg9 ((trip_k0_t1 (F := Ideal) 𝒱 c bd i arg3 harg3 arg4 harg4 arg5 harg5 arg6 harg6 arg7 harg7 arg8 harg8 arg9 harg9 arg10 harg10 arg11 harg11 v0 v20 cst_14 X_arg4 X_arg5 X_arg6 X_arg8 k).1 f_arg9 f_arg10 f_arg11)) (ix2 1 j)) (View.read (Elt Ideal) arg10.view (arg10.view.writes (Elt Ideal) f_arg10 ((trip_k0_t1 (F := Ideal) 𝒱 c bd i arg3 harg3 arg4 harg4 arg5 harg5 arg6 harg6 arg7 harg7 arg8 harg8 arg9 harg9 arg10 harg10 arg11 harg11 v0 v20 cst_14 X_arg4 X_arg5 X_arg6 X_arg8 k).2.1 f_arg9 f_arg10 f_arg11)) (ix2 1 j)) (View.read (Elt Ideal) arg11.view (arg11.view.writes (Elt Ideal) f_arg11 ((trip_k0_t1 (F := Ideal) 𝒱 c bd i arg3 harg3 arg4 harg4 arg5 harg5 arg6 harg6 arg7 harg7 arg8 harg8 arg9 harg9 arg10 harg10 arg11 harg11 v0 v20 cst_14 X_arg4 X_arg5 X_arg6 X_arg8 k).2.2.1 f_arg9 f_arg10 f_arg11)) (ix3 1 d j)) w v (512 * k.val + 512) := by
  have hk : k.val < 17 := lt_of_lt_of_le k.isLt (k0_t1_abs i).2.1
  rw [p9 𝒱 c bd i arg3 harg3 arg4 harg4 arg5 harg5 arg6 harg6 arg7 harg7 arg8 harg8 arg9 harg9 arg10 harg10 arg11 harg11 v0 v20 cst_14 X_arg4 X_arg5 X_arg6 X_arg8 k f_arg9 f_arg10 f_arg11, p10 𝒱 c bd i arg3 harg3 arg4 harg4 arg5 harg5 arg6 harg6 arg7 harg7 arg8 harg8 arg9 harg9 arg10 harg10 arg11 harg11 v0 v20 cst_14 X_arg4 X_arg5 X_arg6 X_arg8 k f_arg9 f_arg10 f_arg11, p11 𝒱 c bd i arg3 harg3 arg4 harg4 arg5 harg5 arg6 harg6 arg7 harg7 arg8 harg8 arg9 harg9 arg10 harg10 arg11 harg11 v0 v20 cst_14 X_arg4 X_arg5 X_arg6 X_arg8 k f_arg9 f_arg10 f_arg11]
  rw [row2_1 arg9.view f_arg9, row2_1 arg10.view f_arg10, row3_1 arg11.view f_arg11]
  refine head_step (View.read (Elt Ideal) arg6.view X_arg6) (View.read (Elt Ideal) arg4.view X_arg4) (View.read (Elt Ideal) arg8.view X_arg8) (View.read (Elt Ideal) arg5.view X_arg5) k.val hk 1 j d _ _ _ _ _ _ _ (fun r => ?_) (fun r e => ?_) (fun e => ?_) (fun r => ?_) w v hw hv (m0 := View.read (Elt Ideal) arg9.view f_arg9 (ix2 1 j)) (l0 := View.read (Elt Ideal) arg10.view f_arg10 (ix2 1 j)) (a0 := View.read (Elt Ideal) arg11.view f_arg11 (ix3 1 d j)) ?_ ?_ ?_ inv
  · exact View.ld_unit_apply_of (Val := Elt Ideal) (S := S1x8704x256) (e := .bf16) _ _ _ _ _ _ (fun a => by
      refine Eq.trans ?_ (congrArg (· + _) (congrFun (k0_off1_eq i k) a)).symm
      exact match a with
      | ⟨0, _⟩ => rfl
      | ⟨1, _⟩ => rfl
      | ⟨2, _⟩ => (Nat.zero_add _).symm)
  · exact View.ld_unit_apply_of (Val := Elt Ideal) (S := S1x8704x512) (e := .bf16) _ _ _ _ _ _ (fun a => by
      refine Eq.trans ?_ (congrArg (· + _) (congrFun (k0_off4_eq i k) a)).symm
      exact match a with
      | ⟨0, _⟩ => rfl
      | ⟨1, _⟩ => rfl
      | ⟨2, _⟩ => rfl)
  · exact View.ld_unit_apply_of (Val := Elt Ideal) (S := S256x512) (e := .bf16) _ _ _ _ _ _ (fun a => match a with
      | ⟨0, _⟩ => (Nat.zero_add _).symm
      | ⟨1, _⟩ => rfl)
  · exact View.ld_unit_apply_of (Val := Elt Ideal) (S := S1x17x512x512) (e := .bf16) _ _ _ _ _ _ (fun a => by
      refine Eq.trans ?_ (congrArg (· + _) (congrFun (k0_off5_eq i k) a)).symm
      exact match a with
      | ⟨0, _⟩ => rfl
      | ⟨1, _⟩ => rfl
      | ⟨2, _⟩ => rfl
      | ⟨3, _⟩ => (Nat.zero_add _).symm)
  · exact View.ld_unit_apply_of (Val := Elt Ideal) (S := S4x256) (e := .f32) _ _ _ _ _ _ (fun a => match a with
      | ⟨0, _⟩ => rfl
      | ⟨1, _⟩ => (Nat.zero_add _).symm)
  · exact View.ld_unit_apply_of (Val := Elt Ideal) (S := S4x256) (e := .f32) _ _ _ _ _ _ (fun a => match a with
      | ⟨0, _⟩ => rfl
      | ⟨1, _⟩ => (Nat.zero_add _).symm)
  · exact View.ld_unit_apply_of (Val := Elt Ideal) (S := S4x128x256) (e := .f32) _ _ _ _ _ _ (fun a => match a with
      | ⟨0, _⟩ => rfl
      | ⟨1, _⟩ => (Nat.zero_add _).symm
      | ⟨2, _⟩ => (Nat.zero_add _).symm)

/-- A trip, read in head 2: the state stays the state of the softmax over the keys seen. -/
theorem step2 (𝒱 : Variants) (c : Dev nD) (bd : Option 𝒱.V) (i : grid0.Coords) (arg3 : Memref sig .tc .vmem S1x256x512 .bf16) (harg3 : arg3.IsWhole) (arg4 : Memref sig .tc .vmem S1x8704x512 .bf16) (harg4 : arg4.IsWhole) (arg5 : Memref sig .tc .vmem S1x17x512x512 .bf16) (harg5 : arg5.IsWhole) (arg6 : Memref sig .tc .vmem S1x8704x256 .bf16) (harg6 : arg6.IsWhole) (arg7 : Memref sig .tc .vmem S1x256x512 .bf16) (harg7 : arg7.IsWhole) (arg8 : Memref sig .tc .vmem S256x512 .bf16) (harg8 : arg8.IsWhole) (arg9 : Memref sig .tc .vmem S4x256 .f32) (harg9 : arg9.IsWhole) (arg10 : Memref sig .tc .vmem S4x256 .f32) (harg10 : arg10.IsWhole) (arg11 : Memref sig .tc .vmem S4x128x256 .f32) (harg11 : arg11.IsWhole) (v0 : BitVec 32) (v20 : BitVec 32) (cst_14 : Ideal .f32) (X_arg4 : BufTy.Contents (Elt Ideal) arg4.view.ty) (X_arg5 : BufTy.Contents (Elt Ideal) arg5.view.ty) (X_arg6 : BufTy.Contents (Elt Ideal) arg6.view.ty) (X_arg8 : BufTy.Contents (Elt Ideal) arg8.view.ty) (k : Fin (k0_t1_loop i).trips) (f_arg9 : BufTy.Contents (Elt Ideal) arg9.view.ty) (f_arg10 : BufTy.Contents (Elt Ideal) arg10.view.ty) (f_arg11 : BufTy.Contents (Elt Ideal) arg11.view.ty) (j : Fin 256) (d : Fin 128)
    (w v : ℕ → ℝ) (hw : ∀ s < 8704, Wt (lg (View.read (Elt Ideal) arg6.view X_arg6) (View.read (Elt Ideal) arg4.view X_arg4) (View.read (Elt Ideal) arg8.view X_arg8) 2 j s) (w s)) (hv : ∀ s < 8704, vl (View.read (Elt Ideal) arg5.view X_arg5) 2 d s = (v s : EReal))
    (inv : Inv (View.read (Elt Ideal) arg9.view f_arg9 (ix2 2 j)) (View.read (Elt Ideal) arg10.view f_arg10 (ix2 2 j)) (View.read (Elt Ideal) arg11.view f_arg11 (ix3 2 d j)) w v (512 * k.val)) :
    Inv (View.read (Elt Ideal) arg9.view (arg9.view.writes (Elt Ideal) f_arg9 ((trip_k0_t1 (F := Ideal) 𝒱 c bd i arg3 harg3 arg4 harg4 arg5 harg5 arg6 harg6 arg7 harg7 arg8 harg8 arg9 harg9 arg10 harg10 arg11 harg11 v0 v20 cst_14 X_arg4 X_arg5 X_arg6 X_arg8 k).1 f_arg9 f_arg10 f_arg11)) (ix2 2 j)) (View.read (Elt Ideal) arg10.view (arg10.view.writes (Elt Ideal) f_arg10 ((trip_k0_t1 (F := Ideal) 𝒱 c bd i arg3 harg3 arg4 harg4 arg5 harg5 arg6 harg6 arg7 harg7 arg8 harg8 arg9 harg9 arg10 harg10 arg11 harg11 v0 v20 cst_14 X_arg4 X_arg5 X_arg6 X_arg8 k).2.1 f_arg9 f_arg10 f_arg11)) (ix2 2 j)) (View.read (Elt Ideal) arg11.view (arg11.view.writes (Elt Ideal) f_arg11 ((trip_k0_t1 (F := Ideal) 𝒱 c bd i arg3 harg3 arg4 harg4 arg5 harg5 arg6 harg6 arg7 harg7 arg8 harg8 arg9 harg9 arg10 harg10 arg11 harg11 v0 v20 cst_14 X_arg4 X_arg5 X_arg6 X_arg8 k).2.2.1 f_arg9 f_arg10 f_arg11)) (ix3 2 d j)) w v (512 * k.val + 512) := by
  have hk : k.val < 17 := lt_of_lt_of_le k.isLt (k0_t1_abs i).2.1
  rw [p9 𝒱 c bd i arg3 harg3 arg4 harg4 arg5 harg5 arg6 harg6 arg7 harg7 arg8 harg8 arg9 harg9 arg10 harg10 arg11 harg11 v0 v20 cst_14 X_arg4 X_arg5 X_arg6 X_arg8 k f_arg9 f_arg10 f_arg11, p10 𝒱 c bd i arg3 harg3 arg4 harg4 arg5 harg5 arg6 harg6 arg7 harg7 arg8 harg8 arg9 harg9 arg10 harg10 arg11 harg11 v0 v20 cst_14 X_arg4 X_arg5 X_arg6 X_arg8 k f_arg9 f_arg10 f_arg11, p11 𝒱 c bd i arg3 harg3 arg4 harg4 arg5 harg5 arg6 harg6 arg7 harg7 arg8 harg8 arg9 harg9 arg10 harg10 arg11 harg11 v0 v20 cst_14 X_arg4 X_arg5 X_arg6 X_arg8 k f_arg9 f_arg10 f_arg11]
  rw [row2_2 arg9.view f_arg9, row2_2 arg10.view f_arg10, row3_2 arg11.view f_arg11]
  refine head_step (View.read (Elt Ideal) arg6.view X_arg6) (View.read (Elt Ideal) arg4.view X_arg4) (View.read (Elt Ideal) arg8.view X_arg8) (View.read (Elt Ideal) arg5.view X_arg5) k.val hk 2 j d _ _ _ _ _ _ _ (fun r => ?_) (fun r e => ?_) (fun e => ?_) (fun r => ?_) w v hw hv (m0 := View.read (Elt Ideal) arg9.view f_arg9 (ix2 2 j)) (l0 := View.read (Elt Ideal) arg10.view f_arg10 (ix2 2 j)) (a0 := View.read (Elt Ideal) arg11.view f_arg11 (ix3 2 d j)) ?_ ?_ ?_ inv
  · exact View.ld_unit_apply_of (Val := Elt Ideal) (S := S1x8704x256) (e := .bf16) _ _ _ _ _ _ (fun a => by
      refine Eq.trans ?_ (congrArg (· + _) (congrFun (k0_off1_eq i k) a)).symm
      exact match a with
      | ⟨0, _⟩ => rfl
      | ⟨1, _⟩ => rfl
      | ⟨2, _⟩ => (Nat.zero_add _).symm)
  · exact View.ld_unit_apply_of (Val := Elt Ideal) (S := S1x8704x512) (e := .bf16) _ _ _ _ _ _ (fun a => by
      refine Eq.trans ?_ (congrArg (· + _) (congrFun (k0_off6_eq i k) a)).symm
      exact match a with
      | ⟨0, _⟩ => rfl
      | ⟨1, _⟩ => rfl
      | ⟨2, _⟩ => rfl)
  · exact View.ld_unit_apply_of (Val := Elt Ideal) (S := S256x512) (e := .bf16) _ _ _ _ _ _ (fun a => match a with
      | ⟨0, _⟩ => (Nat.zero_add _).symm
      | ⟨1, _⟩ => rfl)
  · exact View.ld_unit_apply_of (Val := Elt Ideal) (S := S1x17x512x512) (e := .bf16) _ _ _ _ _ _ (fun a => by
      refine Eq.trans ?_ (congrArg (· + _) (congrFun (k0_off7_eq i k) a)).symm
      exact match a with
      | ⟨0, _⟩ => rfl
      | ⟨1, _⟩ => rfl
      | ⟨2, _⟩ => rfl
      | ⟨3, _⟩ => (Nat.zero_add _).symm)
  · exact View.ld_unit_apply_of (Val := Elt Ideal) (S := S4x256) (e := .f32) _ _ _ _ _ _ (fun a => match a with
      | ⟨0, _⟩ => rfl
      | ⟨1, _⟩ => (Nat.zero_add _).symm)
  · exact View.ld_unit_apply_of (Val := Elt Ideal) (S := S4x256) (e := .f32) _ _ _ _ _ _ (fun a => match a with
      | ⟨0, _⟩ => rfl
      | ⟨1, _⟩ => (Nat.zero_add _).symm)
  · exact View.ld_unit_apply_of (Val := Elt Ideal) (S := S4x128x256) (e := .f32) _ _ _ _ _ _ (fun a => match a with
      | ⟨0, _⟩ => rfl
      | ⟨1, _⟩ => (Nat.zero_add _).symm
      | ⟨2, _⟩ => (Nat.zero_add _).symm)

/-- A trip, read in head 3: the state stays the state of the softmax over the keys seen. -/
theorem step3 (𝒱 : Variants) (c : Dev nD) (bd : Option 𝒱.V) (i : grid0.Coords) (arg3 : Memref sig .tc .vmem S1x256x512 .bf16) (harg3 : arg3.IsWhole) (arg4 : Memref sig .tc .vmem S1x8704x512 .bf16) (harg4 : arg4.IsWhole) (arg5 : Memref sig .tc .vmem S1x17x512x512 .bf16) (harg5 : arg5.IsWhole) (arg6 : Memref sig .tc .vmem S1x8704x256 .bf16) (harg6 : arg6.IsWhole) (arg7 : Memref sig .tc .vmem S1x256x512 .bf16) (harg7 : arg7.IsWhole) (arg8 : Memref sig .tc .vmem S256x512 .bf16) (harg8 : arg8.IsWhole) (arg9 : Memref sig .tc .vmem S4x256 .f32) (harg9 : arg9.IsWhole) (arg10 : Memref sig .tc .vmem S4x256 .f32) (harg10 : arg10.IsWhole) (arg11 : Memref sig .tc .vmem S4x128x256 .f32) (harg11 : arg11.IsWhole) (v0 : BitVec 32) (v20 : BitVec 32) (cst_14 : Ideal .f32) (X_arg4 : BufTy.Contents (Elt Ideal) arg4.view.ty) (X_arg5 : BufTy.Contents (Elt Ideal) arg5.view.ty) (X_arg6 : BufTy.Contents (Elt Ideal) arg6.view.ty) (X_arg8 : BufTy.Contents (Elt Ideal) arg8.view.ty) (k : Fin (k0_t1_loop i).trips) (f_arg9 : BufTy.Contents (Elt Ideal) arg9.view.ty) (f_arg10 : BufTy.Contents (Elt Ideal) arg10.view.ty) (f_arg11 : BufTy.Contents (Elt Ideal) arg11.view.ty) (j : Fin 256) (d : Fin 128)
    (w v : ℕ → ℝ) (hw : ∀ s < 8704, Wt (lg (View.read (Elt Ideal) arg6.view X_arg6) (View.read (Elt Ideal) arg4.view X_arg4) (View.read (Elt Ideal) arg8.view X_arg8) 3 j s) (w s)) (hv : ∀ s < 8704, vl (View.read (Elt Ideal) arg5.view X_arg5) 3 d s = (v s : EReal))
    (inv : Inv (View.read (Elt Ideal) arg9.view f_arg9 (ix2 3 j)) (View.read (Elt Ideal) arg10.view f_arg10 (ix2 3 j)) (View.read (Elt Ideal) arg11.view f_arg11 (ix3 3 d j)) w v (512 * k.val)) :
    Inv (View.read (Elt Ideal) arg9.view (arg9.view.writes (Elt Ideal) f_arg9 ((trip_k0_t1 (F := Ideal) 𝒱 c bd i arg3 harg3 arg4 harg4 arg5 harg5 arg6 harg6 arg7 harg7 arg8 harg8 arg9 harg9 arg10 harg10 arg11 harg11 v0 v20 cst_14 X_arg4 X_arg5 X_arg6 X_arg8 k).1 f_arg9 f_arg10 f_arg11)) (ix2 3 j)) (View.read (Elt Ideal) arg10.view (arg10.view.writes (Elt Ideal) f_arg10 ((trip_k0_t1 (F := Ideal) 𝒱 c bd i arg3 harg3 arg4 harg4 arg5 harg5 arg6 harg6 arg7 harg7 arg8 harg8 arg9 harg9 arg10 harg10 arg11 harg11 v0 v20 cst_14 X_arg4 X_arg5 X_arg6 X_arg8 k).2.1 f_arg9 f_arg10 f_arg11)) (ix2 3 j)) (View.read (Elt Ideal) arg11.view (arg11.view.writes (Elt Ideal) f_arg11 ((trip_k0_t1 (F := Ideal) 𝒱 c bd i arg3 harg3 arg4 harg4 arg5 harg5 arg6 harg6 arg7 harg7 arg8 harg8 arg9 harg9 arg10 harg10 arg11 harg11 v0 v20 cst_14 X_arg4 X_arg5 X_arg6 X_arg8 k).2.2.1 f_arg9 f_arg10 f_arg11)) (ix3 3 d j)) w v (512 * k.val + 512) := by
  have hk : k.val < 17 := lt_of_lt_of_le k.isLt (k0_t1_abs i).2.1
  rw [p9 𝒱 c bd i arg3 harg3 arg4 harg4 arg5 harg5 arg6 harg6 arg7 harg7 arg8 harg8 arg9 harg9 arg10 harg10 arg11 harg11 v0 v20 cst_14 X_arg4 X_arg5 X_arg6 X_arg8 k f_arg9 f_arg10 f_arg11, p10 𝒱 c bd i arg3 harg3 arg4 harg4 arg5 harg5 arg6 harg6 arg7 harg7 arg8 harg8 arg9 harg9 arg10 harg10 arg11 harg11 v0 v20 cst_14 X_arg4 X_arg5 X_arg6 X_arg8 k f_arg9 f_arg10 f_arg11, p11 𝒱 c bd i arg3 harg3 arg4 harg4 arg5 harg5 arg6 harg6 arg7 harg7 arg8 harg8 arg9 harg9 arg10 harg10 arg11 harg11 v0 v20 cst_14 X_arg4 X_arg5 X_arg6 X_arg8 k f_arg9 f_arg10 f_arg11]
  rw [row2_3 arg9.view f_arg9, row2_3 arg10.view f_arg10, row3_3 arg11.view f_arg11]
  refine head_step (View.read (Elt Ideal) arg6.view X_arg6) (View.read (Elt Ideal) arg4.view X_arg4) (View.read (Elt Ideal) arg8.view X_arg8) (View.read (Elt Ideal) arg5.view X_arg5) k.val hk 3 j d _ _ _ _ _ _ _ (fun r => ?_) (fun r e => ?_) (fun e => ?_) (fun r => ?_) w v hw hv (m0 := View.read (Elt Ideal) arg9.view f_arg9 (ix2 3 j)) (l0 := View.read (Elt Ideal) arg10.view f_arg10 (ix2 3 j)) (a0 := View.read (Elt Ideal) arg11.view f_arg11 (ix3 3 d j)) ?_ ?_ ?_ inv
  · exact View.ld_unit_apply_of (Val := Elt Ideal) (S := S1x8704x256) (e := .bf16) _ _ _ _ _ _ (fun a => by
      refine Eq.trans ?_ (congrArg (· + _) (congrFun (k0_off1_eq i k) a)).symm
      exact match a with
      | ⟨0, _⟩ => rfl
      | ⟨1, _⟩ => rfl
      | ⟨2, _⟩ => (Nat.zero_add _).symm)
  · exact View.ld_unit_apply_of (Val := Elt Ideal) (S := S1x8704x512) (e := .bf16) _ _ _ _ _ _ (fun a => by
      refine Eq.trans ?_ (congrArg (· + _) (congrFun (k0_off8_eq i k) a)).symm
      exact match a with
      | ⟨0, _⟩ => rfl
      | ⟨1, _⟩ => rfl
      | ⟨2, _⟩ => rfl)
  · exact View.ld_unit_apply_of (Val := Elt Ideal) (S := S256x512) (e := .bf16) _ _ _ _ _ _ (fun a => match a with
      | ⟨0, _⟩ => (Nat.zero_add _).symm
      | ⟨1, _⟩ => rfl)
  · exact View.ld_unit_apply_of (Val := Elt Ideal) (S := S1x17x512x512) (e := .bf16) _ _ _ _ _ _ (fun a => by
      refine Eq.trans ?_ (congrArg (· + _) (congrFun (k0_off9_eq i k) a)).symm
      exact match a with
      | ⟨0, _⟩ => rfl
      | ⟨1, _⟩ => rfl
      | ⟨2, _⟩ => rfl
      | ⟨3, _⟩ => (Nat.zero_add _).symm)
  · exact View.ld_unit_apply_of (Val := Elt Ideal) (S := S4x256) (e := .f32) _ _ _ _ _ _ (fun a => match a with
      | ⟨0, _⟩ => rfl
      | ⟨1, _⟩ => (Nat.zero_add _).symm)
  · exact View.ld_unit_apply_of (Val := Elt Ideal) (S := S4x256) (e := .f32) _ _ _ _ _ _ (fun a => match a with
      | ⟨0, _⟩ => rfl
      | ⟨1, _⟩ => (Nat.zero_add _).symm)
  · exact View.ld_unit_apply_of (Val := Elt Ideal) (S := S4x128x256) (e := .f32) _ _ _ _ _ _ (fun a => match a with
      | ⟨0, _⟩ => rfl
      | ⟨1, _⟩ => (Nat.zero_add _).symm
      | ⟨2, _⟩ => (Nat.zero_add _).symm)

/-- The loop, read in head 0: after `k` trips the state is that of the softmax over the first `512 k` keys. -/
theorem loop0 (𝒱 : Variants) (c : Dev nD) (bd : Option 𝒱.V) (i : grid0.Coords) (arg3 : Memref sig .tc .vmem S1x256x512 .bf16) (harg3 : arg3.IsWhole) (arg4 : Memref sig .tc .vmem S1x8704x512 .bf16) (harg4 : arg4.IsWhole) (arg5 : Memref sig .tc .vmem S1x17x512x512 .bf16) (harg5 : arg5.IsWhole) (arg6 : Memref sig .tc .vmem S1x8704x256 .bf16) (harg6 : arg6.IsWhole) (arg7 : Memref sig .tc .vmem S1x256x512 .bf16) (harg7 : arg7.IsWhole) (arg8 : Memref sig .tc .vmem S256x512 .bf16) (harg8 : arg8.IsWhole) (arg9 : Memref sig .tc .vmem S4x256 .f32) (harg9 : arg9.IsWhole) (arg10 : Memref sig .tc .vmem S4x256 .f32) (harg10 : arg10.IsWhole) (arg11 : Memref sig .tc .vmem S4x128x256 .f32) (harg11 : arg11.IsWhole) (v0 : BitVec 32) (v20 : BitVec 32) (cst_14 : Ideal .f32) (X_arg4 : BufTy.Contents (Elt Ideal) arg4.view.ty) (X_arg5 : BufTy.Contents (Elt Ideal) arg5.view.ty) (X_arg6 : BufTy.Contents (Elt Ideal) arg6.view.ty) (X_arg8 : BufTy.Contents (Elt Ideal) arg8.view.ty) (G_arg9 : BufTy.Contents (Elt Ideal) arg9.view.ty) (G_arg10 : BufTy.Contents (Elt Ideal) arg10.view.ty) (G_arg11 : BufTy.Contents (Elt Ideal) arg11.view.ty) (j : Fin 256) (d : Fin 128)
    (w v : ℕ → ℝ) (hw : ∀ s < 8704, Wt (lg (View.read (Elt Ideal) arg6.view X_arg6) (View.read (Elt Ideal) arg4.view X_arg4) (View.read (Elt Ideal) arg8.view X_arg8) 0 j s) (w s)) (hv : ∀ s < 8704, vl (View.read (Elt Ideal) arg5.view X_arg5) 0 d s = (v s : EReal))
    (inv : Inv (View.read (Elt Ideal) arg9.view G_arg9 (ix2 0 j)) (View.read (Elt Ideal) arg10.view G_arg10 (ix2 0 j)) (View.read (Elt Ideal) arg11.view G_arg11 (ix3 0 d j)) w v (0)) :
    ∀ k : ℕ, k ≤ (k0_t1_loop i).trips → Inv (View.read (Elt Ideal) arg9.view (arg9.view.writes (Elt Ideal) G_arg9 (pb_k0_t1 (F := Ideal) 𝒱 c bd i arg3 harg3 arg4 harg4 arg5 harg5 arg6 harg6 arg7 harg7 arg8 harg8 arg9 harg9 arg10 harg10 arg11 harg11 v0 v20 cst_14 X_arg4 X_arg5 X_arg6 X_arg8 G_arg9 G_arg10 G_arg11 k).1) (ix2 0 j)) (View.read (Elt Ideal) arg10.view (arg10.view.writes (Elt Ideal) G_arg10 (pb_k0_t1 (F := Ideal) 𝒱 c bd i arg3 harg3 arg4 harg4 arg5 harg5 arg6 harg6 arg7 harg7 arg8 harg8 arg9 harg9 arg10 harg10 arg11 harg11 v0 v20 cst_14 X_arg4 X_arg5 X_arg6 X_arg8 G_arg9 G_arg10 G_arg11 k).2.1) (ix2 0 j)) (View.read (Elt Ideal) arg11.view (arg11.view.writes (Elt Ideal) G_arg11 (pb_k0_t1 (F := Ideal) 𝒱 c bd i arg3 harg3 arg4 harg4 arg5 harg5 arg6 harg6 arg7 harg7 arg8 harg8 arg9 harg9 arg10 harg10 arg11 harg11 v0 v20 cst_14 X_arg4 X_arg5 X_arg6 X_arg8 G_arg9 G_arg10 G_arg11 k).2.2) (ix3 0 d j)) w v (512 * k)
  | 0, _ => inv
  | k + 1, hk => by
    have ih := loop0 𝒱 c bd i arg3 harg3 arg4 harg4 arg5 harg5 arg6 harg6 arg7 harg7 arg8 harg8 arg9 harg9 arg10 harg10 arg11 harg11 v0 v20 cst_14 X_arg4 X_arg5 X_arg6 X_arg8 G_arg9 G_arg10 G_arg11 j d w v hw hv inv k (Nat.le_of_succ_le hk)
    have hs := step0 𝒱 c bd i arg3 harg3 arg4 harg4 arg5 harg5 arg6 harg6 arg7 harg7 arg8 harg8 arg9 harg9 arg10 harg10 arg11 harg11 v0 v20 cst_14 X_arg4 X_arg5 X_arg6 X_arg8 ⟨k, hk⟩ _ _ _ j d w v hw hv ih
    have e := pb_k0_t1_succ (F := Ideal) 𝒱 c bd i arg3 harg3 arg4 harg4 arg5 harg5 arg6 harg6 arg7 harg7 arg8 harg8 arg9 harg9 arg10 harg10 arg11 harg11 v0 v20 cst_14 X_arg4 X_arg5 X_arg6 X_arg8 G_arg9 G_arg10 G_arg11 ⟨k, hk⟩
    dsimp only at e hs
    rw [e]
    dsimp only
    rw [View.writes_append, View.writes_append, View.writes_append]
    exact hs

/-- The loop, read in head 1: after `k` trips the state is that of the softmax over the first `512 k` keys. -/
theorem loop1 (𝒱 : Variants) (c : Dev nD) (bd : Option 𝒱.V) (i : grid0.Coords) (arg3 : Memref sig .tc .vmem S1x256x512 .bf16) (harg3 : arg3.IsWhole) (arg4 : Memref sig .tc .vmem S1x8704x512 .bf16) (harg4 : arg4.IsWhole) (arg5 : Memref sig .tc .vmem S1x17x512x512 .bf16) (harg5 : arg5.IsWhole) (arg6 : Memref sig .tc .vmem S1x8704x256 .bf16) (harg6 : arg6.IsWhole) (arg7 : Memref sig .tc .vmem S1x256x512 .bf16) (harg7 : arg7.IsWhole) (arg8 : Memref sig .tc .vmem S256x512 .bf16) (harg8 : arg8.IsWhole) (arg9 : Memref sig .tc .vmem S4x256 .f32) (harg9 : arg9.IsWhole) (arg10 : Memref sig .tc .vmem S4x256 .f32) (harg10 : arg10.IsWhole) (arg11 : Memref sig .tc .vmem S4x128x256 .f32) (harg11 : arg11.IsWhole) (v0 : BitVec 32) (v20 : BitVec 32) (cst_14 : Ideal .f32) (X_arg4 : BufTy.Contents (Elt Ideal) arg4.view.ty) (X_arg5 : BufTy.Contents (Elt Ideal) arg5.view.ty) (X_arg6 : BufTy.Contents (Elt Ideal) arg6.view.ty) (X_arg8 : BufTy.Contents (Elt Ideal) arg8.view.ty) (G_arg9 : BufTy.Contents (Elt Ideal) arg9.view.ty) (G_arg10 : BufTy.Contents (Elt Ideal) arg10.view.ty) (G_arg11 : BufTy.Contents (Elt Ideal) arg11.view.ty) (j : Fin 256) (d : Fin 128)
    (w v : ℕ → ℝ) (hw : ∀ s < 8704, Wt (lg (View.read (Elt Ideal) arg6.view X_arg6) (View.read (Elt Ideal) arg4.view X_arg4) (View.read (Elt Ideal) arg8.view X_arg8) 1 j s) (w s)) (hv : ∀ s < 8704, vl (View.read (Elt Ideal) arg5.view X_arg5) 1 d s = (v s : EReal))
    (inv : Inv (View.read (Elt Ideal) arg9.view G_arg9 (ix2 1 j)) (View.read (Elt Ideal) arg10.view G_arg10 (ix2 1 j)) (View.read (Elt Ideal) arg11.view G_arg11 (ix3 1 d j)) w v (0)) :
    ∀ k : ℕ, k ≤ (k0_t1_loop i).trips → Inv (View.read (Elt Ideal) arg9.view (arg9.view.writes (Elt Ideal) G_arg9 (pb_k0_t1 (F := Ideal) 𝒱 c bd i arg3 harg3 arg4 harg4 arg5 harg5 arg6 harg6 arg7 harg7 arg8 harg8 arg9 harg9 arg10 harg10 arg11 harg11 v0 v20 cst_14 X_arg4 X_arg5 X_arg6 X_arg8 G_arg9 G_arg10 G_arg11 k).1) (ix2 1 j)) (View.read (Elt Ideal) arg10.view (arg10.view.writes (Elt Ideal) G_arg10 (pb_k0_t1 (F := Ideal) 𝒱 c bd i arg3 harg3 arg4 harg4 arg5 harg5 arg6 harg6 arg7 harg7 arg8 harg8 arg9 harg9 arg10 harg10 arg11 harg11 v0 v20 cst_14 X_arg4 X_arg5 X_arg6 X_arg8 G_arg9 G_arg10 G_arg11 k).2.1) (ix2 1 j)) (View.read (Elt Ideal) arg11.view (arg11.view.writes (Elt Ideal) G_arg11 (pb_k0_t1 (F := Ideal) 𝒱 c bd i arg3 harg3 arg4 harg4 arg5 harg5 arg6 harg6 arg7 harg7 arg8 harg8 arg9 harg9 arg10 harg10 arg11 harg11 v0 v20 cst_14 X_arg4 X_arg5 X_arg6 X_arg8 G_arg9 G_arg10 G_arg11 k).2.2) (ix3 1 d j)) w v (512 * k)
  | 0, _ => inv
  | k + 1, hk => by
    have ih := loop1 𝒱 c bd i arg3 harg3 arg4 harg4 arg5 harg5 arg6 harg6 arg7 harg7 arg8 harg8 arg9 harg9 arg10 harg10 arg11 harg11 v0 v20 cst_14 X_arg4 X_arg5 X_arg6 X_arg8 G_arg9 G_arg10 G_arg11 j d w v hw hv inv k (Nat.le_of_succ_le hk)
    have hs := step1 𝒱 c bd i arg3 harg3 arg4 harg4 arg5 harg5 arg6 harg6 arg7 harg7 arg8 harg8 arg9 harg9 arg10 harg10 arg11 harg11 v0 v20 cst_14 X_arg4 X_arg5 X_arg6 X_arg8 ⟨k, hk⟩ _ _ _ j d w v hw hv ih
    have e := pb_k0_t1_succ (F := Ideal) 𝒱 c bd i arg3 harg3 arg4 harg4 arg5 harg5 arg6 harg6 arg7 harg7 arg8 harg8 arg9 harg9 arg10 harg10 arg11 harg11 v0 v20 cst_14 X_arg4 X_arg5 X_arg6 X_arg8 G_arg9 G_arg10 G_arg11 ⟨k, hk⟩
    dsimp only at e hs
    rw [e]
    dsimp only
    rw [View.writes_append, View.writes_append, View.writes_append]
    exact hs

/-- The loop, read in head 2: after `k` trips the state is that of the softmax over the first `512 k` keys. -/
theorem loop2 (𝒱 : Variants) (c : Dev nD) (bd : Option 𝒱.V) (i : grid0.Coords) (arg3 : Memref sig .tc .vmem S1x256x512 .bf16) (harg3 : arg3.IsWhole) (arg4 : Memref sig .tc .vmem S1x8704x512 .bf16) (harg4 : arg4.IsWhole) (arg5 : Memref sig .tc .vmem S1x17x512x512 .bf16) (harg5 : arg5.IsWhole) (arg6 : Memref sig .tc .vmem S1x8704x256 .bf16) (harg6 : arg6.IsWhole) (arg7 : Memref sig .tc .vmem S1x256x512 .bf16) (harg7 : arg7.IsWhole) (arg8 : Memref sig .tc .vmem S256x512 .bf16) (harg8 : arg8.IsWhole) (arg9 : Memref sig .tc .vmem S4x256 .f32) (harg9 : arg9.IsWhole) (arg10 : Memref sig .tc .vmem S4x256 .f32) (harg10 : arg10.IsWhole) (arg11 : Memref sig .tc .vmem S4x128x256 .f32) (harg11 : arg11.IsWhole) (v0 : BitVec 32) (v20 : BitVec 32) (cst_14 : Ideal .f32) (X_arg4 : BufTy.Contents (Elt Ideal) arg4.view.ty) (X_arg5 : BufTy.Contents (Elt Ideal) arg5.view.ty) (X_arg6 : BufTy.Contents (Elt Ideal) arg6.view.ty) (X_arg8 : BufTy.Contents (Elt Ideal) arg8.view.ty) (G_arg9 : BufTy.Contents (Elt Ideal) arg9.view.ty) (G_arg10 : BufTy.Contents (Elt Ideal) arg10.view.ty) (G_arg11 : BufTy.Contents (Elt Ideal) arg11.view.ty) (j : Fin 256) (d : Fin 128)
    (w v : ℕ → ℝ) (hw : ∀ s < 8704, Wt (lg (View.read (Elt Ideal) arg6.view X_arg6) (View.read (Elt Ideal) arg4.view X_arg4) (View.read (Elt Ideal) arg8.view X_arg8) 2 j s) (w s)) (hv : ∀ s < 8704, vl (View.read (Elt Ideal) arg5.view X_arg5) 2 d s = (v s : EReal))
    (inv : Inv (View.read (Elt Ideal) arg9.view G_arg9 (ix2 2 j)) (View.read (Elt Ideal) arg10.view G_arg10 (ix2 2 j)) (View.read (Elt Ideal) arg11.view G_arg11 (ix3 2 d j)) w v (0)) :
    ∀ k : ℕ, k ≤ (k0_t1_loop i).trips → Inv (View.read (Elt Ideal) arg9.view (arg9.view.writes (Elt Ideal) G_arg9 (pb_k0_t1 (F := Ideal) 𝒱 c bd i arg3 harg3 arg4 harg4 arg5 harg5 arg6 harg6 arg7 harg7 arg8 harg8 arg9 harg9 arg10 harg10 arg11 harg11 v0 v20 cst_14 X_arg4 X_arg5 X_arg6 X_arg8 G_arg9 G_arg10 G_arg11 k).1) (ix2 2 j)) (View.read (Elt Ideal) arg10.view (arg10.view.writes (Elt Ideal) G_arg10 (pb_k0_t1 (F := Ideal) 𝒱 c bd i arg3 harg3 arg4 harg4 arg5 harg5 arg6 harg6 arg7 harg7 arg8 harg8 arg9 harg9 arg10 harg10 arg11 harg11 v0 v20 cst_14 X_arg4 X_arg5 X_arg6 X_arg8 G_arg9 G_arg10 G_arg11 k).2.1) (ix2 2 j)) (View.read (Elt Ideal) arg11.view (arg11.view.writes (Elt Ideal) G_arg11 (pb_k0_t1 (F := Ideal) 𝒱 c bd i arg3 harg3 arg4 harg4 arg5 harg5 arg6 harg6 arg7 harg7 arg8 harg8 arg9 harg9 arg10 harg10 arg11 harg11 v0 v20 cst_14 X_arg4 X_arg5 X_arg6 X_arg8 G_arg9 G_arg10 G_arg11 k).2.2) (ix3 2 d j)) w v (512 * k)
  | 0, _ => inv
  | k + 1, hk => by
    have ih := loop2 𝒱 c bd i arg3 harg3 arg4 harg4 arg5 harg5 arg6 harg6 arg7 harg7 arg8 harg8 arg9 harg9 arg10 harg10 arg11 harg11 v0 v20 cst_14 X_arg4 X_arg5 X_arg6 X_arg8 G_arg9 G_arg10 G_arg11 j d w v hw hv inv k (Nat.le_of_succ_le hk)
    have hs := step2 𝒱 c bd i arg3 harg3 arg4 harg4 arg5 harg5 arg6 harg6 arg7 harg7 arg8 harg8 arg9 harg9 arg10 harg10 arg11 harg11 v0 v20 cst_14 X_arg4 X_arg5 X_arg6 X_arg8 ⟨k, hk⟩ _ _ _ j d w v hw hv ih
    have e := pb_k0_t1_succ (F := Ideal) 𝒱 c bd i arg3 harg3 arg4 harg4 arg5 harg5 arg6 harg6 arg7 harg7 arg8 harg8 arg9 harg9 arg10 harg10 arg11 harg11 v0 v20 cst_14 X_arg4 X_arg5 X_arg6 X_arg8 G_arg9 G_arg10 G_arg11 ⟨k, hk⟩
    dsimp only at e hs
    rw [e]
    dsimp only
    rw [View.writes_append, View.writes_append, View.writes_append]
    exact hs

/-- The loop, read in head 3: after `k` trips the state is that of the softmax over the first `512 k` keys. -/
theorem loop3 (𝒱 : Variants) (c : Dev nD) (bd : Option 𝒱.V) (i : grid0.Coords) (arg3 : Memref sig .tc .vmem S1x256x512 .bf16) (harg3 : arg3.IsWhole) (arg4 : Memref sig .tc .vmem S1x8704x512 .bf16) (harg4 : arg4.IsWhole) (arg5 : Memref sig .tc .vmem S1x17x512x512 .bf16) (harg5 : arg5.IsWhole) (arg6 : Memref sig .tc .vmem S1x8704x256 .bf16) (harg6 : arg6.IsWhole) (arg7 : Memref sig .tc .vmem S1x256x512 .bf16) (harg7 : arg7.IsWhole) (arg8 : Memref sig .tc .vmem S256x512 .bf16) (harg8 : arg8.IsWhole) (arg9 : Memref sig .tc .vmem S4x256 .f32) (harg9 : arg9.IsWhole) (arg10 : Memref sig .tc .vmem S4x256 .f32) (harg10 : arg10.IsWhole) (arg11 : Memref sig .tc .vmem S4x128x256 .f32) (harg11 : arg11.IsWhole) (v0 : BitVec 32) (v20 : BitVec 32) (cst_14 : Ideal .f32) (X_arg4 : BufTy.Contents (Elt Ideal) arg4.view.ty) (X_arg5 : BufTy.Contents (Elt Ideal) arg5.view.ty) (X_arg6 : BufTy.Contents (Elt Ideal) arg6.view.ty) (X_arg8 : BufTy.Contents (Elt Ideal) arg8.view.ty) (G_arg9 : BufTy.Contents (Elt Ideal) arg9.view.ty) (G_arg10 : BufTy.Contents (Elt Ideal) arg10.view.ty) (G_arg11 : BufTy.Contents (Elt Ideal) arg11.view.ty) (j : Fin 256) (d : Fin 128)
    (w v : ℕ → ℝ) (hw : ∀ s < 8704, Wt (lg (View.read (Elt Ideal) arg6.view X_arg6) (View.read (Elt Ideal) arg4.view X_arg4) (View.read (Elt Ideal) arg8.view X_arg8) 3 j s) (w s)) (hv : ∀ s < 8704, vl (View.read (Elt Ideal) arg5.view X_arg5) 3 d s = (v s : EReal))
    (inv : Inv (View.read (Elt Ideal) arg9.view G_arg9 (ix2 3 j)) (View.read (Elt Ideal) arg10.view G_arg10 (ix2 3 j)) (View.read (Elt Ideal) arg11.view G_arg11 (ix3 3 d j)) w v (0)) :
    ∀ k : ℕ, k ≤ (k0_t1_loop i).trips → Inv (View.read (Elt Ideal) arg9.view (arg9.view.writes (Elt Ideal) G_arg9 (pb_k0_t1 (F := Ideal) 𝒱 c bd i arg3 harg3 arg4 harg4 arg5 harg5 arg6 harg6 arg7 harg7 arg8 harg8 arg9 harg9 arg10 harg10 arg11 harg11 v0 v20 cst_14 X_arg4 X_arg5 X_arg6 X_arg8 G_arg9 G_arg10 G_arg11 k).1) (ix2 3 j)) (View.read (Elt Ideal) arg10.view (arg10.view.writes (Elt Ideal) G_arg10 (pb_k0_t1 (F := Ideal) 𝒱 c bd i arg3 harg3 arg4 harg4 arg5 harg5 arg6 harg6 arg7 harg7 arg8 harg8 arg9 harg9 arg10 harg10 arg11 harg11 v0 v20 cst_14 X_arg4 X_arg5 X_arg6 X_arg8 G_arg9 G_arg10 G_arg11 k).2.1) (ix2 3 j)) (View.read (Elt Ideal) arg11.view (arg11.view.writes (Elt Ideal) G_arg11 (pb_k0_t1 (F := Ideal) 𝒱 c bd i arg3 harg3 arg4 harg4 arg5 harg5 arg6 harg6 arg7 harg7 arg8 harg8 arg9 harg9 arg10 harg10 arg11 harg11 v0 v20 cst_14 X_arg4 X_arg5 X_arg6 X_arg8 G_arg9 G_arg10 G_arg11 k).2.2) (ix3 3 d j)) w v (512 * k)
  | 0, _ => inv
  | k + 1, hk => by
    have ih := loop3 𝒱 c bd i arg3 harg3 arg4 harg4 arg5 harg5 arg6 harg6 arg7 harg7 arg8 harg8 arg9 harg9 arg10 harg10 arg11 harg11 v0 v20 cst_14 X_arg4 X_arg5 X_arg6 X_arg8 G_arg9 G_arg10 G_arg11 j d w v hw hv inv k (Nat.le_of_succ_le hk)
    have hs := step3 𝒱 c bd i arg3 harg3 arg4 harg4 arg5 harg5 arg6 harg6 arg7 harg7 arg8 harg8 arg9 harg9 arg10 harg10 arg11 harg11 v0 v20 cst_14 X_arg4 X_arg5 X_arg6 X_arg8 ⟨k, hk⟩ _ _ _ j d w v hw hv ih
    have e := pb_k0_t1_succ (F := Ideal) 𝒱 c bd i arg3 harg3 arg4 harg4 arg5 harg5 arg6 harg6 arg7 harg7 arg8 harg8 arg9 harg9 arg10 harg10 arg11 harg11 v0 v20 cst_14 X_arg4 X_arg5 X_arg6 X_arg8 G_arg9 G_arg10 G_arg11 ⟨k, hk⟩
    dsimp only at e hs
    rw [e]
    dsimp only
    rw [View.writes_append, View.writes_append, View.writes_append]
    exact hs
end Cert.AttnIdeal.RefValue
-- ==== Proof.AttnPoint.lean ====
module

public import proofs.«01_k».proof.Proof.AttnLoop
public import Idealize.ShloMosaic.Lib.Pointwise
public import Idealize.ShloMosaic.Lib.Pipeline.ReadBack
public import Idealize.ShloMosaic.Lib.Pipeline.ValueKit.Tiles

@[expose] public section

set_option maxRecDepth 16384

noncomputable section

namespace Cert.AttnIdeal.RefValue
open Cert.AttnIdeal Cert.AttnIdeal.Gen Idealize.ShloMosaic Idealize.ShloMosaic.TcCoe Idealize.SL.Sem
open Idealize.ShloMosaic.Tactic Cert.AttnMath
open Idealize.ShloMosaic.Pipeline (Dat)

/-- The weighted mean of a query, zeroed in the first 496 rows. -/
theorem pay73_apply (v0 : BitVec 32) (a : Vec Ideal S1x128x256 .f32) (l : Vec Ideal S1x256 .f32) (j : Fin 256) (d : Fin 128) :
    (k0_pay73 v0 a l (ix3 0 j d) : EReal) = Scalar.select (IntOp.cmpi .sge (IntOp.addi v0 (BitVec.ofNat 32 j.val)) 496#32) (Ideal.div (a (ix3 0 d j)) (l (ix2 0 j))) 0 := by
  have e : (k0_pay73 v0 a l (ix3 0 j d) : EReal) = Scalar.select (IntOp.cmpi .sge (IntOp.addi v0 (BitVec.ofNat 32 j.val)) 496#32) (Ideal.div (a (ix3 0 d j)) (l (ix2 0 j))) (Ideal.ofBits FTy.f32 0#32) := by
    pointwise [k0_pay73, k0_pay72]
  rw [Ideal.ofBits_zero] at e
  exact e

/-- The scaled queries. -/
theorem pay62_apply (x : Vec Ideal S1x256x512 .bf16) (j : Fin 256) (d : Fin 512) :
    (k0_pay62 x (ix2 j d) : EReal) = (x (ix3 0 j d) : EReal) * (((Real.sqrt 128)⁻¹ * (Real.log 2)⁻¹ : ℝ) : EReal) := by
  have e : (k0_pay62 x (ix2 j d) : EReal) = (x (ix3 0 j d) : EReal) * Named.named (F := Ideal) (φ := FTy.f32) κ "scale_log2e" 1040356334#32 := by
    pointwise [k0_pay62]
  exact e.trans (congrArg (fun z : EReal => (x (ix3 0 j d) : EReal) * z) (IdealRules.named_const.ideal_named_scalar (φ := FTy.f32) κ "scale_log2e" 1040356334#32 _ rfl))

/-- Before the first chunk: no maximum. -/
theorem pay63_apply (h : Fin 4) (j : Fin 256) : (k0_pay63 (F := Ideal) (ix2 h j) : EReal) = ⊥ := by
  have e : (k0_pay63 (F := Ideal) (ix2 h j) : EReal) = Named.named (F := Ideal) (φ := FTy.f32) κ "mask" 4048155338#32 := by
    pointwise [k0_pay63]
  exact e.trans (IdealRules.named_const.ideal_named_scalar (φ := FTy.f32) κ "mask" 4048155338#32 ⊥ rfl)

/-- … no weight. -/
theorem pay64_apply (h : Fin 4) (j : Fin 256) : (k0_pay64 (F := Ideal) (FloatOps.ofBits FTy.f32 0#32) (ix2 h j) : EReal) = 0 := by
  have e : (k0_pay64 (F := Ideal) (FloatOps.ofBits FTy.f32 0#32) (ix2 h j) : EReal) = Ideal.ofBits FTy.f32 0#32 := by
    pointwise [k0_pay64]
  rw [Ideal.ofBits_zero] at e
  exact e

/-- … no numerator. -/
theorem pay65_apply (h : Fin 4) (d : Fin 128) (j : Fin 256) : (k0_pay65 (F := Ideal) (ix3 h d j) : EReal) = 0 := by
  have e : (k0_pay65 (F := Ideal) (ix3 h d j) : EReal) = Ideal.ofBits FTy.f32 0#32 := by
    pointwise [k0_pay65]
  rw [Ideal.ofBits_zero] at e
  exact e

/-- A load of row 0 reads what the stores left there. -/
theorem cov2_0 {κ : Kind} {sp : Space} (a : View sig κ sp S4x256 .f32) (L : List (View.Piece (Elt Ideal) S4x256 .f32)) (j : Fin 256) :
    (a.readCov L (Rect.unit (s := S4x256) ![0, 0] S1x256.size inb_S4x256_S1x256_0_0).toLoadRect (ix2 0 j) : EReal) = View.read (Elt Ideal) a (a.writes (Elt Ideal) a.junk L) (ix2 0 j) :=
  View.ld_unit_apply_of (Val := Elt Ideal) (S := S4x256) (e := .f32) (View.read (Elt Ideal) a (a.writes (Elt Ideal) a.junk L)) ![0, 0] S1x256.size inb_S4x256_S1x256_0_0 (ix2 0 j) (ix2 0 j) (fun a => match a with
    | ⟨0, _⟩ => rfl
    | ⟨1, _⟩ => (Nat.zero_add _).symm)

/-- A load of plane 0 reads what the stores left there. -/
theorem cov3_0 {κ : Kind} {sp : Space} (a : View sig κ sp S4x128x256 .f32) (L : List (View.Piece (Elt Ideal) S4x128x256 .f32)) (d : Fin 128) (j : Fin 256) :
    (a.readCov L (Rect.unit (s := S4x128x256) ![0, 0, 0] S1x128x256.size inb_S4x128x256_S1x128x256_0_0_0).toLoadRect (ix3 0 d j) : EReal) = View.read (Elt Ideal) a (a.writes (Elt Ideal) a.junk L) (ix3 0 d j) :=
  View.ld_unit_apply_of (Val := Elt Ideal) (S := S4x128x256) (e := .f32) (View.read (Elt Ideal) a (a.writes (Elt Ideal) a.junk L)) ![0, 0, 0] S1x128x256.size inb_S4x128x256_S1x128x256_0_0_0 (ix3 0 d j) (ix3 0 d j) (fun a => match a with
    | ⟨0, _⟩ => rfl
    | ⟨1, _⟩ => (Nat.zero_add _).symm
    | ⟨2, _⟩ => (Nat.zero_add _).symm)

/-- A load of row 1 reads what the stores left there. -/
theorem cov2_1 {κ : Kind} {sp : Space} (a : View sig κ sp S4x256 .f32) (L : List (View.Piece (Elt Ideal) S4x256 .f32)) (j : Fin 256) :
    (a.readCov L (Rect.unit (s := S4x256) ![1, 0] S1x256.size inb_S4x256_S1x256_1_0).toLoadRect (ix2 0 j) : EReal) = View.read (Elt Ideal) a (a.writes (Elt Ideal) a.junk L) (ix2 1 j) :=
  View.ld_unit_apply_of (Val := Elt Ideal) (S := S4x256) (e := .f32) (View.read (Elt Ideal) a (a.writes (Elt Ideal) a.junk L)) ![1, 0] S1x256.size inb_S4x256_S1x256_1_0 (ix2 0 j) (ix2 1 j) (fun a => match a with
    | ⟨0, _⟩ => rfl
    | ⟨1, _⟩ => (Nat.zero_add _).symm)

/-- A load of plane 1 reads what the stores left there. -/
theorem cov3_1 {κ : Kind} {sp : Space} (a : View sig κ sp S4x128x256 .f32) (L : List (View.Piece (Elt Ideal) S4x128x256 .f32)) (d : Fin 128) (j : Fin 256) :
    (a.readCov L (Rect.unit (s := S4x128x256) ![1, 0, 0] S1x128x256.size inb_S4x128x256_S1x128x256_1_0_0).toLoadRect (ix3 0 d j) : EReal) = View.read (Elt Ideal) a (a.writes (Elt Ideal) a.junk L) (ix3 1 d j) :=
  View.ld_unit_apply_of (Val := Elt Ideal) (S := S4x128x256) (e := .f32) (View.read (Elt Ideal) a (a.writes (Elt Ideal) a.junk L)) ![1, 0, 0] S1x128x256.size inb_S4x128x256_S1x128x256_1_0_0 (ix3 0 d j) (ix3 1 d j) (fun a => match a with
    | ⟨0, _⟩ => rfl
    | ⟨1, _⟩ => (Nat.zero_add _).symm
    | ⟨2, _⟩ => (Nat.zero_add _).symm)

/-- A load of row 2 reads what the stores left there. -/
theorem cov2_2 {κ : Kind} {sp : Space} (a : View sig κ sp S4x256 .f32) (L : List (View.Piece (Elt Ideal) S4x256 .f32)) (j : Fin 256) :
    (a.readCov L (Rect.unit (s := S4x256) ![2, 0] S1x256.size inb_S4x256_S1x256_2_0).toLoadRect (ix2 0 j) : EReal) = View.read (Elt Ideal) a (a.writes (Elt Ideal) a.junk L) (ix2 2 j) :=
  View.ld_unit_apply_of (Val := Elt Ideal) (S := S4x256) (e := .f32) (View.read (Elt Ideal) a (a.writes (Elt Ideal) a.junk L)) ![2, 0] S1x256.size inb_S4x256_S1x256_2_0 (ix2 0 j) (ix2 2 j) (fun a => match a with
    | ⟨0, _⟩ => rfl
    | ⟨1, _⟩ => (Nat.zero_add _).symm)

/-- A load of plane 2 reads what the stores left there. -/
theorem cov3_2 {κ : Kind} {sp : Space} (a : View sig κ sp S4x128x256 .f32) (L : List (View.Piece (Elt Ideal) S4x128x256 .f32)) (d : Fin 128) (j : Fin 256) :
    (a.readCov L (Rect.unit (s := S4x128x256) ![2, 0, 0] S1x128x256.size inb_S4x128x256_S1x128x256_2_0_0).toLoadRect (ix3 0 d j) : EReal) = View.read (Elt Ideal) a (a.writes (Elt Ideal) a.junk L) (ix3 2 d j) :=
  View.ld_unit_apply_of (Val := Elt Ideal) (S := S4x128x256) (e := .f32) (View.read (Elt Ideal) a (a.writes (Elt Ideal) a.junk L)) ![2, 0, 0] S1x128x256.size inb_S4x128x256_S1x128x256_2_0_0 (ix3 0 d j) (ix3 2 d j) (fun a => match a with
    | ⟨0, _⟩ => rfl
    | ⟨1, _⟩ => (Nat.zero_add _).symm
    | ⟨2, _⟩ => (Nat.zero_add _).symm)

/-- A load of row 3 reads what the stores left there. -/
theorem cov2_3 {κ : Kind} {sp : Space} (a : View sig κ sp S4x256 .f32) (L : List (View.Piece (Elt Ideal) S4x256 .f32)) (j : Fin 256) :
    (a.readCov L (Rect.unit (s := S4x256) ![3, 0] S1x256.size inb_S4x256_S1x256_3_0).toLoadRect (ix2 0 j) : EReal) = View.read (Elt Ideal) a (a.writes (Elt Ideal) a.junk L) (ix2 3 j) :=
  View.ld_unit_apply_of (Val := Elt Ideal) (S := S4x256) (e := .f32) (View.read (Elt Ideal) a (a.writes (Elt Ideal) a.junk L)) ![3, 0] S1x256.size inb_S4x256_S1x256_3_0 (ix2 0 j) (ix2 3 j) (fun a => match a with
    | ⟨0, _⟩ => rfl
    | ⟨1, _⟩ => (Nat.zero_add _).symm)

/-- A load of plane 3 reads what the stores left there. -/
theorem cov3_3 {κ : Kind} {sp : Space} (a : View sig κ sp S4x128x256 .f32) (L : List (View.Piece (Elt Ideal) S4x128x256 .f32)) (d : Fin 128) (j : Fin 256) :
    (a.readCov L (Rect.unit (s := S4x128x256) ![3, 0, 0] S1x128x256.size inb_S4x128x256_S1x128x256_3_0_0).toLoadRect (ix3 0 d j) : EReal) = View.read (Elt Ideal) a (a.writes (Elt Ideal) a.junk L) (ix3 3 d j) :=
  View.ld_unit_apply_of (Val := Elt Ideal) (S := S4x128x256) (e := .f32) (View.read (Elt Ideal) a (a.writes (Elt Ideal) a.junk L)) ![3, 0, 0] S1x128x256.size inb_S4x128x256_S1x128x256_3_0_0 (ix3 0 d j) (ix3 3 d j) (fun a => match a with
    | ⟨0, _⟩ => rfl
    | ⟨1, _⟩ => (Nat.zero_add _).symm
    | ⟨2, _⟩ => (Nat.zero_add _).symm)

/-- The queries the loop reads: the block's, scaled. -/
theorem init8 (c : Dev nD) (arg3 : Memref sig .tc .vmem S1x256x512 .bf16) (harg3 : arg3.IsWhole) (arg4 : Memref sig .tc .vmem S1x8704x512 .bf16) (harg4 : arg4.IsWhole) (arg5 : Memref sig .tc .vmem S1x17x512x512 .bf16) (harg5 : arg5.IsWhole) (arg6 : Memref sig .tc .vmem S1x8704x256 .bf16) (harg6 : arg6.IsWhole) (arg7 : Memref sig .tc .vmem S1x256x512 .bf16) (harg7 : arg7.IsWhole) (arg8 : Memref sig .tc .vmem S256x512 .bf16) (harg8 : arg8.IsWhole) (arg9 : Memref sig .tc .vmem S4x256 .f32) (harg9 : arg9.IsWhole) (arg10 : Memref sig .tc .vmem S4x256 .f32) (harg10 : arg10.IsWhole) (arg11 : Memref sig .tc .vmem S4x128x256 .f32) (harg11 : arg11.IsWhole) (x0 : FVec Ideal S1x256x512 .bf16) (j : Fin 256) (n : Fin 512) :
    (View.read (Elt Ideal) arg8.view (arg8.view.writes (Elt Ideal) arg8.view.junk (kernelRun0_A.sl.HS0_1 (F := Ideal) c arg3 harg3 x0)) (ix2 j n) : EReal) = (x0 (ix3 0 j n) : EReal) * (((Real.sqrt 128)⁻¹ * (Real.log 2)⁻¹ : ℝ) : EReal) := by
  unfold kernelRun0_A.sl.HS0_1
  refine (View.read_writes_cons_unit_of_mem (Val := Elt Ideal) arg8.view arg8.view.junk inb_S256x512_S256x512_0_0 _ _ (ix2 j n) (ix2 j n) rfl (fun a => match a with
    | ⟨0, _⟩ => (Nat.zero_add _).symm
    | ⟨1, _⟩ => (Nat.zero_add _).symm)).trans ?_
  have e : (View.readAt (Elt Ideal) arg3.view (Rect.unit ![0, 0, 0] S1x256x512.size inb_S1x256x512_S1x256x512_0_0_0).toLoadRect (harg3.unread x0) : Vec Ideal S1x256x512 .bf16) = x0 := by
    funext y
    refine (View.ld_unit_apply_of (Val := Elt Ideal) (S := S1x256x512) (e := .bf16) (View.read (Elt Ideal) arg3.view (harg3.unread x0)) ![0, 0, 0] S1x256x512.size inb_S1x256x512_S1x256x512_0_0_0 y y (fun a => match a with
      | ⟨0, _⟩ => (Nat.zero_add _).symm
      | ⟨1, _⟩ => (Nat.zero_add _).symm
      | ⟨2, _⟩ => (Nat.zero_add _).symm)).trans ?_
    rw [harg3.read_unread]
  refine (pay62_apply _ j n).trans ?_
  exact congrArg (fun z : EReal => z * (((Real.sqrt 128)⁻¹ * (Real.log 2)⁻¹ : ℝ) : EReal)) (congrFun e _)

/-- No maximum before the loop. -/
theorem init9 (arg9 : Memref sig .tc .vmem S4x256 .f32) (h : Fin 4) (j : Fin 256) : (View.read (Elt Ideal) arg9.view (arg9.view.writes (Elt Ideal) arg9.view.junk (kernelRun0_A.sl.HS1_1 (F := Ideal))) (ix2 h j) : EReal) = ⊥ := by
  unfold kernelRun0_A.sl.HS1_1
  refine (View.read_writes_cons_unit_of_mem (Val := Elt Ideal) arg9.view arg9.view.junk inb_S4x256_S4x256_0_0 _ _ (ix2 h j) (ix2 h j) rfl (fun a => match a with
    | ⟨0, _⟩ => (Nat.zero_add _).symm
    | ⟨1, _⟩ => (Nat.zero_add _).symm)).trans ?_
  exact pay63_apply h j

/-- No weight before the loop. -/
theorem init10 (arg10 : Memref sig .tc .vmem S4x256 .f32) (h : Fin 4) (j : Fin 256) : (View.read (Elt Ideal) arg10.view (arg10.view.writes (Elt Ideal) arg10.view.junk (kernelRun0_A.sl.HS2_1 (F := Ideal))) (ix2 h j) : EReal) = 0 := by
  unfold kernelRun0_A.sl.HS2_1
  refine (View.read_writes_cons_unit_of_mem (Val := Elt Ideal) arg10.view arg10.view.junk inb_S4x256_S4x256_0_0 _ _ (ix2 h j) (ix2 h j) rfl (fun a => match a with
    | ⟨0, _⟩ => (Nat.zero_add _).symm
    | ⟨1, _⟩ => (Nat.zero_add _).symm)).trans ?_
  exact pay64_apply h j

/-- No numerator before the loop. -/
theorem init11 (arg11 : Memref sig .tc .vmem S4x128x256 .f32) (h : Fin 4) (d : Fin 128) (j : Fin 256) : (View.read (Elt Ideal) arg11.view (arg11.view.writes (Elt Ideal) arg11.view.junk (kernelRun0_A.sl.HS3_1 (F := Ideal))) (ix3 h d j) : EReal) = 0 := by
  unfold kernelRun0_A.sl.HS3_1
  refine (View.read_writes_cons_unit_of_mem (Val := Elt Ideal) arg11.view arg11.view.junk inb_S4x128x256_S4x128x256_0_0_0 _ _ (ix3 h d j) (ix3 h d j) rfl (fun a => match a with
    | ⟨0, _⟩ => (Nat.zero_add _).symm
    | ⟨1, _⟩ => (Nat.zero_add _).symm
    | ⟨2, _⟩ => (Nat.zero_add _).symm)).trans ?_
  exact pay65_apply h d j

/-- The numerators of head 0 after the loop. -/
theorem num0 (c : Dev nD) (i : grid0.Coords) (arg3 : Memref sig .tc .vmem S1x256x512 .bf16) (harg3 : arg3.IsWhole) (arg4 : Memref sig .tc .vmem S1x8704x512 .bf16) (harg4 : arg4.IsWhole) (arg5 : Memref sig .tc .vmem S1x17x512x512 .bf16) (harg5 : arg5.IsWhole) (arg6 : Memref sig .tc .vmem S1x8704x256 .bf16) (harg6 : arg6.IsWhole) (arg7 : Memref sig .tc .vmem S1x256x512 .bf16) (harg7 : arg7.IsWhole) (arg8 : Memref sig .tc .vmem S256x512 .bf16) (harg8 : arg8.IsWhole) (arg9 : Memref sig .tc .vmem S4x256 .f32) (harg9 : arg9.IsWhole) (arg10 : Memref sig .tc .vmem S4x256 .f32) (harg10 : arg10.IsWhole) (arg11 : Memref sig .tc .vmem S4x128x256 .f32) (harg11 : arg11.IsWhole) (x0 : FVec Ideal S1x256x512 .bf16) (x1 : FVec Ideal S1x8704x512 .bf16) (x2 : FVec Ideal S1x17x512x512 .bf16) (x3 : FVec Ideal S1x8704x256 .bf16) (j : Fin 256) (d : Fin 128) :
    (kernelRun0_A.sl.v52 (F := Ideal) c i arg3 harg3 arg4 harg4 arg5 harg5 arg6 harg6 arg7 harg7 arg8 harg8 arg9 harg9 arg10 harg10 arg11 harg11 x0 x1 x2 x3 (ix3 0 d j) : EReal) = View.read (Elt Ideal) arg11.view (arg11.view.writes (Elt Ideal) (arg11.view.writes (Elt Ideal) arg11.view.junk (kernelRun0_A.sl.HS3_1 (F := Ideal))) (pb_k0_t1 (F := Ideal) Variants.none c none i arg3 harg3 arg4 harg4 arg5 harg5 arg6 harg6 arg7 harg7 arg8 harg8 arg9 harg9 arg10 harg10 arg11 harg11 (kernelRun0_A.sl.v0 i) (kernelRun0_A.sl.v20 i) (kernelRun0_A.sl.cst_14 (F := Ideal)) (harg4.unread x1) (harg5.unread x2) (harg6.unread x3) (arg8.view.writes (Elt Ideal) arg8.view.junk (kernelRun0_A.sl.HS0_1 (F := Ideal) c arg3 harg3 x0)) (arg9.view.writes (Elt Ideal) arg9.view.junk (kernelRun0_A.sl.HS1_1 (F := Ideal))) (arg10.view.writes (Elt Ideal) arg10.view.junk (kernelRun0_A.sl.HS2_1 (F := Ideal))) (arg11.view.writes (Elt Ideal) arg11.view.junk (kernelRun0_A.sl.HS3_1 (F := Ideal))) (Scf.trips (k0_t1_loop i).lb (k0_t1_loop i).ub (k0_t1_loop i).st)).2.2) (ix3 0 d j) := by
  have e2 : Scf.trips (k0_t2_loop i).lb (k0_t2_loop i).ub (k0_t2_loop i).st = 0 := Nat.le_zero.1 (k0_t2_abs i).2.1
  unfold kernelRun0_A.sl.v52
  refine (cov3_0 arg11.view _ d j).trans ?_
  rw [e2, pb_k0_t2.eq_1, List.nil_append, View.writes_append]

/-- The normalizers of head 0 after the loop. -/
theorem den0 (c : Dev nD) (i : grid0.Coords) (arg3 : Memref sig .tc .vmem S1x256x512 .bf16) (harg3 : arg3.IsWhole) (arg4 : Memref sig .tc .vmem S1x8704x512 .bf16) (harg4 : arg4.IsWhole) (arg5 : Memref sig .tc .vmem S1x17x512x512 .bf16) (harg5 : arg5.IsWhole) (arg6 : Memref sig .tc .vmem S1x8704x256 .bf16) (harg6 : arg6.IsWhole) (arg7 : Memref sig .tc .vmem S1x256x512 .bf16) (harg7 : arg7.IsWhole) (arg8 : Memref sig .tc .vmem S256x512 .bf16) (harg8 : arg8.IsWhole) (arg9 : Memref sig .tc .vmem S4x256 .f32) (harg9 : arg9.IsWhole) (arg10 : Memref sig .tc .vmem S4x256 .f32) (harg10 : arg10.IsWhole) (arg11 : Memref sig .tc .vmem S4x128x256 .f32) (harg11 : arg11.IsWhole) (x0 : FVec Ideal S1x256x512 .bf16) (x1 : FVec Ideal S1x8704x512 .bf16) (x2 : FVec Ideal S1x17x512x512 .bf16) (x3 : FVec Ideal S1x8704x256 .bf16) (j : Fin 256) :
    (kernelRun0_A.sl.v54 (F := Ideal) c i arg3 harg3 arg4 harg4 arg5 harg5 arg6 harg6 arg7 harg7 arg8 harg8 arg9 harg9 arg10 harg10 arg11 harg11 x0 x1 x2 x3 (ix2 0 j) : EReal) = View.read (Elt Ideal) arg10.view (arg10.view.writes (Elt Ideal) (arg10.view.writes (Elt Ideal) arg10.view.junk (kernelRun0_A.sl.HS2_1 (F := Ideal))) (pb_k0_t1 (F := Ideal) Variants.none c none i arg3 harg3 arg4 harg4 arg5 harg5 arg6 harg6 arg7 harg7 arg8 harg8 arg9 harg9 arg10 harg10 arg11 harg11 (kernelRun0_A.sl.v0 i) (kernelRun0_A.sl.v20 i) (kernelRun0_A.sl.cst_14 (F := Ideal)) (harg4.unread x1) (harg5.unread x2) (harg6.unread x3) (arg8.view.writes (Elt Ideal) arg8.view.junk (kernelRun0_A.sl.HS0_1 (F := Ideal) c arg3 harg3 x0)) (arg9.view.writes (Elt Ideal) arg9.view.junk (kernelRun0_A.sl.HS1_1 (F := Ideal))) (arg10.view.writes (Elt Ideal) arg10.view.junk (kernelRun0_A.sl.HS2_1 (F := Ideal))) (arg11.view.writes (Elt Ideal) arg11.view.junk (kernelRun0_A.sl.HS3_1 (F := Ideal))) (Scf.trips (k0_t1_loop i).lb (k0_t1_loop i).ub (k0_t1_loop i).st)).2.1) (ix2 0 j) := by
  have e2 : Scf.trips (k0_t2_loop i).lb (k0_t2_loop i).ub (k0_t2_loop i).st = 0 := Nat.le_zero.1 (k0_t2_abs i).2.1
  unfold kernelRun0_A.sl.v54
  refine (cov2_0 arg10.view _ j).trans ?_
  rw [e2, pb_k0_t2.eq_1, List.nil_append, View.writes_append]

/-- A point's output in head 0: the numerator over the normalizer the loop leaves, zeroed in the first rows. -/
theorem out0 (c : Dev nD) (i : grid0.Coords) (arg3 : Memref sig .tc .vmem S1x256x512 .bf16) (harg3 : arg3.IsWhole) (arg4 : Memref sig .tc .vmem S1x8704x512 .bf16) (harg4 : arg4.IsWhole) (arg5 : Memref sig .tc .vmem S1x17x512x512 .bf16) (harg5 : arg5.IsWhole) (arg6 : Memref sig .tc .vmem S1x8704x256 .bf16) (harg6 : arg6.IsWhole) (arg7 : Memref sig .tc .vmem S1x256x512 .bf16) (harg7 : arg7.IsWhole) (arg8 : Memref sig .tc .vmem S256x512 .bf16) (harg8 : arg8.IsWhole) (arg9 : Memref sig .tc .vmem S4x256 .f32) (harg9 : arg9.IsWhole) (arg10 : Memref sig .tc .vmem S4x256 .f32) (harg10 : arg10.IsWhole) (arg11 : Memref sig .tc .vmem S4x128x256 .f32) (harg11 : arg11.IsWhole) (x0 : FVec Ideal S1x256x512 .bf16) (x1 : FVec Ideal S1x8704x512 .bf16) (x2 : FVec Ideal S1x17x512x512 .bf16) (x3 : FVec Ideal S1x8704x256 .bf16) (j : Fin 256) (d : Fin 128) (n : Fin 512) (hn : n.val = 0 + d.val) :
    (out0_A_4 (F := Ideal) c i arg3 harg3 arg4 harg4 arg5 harg5 arg6 harg6 arg7 harg7 arg8 harg8 arg9 harg9 arg10 harg10 arg11 harg11 x0 x1 x2 x3 (ix3 0 j n) : EReal) =
      Scalar.select (IntOp.cmpi .sge (IntOp.addi (kernelRun0_A.sl.v0 i) (BitVec.ofNat 32 j.val)) 496#32)
        (Ideal.div (View.read (Elt Ideal) arg11.view (arg11.view.writes (Elt Ideal) (arg11.view.writes (Elt Ideal) arg11.view.junk (kernelRun0_A.sl.HS3_1 (F := Ideal))) (pb_k0_t1 (F := Ideal) Variants.none c none i arg3 harg3 arg4 harg4 arg5 harg5 arg6 harg6 arg7 harg7 arg8 harg8 arg9 harg9 arg10 harg10 arg11 harg11 (kernelRun0_A.sl.v0 i) (kernelRun0_A.sl.v20 i) (kernelRun0_A.sl.cst_14 (F := Ideal)) (harg4.unread x1) (harg5.unread x2) (harg6.unread x3) (arg8.view.writes (Elt Ideal) arg8.view.junk (kernelRun0_A.sl.HS0_1 (F := Ideal) c arg3 harg3 x0)) (arg9.view.writes (Elt Ideal) arg9.view.junk (kernelRun0_A.sl.HS1_1 (F := Ideal))) (arg10.view.writes (Elt Ideal) arg10.view.junk (kernelRun0_A.sl.HS2_1 (F := Ideal))) (arg11.view.writes (Elt Ideal) arg11.view.junk (kernelRun0_A.sl.HS3_1 (F := Ideal))) (Scf.trips (k0_t1_loop i).lb (k0_t1_loop i).ub (k0_t1_loop i).st)).2.2) (ix3 0 d j)) (View.read (Elt Ideal) arg10.view (arg10.view.writes (Elt Ideal) (arg10.view.writes (Elt Ideal) arg10.view.junk (kernelRun0_A.sl.HS2_1 (F := Ideal))) (pb_k0_t1 (F := Ideal) Variants.none c none i arg3 harg3 arg4 harg4 arg5 harg5 arg6 harg6 arg7 harg7 arg8 harg8 arg9 harg9 arg10 harg10 arg11 harg11 (kernelRun0_A.sl.v0 i) (kernelRun0_A.sl.v20 i) (kernelRun0_A.sl.cst_14 (F := Ideal)) (harg4.unread x1) (harg5.unread x2) (harg6.unread x3) (arg8.view.writes (Elt Ideal) arg8.view.junk (kernelRun0_A.sl.HS0_1 (F := Ideal) c arg3 harg3 x0)) (arg9.view.writes (Elt Ideal) arg9.view.junk (kernelRun0_A.sl.HS1_1 (F := Ideal))) (arg10.view.writes (Elt Ideal) arg10.view.junk (kernelRun0_A.sl.HS2_1 (F := Ideal))) (arg11.view.writes (Elt Ideal) arg11.view.junk (kernelRun0_A.sl.HS3_1 (F := Ideal))) (Scf.trips (k0_t1_loop i).lb (k0_t1_loop i).ub (k0_t1_loop i).st)).2.1) (ix2 0 j))) 0 := by
  rw [← num0, ← den0]
  unfold out0_A_4
  unfold kernelRun0_A
  dsimp only
  refine (View.read_writes_cons_unit_of_not_mem (Val := Elt Ideal) VO0_4 VO0_4.junk inb_S1x256x512_S1x256x128_0_0_384 _ _ (ix3 0 j n) rfl (2 : Fin 3) (by left; show n.val < 384; omega)).trans ?_
  refine (View.read_writes_cons_unit_of_not_mem (Val := Elt Ideal) VO0_4 VO0_4.junk inb_S1x256x512_S1x256x128_0_0_256 _ _ (ix3 0 j n) rfl (2 : Fin 3) (by left; show n.val < 256; omega)).trans ?_
  refine (View.read_writes_cons_unit_of_not_mem (Val := Elt Ideal) VO0_4 VO0_4.junk inb_S1x256x512_S1x256x128_0_0_128 _ _ (ix3 0 j n) rfl (2 : Fin 3) (by left; show n.val < 128; omega)).trans ?_
  refine (View.read_writes_cons_unit_of_mem (Val := Elt Ideal) VO0_4 VO0_4.junk inb_S1x256x512_S1x256x128_0_0_0 _ _ (ix3 0 j n) (ix3 0 j d) rfl (fun a => match a with
    | ⟨0, _⟩ => rfl
    | ⟨1, _⟩ => (Nat.zero_add _).symm
    | ⟨2, _⟩ => hn)).trans ?_
  exact pay73_apply (kernelRun0_A.sl.v0 i) (kernelRun0_A.sl.v52 (F := Ideal) c i arg3 harg3 arg4 harg4 arg5 harg5 arg6 harg6 arg7 harg7 arg8 harg8 arg9 harg9 arg10 harg10 arg11 harg11 x0 x1 x2 x3) (kernelRun0_A.sl.v54 (F := Ideal) c i arg3 harg3 arg4 harg4 arg5 harg5 arg6 harg6 arg7 harg7 arg8 harg8 arg9 harg9 arg10 harg10 arg11 harg11 x0 x1 x2 x3) j d

/-- The numerators of head 1 after the loop. -/
theorem num1 (c : Dev nD) (i : grid0.Coords) (arg3 : Memref sig .tc .vmem S1x256x512 .bf16) (harg3 : arg3.IsWhole) (arg4 : Memref sig .tc .vmem S1x8704x512 .bf16) (harg4 : arg4.IsWhole) (arg5 : Memref sig .tc .vmem S1x17x512x512 .bf16) (harg5 : arg5.IsWhole) (arg6 : Memref sig .tc .vmem S1x8704x256 .bf16) (harg6 : arg6.IsWhole) (arg7 : Memref sig .tc .vmem S1x256x512 .bf16) (harg7 : arg7.IsWhole) (arg8 : Memref sig .tc .vmem S256x512 .bf16) (harg8 : arg8.IsWhole) (arg9 : Memref sig .tc .vmem S4x256 .f32) (harg9 : arg9.IsWhole) (arg10 : Memref sig .tc .vmem S4x256 .f32) (harg10 : arg10.IsWhole) (arg11 : Memref sig .tc .vmem S4x128x256 .f32) (harg11 : arg11.IsWhole) (x0 : FVec Ideal S1x256x512 .bf16) (x1 : FVec Ideal S1x8704x512 .bf16) (x2 : FVec Ideal S1x17x512x512 .bf16) (x3 : FVec Ideal S1x8704x256 .bf16) (j : Fin 256) (d : Fin 128) :
    (kernelRun0_A.sl.v66 (F := Ideal) c i arg3 harg3 arg4 harg4 arg5 harg5 arg6 harg6 arg7 harg7 arg8 harg8 arg9 harg9 arg10 harg10 arg11 harg11 x0 x1 x2 x3 (ix3 0 d j) : EReal) = View.read (Elt Ideal) arg11.view (arg11.view.writes (Elt Ideal) (arg11.view.writes (Elt Ideal) arg11.view.junk (kernelRun0_A.sl.HS3_1 (F := Ideal))) (pb_k0_t1 (F := Ideal) Variants.none c none i arg3 harg3 arg4 harg4 arg5 harg5 arg6 harg6 arg7 harg7 arg8 harg8 arg9 harg9 arg10 harg10 arg11 harg11 (kernelRun0_A.sl.v0 i) (kernelRun0_A.sl.v20 i) (kernelRun0_A.sl.cst_14 (F := Ideal)) (harg4.unread x1) (harg5.unread x2) (harg6.unread x3) (arg8.view.writes (Elt Ideal) arg8.view.junk (kernelRun0_A.sl.HS0_1 (F := Ideal) c arg3 harg3 x0)) (arg9.view.writes (Elt Ideal) arg9.view.junk (kernelRun0_A.sl.HS1_1 (F := Ideal))) (arg10.view.writes (Elt Ideal) arg10.view.junk (kernelRun0_A.sl.HS2_1 (F := Ideal))) (arg11.view.writes (Elt Ideal) arg11.view.junk (kernelRun0_A.sl.HS3_1 (F := Ideal))) (Scf.trips (k0_t1_loop i).lb (k0_t1_loop i).ub (k0_t1_loop i).st)).2.2) (ix3 1 d j) := by
  have e2 : Scf.trips (k0_t2_loop i).lb (k0_t2_loop i).ub (k0_t2_loop i).st = 0 := Nat.le_zero.1 (k0_t2_abs i).2.1
  unfold kernelRun0_A.sl.v66
  refine (cov3_1 arg11.view _ d j).trans ?_
  rw [e2, pb_k0_t2.eq_1, List.nil_append, View.writes_append]

/-- The normalizers of head 1 after the loop. -/
theorem den1 (c : Dev nD) (i : grid0.Coords) (arg3 : Memref sig .tc .vmem S1x256x512 .bf16) (harg3 : arg3.IsWhole) (arg4 : Memref sig .tc .vmem S1x8704x512 .bf16) (harg4 : arg4.IsWhole) (arg5 : Memref sig .tc .vmem S1x17x512x512 .bf16) (harg5 : arg5.IsWhole) (arg6 : Memref sig .tc .vmem S1x8704x256 .bf16) (harg6 : arg6.IsWhole) (arg7 : Memref sig .tc .vmem S1x256x512 .bf16) (harg7 : arg7.IsWhole) (arg8 : Memref sig .tc .vmem S256x512 .bf16) (harg8 : arg8.IsWhole) (arg9 : Memref sig .tc .vmem S4x256 .f32) (harg9 : arg9.IsWhole) (arg10 : Memref sig .tc .vmem S4x256 .f32) (harg10 : arg10.IsWhole) (arg11 : Memref sig .tc .vmem S4x128x256 .f32) (harg11 : arg11.IsWhole) (x0 : FVec Ideal S1x256x512 .bf16) (x1 : FVec Ideal S1x8704x512 .bf16) (x2 : FVec Ideal S1x17x512x512 .bf16) (x3 : FVec Ideal S1x8704x256 .bf16) (j : Fin 256) :
    (kernelRun0_A.sl.v68 (F := Ideal) c i arg3 harg3 arg4 harg4 arg5 harg5 arg6 harg6 arg7 harg7 arg8 harg8 arg9 harg9 arg10 harg10 arg11 harg11 x0 x1 x2 x3 (ix2 0 j) : EReal) = View.read (Elt Ideal) arg10.view (arg10.view.writes (Elt Ideal) (arg10.view.writes (Elt Ideal) arg10.view.junk (kernelRun0_A.sl.HS2_1 (F := Ideal))) (pb_k0_t1 (F := Ideal) Variants.none c none i arg3 harg3 arg4 harg4 arg5 harg5 arg6 harg6 arg7 harg7 arg8 harg8 arg9 harg9 arg10 harg10 arg11 harg11 (kernelRun0_A.sl.v0 i) (kernelRun0_A.sl.v20 i) (kernelRun0_A.sl.cst_14 (F := Ideal)) (harg4.unread x1) (harg5.unread x2) (harg6.unread x3) (arg8.view.writes (Elt Ideal) arg8.view.junk (kernelRun0_A.sl.HS0_1 (F := Ideal) c arg3 harg3 x0)) (arg9.view.writes (Elt Ideal) arg9.view.junk (kernelRun0_A.sl.HS1_1 (F := Ideal))) (arg10.view.writes (Elt Ideal) arg10.view.junk (kernelRun0_A.sl.HS2_1 (F := Ideal))) (arg11.view.writes (Elt Ideal) arg11.view.junk (kernelRun0_A.sl.HS3_1 (F := Ideal))) (Scf.trips (k0_t1_loop i).lb (k0_t1_loop i).ub (k0_t1_loop i).st)).2.1) (ix2 1 j) := by
  have e2 : Scf.trips (k0_t2_loop i).lb (k0_t2_loop i).ub (k0_t2_loop i).st = 0 := Nat.le_zero.1 (k0_t2_abs i).2.1
  unfold kernelRun0_A.sl.v68
  refine (cov2_1 arg10.view _ j).trans ?_
  rw [e2, pb_k0_t2.eq_1, List.nil_append, View.writes_append]

/-- A point's output in head 1: the numerator over the normalizer the loop leaves, zeroed in the first rows. -/
theorem out1 (c : Dev nD) (i : grid0.Coords) (arg3 : Memref sig .tc .vmem S1x256x512 .bf16) (harg3 : arg3.IsWhole) (arg4 : Memref sig .tc .vmem S1x8704x512 .bf16) (harg4 : arg4.IsWhole) (arg5 : Memref sig .tc .vmem S1x17x512x512 .bf16) (harg5 : arg5.IsWhole) (arg6 : Memref sig .tc .vmem S1x8704x256 .bf16) (harg6 : arg6.IsWhole) (arg7 : Memref sig .tc .vmem S1x256x512 .bf16) (harg7 : arg7.IsWhole) (arg8 : Memref sig .tc .vmem S256x512 .bf16) (harg8 : arg8.IsWhole) (arg9 : Memref sig .tc .vmem S4x256 .f32) (harg9 : arg9.IsWhole) (arg10 : Memref sig .tc .vmem S4x256 .f32) (harg10 : arg10.IsWhole) (arg11 : Memref sig .tc .vmem S4x128x256 .f32) (harg11 : arg11.IsWhole) (x0 : FVec Ideal S1x256x512 .bf16) (x1 : FVec Ideal S1x8704x512 .bf16) (x2 : FVec Ideal S1x17x512x512 .bf16) (x3 : FVec Ideal S1x8704x256 .bf16) (j : Fin 256) (d : Fin 128) (n : Fin 512) (hn : n.val = 128 + d.val) :
    (out0_A_4 (F := Ideal) c i arg3 harg3 arg4 harg4 arg5 harg5 arg6 harg6 arg7 harg7 arg8 harg8 arg9 harg9 arg10 harg10 arg11 harg11 x0 x1 x2 x3 (ix3 0 j n) : EReal) =
      Scalar.select (IntOp.cmpi .sge (IntOp.addi (kernelRun0_A.sl.v0 i) (BitVec.ofNat 32 j.val)) 496#32)
        (Ideal.div (View.read (Elt Ideal) arg11.view (arg11.view.writes (Elt Ideal) (arg11.view.writes (Elt Ideal) arg11.view.junk (kernelRun0_A.sl.HS3_1 (F := Ideal))) (pb_k0_t1 (F := Ideal) Variants.none c none i arg3 harg3 arg4 harg4 arg5 harg5 arg6 harg6 arg7 harg7 arg8 harg8 arg9 harg9 arg10 harg10 arg11 harg11 (kernelRun0_A.sl.v0 i) (kernelRun0_A.sl.v20 i) (kernelRun0_A.sl.cst_14 (F := Ideal)) (harg4.unread x1) (harg5.unread x2) (harg6.unread x3) (arg8.view.writes (Elt Ideal) arg8.view.junk (kernelRun0_A.sl.HS0_1 (F := Ideal) c arg3 harg3 x0)) (arg9.view.writes (Elt Ideal) arg9.view.junk (kernelRun0_A.sl.HS1_1 (F := Ideal))) (arg10.view.writes (Elt Ideal) arg10.view.junk (kernelRun0_A.sl.HS2_1 (F := Ideal))) (arg11.view.writes (Elt Ideal) arg11.view.junk (kernelRun0_A.sl.HS3_1 (F := Ideal))) (Scf.trips (k0_t1_loop i).lb (k0_t1_loop i).ub (k0_t1_loop i).st)).2.2) (ix3 1 d j)) (View.read (Elt Ideal) arg10.view (arg10.view.writes (Elt Ideal) (arg10.view.writes (Elt Ideal) arg10.view.junk (kernelRun0_A.sl.HS2_1 (F := Ideal))) (pb_k0_t1 (F := Ideal) Variants.none c none i arg3 harg3 arg4 harg4 arg5 harg5 arg6 harg6 arg7 harg7 arg8 harg8 arg9 harg9 arg10 harg10 arg11 harg11 (kernelRun0_A.sl.v0 i) (kernelRun0_A.sl.v20 i) (kernelRun0_A.sl.cst_14 (F := Ideal)) (harg4.unread x1) (harg5.unread x2) (harg6.unread x3) (arg8.view.writes (Elt Ideal) arg8.view.junk (kernelRun0_A.sl.HS0_1 (F := Ideal) c arg3 harg3 x0)) (arg9.view.writes (Elt Ideal) arg9.view.junk (kernelRun0_A.sl.HS1_1 (F := Ideal))) (arg10.view.writes (Elt Ideal) arg10.view.junk (kernelRun0_A.sl.HS2_1 (F := Ideal))) (arg11.view.writes (Elt Ideal) arg11.view.junk (kernelRun0_A.sl.HS3_1 (F := Ideal))) (Scf.trips (k0_t1_loop i).lb (k0_t1_loop i).ub (k0_t1_loop i).st)).2.1) (ix2 1 j))) 0 := by
  rw [← num1, ← den1]
  unfold out0_A_4
  unfold kernelRun0_A
  dsimp only
  refine (View.read_writes_cons_unit_of_not_mem (Val := Elt Ideal) VO0_4 VO0_4.junk inb_S1x256x512_S1x256x128_0_0_384 _ _ (ix3 0 j n) rfl (2 : Fin 3) (by left; show n.val < 384; omega)).trans ?_
  refine (View.read_writes_cons_unit_of_not_mem (Val := Elt Ideal) VO0_4 VO0_4.junk inb_S1x256x512_S1x256x128_0_0_256 _ _ (ix3 0 j n) rfl (2 : Fin 3) (by left; show n.val < 256; omega)).trans ?_
  refine (View.read_writes_cons_unit_of_mem (Val := Elt Ideal) VO0_4 VO0_4.junk inb_S1x256x512_S1x256x128_0_0_128 _ _ (ix3 0 j n) (ix3 0 j d) rfl (fun a => match a with
    | ⟨0, _⟩ => rfl
    | ⟨1, _⟩ => (Nat.zero_add _).symm
    | ⟨2, _⟩ => hn)).trans ?_
  exact pay73_apply (kernelRun0_A.sl.v0 i) (kernelRun0_A.sl.v66 (F := Ideal) c i arg3 harg3 arg4 harg4 arg5 harg5 arg6 harg6 arg7 harg7 arg8 harg8 arg9 harg9 arg10 harg10 arg11 harg11 x0 x1 x2 x3) (kernelRun0_A.sl.v68 (F := Ideal) c i arg3 harg3 arg4 harg4 arg5 harg5 arg6 harg6 arg7 harg7 arg8 harg8 arg9 harg9 arg10 harg10 arg11 harg11 x0 x1 x2 x3) j d

/-- The numerators of head 2 after the loop. -/
theorem num2 (c : Dev nD) (i : grid0.Coords) (arg3 : Memref sig .tc .vmem S1x256x512 .bf16) (harg3 : arg3.IsWhole) (arg4 : Memref sig .tc .vmem S1x8704x512 .bf16) (harg4 : arg4.IsWhole) (arg5 : Memref sig .tc .vmem S1x17x512x512 .bf16) (harg5 : arg5.IsWhole) (arg6 : Memref sig .tc .vmem S1x8704x256 .bf16) (harg6 : arg6.IsWhole) (arg7 : Memref sig .tc .vmem S1x256x512 .bf16) (harg7 : arg7.IsWhole) (arg8 : Memref sig .tc .vmem S256x512 .bf16) (harg8 : arg8.IsWhole) (arg9 : Memref sig .tc .vmem S4x256 .f32) (harg9 : arg9.IsWhole) (arg10 : Memref sig .tc .vmem S4x256 .f32) (harg10 : arg10.IsWhole) (arg11 : Memref sig .tc .vmem S4x128x256 .f32) (harg11 : arg11.IsWhole) (x0 : FVec Ideal S1x256x512 .bf16) (x1 : FVec Ideal S1x8704x512 .bf16) (x2 : FVec Ideal S1x17x512x512 .bf16) (x3 : FVec Ideal S1x8704x256 .bf16) (j : Fin 256) (d : Fin 128) :
    (kernelRun0_A.sl.v80 (F := Ideal) c i arg3 harg3 arg4 harg4 arg5 harg5 arg6 harg6 arg7 harg7 arg8 harg8 arg9 harg9 arg10 harg10 arg11 harg11 x0 x1 x2 x3 (ix3 0 d j) : EReal) = View.read (Elt Ideal) arg11.view (arg11.view.writes (Elt Ideal) (arg11.view.writes (Elt Ideal) arg11.view.junk (kernelRun0_A.sl.HS3_1 (F := Ideal))) (pb_k0_t1 (F := Ideal) Variants.none c none i arg3 harg3 arg4 harg4 arg5 harg5 arg6 harg6 arg7 harg7 arg8 harg8 arg9 harg9 arg10 harg10 arg11 harg11 (kernelRun0_A.sl.v0 i) (kernelRun0_A.sl.v20 i) (kernelRun0_A.sl.cst_14 (F := Ideal)) (harg4.unread x1) (harg5.unread x2) (harg6.unread x3) (arg8.view.writes (Elt Ideal) arg8.view.junk (kernelRun0_A.sl.HS0_1 (F := Ideal) c arg3 harg3 x0)) (arg9.view.writes (Elt Ideal) arg9.view.junk (kernelRun0_A.sl.HS1_1 (F := Ideal))) (arg10.view.writes (Elt Ideal) arg10.view.junk (kernelRun0_A.sl.HS2_1 (F := Ideal))) (arg11.view.writes (Elt Ideal) arg11.view.junk (kernelRun0_A.sl.HS3_1 (F := Ideal))) (Scf.trips (k0_t1_loop i).lb (k0_t1_loop i).ub (k0_t1_loop i).st)).2.2) (ix3 2 d j) := by
  have e2 : Scf.trips (k0_t2_loop i).lb (k0_t2_loop i).ub (k0_t2_loop i).st = 0 := Nat.le_zero.1 (k0_t2_abs i).2.1
  unfold kernelRun0_A.sl.v80
  refine (cov3_2 arg11.view _ d j).trans ?_
  rw [e2, pb_k0_t2.eq_1, List.nil_append, View.writes_append]

/-- The normalizers of head 2 after the loop. -/
theorem den2 (c : Dev nD) (i : grid0.Coords) (arg3 : Memref sig .tc .vmem S1x256x512 .bf16) (harg3 : arg3.IsWhole) (arg4 : Memref sig .tc .vmem S1x8704x512 .bf16) (harg4 : arg4.IsWhole) (arg5 : Memref sig .tc .vmem S1x17x512x512 .bf16) (harg5 : arg5.IsWhole) (arg6 : Memref sig .tc .vmem S1x8704x256 .bf16) (harg6 : arg6.IsWhole) (arg7 : Memref sig .tc .vmem S1x256x512 .bf16) (harg7 : arg7.IsWhole) (arg8 : Memref sig .tc .vmem S256x512 .bf16) (harg8 : arg8.IsWhole) (arg9 : Memref sig .tc .vmem S4x256 .f32) (harg9 : arg9.IsWhole) (arg10 : Memref sig .tc .vmem S4x256 .f32) (harg10 : arg10.IsWhole) (arg11 : Memref sig .tc .vmem S4x128x256 .f32) (harg11 : arg11.IsWhole) (x0 : FVec Ideal S1x256x512 .bf16) (x1 : FVec Ideal S1x8704x512 .bf16) (x2 : FVec Ideal S1x17x512x512 .bf16) (x3 : FVec Ideal S1x8704x256 .bf16) (j : Fin 256) :
    (kernelRun0_A.sl.v82 (F := Ideal) c i arg3 harg3 arg4 harg4 arg5 harg5 arg6 harg6 arg7 harg7 arg8 harg8 arg9 harg9 arg10 harg10 arg11 harg11 x0 x1 x2 x3 (ix2 0 j) : EReal) = View.read (Elt Ideal) arg10.view (arg10.view.writes (Elt Ideal) (arg10.view.writes (Elt Ideal) arg10.view.junk (kernelRun0_A.sl.HS2_1 (F := Ideal))) (pb_k0_t1 (F := Ideal) Variants.none c none i arg3 harg3 arg4 harg4 arg5 harg5 arg6 harg6 arg7 harg7 arg8 harg8 arg9 harg9 arg10 harg10 arg11 harg11 (kernelRun0_A.sl.v0 i) (kernelRun0_A.sl.v20 i) (kernelRun0_A.sl.cst_14 (F := Ideal)) (harg4.unread x1) (harg5.unread x2) (harg6.unread x3) (arg8.view.writes (Elt Ideal) arg8.view.junk (kernelRun0_A.sl.HS0_1 (F := Ideal) c arg3 harg3 x0)) (arg9.view.writes (Elt Ideal) arg9.view.junk (kernelRun0_A.sl.HS1_1 (F := Ideal))) (arg10.view.writes (Elt Ideal) arg10.view.junk (kernelRun0_A.sl.HS2_1 (F := Ideal))) (arg11.view.writes (Elt Ideal) arg11.view.junk (kernelRun0_A.sl.HS3_1 (F := Ideal))) (Scf.trips (k0_t1_loop i).lb (k0_t1_loop i).ub (k0_t1_loop i).st)).2.1) (ix2 2 j) := by
  have e2 : Scf.trips (k0_t2_loop i).lb (k0_t2_loop i).ub (k0_t2_loop i).st = 0 := Nat.le_zero.1 (k0_t2_abs i).2.1
  unfold kernelRun0_A.sl.v82
  refine (cov2_2 arg10.view _ j).trans ?_
  rw [e2, pb_k0_t2.eq_1, List.nil_append, View.writes_append]

/-- A point's output in head 2: the numerator over the normalizer the loop leaves, zeroed in the first rows. -/
theorem out2 (c : Dev nD) (i : grid0.Coords) (arg3 : Memref sig .tc .vmem S1x256x512 .bf16) (harg3 : arg3.IsWhole) (arg4 : Memref sig .tc .vmem S1x8704x512 .bf16) (harg4 : arg4.IsWhole) (arg5 : Memref sig .tc .vmem S1x17x512x512 .bf16) (harg5 : arg5.IsWhole) (arg6 : Memref sig .tc .vmem S1x8704x256 .bf16) (harg6 : arg6.IsWhole) (arg7 : Memref sig .tc .vmem S1x256x512 .bf16) (harg7 : arg7.IsWhole) (arg8 : Memref sig .tc .vmem S256x512 .bf16) (harg8 : arg8.IsWhole) (arg9 : Memref sig .tc .vmem S4x256 .f32) (harg9 : arg9.IsWhole) (arg10 : Memref sig .tc .vmem S4x256 .f32) (harg10 : arg10.IsWhole) (arg11 : Memref sig .tc .vmem S4x128x256 .f32) (harg11 : arg11.IsWhole) (x0 : FVec Ideal S1x256x512 .bf16) (x1 : FVec Ideal S1x8704x512 .bf16) (x2 : FVec Ideal S1x17x512x512 .bf16) (x3 : FVec Ideal S1x8704x256 .bf16) (j : Fin 256) (d : Fin 128) (n : Fin 512) (hn : n.val = 256 + d.val) :
    (out0_A_4 (F := Ideal) c i arg3 harg3 arg4 harg4 arg5 harg5 arg6 harg6 arg7 harg7 arg8 harg8 arg9 harg9 arg10 harg10 arg11 harg11 x0 x1 x2 x3 (ix3 0 j n) : EReal) =
      Scalar.select (IntOp.cmpi .sge (IntOp.addi (kernelRun0_A.sl.v0 i) (BitVec.ofNat 32 j.val)) 496#32)
        (Ideal.div (View.read (Elt Ideal) arg11.view (arg11.view.writes (Elt Ideal) (arg11.view.writes (Elt Ideal) arg11.view.junk (kernelRun0_A.sl.HS3_1 (F := Ideal))) (pb_k0_t1 (F := Ideal) Variants.none c none i arg3 harg3 arg4 harg4 arg5 harg5 arg6 harg6 arg7 harg7 arg8 harg8 arg9 harg9 arg10 harg10 arg11 harg11 (kernelRun0_A.sl.v0 i) (kernelRun0_A.sl.v20 i) (kernelRun0_A.sl.cst_14 (F := Ideal)) (harg4.unread x1) (harg5.unread x2) (harg6.unread x3) (arg8.view.writes (Elt Ideal) arg8.view.junk (kernelRun0_A.sl.HS0_1 (F := Ideal) c arg3 harg3 x0)) (arg9.view.writes (Elt Ideal) arg9.view.junk (kernelRun0_A.sl.HS1_1 (F := Ideal))) (arg10.view.writes (Elt Ideal) arg10.view.junk (kernelRun0_A.sl.HS2_1 (F := Ideal))) (arg11.view.writes (Elt Ideal) arg11.view.junk (kernelRun0_A.sl.HS3_1 (F := Ideal))) (Scf.trips (k0_t1_loop i).lb (k0_t1_loop i).ub (k0_t1_loop i).st)).2.2) (ix3 2 d j)) (View.read (Elt Ideal) arg10.view (arg10.view.writes (Elt Ideal) (arg10.view.writes (Elt Ideal) arg10.view.junk (kernelRun0_A.sl.HS2_1 (F := Ideal))) (pb_k0_t1 (F := Ideal) Variants.none c none i arg3 harg3 arg4 harg4 arg5 harg5 arg6 harg6 arg7 harg7 arg8 harg8 arg9 harg9 arg10 harg10 arg11 harg11 (kernelRun0_A.sl.v0 i) (kernelRun0_A.sl.v20 i) (kernelRun0_A.sl.cst_14 (F := Ideal)) (harg4.unread x1) (harg5.unread x2) (harg6.unread x3) (arg8.view.writes (Elt Ideal) arg8.view.junk (kernelRun0_A.sl.HS0_1 (F := Ideal) c arg3 harg3 x0)) (arg9.view.writes (Elt Ideal) arg9.view.junk (kernelRun0_A.sl.HS1_1 (F := Ideal))) (arg10.view.writes (Elt Ideal) arg10.view.junk (kernelRun0_A.sl.HS2_1 (F := Ideal))) (arg11.view.writes (Elt Ideal) arg11.view.junk (kernelRun0_A.sl.HS3_1 (F := Ideal))) (Scf.trips (k0_t1_loop i).lb (k0_t1_loop i).ub (k0_t1_loop i).st)).2.1) (ix2 2 j))) 0 := by
  rw [← num2, ← den2]
  unfold out0_A_4
  unfold kernelRun0_A
  dsimp only
  refine (View.read_writes_cons_unit_of_not_mem (Val := Elt Ideal) VO0_4 VO0_4.junk inb_S1x256x512_S1x256x128_0_0_384 _ _ (ix3 0 j n) rfl (2 : Fin 3) (by left; show n.val < 384; omega)).trans ?_
  refine (View.read_writes_cons_unit_of_mem (Val := Elt Ideal) VO0_4 VO0_4.junk inb_S1x256x512_S1x256x128_0_0_256 _ _ (ix3 0 j n) (ix3 0 j d) rfl (fun a => match a with
    | ⟨0, _⟩ => rfl
    | ⟨1, _⟩ => (Nat.zero_add _).symm
    | ⟨2, _⟩ => hn)).trans ?_
  exact pay73_apply (kernelRun0_A.sl.v0 i) (kernelRun0_A.sl.v80 (F := Ideal) c i arg3 harg3 arg4 harg4 arg5 harg5 arg6 harg6 arg7 harg7 arg8 harg8 arg9 harg9 arg10 harg10 arg11 harg11 x0 x1 x2 x3) (kernelRun0_A.sl.v82 (F := Ideal) c i arg3 harg3 arg4 harg4 arg5 harg5 arg6 harg6 arg7 harg7 arg8 harg8 arg9 harg9 arg10 harg10 arg11 harg11 x0 x1 x2 x3) j d

/-- The numerators of head 3 after the loop. -/
theorem num3 (c : Dev nD) (i : grid0.Coords) (arg3 : Memref sig .tc .vmem S1x256x512 .bf16) (harg3 : arg3.IsWhole) (arg4 : Memref sig .tc .vmem S1x8704x512 .bf16) (harg4 : arg4.IsWhole) (arg5 : Memref sig .tc .vmem S1x17x512x512 .bf16) (harg5 : arg5.IsWhole) (arg6 : Memref sig .tc .vmem S1x8704x256 .bf16) (harg6 : arg6.IsWhole) (arg7 : Memref sig .tc .vmem S1x256x512 .bf16) (harg7 : arg7.IsWhole) (arg8 : Memref sig .tc .vmem S256x512 .bf16) (harg8 : arg8.IsWhole) (arg9 : Memref sig .tc .vmem S4x256 .f32) (harg9 : arg9.IsWhole) (arg10 : Memref sig .tc .vmem S4x256 .f32) (harg10 : arg10.IsWhole) (arg11 : Memref sig .tc .vmem S4x128x256 .f32) (harg11 : arg11.IsWhole) (x0 : FVec Ideal S1x256x512 .bf16) (x1 : FVec Ideal S1x8704x512 .bf16) (x2 : FVec Ideal S1x17x512x512 .bf16) (x3 : FVec Ideal S1x8704x256 .bf16) (j : Fin 256) (d : Fin 128) :
    (kernelRun0_A.sl.v94 (F := Ideal) c i arg3 harg3 arg4 harg4 arg5 harg5 arg6 harg6 arg7 harg7 arg8 harg8 arg9 harg9 arg10 harg10 arg11 harg11 x0 x1 x2 x3 (ix3 0 d j) : EReal) = View.read (Elt Ideal) arg11.view (arg11.view.writes (Elt Ideal) (arg11.view.writes (Elt Ideal) arg11.view.junk (kernelRun0_A.sl.HS3_1 (F := Ideal))) (pb_k0_t1 (F := Ideal) Variants.none c none i arg3 harg3 arg4 harg4 arg5 harg5 arg6 harg6 arg7 harg7 arg8 harg8 arg9 harg9 arg10 harg10 arg11 harg11 (kernelRun0_A.sl.v0 i) (kernelRun0_A.sl.v20 i) (kernelRun0_A.sl.cst_14 (F := Ideal)) (harg4.unread x1) (harg5.unread x2) (harg6.unread x3) (arg8.view.writes (Elt Ideal) arg8.view.junk (kernelRun0_A.sl.HS0_1 (F := Ideal) c arg3 harg3 x0)) (arg9.view.writes (Elt Ideal) arg9.view.junk (kernelRun0_A.sl.HS1_1 (F := Ideal))) (arg10.view.writes (Elt Ideal) arg10.view.junk (kernelRun0_A.sl.HS2_1 (F := Ideal))) (arg11.view.writes (Elt Ideal) arg11.view.junk (kernelRun0_A.sl.HS3_1 (F := Ideal))) (Scf.trips (k0_t1_loop i).lb (k0_t1_loop i).ub (k0_t1_loop i).st)).2.2) (ix3 3 d j) := by
  have e2 : Scf.trips (k0_t2_loop i).lb (k0_t2_loop i).ub (k0_t2_loop i).st = 0 := Nat.le_zero.1 (k0_t2_abs i).2.1
  unfold kernelRun0_A.sl.v94
  refine (cov3_3 arg11.view _ d j).trans ?_
  rw [e2, pb_k0_t2.eq_1, List.nil_append, View.writes_append]

/-- The normalizers of head 3 after the loop. -/
theorem den3 (c : Dev nD) (i : grid0.Coords) (arg3 : Memref sig .tc .vmem S1x256x512 .bf16) (harg3 : arg3.IsWhole) (arg4 : Memref sig .tc .vmem S1x8704x512 .bf16) (harg4 : arg4.IsWhole) (arg5 : Memref sig .tc .vmem S1x17x512x512 .bf16) (harg5 : arg5.IsWhole) (arg6 : Memref sig .tc .vmem S1x8704x256 .bf16) (harg6 : arg6.IsWhole) (arg7 : Memref sig .tc .vmem S1x256x512 .bf16) (harg7 : arg7.IsWhole) (arg8 : Memref sig .tc .vmem S256x512 .bf16) (harg8 : arg8.IsWhole) (arg9 : Memref sig .tc .vmem S4x256 .f32) (harg9 : arg9.IsWhole) (arg10 : Memref sig .tc .vmem S4x256 .f32) (harg10 : arg10.IsWhole) (arg11 : Memref sig .tc .vmem S4x128x256 .f32) (harg11 : arg11.IsWhole) (x0 : FVec Ideal S1x256x512 .bf16) (x1 : FVec Ideal S1x8704x512 .bf16) (x2 : FVec Ideal S1x17x512x512 .bf16) (x3 : FVec Ideal S1x8704x256 .bf16) (j : Fin 256) :
    (kernelRun0_A.sl.v96 (F := Ideal) c i arg3 harg3 arg4 harg4 arg5 harg5 arg6 harg6 arg7 harg7 arg8 harg8 arg9 harg9 arg10 harg10 arg11 harg11 x0 x1 x2 x3 (ix2 0 j) : EReal) = View.read (Elt Ideal) arg10.view (arg10.view.writes (Elt Ideal) (arg10.view.writes (Elt Ideal) arg10.view.junk (kernelRun0_A.sl.HS2_1 (F := Ideal))) (pb_k0_t1 (F := Ideal) Variants.none c none i arg3 harg3 arg4 harg4 arg5 harg5 arg6 harg6 arg7 harg7 arg8 harg8 arg9 harg9 arg10 harg10 arg11 harg11 (kernelRun0_A.sl.v0 i) (kernelRun0_A.sl.v20 i) (kernelRun0_A.sl.cst_14 (F := Ideal)) (harg4.unread x1) (harg5.unread x2) (harg6.unread x3) (arg8.view.writes (Elt Ideal) arg8.view.junk (kernelRun0_A.sl.HS0_1 (F := Ideal) c arg3 harg3 x0)) (arg9.view.writes (Elt Ideal) arg9.view.junk (kernelRun0_A.sl.HS1_1 (F := Ideal))) (arg10.view.writes (Elt Ideal) arg10.view.junk (kernelRun0_A.sl.HS2_1 (F := Ideal))) (arg11.view.writes (Elt Ideal) arg11.view.junk (kernelRun0_A.sl.HS3_1 (F := Ideal))) (Scf.trips (k0_t1_loop i).lb (k0_t1_loop i).ub (k0_t1_loop i).st)).2.1) (ix2 3 j) := by
  have e2 : Scf.trips (k0_t2_loop i).lb (k0_t2_loop i).ub (k0_t2_loop i).st = 0 := Nat.le_zero.1 (k0_t2_abs i).2.1
  unfold kernelRun0_A.sl.v96
  refine (cov2_3 arg10.view _ j).trans ?_
  rw [e2, pb_k0_t2.eq_1, List.nil_append, View.writes_append]

/-- A point's output in head 3: the numerator over the normalizer the loop leaves, zeroed in the first rows. -/
theorem out3 (c : Dev nD) (i : grid0.Coords) (arg3 : Memref sig .tc .vmem S1x256x512 .bf16) (harg3 : arg3.IsWhole) (arg4 : Memref sig .tc .vmem S1x8704x512 .bf16) (harg4 : arg4.IsWhole) (arg5 : Memref sig .tc .vmem S1x17x512x512 .bf16) (harg5 : arg5.IsWhole) (arg6 : Memref sig .tc .vmem S1x8704x256 .bf16) (harg6 : arg6.IsWhole) (arg7 : Memref sig .tc .vmem S1x256x512 .bf16) (harg7 : arg7.IsWhole) (arg8 : Memref sig .tc .vmem S256x512 .bf16) (harg8 : arg8.IsWhole) (arg9 : Memref sig .tc .vmem S4x256 .f32) (harg9 : arg9.IsWhole) (arg10 : Memref sig .tc .vmem S4x256 .f32) (harg10 : arg10.IsWhole) (arg11 : Memref sig .tc .vmem S4x128x256 .f32) (harg11 : arg11.IsWhole) (x0 : FVec Ideal S1x256x512 .bf16) (x1 : FVec Ideal S1x8704x512 .bf16) (x2 : FVec Ideal S1x17x512x512 .bf16) (x3 : FVec Ideal S1x8704x256 .bf16) (j : Fin 256) (d : Fin 128) (n : Fin 512) (hn : n.val = 384 + d.val) :
    (out0_A_4 (F := Ideal) c i arg3 harg3 arg4 harg4 arg5 harg5 arg6 harg6 arg7 harg7 arg8 harg8 arg9 harg9 arg10 harg10 arg11 harg11 x0 x1 x2 x3 (ix3 0 j n) : EReal) =
      Scalar.select (IntOp.cmpi .sge (IntOp.addi (kernelRun0_A.sl.v0 i) (BitVec.ofNat 32 j.val)) 496#32)
        (Ideal.div (View.read (Elt Ideal) arg11.view (arg11.view.writes (Elt Ideal) (arg11.view.writes (Elt Ideal) arg11.view.junk (kernelRun0_A.sl.HS3_1 (F := Ideal))) (pb_k0_t1 (F := Ideal) Variants.none c none i arg3 harg3 arg4 harg4 arg5 harg5 arg6 harg6 arg7 harg7 arg8 harg8 arg9 harg9 arg10 harg10 arg11 harg11 (kernelRun0_A.sl.v0 i) (kernelRun0_A.sl.v20 i) (kernelRun0_A.sl.cst_14 (F := Ideal)) (harg4.unread x1) (harg5.unread x2) (harg6.unread x3) (arg8.view.writes (Elt Ideal) arg8.view.junk (kernelRun0_A.sl.HS0_1 (F := Ideal) c arg3 harg3 x0)) (arg9.view.writes (Elt Ideal) arg9.view.junk (kernelRun0_A.sl.HS1_1 (F := Ideal))) (arg10.view.writes (Elt Ideal) arg10.view.junk (kernelRun0_A.sl.HS2_1 (F := Ideal))) (arg11.view.writes (Elt Ideal) arg11.view.junk (kernelRun0_A.sl.HS3_1 (F := Ideal))) (Scf.trips (k0_t1_loop i).lb (k0_t1_loop i).ub (k0_t1_loop i).st)).2.2) (ix3 3 d j)) (View.read (Elt Ideal) arg10.view (arg10.view.writes (Elt Ideal) (arg10.view.writes (Elt Ideal) arg10.view.junk (kernelRun0_A.sl.HS2_1 (F := Ideal))) (pb_k0_t1 (F := Ideal) Variants.none c none i arg3 harg3 arg4 harg4 arg5 harg5 arg6 harg6 arg7 harg7 arg8 harg8 arg9 harg9 arg10 harg10 arg11 harg11 (kernelRun0_A.sl.v0 i) (kernelRun0_A.sl.v20 i) (kernelRun0_A.sl.cst_14 (F := Ideal)) (harg4.unread x1) (harg5.unread x2) (harg6.unread x3) (arg8.view.writes (Elt Ideal) arg8.view.junk (kernelRun0_A.sl.HS0_1 (F := Ideal) c arg3 harg3 x0)) (arg9.view.writes (Elt Ideal) arg9.view.junk (kernelRun0_A.sl.HS1_1 (F := Ideal))) (arg10.view.writes (Elt Ideal) arg10.view.junk (kernelRun0_A.sl.HS2_1 (F := Ideal))) (arg11.view.writes (Elt Ideal) arg11.view.junk (kernelRun0_A.sl.HS3_1 (F := Ideal))) (Scf.trips (k0_t1_loop i).lb (k0_t1_loop i).ub (k0_t1_loop i).st)).2.1) (ix2 3 j))) 0 := by
  rw [← num3, ← den3]
  unfold out0_A_4
  unfold kernelRun0_A
  dsimp only
  refine (View.read_writes_cons_unit_of_mem (Val := Elt Ideal) VO0_4 VO0_4.junk inb_S1x256x512_S1x256x128_0_0_384 _ _ (ix3 0 j n) (ix3 0 j d) rfl (fun a => match a with
    | ⟨0, _⟩ => rfl
    | ⟨1, _⟩ => (Nat.zero_add _).symm
    | ⟨2, _⟩ => hn)).trans ?_
  exact pay73_apply (kernelRun0_A.sl.v0 i) (kernelRun0_A.sl.v94 (F := Ideal) c i arg3 harg3 arg4 harg4 arg5 harg5 arg6 harg6 arg7 harg7 arg8 harg8 arg9 harg9 arg10 harg10 arg11 harg11 x0 x1 x2 x3) (kernelRun0_A.sl.v96 (F := Ideal) c i arg3 harg3 arg4 harg4 arg5 harg5 arg6 harg6 arg7 harg7 arg8 harg8 arg9 harg9 arg10 harg10 arg11 harg11 x0 x1 x2 x3) j d
end Cert.AttnIdeal.RefValue
-- ==== Proof.AttnMean.lean ====
module

public import proofs.«01_k».proof.Proof.AttnPoint
public import Idealize.ShloMosaic.Lib.Pointwise
public import Idealize.ShloMosaic.Lib.Pipeline.ReadBack
public import Idealize.ShloMosaic.Lib.Pipeline.ValueKit.Tiles

@[expose] public section

set_option maxRecDepth 16384

noncomputable section

namespace Cert.AttnIdeal.RefValue
open Cert.AttnIdeal Cert.AttnIdeal.Gen Idealize.ShloMosaic Idealize.ShloMosaic.TcCoe Idealize.SL.Sem
open Idealize.ShloMosaic.Tactic Cert.AttnMath
open Idealize.ShloMosaic.Pipeline (Dat)

/-- A point's chunks: up to the one with the block's last query. -/
theorem trips_eq (i : grid0.Coords) : Scf.trips (k0_t1_loop i).lb (k0_t1_loop i).ub (k0_t1_loop i).st = (256 * (i 2).val + 255) / 512 + 1 := by
  have h_c0_i32_22 : Affine.IsInt 0#32 (0) := Affine.ofNat _ (by omega)
  have r_i2 : (i 2).val < 34 := (i 2).isLt
  have h_arg2 : Affine.IsInt (BitVec.ofNat 32 (i 2).val) (((i 2).val : Int)) := Affine.ofNat _ (by omega)
  have h_c256_i32 : Affine.IsInt 256#32 (256) := Affine.ofNat _ (by omega)
  have h_v0 : Affine.IsInt _ (256 * ((i 2).val : Int)) := Affine.muli h_arg2 h_c256_i32 (by omega)
  have h_c256_i32_0 : Affine.IsInt 256#32 (256) := Affine.ofNat _ (by omega)
  have h_v1 : Affine.IsInt _ (256 * ((i 2).val : Int) + 256) := Affine.addi h_v0 h_c256_i32_0 (by omega)
  have h_c1_i32 : Affine.IsInt 1#32 (1) := Affine.ofNat _ (by omega)
  have h_v2 : Affine.IsInt _ (256 * ((i 2).val : Int) + 255) := Affine.subi h_v1 h_c1_i32 (by omega)
  have h_c0_i32 : Affine.IsInt 0#32 (0) := Affine.ofNat _ (by omega)
  have h_v4 : Affine.Holds _ := Affine.sgt_holds h_v2 h_c0_i32 (by omega)
  have h_v5 : Affine.IsInt _ (1) := Affine.extui_holds h_v4 (by omega)
  have h_c0_i32_1 : Affine.IsInt 0#32 (0) := Affine.ofNat _ (by omega)
  have h_v6 : Affine.Fails _ := Affine.slt_fails h_v2 h_c0_i32_1 (by omega)
  have h_v7 : Affine.IsInt _ (0) := Affine.extui_fails h_v6 (by omega)
  have h_v8 : Affine.IsInt _ (1) := Affine.subi h_v5 h_v7 (by omega)
  have h_c512_i32 : Affine.IsInt 512#32 (512) := Affine.ofNat _ (by omega)
  have h_c0_i32_2 : Affine.IsInt 0#32 (0) := Affine.ofNat _ (by omega)
  have h_v9 : Affine.Holds _ := Affine.sgt_holds h_c512_i32 h_c0_i32_2 (by omega)
  have h_v10 : Affine.IsInt _ (1) := Affine.extui_holds h_v9 (by omega)
  have h_c0_i32_3 : Affine.IsInt 0#32 (0) := Affine.ofNat _ (by omega)
  have h_v11 : Affine.Fails _ := Affine.slt_fails h_c512_i32 h_c0_i32_3 (by omega)
  have h_v12 : Affine.IsInt _ (0) := Affine.extui_fails h_v11 (by omega)
  have h_v13 : Affine.IsInt _ (1) := Affine.subi h_v10 h_v12 (by omega)
  have h_v14 : Affine.Fails _ := Affine.ne_fails h_v8 h_v13 (by omega)
  have h_v15 : Affine.IsInt _ (((256 * ((i 2).val : Int) + 255) % 512)) := Affine.remsi h_v2 h_c512_i32 (by omega)
  have h_c0_i32_4 : Affine.IsInt 0#32 (0) := Affine.ofNat _ (by omega)
  have h_v16 : Affine.Term _ := Affine.cmpi_term .ne h_v15 h_c0_i32_4
  have h_v17 : Affine.Fails _ := Affine.andi_fails_left h_v14 h_v16
  have h_v3 : Affine.IsInt _ (((256 * ((i 2).val : Int) + 255) / 512)) := Affine.divsi h_v2 h_c512_i32 (by omega)
  have h_c1_i32_5 : Affine.IsInt 1#32 (1) := Affine.ofNat _ (by omega)
  have h_v18 : Affine.IsInt _ (((256 * ((i 2).val : Int) + 255) / 512) - 1) := Affine.subi h_v3 h_c1_i32_5 (by omega)
  have h_v19 : Affine.IsInt _ (((256 * ((i 2).val : Int) + 255) / 512)) := Affine.select_fails h_v17 h_v18 h_v3 (by omega)
  have h_c1_i32_6 : Affine.IsInt 1#32 (1) := Affine.ofNat _ (by omega)
  have h_v20 : Affine.IsInt _ (((256 * ((i 2).val : Int) + 255) / 512) + 1) := Affine.addi h_v19 h_c1_i32_6 (by omega)
  have h_v42 : Affine.IsInt _ (((256 * ((i 2).val : Int) + 255) / 512) + 1) := Affine.subi h_v20 h_c0_i32_22 (by omega)
  have h_c1_i32_23 : Affine.IsInt 1#32 (1) := Affine.ofNat _ (by omega)
  have h_v44 : Affine.IsInt _ (((256 * ((i 2).val : Int) + 255) / 512) + 1) := Affine.divsi h_v42 h_c1_i32_23 (by omega)
  have h_v45 : Affine.IsInt _ (((256 * ((i 2).val : Int) + 255) / 512) + 1) := Affine.muli h_v44 h_c1_i32_23 (by omega)
  have h_v46 : Affine.IsInt _ (((256 * ((i 2).val : Int) + 255) / 512) + 1) := Affine.addi h_c0_i32_22 h_v45 (by omega)
  have h_c1_i32_24 : Affine.IsInt 1#32 (1) := Affine.ofNat _ (by omega)
  exact Affine.trips_eq h_c0_i32_22 h_v46 h_c1_i32_24 _ (by omega)

/-- The zeroed rows: the queries before row 496. -/
theorem zero_iff (i : grid0.Coords) (j : Fin 256) :
    IntOp.cmpi .sge (IntOp.addi (kernelRun0_A.sl.v0 i) (BitVec.ofNat 32 j.val)) 496#32 = 1#1 ↔ 496 ≤ 256 * (i 2).val + j.val := by
  have r_i2 : (i 2).val < 34 := (i 2).isLt
  have e : IntOp.addi (kernelRun0_A.sl.v0 i) (BitVec.ofNat 32 j.val) = BitVec.ofNat 32 (256 * (i 2).val + j.val) := by
    show BitVec.ofNat 32 (i 2).val * 256#32 + BitVec.ofNat 32 j.val = _
    refine BitVec.eq_of_toNat_eq ?_
    simp only [BitVec.toNat_add, BitVec.toNat_mul, BitVec.toNat_ofNat]
    omega
  rw [e]
  exact sge_iff _ 496 (by omega) (by omega)

/-- A select over a decided condition. -/
theorem sel_if {b : BitVec 1} {p : Prop} [Decidable p] (h : b = 1#1 ↔ p) (x y : EReal) : Scalar.select b x y = if p then x else y := by
  unfold Scalar.select
  exact if_congr h rfl rfl

/-- The block's queries, scaled. -/
def sq (x0 : FVec Ideal S1x256x512 .bf16) : FVec Ideal S256x512 .bf16 := fun y =>
  ((x0 (ix3 0 (y 0) (y 1)) : EReal) * (((Real.sqrt 128)⁻¹ * (Real.log 2)⁻¹ : ℝ) : EReal) : EReal)

/-- A point's output in head 0: the weighted mean over the keys of the point's chunks. -/
theorem mean0 (c : Dev nD) (i : grid0.Coords) (arg3 : Memref sig .tc .vmem S1x256x512 .bf16) (harg3 : arg3.IsWhole) (arg4 : Memref sig .tc .vmem S1x8704x512 .bf16) (harg4 : arg4.IsWhole) (arg5 : Memref sig .tc .vmem S1x17x512x512 .bf16) (harg5 : arg5.IsWhole) (arg6 : Memref sig .tc .vmem S1x8704x256 .bf16) (harg6 : arg6.IsWhole) (arg7 : Memref sig .tc .vmem S1x256x512 .bf16) (harg7 : arg7.IsWhole) (arg8 : Memref sig .tc .vmem S256x512 .bf16) (harg8 : arg8.IsWhole) (arg9 : Memref sig .tc .vmem S4x256 .f32) (harg9 : arg9.IsWhole) (arg10 : Memref sig .tc .vmem S4x256 .f32) (harg10 : arg10.IsWhole) (arg11 : Memref sig .tc .vmem S4x128x256 .f32) (harg11 : arg11.IsWhole) (x0 : FVec Ideal S1x256x512 .bf16) (x1 : FVec Ideal S1x8704x512 .bf16) (x2 : FVec Ideal S1x17x512x512 .bf16) (x3 : FVec Ideal S1x8704x256 .bf16) (j : Fin 256) (d : Fin 128) (n : Fin 512) (hn : n.val = 0 + d.val)
    (w v : ℕ → ℝ) (hw : ∀ s < 8704, Wt (lg x3 x1 (sq x0) 0 j s) (w s)) (hv : ∀ s < 8704, vl x2 0 d s = (v s : EReal))
    (hpos : 496 ≤ 256 * (i 2).val + j.val → 0 < ∑ s ∈ Finset.range (512 * ((256 * (i 2).val + 255) / 512 + 1)), w s) :
    (out0_A_4 (F := Ideal) c i arg3 harg3 arg4 harg4 arg5 harg5 arg6 harg6 arg7 harg7 arg8 harg8 arg9 harg9 arg10 harg10 arg11 harg11 x0 x1 x2 x3 (ix3 0 j n) : EReal) = if 496 ≤ 256 * (i 2).val + j.val then (((∑ s ∈ Finset.range (512 * ((256 * (i 2).val + 255) / 512 + 1)), v s * w s) / (∑ s ∈ Finset.range (512 * ((256 * (i 2).val + 255) / 512 + 1)), w s) : ℝ) : EReal) else 0 := by
  have h8 : View.read (Elt Ideal) arg8.view (arg8.view.writes (Elt Ideal) arg8.view.junk (kernelRun0_A.sl.HS0_1 (F := Ideal) c arg3 harg3 x0)) = sq x0 := by
    funext y
    obtain ⟨a, b, rfl⟩ : ∃ (a : Fin 256) (b : Fin 512), y = ix2 a b := ⟨_, _, eq_ix2 y⟩
    exact init8 c arg3 harg3 arg4 harg4 arg5 harg5 arg6 harg6 arg7 harg7 arg8 harg8 arg9 harg9 arg10 harg10 arg11 harg11 x0 a b
  have inv := loop0 Variants.none c none i arg3 harg3 arg4 harg4 arg5 harg5 arg6 harg6 arg7 harg7 arg8 harg8 arg9 harg9 arg10 harg10 arg11 harg11 (kernelRun0_A.sl.v0 i) (kernelRun0_A.sl.v20 i) (kernelRun0_A.sl.cst_14 (F := Ideal)) (harg4.unread x1) (harg5.unread x2) (harg6.unread x3) (arg8.view.writes (Elt Ideal) arg8.view.junk (kernelRun0_A.sl.HS0_1 (F := Ideal) c arg3 harg3 x0)) (arg9.view.writes (Elt Ideal) arg9.view.junk (kernelRun0_A.sl.HS1_1 (F := Ideal))) (arg10.view.writes (Elt Ideal) arg10.view.junk (kernelRun0_A.sl.HS2_1 (F := Ideal))) (arg11.view.writes (Elt Ideal) arg11.view.junk (kernelRun0_A.sl.HS3_1 (F := Ideal))) j d w v
    (by rw [harg6.read_unread, harg4.read_unread, h8]; exact hw) (by rw [harg5.read_unread]; exact hv)
    (by rw [init9, init10, init11]; exact Inv.zero w v) (Scf.trips (k0_t1_loop i).lb (k0_t1_loop i).ub (k0_t1_loop i).st) le_rfl
  rw [out0 c i arg3 harg3 arg4 harg4 arg5 harg5 arg6 harg6 arg7 harg7 arg8 harg8 arg9 harg9 arg10 harg10 arg11 harg11 x0 x1 x2 x3 j d n hn, sel_if (zero_iff i j)]
  by_cases hz : 496 ≤ 256 * (i 2).val + j.val
  · rw [if_pos hz, if_pos hz]
    refine (Inv.div inv ?_).trans ?_
    · rw [trips_eq]; exact hpos hz
    · rw [trips_eq]
  · rw [if_neg hz, if_neg hz]

/-- A point's output in head 1: the weighted mean over the keys of the point's chunks. -/
theorem mean1 (c : Dev nD) (i : grid0.Coords) (arg3 : Memref sig .tc .vmem S1x256x512 .bf16) (harg3 : arg3.IsWhole) (arg4 : Memref sig .tc .vmem S1x8704x512 .bf16) (harg4 : arg4.IsWhole) (arg5 : Memref sig .tc .vmem S1x17x512x512 .bf16) (harg5 : arg5.IsWhole) (arg6 : Memref sig .tc .vmem S1x8704x256 .bf16) (harg6 : arg6.IsWhole) (arg7 : Memref sig .tc .vmem S1x256x512 .bf16) (harg7 : arg7.IsWhole) (arg8 : Memref sig .tc .vmem S256x512 .bf16) (harg8 : arg8.IsWhole) (arg9 : Memref sig .tc .vmem S4x256 .f32) (harg9 : arg9.IsWhole) (arg10 : Memref sig .tc .vmem S4x256 .f32) (harg10 : arg10.IsWhole) (arg11 : Memref sig .tc .vmem S4x128x256 .f32) (harg11 : arg11.IsWhole) (x0 : FVec Ideal S1x256x512 .bf16) (x1 : FVec Ideal S1x8704x512 .bf16) (x2 : FVec Ideal S1x17x512x512 .bf16) (x3 : FVec Ideal S1x8704x256 .bf16) (j : Fin 256) (d : Fin 128) (n : Fin 512) (hn : n.val = 128 + d.val)
    (w v : ℕ → ℝ) (hw : ∀ s < 8704, Wt (lg x3 x1 (sq x0) 1 j s) (w s)) (hv : ∀ s < 8704, vl x2 1 d s = (v s : EReal))
    (hpos : 496 ≤ 256 * (i 2).val + j.val → 0 < ∑ s ∈ Finset.range (512 * ((256 * (i 2).val + 255) / 512 + 1)), w s) :
    (out0_A_4 (F := Ideal) c i arg3 harg3 arg4 harg4 arg5 harg5 arg6 harg6 arg7 harg7 arg8 harg8 arg9 harg9 arg10 harg10 arg11 harg11 x0 x1 x2 x3 (ix3 0 j n) : EReal) = if 496 ≤ 256 * (i 2).val + j.val then (((∑ s ∈ Finset.range (512 * ((256 * (i 2).val + 255) / 512 + 1)), v s * w s) / (∑ s ∈ Finset.range (512 * ((256 * (i 2).val + 255) / 512 + 1)), w s) : ℝ) : EReal) else 0 := by
  have h8 : View.read (Elt Ideal) arg8.view (arg8.view.writes (Elt Ideal) arg8.view.junk (kernelRun0_A.sl.HS0_1 (F := Ideal) c arg3 harg3 x0)) = sq x0 := by
    funext y
    obtain ⟨a, b, rfl⟩ : ∃ (a : Fin 256) (b : Fin 512), y = ix2 a b := ⟨_, _, eq_ix2 y⟩
    exact init8 c arg3 harg3 arg4 harg4 arg5 harg5 arg6 harg6 arg7 harg7 arg8 harg8 arg9 harg9 arg10 harg10 arg11 harg11 x0 a b
  have inv := loop1 Variants.none c none i arg3 harg3 arg4 harg4 arg5 harg5 arg6 harg6 arg7 harg7 arg8 harg8 arg9 harg9 arg10 harg10 arg11 harg11 (kernelRun0_A.sl.v0 i) (kernelRun0_A.sl.v20 i) (kernelRun0_A.sl.cst_14 (F := Ideal)) (harg4.unread x1) (harg5.unread x2) (harg6.unread x3) (arg8.view.writes (Elt Ideal) arg8.view.junk (kernelRun0_A.sl.HS0_1 (F := Ideal) c arg3 harg3 x0)) (arg9.view.writes (Elt Ideal) arg9.view.junk (kernelRun0_A.sl.HS1_1 (F := Ideal))) (arg10.view.writes (Elt Ideal) arg10.view.junk (kernelRun0_A.sl.HS2_1 (F := Ideal))) (arg11.view.writes (Elt Ideal) arg11.view.junk (kernelRun0_A.sl.HS3_1 (F := Ideal))) j d w v
    (by rw [harg6.read_unread, harg4.read_unread, h8]; exact hw) (by rw [harg5.read_unread]; exact hv)
    (by rw [init9, init10, init11]; exact Inv.zero w v) (Scf.trips (k0_t1_loop i).lb (k0_t1_loop i).ub (k0_t1_loop i).st) le_rfl
  rw [out1 c i arg3 harg3 arg4 harg4 arg5 harg5 arg6 harg6 arg7 harg7 arg8 harg8 arg9 harg9 arg10 harg10 arg11 harg11 x0 x1 x2 x3 j d n hn, sel_if (zero_iff i j)]
  by_cases hz : 496 ≤ 256 * (i 2).val + j.val
  · rw [if_pos hz, if_pos hz]
    refine (Inv.div inv ?_).trans ?_
    · rw [trips_eq]; exact hpos hz
    · rw [trips_eq]
  · rw [if_neg hz, if_neg hz]

/-- A point's output in head 2: the weighted mean over the keys of the point's chunks. -/
theorem mean2 (c : Dev nD) (i : grid0.Coords) (arg3 : Memref sig .tc .vmem S1x256x512 .bf16) (harg3 : arg3.IsWhole) (arg4 : Memref sig .tc .vmem S1x8704x512 .bf16) (harg4 : arg4.IsWhole) (arg5 : Memref sig .tc .vmem S1x17x512x512 .bf16) (harg5 : arg5.IsWhole) (arg6 : Memref sig .tc .vmem S1x8704x256 .bf16) (harg6 : arg6.IsWhole) (arg7 : Memref sig .tc .vmem S1x256x512 .bf16) (harg7 : arg7.IsWhole) (arg8 : Memref sig .tc .vmem S256x512 .bf16) (harg8 : arg8.IsWhole) (arg9 : Memref sig .tc .vmem S4x256 .f32) (harg9 : arg9.IsWhole) (arg10 : Memref sig .tc .vmem S4x256 .f32) (harg10 : arg10.IsWhole) (arg11 : Memref sig .tc .vmem S4x128x256 .f32) (harg11 : arg11.IsWhole) (x0 : FVec Ideal S1x256x512 .bf16) (x1 : FVec Ideal S1x8704x512 .bf16) (x2 : FVec Ideal S1x17x512x512 .bf16) (x3 : FVec Ideal S1x8704x256 .bf16) (j : Fin 256) (d : Fin 128) (n : Fin 512) (hn : n.val = 256 + d.val)
    (w v : ℕ → ℝ) (hw : ∀ s < 8704, Wt (lg x3 x1 (sq x0) 2 j s) (w s)) (hv : ∀ s < 8704, vl x2 2 d s = (v s : EReal))
    (hpos : 496 ≤ 256 * (i 2).val + j.val → 0 < ∑ s ∈ Finset.range (512 * ((256 * (i 2).val + 255) / 512 + 1)), w s) :
    (out0_A_4 (F := Ideal) c i arg3 harg3 arg4 harg4 arg5 harg5 arg6 harg6 arg7 harg7 arg8 harg8 arg9 harg9 arg10 harg10 arg11 harg11 x0 x1 x2 x3 (ix3 0 j n) : EReal) = if 496 ≤ 256 * (i 2).val + j.val then (((∑ s ∈ Finset.range (512 * ((256 * (i 2).val + 255) / 512 + 1)), v s * w s) / (∑ s ∈ Finset.range (512 * ((256 * (i 2).val + 255) / 512 + 1)), w s) : ℝ) : EReal) else 0 := by
  have h8 : View.read (Elt Ideal) arg8.view (arg8.view.writes (Elt Ideal) arg8.view.junk (kernelRun0_A.sl.HS0_1 (F := Ideal) c arg3 harg3 x0)) = sq x0 := by
    funext y
    obtain ⟨a, b, rfl⟩ : ∃ (a : Fin 256) (b : Fin 512), y = ix2 a b := ⟨_, _, eq_ix2 y⟩
    exact init8 c arg3 harg3 arg4 harg4 arg5 harg5 arg6 harg6 arg7 harg7 arg8 harg8 arg9 harg9 arg10 harg10 arg11 harg11 x0 a b
  have inv := loop2 Variants.none c none i arg3 harg3 arg4 harg4 arg5 harg5 arg6 harg6 arg7 harg7 arg8 harg8 arg9 harg9 arg10 harg10 arg11 harg11 (kernelRun0_A.sl.v0 i) (kernelRun0_A.sl.v20 i) (kernelRun0_A.sl.cst_14 (F := Ideal)) (harg4.unread x1) (harg5.unread x2) (harg6.unread x3) (arg8.view.writes (Elt Ideal) arg8.view.junk (kernelRun0_A.sl.HS0_1 (F := Ideal) c arg3 harg3 x0)) (arg9.view.writes (Elt Ideal) arg9.view.junk (kernelRun0_A.sl.HS1_1 (F := Ideal))) (arg10.view.writes (Elt Ideal) arg10.view.junk (kernelRun0_A.sl.HS2_1 (F := Ideal))) (arg11.view.writes (Elt Ideal) arg11.view.junk (kernelRun0_A.sl.HS3_1 (F := Ideal))) j d w v
    (by rw [harg6.read_unread, harg4.read_unread, h8]; exact hw) (by rw [harg5.read_unread]; exact hv)
    (by rw [init9, init10, init11]; exact Inv.zero w v) (Scf.trips (k0_t1_loop i).lb (k0_t1_loop i).ub (k0_t1_loop i).st) le_rfl
  rw [out2 c i arg3 harg3 arg4 harg4 arg5 harg5 arg6 harg6 arg7 harg7 arg8 harg8 arg9 harg9 arg10 harg10 arg11 harg11 x0 x1 x2 x3 j d n hn, sel_if (zero_iff i j)]
  by_cases hz : 496 ≤ 256 * (i 2).val + j.val
  · rw [if_pos hz, if_pos hz]
    refine (Inv.div inv ?_).trans ?_
    · rw [trips_eq]; exact hpos hz
    · rw [trips_eq]
  · rw [if_neg hz, if_neg hz]

/-- A point's output in head 3: the weighted mean over the keys of the point's chunks. -/
theorem mean3 (c : Dev nD) (i : grid0.Coords) (arg3 : Memref sig .tc .vmem S1x256x512 .bf16) (harg3 : arg3.IsWhole) (arg4 : Memref sig .tc .vmem S1x8704x512 .bf16) (harg4 : arg4.IsWhole) (arg5 : Memref sig .tc .vmem S1x17x512x512 .bf16) (harg5 : arg5.IsWhole) (arg6 : Memref sig .tc .vmem S1x8704x256 .bf16) (harg6 : arg6.IsWhole) (arg7 : Memref sig .tc .vmem S1x256x512 .bf16) (harg7 : arg7.IsWhole) (arg8 : Memref sig .tc .vmem S256x512 .bf16) (harg8 : arg8.IsWhole) (arg9 : Memref sig .tc .vmem S4x256 .f32) (harg9 : arg9.IsWhole) (arg10 : Memref sig .tc .vmem S4x256 .f32) (harg10 : arg10.IsWhole) (arg11 : Memref sig .tc .vmem S4x128x256 .f32) (harg11 : arg11.IsWhole) (x0 : FVec Ideal S1x256x512 .bf16) (x1 : FVec Ideal S1x8704x512 .bf16) (x2 : FVec Ideal S1x17x512x512 .bf16) (x3 : FVec Ideal S1x8704x256 .bf16) (j : Fin 256) (d : Fin 128) (n : Fin 512) (hn : n.val = 384 + d.val)
    (w v : ℕ → ℝ) (hw : ∀ s < 8704, Wt (lg x3 x1 (sq x0) 3 j s) (w s)) (hv : ∀ s < 8704, vl x2 3 d s = (v s : EReal))
    (hpos : 496 ≤ 256 * (i 2).val + j.val → 0 < ∑ s ∈ Finset.range (512 * ((256 * (i 2).val + 255) / 512 + 1)), w s) :
    (out0_A_4 (F := Ideal) c i arg3 harg3 arg4 harg4 arg5 harg5 arg6 harg6 arg7 harg7 arg8 harg8 arg9 harg9 arg10 harg10 arg11 harg11 x0 x1 x2 x3 (ix3 0 j n) : EReal) = if 496 ≤ 256 * (i 2).val + j.val then (((∑ s ∈ Finset.range (512 * ((256 * (i 2).val + 255) / 512 + 1)), v s * w s) / (∑ s ∈ Finset.range (512 * ((256 * (i 2).val + 255) / 512 + 1)), w s) : ℝ) : EReal) else 0 := by
  have h8 : View.read (Elt Ideal) arg8.view (arg8.view.writes (Elt Ideal) arg8.view.junk (kernelRun0_A.sl.HS0_1 (F := Ideal) c arg3 harg3 x0)) = sq x0 := by
    funext y
    obtain ⟨a, b, rfl⟩ : ∃ (a : Fin 256) (b : Fin 512), y = ix2 a b := ⟨_, _, eq_ix2 y⟩
    exact init8 c arg3 harg3 arg4 harg4 arg5 harg5 arg6 harg6 arg7 harg7 arg8 harg8 arg9 harg9 arg10 harg10 arg11 harg11 x0 a b
  have inv := loop3 Variants.none c none i arg3 harg3 arg4 harg4 arg5 harg5 arg6 harg6 arg7 harg7 arg8 harg8 arg9 harg9 arg10 harg10 arg11 harg11 (kernelRun0_A.sl.v0 i) (kernelRun0_A.sl.v20 i) (kernelRun0_A.sl.cst_14 (F := Ideal)) (harg4.unread x1) (harg5.unread x2) (harg6.unread x3) (arg8.view.writes (Elt Ideal) arg8.view.junk (kernelRun0_A.sl.HS0_1 (F := Ideal) c arg3 harg3 x0)) (arg9.view.writes (Elt Ideal) arg9.view.junk (kernelRun0_A.sl.HS1_1 (F := Ideal))) (arg10.view.writes (Elt Ideal) arg10.view.junk (kernelRun0_A.sl.HS2_1 (F := Ideal))) (arg11.view.writes (Elt Ideal) arg11.view.junk (kernelRun0_A.sl.HS3_1 (F := Ideal))) j d w v
    (by rw [harg6.read_unread, harg4.read_unread, h8]; exact hw) (by rw [harg5.read_unread]; exact hv)
    (by rw [init9, init10, init11]; exact Inv.zero w v) (Scf.trips (k0_t1_loop i).lb (k0_t1_loop i).ub (k0_t1_loop i).st) le_rfl
  rw [out3 c i arg3 harg3 arg4 harg4 arg5 harg5 arg6 harg6 arg7 harg7 arg8 harg8 arg9 harg9 arg10 harg10 arg11 harg11 x0 x1 x2 x3 j d n hn, sel_if (zero_iff i j)]
  by_cases hz : 496 ≤ 256 * (i 2).val + j.val
  · rw [if_pos hz, if_pos hz]
    refine (Inv.div inv ?_).trans ?_
    · rw [trips_eq]; exact hpos hz
    · rw [trips_eq]
  · rw [if_neg hz, if_neg hz]

/-- A point's output: the weighted mean over the keys of the point's chunks. -/
theorem mean (c : Dev nD) (i : grid0.Coords) (arg3 : Memref sig .tc .vmem S1x256x512 .bf16) (harg3 : arg3.IsWhole) (arg4 : Memref sig .tc .vmem S1x8704x512 .bf16) (harg4 : arg4.IsWhole) (arg5 : Memref sig .tc .vmem S1x17x512x512 .bf16) (harg5 : arg5.IsWhole) (arg6 : Memref sig .tc .vmem S1x8704x256 .bf16) (harg6 : arg6.IsWhole) (arg7 : Memref sig .tc .vmem S1x256x512 .bf16) (harg7 : arg7.IsWhole) (arg8 : Memref sig .tc .vmem S256x512 .bf16) (harg8 : arg8.IsWhole) (arg9 : Memref sig .tc .vmem S4x256 .f32) (harg9 : arg9.IsWhole) (arg10 : Memref sig .tc .vmem S4x256 .f32) (harg10 : arg10.IsWhole) (arg11 : Memref sig .tc .vmem S4x128x256 .f32) (harg11 : arg11.IsWhole) (x0 : FVec Ideal S1x256x512 .bf16) (x1 : FVec Ideal S1x8704x512 .bf16) (x2 : FVec Ideal S1x17x512x512 .bf16) (x3 : FVec Ideal S1x8704x256 .bf16) (h : Fin 4) (j : Fin 256) (d : Fin 128) (n : Fin 512) (hn : n.val = 128 * h.val + d.val)
    (w v : ℕ → ℝ) (hw : ∀ s < 8704, Wt (lg x3 x1 (sq x0) h j s) (w s)) (hv : ∀ s < 8704, vl x2 h d s = (v s : EReal))
    (hpos : 496 ≤ 256 * (i 2).val + j.val → 0 < ∑ s ∈ Finset.range (512 * ((256 * (i 2).val + 255) / 512 + 1)), w s) :
    (out0_A_4 (F := Ideal) c i arg3 harg3 arg4 harg4 arg5 harg5 arg6 harg6 arg7 harg7 arg8 harg8 arg9 harg9 arg10 harg10 arg11 harg11 x0 x1 x2 x3 (ix3 0 j n) : EReal) = if 496 ≤ 256 * (i 2).val + j.val then (((∑ s ∈ Finset.range (512 * ((256 * (i 2).val + 255) / 512 + 1)), v s * w s) / (∑ s ∈ Finset.range (512 * ((256 * (i 2).val + 255) / 512 + 1)), w s) : ℝ) : EReal) else 0 :=
  match h, hn, hw, hv with
  | ⟨0, _⟩, hn, hw, hv => mean0 c i arg3 harg3 arg4 harg4 arg5 harg5 arg6 harg6 arg7 harg7 arg8 harg8 arg9 harg9 arg10 harg10 arg11 harg11 x0 x1 x2 x3 j d n hn w v hw hv hpos
  | ⟨1, _⟩, hn, hw, hv => mean1 c i arg3 harg3 arg4 harg4 arg5 harg5 arg6 harg6 arg7 harg7 arg8 harg8 arg9 harg9 arg10 harg10 arg11 harg11 x0 x1 x2 x3 j d n hn w v hw hv hpos
  | ⟨2, _⟩, hn, hw, hv => mean2 c i arg3 harg3 arg4 harg4 arg5 harg5 arg6 harg6 arg7 harg7 arg8 harg8 arg9 harg9 arg10 harg10 arg11 harg11 x0 x1 x2 x3 j d n hn w v hw hv hpos
  | ⟨3, _⟩, hn, hw, hv => mean3 c i arg3 harg3 arg4 harg4 arg5 harg5 arg6 harg6 arg7 harg7 arg8 harg8 arg9 harg9 arg10 harg10 arg11 harg11 x0 x1 x2 x3 j d n hn w v hw hv hpos

end Cert.AttnIdeal.RefValue
-- ==== Proof.AttnWin.lean ====
module

public import proofs.«01_k».proof.Proof.AttnMean
public import proofs.«01_k».proof.Proof.Gen.AttnIdeal.Value
public import Idealize.ShloMosaic.Lib.Pointwise
public import Idealize.ShloMosaic.Lib.KernelVsHost
public import Idealize.ShloMosaic.Lib.Pipeline.ReadBack
public import Idealize.ShloMosaic.Lib.Pipeline.ValueKit.Tiles
public import Idealize.ShloMosaic.Lib.StableHlo.Predicate
public import Idealize.ShloMosaic.Lib.Pipeline.Value
public import Idealize.ShloMosaic.Lib.Quiescent

@[expose] public section

set_option maxRecDepth 16384

noncomputable section

namespace Cert.AttnIdeal.RefValue
open Cert.AttnIdeal Cert.AttnIdeal.Gen Idealize.ShloMosaic Idealize.ShloMosaic.TcCoe Idealize.SL.Sem
open Idealize.ShloMosaic.Tactic Cert.AttnMath
open Idealize.ShloMosaic.Pipeline (Dat)

/-- The bias the host makes of the selected keys: zero for a selected key not after the query, minus infinity elsewhere. -/
def bias (Y : IVec S2x8704x8704 32) : FVec Ideal S2x8704x8704 .bf16 :=
  truncf .bf16 (select (andi (cmpi .ne Y (broadcastInDim S2x8704x8704 ![] bcast_S_S2x8704x8704 (constantI S_ 32 0#32))) (cmpi .sle (iotaInDim S2x8704x8704 32 1) (iotaInDim S2x8704x8704 32 2)))
    (broadcastInDim S2x8704x8704 ![] bcast_S_S2x8704x8704 (constant (F := Ideal) S_ .f32 0x00000000#32)) (broadcastInDim S2x8704x8704 ![] bcast_S_S2x8704x8704 (constant (F := Ideal) S_ .f32 0xFF800000#32))) bitsLt_bf16_f32

/-- The values the host lays out by chunks of keys. -/
def vt (X : FVec Ideal S2x8704x12288 .bf16) : FVec Ideal S2x17x1024x512 .bf16 :=
  transpose S2x17x1024x512 [0, 1, 3, 2] (shapeCast S2x17x512x1024 (extractStridedSlice S2x8704x1024 ![0, 0, 6144] X slices_S2x8704x12288_S2x8704x1024_0_0_6144) shapeCasts_S2x8704x1024_S2x17x512x1024) transposes_S2x17x512x1024_S2x17x1024x512_0_1_3_2

/-- The bias of one key and query. -/
theorem bias_apply (Y : IVec S2x8704x8704 32) (b : Fin 2) (s t : Fin 8704) :
    (bias Y (ix3 b s t) : EReal) = Scalar.select (IntOp.andi (IntOp.cmpi CmpIPredicate.ne (Y (ix3 b s t)) 0#32) (IntOp.cmpi CmpIPredicate.sle (BitVec.ofNat 32 s.val) (BitVec.ofNat 32 t.val)))
      (Ideal.ofBits FTy.f32 0#32) (Ideal.ofBits FTy.f32 4286578688#32) := by
  pointwise [bias]

open Classical in
/-- The bias of one key and query, by the condition. -/
theorem bias_ok (Y : IVec S2x8704x8704 32) (b : Fin 2) (s t : Fin 8704) :
    (bias Y (ix3 b s t) : EReal) = if Ok (fun b s t => Y (ix3 b s t)) b s t then 0 else ⊥ := by
  have hc : IntOp.andi (IntOp.cmpi CmpIPredicate.ne (Y (ix3 b s t)) 0#32) (IntOp.cmpi CmpIPredicate.sle (BitVec.ofNat 32 s.val) (BitVec.ofNat 32 t.val)) = 1#1
      ↔ Ok (fun b s t => Y (ix3 b s t)) b s t := by
    rw [andi_iff, ne_iff, sle_iff _ _ (by omega) (by omega)]; exact Iff.rfl
  rw [bias_apply, sel_if hc, ofBits_bot, Ideal.ofBits_zero]

/-- One value of the host's layout. -/
theorem vt_apply (X : FVec Ideal S2x8704x12288 .bf16) (b : Fin 2) (k : Fin 17) (n : Fin 1024) (r : Fin 512) :
    vt X (ix4 b k n r) = X (ix3 b ⟨512 * k.val + r.val, by omega⟩ ⟨6144 + n.val, by omega⟩) := by
  pointwise [vt]
  try (refine congrArg X ?_; funext a; apply Fin.ext; match a with
    | ⟨0, _⟩ => rfl
    | ⟨1, _⟩ => show _ = 512 * k.val + r.val; simp; try omega
    | ⟨2, _⟩ => rfl)

variable (m : (ℓ : Loc nD τ sig) → Buf (Elt Ideal) ℓ)

theorem V_main_v7 (c : Dev nD) : V m c main_v7 = bias (m ((c : Thread nD τ).loc main_arg1)) := by
  show StableHlo.after (List.flatten [hostOps0, hostOps0_1, hostOps0_2]) (fun b => m (c, b)) (Proc.devRef .tc main_v7) = _
  simp only [hostOps0, hostOps0_1, hostOps0_2, List.flatten_cons, List.flatten_nil, List.append_nil, List.cons_append, List.nil_append, StableHlo.TRef.binary, StableHlo.TRef.nullary, StableHlo.TRef.unary, StableHlo.TRef.ternary, StableHlo.TRef.toBuf, StableHlo.TRef.ofBuf, cast_eq]
  after_results_simp <;> rfl

theorem V_main_v10 (c : Dev nD) : V m c main_v10 = vt (m ((c : Thread nD τ).loc main_arg0)) := by
  show StableHlo.after (List.flatten [hostOps0, hostOps0_1, hostOps0_2]) (fun b => m (c, b)) (Proc.devRef .tc main_v10) = _
  simp only [hostOps0, hostOps0_1, hostOps0_2, List.flatten_cons, List.flatten_nil, List.append_nil, List.cons_append, List.nil_append, StableHlo.TRef.binary, StableHlo.TRef.nullary, StableHlo.TRef.unary, StableHlo.TRef.ternary, StableHlo.TRef.toBuf, StableHlo.TRef.ofBuf, cast_eq]
  after_results_simp <;> rfl

/-- The windows' positions at each grid point. -/
theorem idx_all : ∀ t : Fin cfg0.N, (win0_0.index t 0 = t.val / 68 ∧ win0_0.index t 1 = t.val % 34 ∧ win0_0.index t 2 = 8 + t.val / 34 % 2)
    ∧ (win0_1.index t 0 = t.val / 68 ∧ win0_1.index t 1 = 0 ∧ win0_1.index t 2 = 10 + t.val / 34 % 2)
    ∧ (win0_2.index t 0 = t.val / 68 ∧ win0_2.index t 1 = 0 ∧ win0_2.index t 2 = t.val / 34 % 2 ∧ win0_2.index t 3 = 0)
    ∧ (win0_3.index t 0 = t.val / 68 ∧ win0_3.index t 1 = 0 ∧ win0_3.index t 2 = t.val % 34)
    ∧ (win0_4.index t 0 = t.val / 68 ∧ win0_4.index t 1 = t.val % 34 ∧ win0_4.index t 2 = t.val / 34 % 2)
    ∧ (grid0.coords t 2).val = t.val % 34 ∧ win0_4.flush t = true :=
  (by decide +kernel : ∀ t : Fin grid0.N, _)

/-- A query of a point's block. -/
theorem blk0 (c : Dev nD) (t : Fin cfg0.N) (j : Fin 256) (n : Fin 512) (b : Fin 2) (s : Fin 8704) (p : Fin 12288)
    (hb : b.val = t.val / 68) (hs : s.val = 256 * (t.val % 34) + j.val) (hp : p.val = 4096 + (512 * (t.val / 34 % 2) + n.val)) :
    iblk m c 0 t (ix3 0 j n) = (m ((c : Thread nD τ).loc main_arg0)) (ix3 b s p) := by
  have h := (idx_all t).1
  unfold iblk; rw [View.read_apply]
  show V m c main_arg0 _ = _
  rw [V_main_arg0]
  congr 1; funext a; apply Fin.ext
  match a with
  | ⟨0, _⟩ => show win0_0.index t 0 * 1 + 1 * 0 = b.val; omega
  | ⟨1, _⟩ => show win0_0.index t 1 * 256 + 1 * j.val = s.val; omega
  | ⟨2, _⟩ => show win0_0.index t 2 * 512 + 1 * n.val = p.val; omega

/-- A key of a point's block. -/
theorem blk1 (c : Dev nD) (t : Fin cfg0.N) (s : Fin 8704) (n : Fin 512) (b : Fin 2) (p : Fin 12288)
    (hb : b.val = t.val / 68) (hp : p.val = 5120 + (512 * (t.val / 34 % 2) + n.val)) :
    iblk m c 1 t (ix3 0 s n) = (m ((c : Thread nD τ).loc main_arg0)) (ix3 b s p) := by
  have h := (idx_all t).2.1
  unfold iblk; rw [View.read_apply]
  show V m c main_arg0 _ = _
  rw [V_main_arg0]
  congr 1; funext a; apply Fin.ext
  match a with
  | ⟨0, _⟩ => show win0_1.index t 0 * 1 + 1 * 0 = b.val; omega
  | ⟨1, _⟩ => show win0_1.index t 1 * 8704 + 1 * s.val = s.val; omega
  | ⟨2, _⟩ => show win0_1.index t 2 * 512 + 1 * n.val = p.val; omega

/-- A value of a point's block. -/
theorem blk2 (c : Dev nD) (t : Fin cfg0.N) (k : Fin 17) (n : Fin 512) (r : Fin 512) (b : Fin 2) (s : Fin 8704) (p : Fin 12288)
    (hb : b.val = t.val / 68) (hs : s.val = 512 * k.val + r.val) (hp : p.val = 6144 + (512 * (t.val / 34 % 2) + n.val)) :
    iblk m c 2 t (ix4 0 k n r) = (m ((c : Thread nD τ).loc main_arg0)) (ix3 b s p) := by
  have h := (idx_all t).2.2.1
  unfold iblk; rw [View.read_apply]
  show V m c main_v10 _ = _
  rw [V_main_v10]
  have hn := n.isLt
  have e : (((cfg0.win 2).blk t).view.emb (ix4 0 k n r)) = (ix4 b k (⟨512 * (t.val / 34 % 2) + n.val, by omega⟩ : Fin 1024) r : S2x17x1024x512.Idx) := by
    funext a; apply Fin.ext
    match a with
    | ⟨0, _⟩ => show win0_2.index t 0 * 1 + 1 * 0 = b.val; omega
    | ⟨1, _⟩ => show win0_2.index t 1 * 17 + 1 * k.val = k.val; omega
    | ⟨2, _⟩ => show win0_2.index t 2 * 512 + 1 * n.val = 512 * (t.val / 34 % 2) + n.val; omega
    | ⟨3, _⟩ => show win0_2.index t 3 * 512 + 1 * r.val = r.val; omega
  refine (congrArg _ e).trans ((vt_apply _ _ _ _ _).trans ?_)
  congr 1; funext a; apply Fin.ext
  match a with
  | ⟨0, _⟩ => rfl
  | ⟨1, _⟩ => exact hs.symm
  | ⟨2, _⟩ => exact hp.symm

/-- A bias of a point's block. -/
theorem blk3 (c : Dev nD) (t : Fin cfg0.N) (s : Fin 8704) (j : Fin 256) (b : Fin 2) (q : Fin 8704)
    (hb : b.val = t.val / 68) (hq : q.val = 256 * (t.val % 34) + j.val) :
    iblk m c 3 t (ix3 0 s j) = bias (m ((c : Thread nD τ).loc main_arg1)) (ix3 b s q) := by
  have h := (idx_all t).2.2.2.1
  unfold iblk; rw [View.read_apply]
  show V m c main_v7 _ = _
  rw [V_main_v7]
  congr 1; funext a; apply Fin.ext
  match a with
  | ⟨0, _⟩ => show win0_3.index t 0 * 1 + 1 * 0 = b.val; omega
  | ⟨1, _⟩ => show win0_3.index t 1 * 8704 + 1 * s.val = s.val; omega
  | ⟨2, _⟩ => show win0_3.index t 2 * 256 + 1 * j.val = q.val; omega

/-- An index of the array is in point `t`'s block iff each coordinate is in the block's range on its axis. -/
theorem mem_blk4 (t : Fin cfg0.N) (i : S2x8704x1024.Idx) :
    i ∈ ((cfg0.win 4).blk t).view.set ↔ ∀ a : Fin 3, win0_4.index t a * S1x256x512.size a ≤ (i a).val ∧ (i a).val < win0_4.index t a * S1x256x512.size a + S1x256x512.size a := by
  show i ∈ ((View.whole main_v11).slice (win0_4.rect t)).set ↔ _
  rw [View.set_slice_whole, Rect.mem_set_unit]
  exact Iff.rfl

/-- Every element of the result is in some point's block. -/
theorem covered (i : S2x8704x1024.Idx) : ∃ t : Fin cfg0.N, (cfg0.win 4).flush t = true ∧ i ∈ ((cfg0.win 4).blk t).view.set := by
  have h0 : (i 0).val < 2 := (i 0).isLt
  have h1 : (i 1).val < 8704 := (i 1).isLt
  have h2 : (i 2).val < 1024 := (i 2).isLt
  have hlt : 68 * (i 0).val + (34 * ((i 2).val / 512) + (i 1).val / 256) < 136 := by omega
  obtain ⟨-, -, -, -, ⟨e0, e1, e2⟩, -, hf⟩ := idx_all ⟨68 * (i 0).val + (34 * ((i 2).val / 512) + (i 1).val / 256), hlt⟩
  refine ⟨_, hf, (mem_blk4 _ i).2 fun a => ?_⟩
  dsimp only at e0 e1 e2
  match a with
  | ⟨0, _⟩ => show win0_4.index _ 0 * 1 ≤ (i 0).val ∧ (i 0).val < win0_4.index _ 0 * 1 + 1; omega
  | ⟨1, _⟩ => show win0_4.index _ 1 * 256 ≤ (i 1).val ∧ (i 1).val < win0_4.index _ 1 * 256 + 256; omega
  | ⟨2, _⟩ => show win0_4.index _ 2 * 512 ≤ (i 2).val ∧ (i 2).val < win0_4.index _ 2 * 512 + 512; omega

end Cert.AttnIdeal.RefValue
end
-- ==== Proof.AttnPre.lean ====
module

public import proofs.«01_k».proof.Pre_attn_pre
public import proofs.«01_k».proof.Proof.AttnMath

@[expose] public section

set_option maxRecDepth 16384

noncomputable section

namespace Cert.AttnPre
open Cert.Pre_attn_pre Idealize.ShloMosaic Cert.AttnMath

/-- The side conditions of the precondition's operations. -/
theorem facts : Cert.Pre_attn_pre.Facts where
  slices_S2x8704x12288_S2x8704x3072_0_0_4096 := by decide
  bitsLt_bf16_f32 := by decide
  bcast_S_S2x8704x3072 := by decide
  bcast_S_S2x8704x8704 := by decide
  bcast_S8704_S8704x1_0 := by decide
  bcast_S8704_S1x8704_1 := by decide
  bcast_S8704x1_S8704x8704_0_1 := by decide
  bcast_S1x8704_S8704x8704_0_1 := by decide
  bcast_S8704x8704_S1x8704x8704_1_2 := by decide
  bcast_S1x8704x8704_S2x8704x8704_0_1_2 := by decide
  reducesTo_S2x8704x8704_S2x8704_d1 := by decide
  h_S_ := by decide
  bcast_S_S8704 := by decide
  bcast_S1x8704_S2x8704_0_1 := by decide
  reducesTo_S2x8704x3072_S_d0_1_2 := by decide
  bcast_S_S2x8704 := by decide

/-- Bits whose conjunction is set are all set. -/
theorem of_fold_andi {ι : Type} [Fintype ι] (f : ι → BitVec 1) (h : Finset.fold IntOp.andi (1#1) f Finset.univ = 1#1) (i : ι) : f i = 1#1 := by
  classical
  have : ∀ S : Finset ι, Finset.fold IntOp.andi (1#1) f S = 1#1 → ∀ i ∈ S, f i = 1#1 := by
    intro S
    induction S using Finset.induction_on with
    | empty => intro _ i hi; exact absurd hi (Finset.notMem_empty i)
    | insert a S ha ih =>
      intro h i hi
      rw [Finset.fold_insert ha, andi_iff] at h
      obtain rfl | hi := Finset.mem_insert.1 hi
      · exact h.1
      · exact ih h.2 i hi
  exact this _ h i (Finset.mem_univ i)

/-- Of bits whose disjunction is set, one is set. -/
theorem of_fold_ori {ι : Type} [Fintype ι] (f : ι → BitVec 1) (h : Finset.fold IntOp.ori (0#1) f Finset.univ = 1#1) : ∃ i, f i = 1#1 := by
  classical
  have : ∀ S : Finset ι, Finset.fold IntOp.ori (0#1) f S = 1#1 → ∃ i, f i = 1#1 := by
    intro S
    induction S using Finset.induction_on with
    | empty => intro h; exact absurd h (by rw [Finset.fold_empty]; decide)
    | insert a S ha ih =>
      intro h
      rw [Finset.fold_insert ha, ori_iff] at h
      exact h.elim (fun h => ⟨a, h⟩) ih
  exact this _ h

/-- An extended real of absolute value below `⊤` is real. -/
theorem real_of_abs (x : EReal) (h : max x (-x) < ⊤) : x = ((x.toReal : ℝ) : EReal) := by
  refine (EReal.coe_toReal ?_ ?_).symm
  · rintro rfl; simp at h
  · rintro rfl; simp at h

/-- The precondition's bit at one query. -/
theorem fn_apply [Facts] (X : FVec Ideal S2x8704x12288 .bf16) (Y : IVec S2x8704x8704 32) (b : Fin 2) (t : Fin 8704) :
    Cert.Pre_attn_pre.fn (F := Ideal) X Y (ix2 b t) =
      IntOp.andi
        (IntOp.ori
          (Finset.fold IntOp.ori (0#1)
            (fun x : Fin 8704 =>
              IntOp.andi (IntOp.cmpi CmpIPredicate.ne (Y (ix3 b x t)) 0#32)
                (IntOp.cmpi CmpIPredicate.sle (BitVec.ofNat 32 x.val) (BitVec.ofNat 32 t.val)))
            Finset.univ)
          (IntOp.cmpi CmpIPredicate.slt (BitVec.ofNat 32 t.val) 496#32))
        (Finset.fold IntOp.andi (1#1)
          (fun x : Fin 2 × Fin 8704 × Fin 3072 =>
            BitVec.ofBool
              (decide (FloatOps.absf (F := Ideal) (φ := .f32) (X (ix3 x.1 x.2.1 ⟨4096 + x.2.2.val, by omega⟩)) < Ideal.ofBits FTy.f32 2139095040#32)))
          Finset.univ) := by
  pointwise [fn, fn_part1]

/-- What the precondition says of one query. -/
theorem pre_apply [Facts] (X : FVec Ideal S2x8704x12288 .bf16) (Y : IVec S2x8704x8704 32) (h : Cert.Pre_attn_pre.fn (F := Ideal) X Y = fun _ => 1#1)
    (b : Fin 2) (t : Fin 8704) :
    ((∃ s : Fin 8704, Ok (fun b s t => Y (ix3 b s t)) b s t) ∨ t.val < 496) ∧
      ∀ (b : Fin 2) (s : Fin 8704) (j : Fin 3072), X (ix3 b s ⟨4096 + j.val, by omega⟩) = ((X (ix3 b s ⟨4096 + j.val, by omega⟩) : EReal).toReal : EReal) := by
  have h := (fn_apply X Y b t).symm.trans (congrFun h (ix2 b t))
  obtain ⟨h1, h2⟩ := (andi_iff _ _).1 h
  refine ⟨((ori_iff _ _).1 h1).imp (fun h => ?_) fun h => ?_, fun b s j => ?_⟩
  · obtain ⟨s, hs⟩ := of_fold_ori _ h
    obtain ⟨hs1, hs2⟩ := (andi_iff _ _).1 hs
    exact ⟨s, (ne_iff _ _).1 hs1, (sle_iff _ _ (by omega) (by omega)).1 hs2⟩
  · exact (StableHlo.Predicate.slt_ofNat_iff t.val 496 (by omega) (by omega)).1 h
  · have h3 := of_fold_andi _ h2 (b, s, j)
    rw [StableHlo.Predicate.ofBool_eq_one_iff, decide_eq_true_eq, ofBits_top] at h3
    exact real_of_abs _ h3

end Cert.AttnPre
end
-- ==== Proof.AttnRef.lean ====
module

public import proofs.«01_k».proof.Proof.Gen.AttnRefIdeal.Run
public import Idealize.ShloMosaic.Lib.Pointwise
public import proofs.«01_k».proof.Proof.AttnMath

@[expose] public section

set_option maxRecDepth 16384

noncomputable section

namespace Cert.AttnRefIdeal.RefValue
open Cert.AttnRefIdeal Cert.AttnRefIdeal.Gen Idealize.ShloMosaic Idealize.ShloMosaic.TcCoe Idealize.SL.Sem
open Cert.AttnMath Idealize.ShloMosaic.Tactic
open Idealize.ShloMosaic.Pipeline (Dat)

/-- The plain text's mask: query by key, whether the key is selected and not after the query. -/
def mask (Y : IVec S2x8704x8704 32) : IVec S2x8704x8704 1 :=
  (transpose S2x8704x8704 [0, 2, 1] (andi (cmpi .ne Y (broadcastInDim S2x8704x8704 ![] bcast_S_S2x8704x8704 (constantI S_ 32 0#32))) (broadcastInDim S2x8704x8704 ![0, 1, 2] bcast_S1x8704x8704_S2x8704x8704_0_1_2 (broadcastInDim S1x8704x8704 ![1, 2] bcast_S8704x8704_S1x8704x8704_1_2 (cmpi .sle (broadcastInDim S8704x8704 ![0, 1] bcast_S8704x1_S8704x8704_0_1 (broadcastInDim S8704x1 ![0] bcast_S8704_S8704x1_0 (iotaInDim S8704 32 0))) (broadcastInDim S8704x8704 ![0, 1] bcast_S1x8704_S8704x8704_0_1 (broadcastInDim S1x8704 ![1] bcast_S8704_S1x8704_1 (iotaInDim S8704 32 0))))))) transposes_S2x8704x8704_S2x8704x8704_0_2_1)
/-- The plain text's products of queries and keys. -/
def qks (X : FVec Ideal S2x8704x12288 .bf16) : FVec Ideal S2x8x8704x8704 .f32 :=
  (Host.dotGeneral dot_S2x8704x8x128_S2x8704x8x128_S2x8x8704x8704_3_3_1_1_02_02 none (shapeCast _ (extractStridedSlice S2x8704x1024 ![0, 0, 4096] (extf .f32 X bitsLt_bf16_f32) slices_S2x8704x12288_S2x8704x1024_0_0_4096) shapeCasts_S2x8704x1024_S2x8704x8x128) (shapeCast _ (extractStridedSlice S2x8704x1024 ![0, 0, 5120] (extf .f32 X bitsLt_bf16_f32) slices_S2x8704x12288_S2x8704x1024_0_0_5120) shapeCasts_S2x8704x1024_S2x8704x8x128))
/-- The plain text's logits. -/
def logits (X : FVec Ideal S2x8704x12288 .bf16) (Y : IVec S2x8704x8704 32) : FVec Ideal S2x8x8704x8704 .f32 :=
  (select (broadcastInDim S2x8x8704x8704 ![0, 1, 2, 3] bcast_S2x1x8704x8704_S2x8x8704x8704_0_1_2_3 (broadcastInDim S2x1x8704x8704 ![0, 2, 3] bcast_S2x8704x8704_S2x1x8704x8704_0_2_3 (mask Y))) (Host.divf (qks X) (broadcastInDim S2x8x8704x8704 ![] bcast_S_S2x8x8704x8704 (Host.sqrt (constant S_ .f32 0x43000000#32)))) (broadcastInDim S2x8x8704x8704 ![] bcast_S_S2x8x8704x8704 (id (constant S_ .f32 0xFF800000#32))))
/-- The plain text's largest logit of each query. -/
def mx (Z : FVec Ideal S2x8x8704x8704 .f32) : FVec Ideal S2x8x8704 .f32 :=
  Host.reduce FloatOps.maximumf Z (constant S_ .f32 0xFF800000#32) reducesTo_S2x8x8704x8704_S2x8x8704_d3 h_S_
/-- The plain text's sum over the keys. -/
def sm (Z : FVec Ideal S2x8x8704x8704 .f32) : FVec Ideal S2x8x8704 .f32 :=
  Host.reduceAdd Z (constant S_ .f32 0x00000000#32) reducesTo_S2x8x8704x8704_S2x8x8704_d3 h_S_
/-- The plain text's exponentials of the logits less their largest. -/
def ex (Z : FVec Ideal S2x8x8704x8704 .f32) (M : FVec Ideal S2x8x8704 .f32) : FVec Ideal S2x8x8704x8704 .f32 :=
  Host.exp (subf Z (broadcastInDim S2x8x8704x8704 ![0, 1, 2, 3] bcast_S2x8x8704x1_S2x8x8704x8704_0_1_2_3 (broadcastInDim S2x8x8704x1 ![0, 1, 2] bcast_S2x8x8704_S2x8x8704x1_0_1_2 (maximumf (broadcastInDim S2x8x8704 ![] bcast_S_S2x8x8704 (constant S_ .f32 0xFF800000#32)) M))))
/-- The plain text's quotients. -/
def quo (E : FVec Ideal S2x8x8704x8704 .f32) (S : FVec Ideal S2x8x8704 .f32) : FVec Ideal S2x8x8704x8704 .f32 :=
  Host.divf E (broadcastInDim S2x8x8704x8704 ![0, 1, 2, 3] bcast_S2x8x8704x1_S2x8x8704x8704_0_1_2_3 (broadcastInDim S2x8x8704x1 ![0, 1, 2] bcast_S2x8x8704_S2x8x8704x1_0_1_2 S))
/-- The plain text's softmax. -/
def probs (Z : FVec Ideal S2x8x8704x8704 .f32) : FVec Ideal S2x8x8704x8704 .f32 :=
  quo (ex Z (mx Z)) (sm (ex Z (mx Z)))
/-- The plain text's result, from the softmax and the values. -/
def mix (X : FVec Ideal S2x8704x12288 .bf16) (P : FVec Ideal S2x8x8704x8704 .f32) : FVec Ideal S2x8704x1024 .bf16 :=
  truncf .bf16 (select (broadcastInDim S2x8704x1024 ![0, 1, 2] bcast_S1x8704x1_S2x8704x1024_0_1_2 (broadcastInDim S1x8704x1 ![1] bcast_S8704_S1x8704x1_1 (cmpi .sge (iotaInDim S8704 32 0) (broadcastInDim S8704 ![] bcast_S_S8704 (constantI S_ 32 496#32))))) (shapeCast _ (transpose S2x8704x8x128 [0, 3, 1, 2] (Host.dotGeneral dot_S2x8704x8x128_S2x8x8704x8704_S2x8x128x8704_1_3_3_2_02_01 none (shapeCast _ (extractStridedSlice S2x8704x1024 ![0, 0, 6144] (extf .f32 X bitsLt_bf16_f32) slices_S2x8704x12288_S2x8704x1024_0_0_6144) shapeCasts_S2x8704x1024_S2x8704x8x128) P) transposes_S2x8x128x8704_S2x8704x8x128_0_3_1_2) shapeCasts_S2x8704x8x128_S2x8704x1024) (broadcastInDim S2x8704x1024 ![] bcast_S_S2x8704x1024 (id (constant S_ .f32 0x00000000#32)))) bitsLt_bf16_f32
/-- The mask at one query and key. -/
theorem mask_apply (Y : IVec S2x8704x8704 32) (b : Fin 2) (t s : Fin 8704) : mask Y (ix3 b t s) =
    IntOp.andi (IntOp.cmpi CmpIPredicate.ne (Y (ix3 b s t)) 0#32) (IntOp.cmpi CmpIPredicate.sle (BitVec.ofNat 32 s.val) (BitVec.ofNat 32 t.val)) := by
  pointwise [mask]

/-- One product of a query and a key. -/
theorem qks_apply (X : FVec Ideal S2x8704x12288 .bf16) (b : Fin 2) (h : Fin 8) (t s : Fin 8704) : (qks X (ix4 b h t s) : EReal) =
    ∑ d : Fin 128, X (ix3 b t ⟨4096 + (h.val * 128 + d.val), by omega⟩) * X (ix3 b s ⟨5120 + (h.val * 128 + d.val), by omega⟩) := by
  pointwise [qks]

/-- One logit. -/
theorem logits_apply (X : FVec Ideal S2x8704x12288 .bf16) (Y : IVec S2x8704x8704 32) (b : Fin 2) (h : Fin 8) (t s : Fin 8704) :
    (logits X Y (ix4 b h t s) : EReal) =
    Scalar.select (mask Y (ix3 b t s)) (Ideal.div (qks X (ix4 b h t s)) (Ideal.sqrt (Ideal.ofBits FTy.f32 1124073472#32))) (Ideal.ofBits FTy.f32 4286578688#32) := by
  pointwise [logits]
  rfl

/-- The largest logit of a query. -/
theorem mx_apply (Z : FVec Ideal S2x8x8704x8704 .f32) (b : Fin 2) (h : Fin 8) (t : Fin 8704) : (mx Z (ix3 b h t) : EReal) =
    Finset.fold max (Ideal.ofBits FTy.f32 4286578688#32) (fun x : Fin 8704 => Z (ix4 b h t x)) Finset.univ := by
  pointwise [mx]

/-- The sum over the keys. -/
theorem sm_apply (Z : FVec Ideal S2x8x8704x8704 .f32) (b : Fin 2) (h : Fin 8) (t : Fin 8704) : (sm Z (ix3 b h t) : EReal) =
    ∑ x : Fin 8704, Z (ix4 b h t x) := by
  pointwise [sm]

/-- One exponential. -/
theorem ex_apply (Z : FVec Ideal S2x8x8704x8704 .f32) (M : FVec Ideal S2x8x8704 .f32) (b : Fin 2) (h : Fin 8) (t s : Fin 8704) : (ex Z M (ix4 b h t s) : EReal) =
    Ideal.exp (Z (ix4 b h t s) - max (Ideal.ofBits FTy.f32 4286578688#32) (M (ix3 b h t))) := by
  pointwise [ex]

/-- One quotient. -/
theorem quo_apply (E : FVec Ideal S2x8x8704x8704 .f32) (S : FVec Ideal S2x8x8704 .f32) (b : Fin 2) (h : Fin 8) (t s : Fin 8704) : (quo E S (ix4 b h t s) : EReal) =
    Ideal.div (E (ix4 b h t s)) (S (ix3 b h t)) := by
  pointwise [quo]

/-- One element of the result. -/
theorem mix_apply (X : FVec Ideal S2x8704x12288 .bf16) (P : FVec Ideal S2x8x8704x8704 .f32) (b : Fin 2) (t : Fin 8704) (n : Fin 1024) :
    (mix X P (ix3 b t n) : EReal) = Scalar.select (IntOp.cmpi CmpIPredicate.sge (BitVec.ofNat 32 t.val) 496#32)
      (∑ x : Fin 8704, X (ix3 b x ⟨6144 + n.val, by omega⟩) * P (ix4 b ⟨n.val / 128, by omega⟩ t x)) (Ideal.ofBits FTy.f32 0#32) := by
  pointwise [mix]
  exact congrArg _ (Ideal.ofBits_zero FTy.f32)

/-- The plain text's result, by its parts. -/
theorem res_eq (m : (ℓ : Loc nD τ sig) → Buf (Elt Ideal) ℓ) (c : Dev nD) (X : FVec Ideal S2x8704x12288 .bf16) (Y : IVec S2x8704x8704 32)
    (hX : m ((c.tc : Thread nD τ).loc main_arg0) = X) (hY : m ((c.tc : Thread nD τ).loc main_arg1) = Y) :
    Cert.AttnRefIdeal.Value.res_main_v43 (F := Ideal) m c = mix X (probs (logits X Y)) := by
  unfold Cert.AttnRefIdeal.Value.res_main_v43
  rw [hX, hY]
  rfl

/-- A logit with its weight. -/
theorem logits_wt (X : FVec Ideal S2x8704x12288 .bf16) (Y : IVec S2x8704x8704 32) (R : Fin 2 → Fin 8704 → Fin 12288 → ℝ)
    (hR : ∀ (b : Fin 2) (s : Fin 8704) (j : Fin 12288), 4096 ≤ j.val → j.val < 7168 → X (ix3 b s j) = (R b s j : EReal))
    (b : Fin 2) (t : Fin 8704) (h : Fin 8) (x : Fin 8704) :
    ((logits X Y (ix4 b h t x) : EReal) = ⊥ ∧ wt R (fun b s t => Y (ix3 b s t)) b t h.val h.isLt x = 0) ∨
      ∃ y : ℝ, (logits X Y (ix4 b h t x) : EReal) = (y : EReal) ∧ wt R (fun b s t => Y (ix3 b s t)) b t h.val h.isLt x = Real.exp y := by
  have hc : mask Y (ix3 b t x) = 1#1 ↔ Ok (fun b s t => Y (ix3 b s t)) b x t := by
    rw [mask_apply, andi_iff, ne_iff, sle_iff _ _ (by omega) (by omega)]; exact Iff.rfl
  rw [logits_apply]
  by_cases hk : Ok (fun b s t => Y (ix3 b s t)) b x t
  · right
    refine ⟨qk R b t x h.val h.isLt * (1 / Real.sqrt 128), ?_, if_pos hk⟩
    refine (if_pos (hc.2 hk)).trans ?_
    rw [ofBits_128, Ideal.sqrt_coe, if_neg (by norm_num), Ideal.div_coe (by positivity), EReal.coe_mul, qk, coe_sum, qks_apply]
    refine congrArg (· * _) (Finset.sum_congr rfl fun d _ => ?_)
    rw [hR _ _ _ (by show 4096 ≤ 4096 + _; omega) (by show 4096 + _ < 7168; omega), hR _ _ _ (by show 4096 ≤ 5120 + _; omega) (by show 5120 + _ < 7168; omega), ← EReal.coe_mul]
  · left
    refine ⟨(if_neg fun h' => hk (hc.1 h')).trans ?_, if_neg hk⟩
    exact ofBits_bot

/-- One element of the plain text's result: the weighted mean of the values for a live query, zero for a padding row. -/
theorem ref_apply (m : (ℓ : Loc nD τ sig) → Buf (Elt Ideal) ℓ) (c : Dev nD) (X : FVec Ideal S2x8704x12288 .bf16) (Y : IVec S2x8704x8704 32)
    (hX : m ((c.tc : Thread nD τ).loc main_arg0) = X) (hY : m ((c.tc : Thread nD τ).loc main_arg1) = Y) (R : Fin 2 → Fin 8704 → Fin 12288 → ℝ)
    (hR : ∀ (b : Fin 2) (s : Fin 8704) (j : Fin 12288), 4096 ≤ j.val → j.val < 7168 → X (ix3 b s j) = (R b s j : EReal))
    (b : Fin 2) (t : Fin 8704) (n : Fin 1024) (hlive : 496 ≤ t.val → ∃ s, Ok (fun b s t => Y (ix3 b s t)) b s t) :
    (Cert.AttnRefIdeal.Value.res_main_v43 (F := Ideal) m c (ix3 b t n) : EReal) =
      if 496 ≤ t.val then ((out R (fun b s t => Y (ix3 b s t)) b t n : ℝ) : EReal) else 0 := by
  have hc : IntOp.cmpi CmpIPredicate.sge (BitVec.ofNat 32 t.val) 496#32 = 1#1 ↔ 496 ≤ t.val := sge_iff t.val 496 (by omega) (by omega)
  rw [res_eq m c X Y hX hY, mix_apply]
  by_cases ht : 496 ≤ t.val
  · refine (if_pos (hc.2 ht)).trans (Eq.trans ?_ (if_pos ht).symm)
    obtain ⟨s₀, hs₀⟩ := hlive ht
    have hlt : n.val / 128 < 8 := by omega
    have hsm := softmax (fun x : Fin 8704 => (logits X Y (ix4 b ⟨n.val / 128, hlt⟩ t x) : EReal))
      (wt R (fun b s t => Y (ix3 b s t)) b t (n.val / 128) hlt) (fun s => R b s ⟨6144 + n.val, by omega⟩)
      (logits_wt X Y R hR b t ⟨n.val / 128, hlt⟩) s₀ (by rw [wt, if_pos hs₀]; exact (Real.exp_pos _).ne') rfl
    suffices hsum : ∑ x : Fin 8704, (X (ix3 b x ⟨6144 + n.val, by omega⟩) : EReal) * probs (logits X Y) (ix4 b ⟨n.val / 128, hlt⟩ t x) = ((out R (fun b s t => Y (ix3 b s t)) b t n : ℝ) : EReal) from hsum
    refine Eq.trans (Finset.sum_congr rfl fun x _ => ?_) hsm
    rw [hR _ _ _ (by show 4096 ≤ 6144 + _; omega) (by show 6144 + _ < 7168; omega), probs, quo_apply, sm_apply]
    simp only [ex_apply, mx_apply, ofBits_bot, bot_sup_eq, bot_le, max_eq_right]
  · exact (if_neg fun h => ht (hc.1 h)).trans ((Ideal.ofBits_zero FTy.f32).trans (if_neg ht).symm)

end Cert.AttnRefIdeal.RefValue
end
-- ==== Proof.AttnEq.lean ====
module

public import proofs.«01_k».proof.Defs
public import proofs.«01_k».proof.Proof.AttnWin
public import proofs.«01_k».proof.Proof.AttnPre
public import proofs.«01_k».proof.Proof.AttnRef

@[expose] public section

set_option maxRecDepth 16384

noncomputable section

namespace Cert.AttnIdeal.RefValue
open Cert.AttnIdeal Cert.AttnIdeal.Gen Idealize.ShloMosaic Idealize.ShloMosaic.TcCoe Idealize.SL.Sem
open Idealize.ShloMosaic.Tactic Cert.AttnMath
open Idealize.ShloMosaic.Pipeline (Dat)

/-- The natural exponential of a scaled product, as a power of two. -/
theorem exp_rpow (x : ℝ) : Real.exp (x * (1 / Real.sqrt 128)) = Real.rpow 2 (x * ((Real.sqrt 128)⁻¹ * (Real.log 2)⁻¹)) := by
  show Real.exp (x * (1 / Real.sqrt 128)) = (2:ℝ) ^ (x * ((Real.sqrt 128)⁻¹ * (Real.log 2)⁻¹))
  have hl : Real.log 2 ≠ 0 := (Real.log_pos (by norm_num)).ne'
  rw [Real.rpow_def_of_pos (by norm_num)]
  congr 1
  field_simp

/-- The keys past a query have no weight: a sum over enough chunks of keys is the sum over all of them. -/
theorem sum_keys (f : ℕ → ℝ) (T : ℕ) (hT : T ≤ 8704) (h : ∀ s, T ≤ s → f s = 0) (g : Fin 8704 → ℝ) (hg : ∀ s : Fin 8704, f s.val = g s) :
    ∑ s ∈ Finset.range T, f s = ∑ s, g s := by
  rw [← Finset.sum_congr rfl (fun s _ => hg s), ← Finset.sum_range (fun s => f s)]
  refine Finset.sum_subset (fun a ha => Finset.mem_range.2 ((Finset.mem_range.1 ha).trans_le hT)) fun s _ hs => h s ?_
  exact Nat.le_of_not_lt fun h' => hs (Finset.mem_range.2 h')

variable (m : (ℓ : Loc nD τ sig) → Buf (Elt Ideal) ℓ)

/-- The argument with the queries, keys and values. -/
abbrev XA (c : Dev nD) : FVec Ideal S2x8704x12288 .bf16 := m ((c : Thread nD τ).loc main_arg0)
/-- The argument with the selected keys. -/
abbrev YA (c : Dev nD) : IVec S2x8704x8704 32 := m ((c : Thread nD τ).loc main_arg1)
/-- The queries, keys and values as real numbers. -/
def RA (c : Dev nD) (b : Fin 2) (s : Fin 8704) (j : Fin 12288) : ℝ := (XA m c (ix3 b s j) : EReal).toReal
/-- The selected keys. -/
abbrev YS (c : Dev nD) (b : Fin 2) (s t : Fin 8704) : BitVec 32 := YA m c (ix3 b s t)

/-- What is assumed of the arguments: each live query has a selected key not after it, and the queries, keys and values are finite. -/
def Good (c : Dev nD) : Prop :=
  (∀ (b : Fin 2) (t : Fin 8704), 496 ≤ t.val → ∃ s, Ok (YS m c) b s t) ∧
    ∀ (b : Fin 2) (s : Fin 8704) (j : Fin 12288), 4096 ≤ j.val → j.val < 7168 → XA m c (ix3 b s j) = (RA m c b s j : EReal)

/-- The result: the weighted mean of the values for a live query, zero for a padding row. -/
def G (c : Dev nD) : S2x8704x1024.Idx → EReal := fun y =>
  if 496 ≤ (y 1).val then ((out (RA m c) (YS m c) (y 0) (y 1) (y 2) : ℝ) : EReal) else 0

/-- A logit of a point's block with its weight. -/
theorem wt_blk (c : Dev nD) (hG : Good m c) (t : Fin cfg0.N) (h : Fin 4) (j : Fin 256) (b : Fin 2) (q : Fin 8704) (hh : ℕ) (hh8 : hh < 8)
    (hb : b.val = t.val / 68) (hq : q.val = 256 * (t.val % 34) + j.val) (he : hh = 4 * (t.val / 34 % 2) + h.val) (s : Fin 8704) :
    Wt (lg (iblk m c 3 t) (iblk m c 1 t) (sq (iblk m c 0 t)) h j s.val) (wt (RA m c) (YS m c) b q hh hh8 s) := by
  have e : lg (iblk m c 3 t) (iblk m c 1 t) (sq (iblk m c 0 t)) h j s.val =
      (((qk (RA m c) b q s hh hh8 * ((Real.sqrt 128)⁻¹ * (Real.log 2)⁻¹) : ℝ) : EReal)) + bias (YA m c) (ix3 b s q) := by
    unfold lg
    rw [dif_pos s.isLt]
    refine congrArg₂ (· + ·) ?_ (blk3 m c t s j b q hb hq)
    rw [qk, Finset.sum_mul, coe_sum]
    refine Finset.sum_congr rfl fun d _ => ?_
    have hd := d.isLt
    have hh4 := h.isLt
    rw [blk1 m c t s ⟨128 * h.val + d.val, by omega⟩ b ⟨5120 + (hh * 128 + d.val), by omega⟩ hb
      (by show 5120 + (hh * 128 + d.val) = 5120 + (512 * (t.val / 34 % 2) + (128 * h.val + d.val)); omega)]
    unfold sq
    refine (congrArg (fun z : EReal => (XA m c (ix3 b s ⟨5120 + (hh * 128 + d.val), by omega⟩) : EReal) * (z * (((Real.sqrt 128)⁻¹ * (Real.log 2)⁻¹ : ℝ) : EReal)))
      (blk0 m c t j ⟨128 * h.val + d.val, by omega⟩ b q ⟨4096 + (hh * 128 + d.val), by omega⟩ hb hq
        (by show 4096 + (hh * 128 + d.val) = 4096 + (512 * (t.val / 34 % 2) + (128 * h.val + d.val)); omega))).trans ?_
    show (XA m c (ix3 b s ⟨5120 + (hh * 128 + d.val), by omega⟩) : EReal) * ((XA m c (ix3 b q ⟨4096 + (hh * 128 + d.val), by omega⟩) : EReal) * _) = _
    rw [hG.2 _ _ _ (by show 4096 ≤ 5120 + _; omega) (by show 5120 + _ < 7168; omega),
      hG.2 _ _ _ (by show 4096 ≤ 4096 + _; omega) (by show 4096 + _ < 7168; omega), ← EReal.coe_mul, ← EReal.coe_mul]
    congr 1
    ring
  rw [e, bias_ok]
  by_cases hk : Ok (YS m c) b s q
  · right
    refine ⟨qk (RA m c) b q s hh hh8 * ((Real.sqrt 128)⁻¹ * (Real.log 2)⁻¹), ?_, ?_⟩
    · rw [if_pos hk, add_zero]
    · rw [wt, if_pos hk, exp_rpow]
  · left
    refine ⟨?_, if_neg hk⟩
    rw [if_neg hk, EReal.add_bot]

/-- A value of a point's block. -/
theorem vl_blk (c : Dev nD) (hG : Good m c) (t : Fin cfg0.N) (h : Fin 4) (d : Fin 128) (b : Fin 2) (n : Fin 1024)
    (hb : b.val = t.val / 68) (hn : n.val = 512 * (t.val / 34 % 2) + (128 * h.val + d.val)) (s : Fin 8704) :
    vl (iblk m c 2 t) h d s.val = ((RA m c b s ⟨6144 + n.val, by omega⟩ : ℝ) : EReal) := by
  unfold vl
  rw [dif_pos s.isLt]
  refine (blk2 m c t _ _ _ b s ⟨6144 + n.val, by omega⟩ hb ?_ ?_).trans ?_
  · show s.val = 512 * (s.val / 512) + s.val % 512; omega
  · show 6144 + n.val = 6144 + (512 * (t.val / 34 % 2) + (128 * h.val + d.val)); omega
  · exact hG.2 _ _ _ (by show 4096 ≤ 6144 + _; omega) (by show 6144 + _ < 7168; omega)

/-- A weight as a function of the key's number. -/
def wn (c : Dev nD) (b : Fin 2) (q : Fin 8704) (hh : ℕ) (hh8 : hh < 8) (s : ℕ) : ℝ := if hs : s < 8704 then wt (RA m c) (YS m c) b q hh hh8 ⟨s, hs⟩ else 0
/-- A value as a function of the key's number. -/
def vn (c : Dev nD) (b : Fin 2) (n : Fin 1024) (s : ℕ) : ℝ := if hs : s < 8704 then RA m c b ⟨s, hs⟩ ⟨6144 + n.val, by omega⟩ else 0

theorem wn_zero (c : Dev nD) (b : Fin 2) (q : Fin 8704) (hh : ℕ) (hh8 : hh < 8) (s : ℕ) (h : q.val < s) : wn m c b q hh hh8 s = 0 := by
  unfold wn
  split
  · exact if_neg fun hk => absurd hk.2 (Nat.not_le.2 h)
  · rfl

theorem wn_nonneg (c : Dev nD) (b : Fin 2) (q : Fin 8704) (hh : ℕ) (hh8 : hh < 8) (s : ℕ) : 0 ≤ wn m c b q hh hh8 s := by
  unfold wn wt
  split
  · split
    · exact (Real.exp_pos _).le
    · exact le_rfl
  · exact le_rfl

/-- What a point leaves in its output block is `G` there. -/
theorem out_eq (c : Dev nD) (hG : Good m c) (t : Fin cfg0.N) (j : Fin 256) (n : Fin 512) (b : Fin 2) (q : Fin 8704) (p : Fin 1024)
    (hb : b.val = t.val / 68) (hq : q.val = 256 * (t.val % 34) + j.val) (hp : p.val = 512 * (t.val / 34 % 2) + n.val) :
    (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (ix3 0 j n) : EReal) = G m c (ix3 b q p) := by
  have hc : (grid0.coords t 2).val = t.val % 34 := (idx_all t).2.2.2.2.2.1
  have hn := n.isLt
  have hj := j.isLt
  have hh8 : p.val / 128 < 8 := by omega
  have hT : 512 * ((256 * (t.val % 34) + 255) / 512 + 1) ≤ 8704 := by omega
  have hqT : q.val < 512 * ((256 * (t.val % 34) + 255) / 512 + 1) := by omega
  have hpos : 496 ≤ 256 * (t.val % 34) + j.val → 0 < ∑ s ∈ Finset.range (512 * ((256 * (t.val % 34) + 255) / 512 + 1)), wn m c b q (p.val / 128) hh8 s := by
    intro hl
    obtain ⟨s, hs⟩ := hG.1 b q (by omega)
    have hsq := hs.2
    refine Finset.sum_pos' (fun _ _ => wn_nonneg m c b q _ hh8 _) ⟨s.val, Finset.mem_range.2 (hsq.trans_lt hqT), ?_⟩
    unfold wn
    rw [dif_pos s.isLt]
    unfold wt
    exact (if_pos hs).symm ▸ Real.exp_pos _
  have key := mean c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t)
    ⟨n.val / 128, by omega⟩ j ⟨n.val % 128, by omega⟩ n (by show n.val = 128 * (n.val / 128) + n.val % 128; omega)
    (wn m c b q (p.val / 128) hh8) (vn m c b p)
    (fun s hs => by
      unfold wn
      rw [dif_pos hs]
      exact wt_blk m c hG t _ j b q (p.val / 128) hh8 hb hq (by show p.val / 128 = 4 * (t.val / 34 % 2) + n.val / 128; omega) ⟨s, hs⟩)
    (fun s hs => by
      unfold vn
      rw [dif_pos hs]
      exact vl_blk m c hG t _ _ b p hb (by show p.val = 512 * (t.val / 34 % 2) + (128 * (n.val / 128) + n.val % 128); omega) ⟨s, hs⟩)
    (by rw [hc]; exact hpos)
  refine key.trans ?_
  rw [hc, ← hq]
  have z1 : ∀ s, 512 * ((256 * (t.val % 34) + 255) / 512 + 1) ≤ s → wn m c b q (p.val / 128) hh8 s = 0 := fun s hs => wn_zero m c b q _ hh8 s (hqT.trans_le hs)
  have s1 := sum_keys (fun s => wn m c b q (p.val / 128) hh8 s) _ hT z1 (fun s => wt (RA m c) (YS m c) b q (p.val / 128) hh8 s)
    (fun s => by show wn m c b q (p.val / 128) hh8 s.val = _; unfold wn; rw [dif_pos s.isLt])
  have s2 := sum_keys (fun s => vn m c b p s * wn m c b q (p.val / 128) hh8 s) _ hT (fun s hs => by show vn m c b p s * wn m c b q (p.val / 128) hh8 s = 0; rw [z1 s hs, mul_zero])
    (fun s => RA m c b s ⟨6144 + p.val, by omega⟩ * wt (RA m c) (YS m c) b q (p.val / 128) hh8 s)
    (fun s => by show vn m c b p s.val * wn m c b q (p.val / 128) hh8 s.val = _; unfold vn wn; rw [dif_pos s.isLt, dif_pos s.isLt])
  rw [s1, s2]
  rfl

/-- What a grid point writes back is its block of `G`. -/
theorem flushed_eq (c : Dev nD) (hG : Good m c) (t : Fin cfg0.N) :
    (dats m 0 c).flushed 4 t = ((cfg0.win 4).blk t).view.read (Elt Ideal) (G m c) := by
  have h := (idx_all t).2.2.2.2.1
  have ht : t.val < 136 := t.isLt
  rw [Value.flushed4_A]
  funext y
  have y0 : (y 0).val < 1 := (y 0).isLt
  have y1 : (y 1).val < 256 := (y 1).isLt
  have y2 : (y 2).val < 512 := (y 2).isLt
  have e : (cfg0.win 4).xinj (grid0.coords t) y = (ix3 (0 : Fin 1) (⟨(y 1).val, y1⟩ : Fin 256) (⟨(y 2).val, y2⟩ : Fin 512) : S1x256x512.Idx) := by
    funext a; match a with
    | ⟨0, _⟩ => apply Fin.ext; show (y 0).val = 0; omega
    | ⟨1, _⟩ => rfl
    | ⟨2, _⟩ => rfl
  have e' : (((cfg0.win 4).blk t).view.emb y) = (ix3 (⟨t.val / 68, by omega⟩ : Fin 2) (⟨256 * (t.val % 34) + (y 1).val, by omega⟩ : Fin 8704) (⟨512 * (t.val / 34 % 2) + (y 2).val, by omega⟩ : Fin 1024) : S2x8704x1024.Idx) := by
    funext a; apply Fin.ext; match a with
    | ⟨0, _⟩ => show win0_4.index t 0 * 1 + 1 * (y 0).val = t.val / 68; omega
    | ⟨1, _⟩ => show win0_4.index t 1 * 256 + 1 * (y 1).val = 256 * (t.val % 34) + (y 1).val; omega
    | ⟨2, _⟩ => show win0_4.index t 2 * 512 + 1 * (y 2).val = 512 * (t.val / 34 % 2) + (y 2).val; omega
  refine (congrArg (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t)) e).trans ?_
  refine Eq.trans ?_ (congrArg (G m c) e').symm
  exact out_eq m c hG t _ _ _ _ _ rfl rfl rfl

/-- The array after the run is `G`. -/
theorem final (c : Dev nD) (hG : Good m c) : (dats m 0 c).arrAt 4 cfg0.N = G m c :=
  (dats m 0 c).arrAt_eq_of_cover 4 (G m c) (fun t _ => flushed_eq m c hG t) covered

/-- The precondition gives what is assumed of the arguments. -/
theorem good_of_pre (hP : Cert.Pre_AttnIdeal_attn_pre (hPre_attn_pre := Cert.AttnPre.facts) m) (c : Dev nD) : Good m c := by
  have h := @Cert.AttnPre.pre_apply Cert.AttnPre.facts (XA m c) (YA m c) (hP c)
  refine ⟨fun b t ht => (h b t).1.resolve_right (by omega), fun b s j h1 h2 => ?_⟩
  have h3 := (h b s).2 b s ⟨j.val - 4096, by omega⟩
  have e : (⟨4096 + (j.val - 4096), by omega⟩ : Fin 12288) = j := Fin.ext (by show 4096 + (j.val - 4096) = j.val; omega)
  unfold RA
  rw [← e]
  exact h3

/-- The kernel and the plain text end with the same attention, where each live query has a selected key not after it and the queries, keys and values are finite. -/
theorem algebraic : Cert.algebraic_AttnIdeal_AttnRefIdeal_pre_attn_pre (hAttnIdeal := Cert.AttnIdeal.Gen.facts) (hAttnRefIdeal := Cert.AttnRefIdeal.Gen.facts) (hPre_attn_pre := Cert.AttnPre.facts) := by
  intro m g m' g' hP hargs
  have hG := good_of_pre m hP
  refine ⟨fun c => G m c, ?_, ?_⟩
  · exact (θ_run Cert.AttnIdeal.defs _ _).mono (fun r h c => ⟨((h c).1).trans (final m c (hG c)), (h c).2⟩) (Cert.AttnIdeal.Value.run_blocks (F := Ideal) m g)
  · refine (θ_run Cert.AttnRefIdeal.defs _ _).mono (fun r h c => ⟨((h c).1).trans ?_, (h c).2⟩) (Cert.AttnRefIdeal.Value.run (F := Ideal) m' g')
    obtain ⟨h0, h1⟩ := hargs c
    funext i
    obtain ⟨b, t, n, rfl⟩ : ∃ (b : Fin 2) (t : Fin 8704) (n : Fin 1024), i = ix3 b t n := ⟨_, _, _, eq_ix3 i⟩
    exact Cert.AttnRefIdeal.RefValue.ref_apply m' c (XA m c) (YA m c) h0 h1 (RA m c) (hG c).2 b t n ((hG c).1 b t)

end Cert.AttnIdeal.RefValue
end
-- ==== Proof.Rms.lean ====
module

public import Idealize.ShloMosaic.Lib.Pointwise

@[expose] public section

noncomputable section

open Idealize.ShloMosaic

namespace Cert.Rms

/-- One element of the root-mean-square norm of a row `u` of 2048 numbers, with weight `w`: the constants are the
    texts' own float constants 2048 and 1e-6. -/
def rms (u w : Fin 2048 → EReal) (j : Fin 2048) : EReal :=
  u j * Ideal.rsqrt (Ideal.div (∑ x, u x * u x) (Ideal.ofBits FTy.f32 1157627904#32) + Ideal.ofBits FTy.f32 897988541#32) * w j

/-- The norm of a row depends on the row's and the weight's elements only. -/
theorem rms_congr {u u' w w' : Fin 2048 → EReal} (hu : ∀ x, u x = u' x) (hw : ∀ x, w x = w' x) (j : Fin 2048) : rms u w j = rms u' w' j := by
  rw [show u = u' from funext hu, show w = w' from funext hw]

end Cert.Rms
end
-- ==== Proof.InProjEq.lean ====
module

public import proofs.«01_k».proof.Defs
public import proofs.«01_k».proof.Proof.Gen.InProjIdeal.Value
public import proofs.«01_k».proof.Proof.Gen.InProjRefIdeal.Run
public import proofs.«01_k».proof.Proof.Rms
public import Idealize.ShloMosaic.Lib.Pointwise
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Cert.Rms

namespace Cert.InProjIdeal.RefValue

open Cert.InProjIdeal Cert.InProjIdeal.Gen

theorem hz : (![0, 0] : Fin 2 → Nat) = fun _ => 0 := funext fun a => by fin_cases a <;> rfl

variable (m : (ℓ : Loc nD τ sig) → Buf (Elt Ideal) ℓ)

theorem row_apply (x : FVec Ideal S2048 .f32) (s : Fin 2048) : shapeCast S1x2048 x shapeCasts_S2048_S1x2048 (ix2 (0 : Fin 1) s) = x (ix1 s) := by
  pointwise []

theorem V_main_v0 (c : Dev nD) : V m c main_v0 = shapeCast S1x2048 (m ((c : Thread nD τ).loc main_arg1) : FVec Ideal S2048 .f32) shapeCasts_S2048_S1x2048 := by
  show StableHlo.after hostOps0 (fun b => m (c, b)) (Proc.devRef .tc main_v0) = _
  after_results; rfl

theorem V_main_v1 (c : Dev nD) : V m c main_v1 = m ((c : Thread nD τ).loc main_arg2) := by
  show StableHlo.after hostOps0 (fun b => m (c, b)) (Proc.devRef .tc main_v1) = _
  after_results; rfl

/-- The window positions at point `t`: row block `t / 12`, column block `t % 12`. -/
theorem idx_all : ∀ t : Fin cfg0.N,
    (win0_0.index t 0 = t.val / 12 ∧ win0_0.index t 1 = 0) ∧ (win0_1.index t 0 = 0 ∧ win0_1.index t 1 = 0)
    ∧ (win0_2.index t 0 = 0 ∧ win0_2.index t 1 = t.val % 12) ∧ (win0_3.index t 0 = t.val / 12 ∧ win0_3.index t 1 = t.val % 12) ∧ t.val < 204 :=
  (by decide +kernel : ∀ t : Fin grid0.N, _)

/-- Window 0 stages the activations' rows. -/
theorem blk0 (c : Dev nD) (t : Fin cfg0.N) (i : Fin 1024) (j : Fin 2048) (r : Fin 17408) (s : Fin 2048)
    (hr : r.val = t.val / 12 * 1024 + i.val) (hs : s.val = j.val) :
    (iblk m c 0 t : FVec Ideal S1024x2048 .f32) (ix2 i j) = m ((c : Thread nD τ).loc main_arg0) (ix2 r s) := by
  have h := idx_all t
  unfold iblk; rw [View.read_apply]
  show V m c main_arg0 _ = _
  rw [V_main_arg0]
  congr 1; funext a; apply Fin.ext
  match a with
  | ⟨0, _⟩ => show win0_0.index t 0 * 1024 + 1 * i.val = r.val; omega
  | ⟨1, _⟩ => show win0_0.index t 1 * 2048 + 1 * j.val = s.val; omega

/-- Window 1 stages the norm's weight. -/
theorem blk1 (c : Dev nD) (t : Fin cfg0.N) (i : Fin 1) (j : Fin 2048) (s : Fin 2048) (hs : s.val = j.val) :
    (iblk m c 1 t : FVec Ideal S1x2048 .f32) (ix2 i j) = m ((c : Thread nD τ).loc main_arg1) (ix1 s) := by
  have h := idx_all t
  unfold iblk; rw [View.read_apply]
  show V m c main_v0 _ = _
  rw [V_main_v0]
  have e : (((cfg0.win 1).blk t).view.emb (ix2 i j)) = (ix2 (0 : Fin 1) s : S1x2048.Idx) := by
    funext a; apply Fin.ext
    match a with
    | ⟨0, _⟩ => show win0_1.index t 0 * 1 + 1 * i.val = 0; omega
    | ⟨1, _⟩ => show win0_1.index t 1 * 2048 + 1 * j.val = s.val; omega
  refine (congrArg _ e).trans ?_
  exact row_apply _ s

/-- Window 2 stages a column block of the weight. -/
theorem blk2 (c : Dev nD) (t : Fin cfg0.N) (i : Fin 2048) (j : Fin 1024) (r : Fin 2048) (s : Fin 12288)
    (hr : r.val = i.val) (hs : s.val = t.val % 12 * 1024 + j.val) :
    (iblk m c 2 t : FVec Ideal S2048x1024 .bf16) (ix2 i j) = m ((c : Thread nD τ).loc main_arg2) (ix2 r s) := by
  have h := idx_all t
  unfold iblk; rw [View.read_apply]
  show V m c main_v1 _ = _
  rw [V_main_v1]
  congr 1; funext a; apply Fin.ext
  match a with
  | ⟨0, _⟩ => show win0_2.index t 0 * 2048 + 1 * i.val = r.val; omega
  | ⟨1, _⟩ => show win0_2.index t 1 * 1024 + 1 * j.val = s.val; omega

/-- One element of the normalised rows the kernel keeps between points. -/
theorem pay1_apply (x0 : FVec Ideal S1024x2048 .f32) (x1 : FVec Ideal S1x2048 .f32) (i : Fin 1024) (j : Fin 2048) :
    (k0_pay1 x0 x1 : FVec Ideal S1024x2048 .bf16) (ix2 i j) = rms (fun l => x0 (ix2 i l)) (fun l => x1 (ix2 0 l)) j := by
  unfold rms
  pointwise [k0_pay1]

/-- One element of a block of the product. -/
theorem pay2_apply (x0 : FVec Ideal S1024x2048 .bf16) (x1 : FVec Ideal S2048x1024 .bf16) (i j : Fin 1024) :
    (k0_pay2 x0 x1 : FVec Ideal S1024x1024 .bf16) (ix2 i j) = ∑ k : Fin 2048, x0 (ix2 i k) * x1 (ix2 k j) := by
  pointwise [k0_pay2]

/-- The normalised row `r` of the activations. -/
def hn (h : FVec Ideal S17408x2048 .f32) (w : FVec Ideal S2048 .f32) (r : Fin 17408) (k : Fin 2048) : EReal :=
  rms (fun l => h (ix2 r l)) (fun l => w (ix1 l)) k

/-- The result, from the launch memory. -/
def G (c : Dev nD) : FVec Ideal S17408x12288 .bf16 := fun i =>
  ∑ k : Fin 2048, hn (m ((c : Thread nD τ).loc main_arg0)) (m ((c : Thread nD τ).loc main_arg1)) (i 0) k * m ((c : Thread nD τ).loc main_arg2) (ix2 k (i 1))
theorem G_apply (c : Dev nD) (r : Fin 17408) (s : Fin 12288) : G m c (ix2 r s) =
  ∑ k : Fin 2048, hn (m ((c : Thread nD τ).loc main_arg0)) (m ((c : Thread nD τ).loc main_arg1)) r k * m ((c : Thread nD τ).loc main_arg2) (ix2 k s) := rfl

theorem soutA (c : Dev nD) (i : grid0.Coords) (a2 : Memref sig .tc .vmem S1024x2048 .f32) (h2 : a2.IsWhole) (a3 : Memref sig .tc .vmem S1x2048 .f32) (h3 : a3.IsWhole) (a4 : Memref sig .tc .vmem S2048x1024 .bf16) (h4 : a4.IsWhole) (a5 : Memref sig .tc .vmem S1024x1024 .bf16) (h5 : a5.IsWhole) (a6 : Memref sig .tc .vmem S1024x2048 .bf16) (h6 : a6.IsWhole) (hc : cond0_0 i)
    (x0 : FVec Ideal S1024x2048 .f32) (x1 : FVec Ideal S1x2048 .f32) (x2 : FVec Ideal S2048x1024 .bf16) :
    sout0_A_0 (F := Ideal) c i a2 h2 a3 h3 a4 h4 a5 h5 a6 h6 hc x0 x1 x2 = k0_pay1 (F := Ideal) x0 x1 := by
  unfold sout0_A_0
  rw [View.read_writes_eq_canon _ _ _ (scover0_A_0 (F := Ideal) c i a2 h2 a3 h3 a4 h4 a5 h5 a6 h6 hc x0 x1 x2)]
  unfold kernelRun0_A
  dsimp only
  sl_unfold_words
  rw [View.canon_unit_zero hz]
  simp only [View.readAt_eq_ld, h2.read_unread, h3.read_unread, View.ld_unit_zero (S := S1024x2048) hz, View.ld_unit_zero (S := S1x2048) hz]

theorem outA (c : Dev nD) (i : grid0.Coords) (a2 : Memref sig .tc .vmem S1024x2048 .f32) (h2 : a2.IsWhole) (a3 : Memref sig .tc .vmem S1x2048 .f32) (h3 : a3.IsWhole) (a4 : Memref sig .tc .vmem S2048x1024 .bf16) (h4 : a4.IsWhole) (a5 : Memref sig .tc .vmem S1024x1024 .bf16) (h5 : a5.IsWhole) (a6 : Memref sig .tc .vmem S1024x2048 .bf16) (h6 : a6.IsWhole) (hc : cond0_0 i)
    (x0 : FVec Ideal S1024x2048 .f32) (x1 : FVec Ideal S1x2048 .f32) (x2 : FVec Ideal S2048x1024 .bf16) :
    out0_A_3 (F := Ideal) c i a2 h2 a3 h3 a4 h4 a5 h5 a6 h6 hc x0 x1 x2 = k0_pay2 (F := Ideal) (k0_pay1 (F := Ideal) x0 x1) x2 := by
  unfold out0_A_3
  rw [View.read_writes_eq_canon _ _ _ (cover0_A_3 (F := Ideal) c i a2 h2 a3 h3 a4 h4 a5 h5 a6 h6 hc x0 x1 x2)]
  unfold kernelRun0_A
  dsimp only
  sl_unfold_words
  rw [View.canon_unit_zero hz]
  simp only [View.readAt_eq_ld, h2.read_unread, h3.read_unread, h4.read_unread, View.ld_unit_zero (S := S1024x2048) hz, View.ld_unit_zero (S := S1x2048) hz, View.ld_unit_zero (S := S2048x1024) hz]
  rw [View.readCov_cons_toLoadRect]

theorem outB (c : Dev nD) (i : grid0.Coords) (a2 : Memref sig .tc .vmem S1024x2048 .f32) (h2 : a2.IsWhole) (a3 : Memref sig .tc .vmem S1x2048 .f32) (h3 : a3.IsWhole) (a4 : Memref sig .tc .vmem S2048x1024 .bf16) (h4 : a4.IsWhole) (a5 : Memref sig .tc .vmem S1024x1024 .bf16) (h5 : a5.IsWhole) (a6 : Memref sig .tc .vmem S1024x2048 .bf16) (h6 : a6.IsWhole) (hc : ¬cond0_0 i)
    (x0 : FVec Ideal S1024x2048 .f32) (x1 : FVec Ideal S1x2048 .f32) (x2 : FVec Ideal S2048x1024 .bf16) (xs : FVec Ideal S1024x2048 .bf16) :
    out0_B_3 (F := Ideal) c i a2 h2 a3 h3 a4 h4 a5 h5 a6 h6 hc x0 x1 x2 xs = k0_pay2 (F := Ideal) xs x2 := by
  unfold out0_B_3
  rw [View.read_writes_eq_canon _ _ _ (cover0_B_3 (F := Ideal) c i a2 h2 a3 h3 a4 h4 a5 h5 a6 h6 hc x0 x1 x2 xs)]
  unfold kernelRun0_B
  dsimp only
  sl_unfold_words
  rw [View.canon_unit_zero hz]
  simp only [View.readAt_eq_ld, h6.read_unread, h4.read_unread, View.ld_unit_zero (S := S1024x2048) hz, View.ld_unit_zero (S := S2048x1024) hz]

theorem row_eq (c : Dev nD) (t : Fin cfg0.N) (i : Fin 1024) (j : Fin 2048) (r : Fin 17408) (hr : r.val = t.val / 12 * 1024 + i.val) :
    (k0_pay1 (iblk m c 0 t) (iblk m c 1 t) : FVec Ideal S1024x2048 .bf16) (ix2 i j) =
      hn (m ((c : Thread nD τ).loc main_arg0)) (m ((c : Thread nD τ).loc main_arg1)) r j := by
  refine (pay1_apply _ _ i j).trans ?_
  exact rms_congr (fun x => blk0 m c t i x r x hr rfl) (fun x => blk1 m c t 0 x x rfl) j

theorem scrA (c : Dev nD) (t : Fin cfg0.N) (h0 : t.val % 12 = 0) :
    (outsAt0 (F := Ideal) m c t.val t.isLt).2 = k0_pay1 (F := Ideal) (iblk m c 0 t) (iblk m c 1 t) := by
  rw [outsAt0_A m c t h0]
  dsimp only
  rw [soutA]

theorem scrB (c : Dev nD) (t : Fin cfg0.N) (h0 : ¬t.val % 12 = 0) :
    (outsAt0 (F := Ideal) m c t.val t.isLt).2 = (outsAt0 (F := Ideal) m c (t.val - 1) (Nat.lt_of_le_of_lt (Nat.sub_le _ _) t.isLt)).2 := by
  rw [outsAt0_B m c t h0]
  rfl

theorem resA (c : Dev nD) (t : Fin cfg0.N) (h0 : t.val % 12 = 0) :
    (outsAt0 (F := Ideal) m c t.val t.isLt).1 = k0_pay2 (F := Ideal) (k0_pay1 (F := Ideal) (iblk m c 0 t) (iblk m c 1 t)) (iblk m c 2 t) := by
  rw [outsAt0_A m c t h0]
  dsimp only
  rw [outA]

theorem resB (c : Dev nD) (t : Fin cfg0.N) (h0 : ¬t.val % 12 = 0) :
    (outsAt0 (F := Ideal) m c t.val t.isLt).1 = k0_pay2 (F := Ideal) (outsAt0 (F := Ideal) m c (t.val - 1) (Nat.lt_of_le_of_lt (Nat.sub_le _ _) t.isLt)).2 (iblk m c 2 t) := by
  rw [outsAt0_B m c t h0]
  dsimp only
  rw [outB]

/-- After every point the scratch holds the normalised rows of the point's row block. -/
theorem scr (c : Dev nD) : ∀ (n : ℕ) (t : Fin cfg0.N) (hn' : t.val = n) (i : Fin 1024) (j : Fin 2048) (r : Fin 17408) (hr : r.val = n / 12 * 1024 + i.val),
    ((outsAt0 (F := Ideal) m c t.val t.isLt).2 : FVec Ideal S1024x2048 .bf16) (ix2 i j) = hn (m ((c : Thread nD τ).loc main_arg0)) (m ((c : Thread nD τ).loc main_arg1)) r j := by
  intro n
  induction n with
  | zero =>
    intro t hn' i j r hr
    rw [scrA m c t (by rw [hn'])]
    exact row_eq m c t i j r (by rw [hn']; exact hr)
  | succ n ih =>
    intro t hn' i j r hr
    by_cases h0 : t.val % 12 = 0
    · rw [scrA m c t h0]
      exact row_eq m c t i j r (by rw [hn']; exact hr)
    · rw [scrB m c t h0]
      have h1 : ¬(n + 1) % 12 = 0 := hn' ▸ h0
      have h2 : t.val - 1 = n := by rw [hn']; rfl
      have h3 : n / 12 = (n + 1) / 12 := by clear ih hn' h0 h2; omega
      exact ih ⟨t.val - 1, Nat.lt_of_le_of_lt (Nat.sub_le _ _) t.isLt⟩ h2 i j r (by rw [h3]; exact hr)

/-- What a point leaves in the output's block is the product of the normalised rows. -/
theorem out_eq (c : Dev nD) (t : Fin cfg0.N) (i j : Fin 1024) (r : Fin 17408) (s : Fin 12288) (hr : r.val = t.val / 12 * 1024 + i.val) (hs : s.val = t.val % 12 * 1024 + j.val) :
    ((outsAt0 (F := Ideal) m c t.val t.isLt).1 : FVec Ideal S1024x1024 .bf16) (ix2 i j) = G m c (ix2 r s) := by
  rw [G_apply]
  by_cases h0 : t.val % 12 = 0
  · rw [resA m c t h0]
    refine (pay2_apply _ _ i j).trans ?_
    exact Finset.sum_congr rfl fun k _ => congrArg₂ (· * ·) (row_eq m c t i k r hr) (blk2 m c t k j k s rfl hs)
  · rw [resB m c t h0]
    refine (pay2_apply _ _ i j).trans ?_
    exact Finset.sum_congr rfl fun k _ => congrArg₂ (· * ·) (scr m c (t.val - 1) ⟨t.val - 1, Nat.lt_of_le_of_lt (Nat.sub_le _ _) t.isLt⟩ rfl i k r (by omega)) (blk2 m c t k j k s rfl hs)

/-- What a grid point writes back is its block of `G`. -/
theorem flushed_eq (c : Dev nD) (t : Fin cfg0.N) :
    (dats m 0 c).flushed 3 t = ((cfg0.win 3).blk t).view.read (Elt Ideal) (G m c) := by
  have h := idx_all t
  rw [Value.flushed3]
  funext y
  show ((outsAt0 m c t.val t.isLt).1 : FVec Ideal S1024x1024 .bf16) ((cfg0.win 3).xinj (grid0.coords t) y) = G m c (((cfg0.win 3).blk t).view.emb y)
  have y0 : (y 0).val < 1024 := (y 0).isLt
  have y1 : (y 1).val < 1024 := (y 1).isLt
  have e : (cfg0.win 3).xinj (grid0.coords t) y = (ix2 (⟨(y 0).val, y0⟩ : Fin 1024) (⟨(y 1).val, y1⟩ : Fin 1024) : S1024x1024.Idx) := by
    funext a; match a with
    | ⟨0, _⟩ => rfl
    | ⟨1, _⟩ => rfl
  have e' : (((cfg0.win 3).blk t).view.emb y) = (ix2 (⟨t.val / 12 * 1024 + (y 0).val, by omega⟩ : Fin 17408) (⟨t.val % 12 * 1024 + (y 1).val, by omega⟩ : Fin 12288) : S17408x12288.Idx) := by
    funext a; apply Fin.ext; match a with
    | ⟨0, _⟩ => show win0_3.index t 0 * 1024 + 1 * (y 0).val = t.val / 12 * 1024 + (y 0).val; omega
    | ⟨1, _⟩ => show win0_3.index t 1 * 1024 + 1 * (y 1).val = t.val % 12 * 1024 + (y 1).val; omega
  rw [e, e']
  exact out_eq m c t _ _ _ _ rfl rfl

/-- The array after the run. -/
theorem final (c : Dev nD) : (dats m 0 c).arrAt 3 cfg0.N = G m c :=
  (dats m 0 c).arrAt_eq_of_cover 3 (G m c) (fun t _ => flushed_eq m c t) (fun i => (Value.covered_iff3 i).2 (by
    have h0 : (i 0).val < 17408 := (i 0).isLt; have h1 : (i 1).val < 12288 := (i 1).isLt; omega))

end Cert.InProjIdeal.RefValue

namespace Cert.InProjRefIdeal.RefValue
open Cert.InProjRefIdeal Cert.InProjRefIdeal.Gen

theorem refn (h : FVec Ideal S17408x2048 .f32) (w : FVec Ideal S2048 .f32) (r : Fin 17408) (k : Fin 2048) :
   (mulf (mulf h (broadcastInDim S17408x2048 ![0, 1] bcast_S17408x1_S17408x2048_0_1 (Host.rsqrt (addf (Host.divf (broadcastInDim S17408x1 ![0] bcast_S17408_S17408x1_0 (Host.reduceAdd (mulf h h) (constant S_ .f32 0x00000000#32) reducesTo_S17408x2048_S17408_d1 h_S_)) (broadcastInDim S17408x1 ![] bcast_S_S17408x1 (constant S_ .f32 0x45000000#32))) (broadcastInDim S17408x1 ![] bcast_S_S17408x1 (constant S_ .f32 0x358637BD#32)))))) (broadcastInDim S17408x2048 ![0, 1] bcast_S1x2048_S17408x2048_0_1 (broadcastInDim S1x2048 ![1] bcast_S2048_S1x2048_1 w)) : FVec Ideal S17408x2048 .f32) (ix2 r k) = Cert.InProjIdeal.RefValue.hn h w r k := by
  unfold Cert.InProjIdeal.RefValue.hn rms
  pointwise []

theorem refp (x : FVec Ideal S17408x2048 .f32) (w : FVec Ideal S2048x12288 .f32) (r : Fin 17408) (s : Fin 12288) :
   (truncf .bf16 (Host.dotGeneral dot_S17408x2048_S2048x12288_S17408x12288_1_0_0_1_n_n none x w) bitsLt_bf16_f32 : FVec Ideal S17408x12288 .bf16) (ix2 r s) =
    ∑ k : Fin 2048, x (ix2 r k) * w (ix2 k s) := by
  pointwise []

end Cert.InProjRefIdeal.RefValue

namespace Cert.InProjIdeal.RefValue

/-- The kernel and the plain text end with the same product of normalised rows, for any argument values. -/
theorem algebraic : Cert.algebraic_InProjIdeal_InProjRefIdeal (hInProjIdeal := Cert.InProjIdeal.Gen.facts) (hInProjRefIdeal := Cert.InProjRefIdeal.Gen.facts) := by
  intro m g m' g' _ hargs
  refine ⟨fun c => G m c, ?_, ?_⟩
  · exact (θ_run Cert.InProjIdeal.defs _ _).mono (fun r h c => ⟨((h c).1).trans (final m c), (h c).2⟩) (Cert.InProjIdeal.Value.run_blocks (F := Ideal) m g)
  · refine (θ_run Cert.InProjRefIdeal.defs _ _).mono (fun r h c => ⟨((h c).1).trans ?_, (h c).2⟩) (Cert.InProjRefIdeal.Value.run (F := Ideal) m' g')
    obtain ⟨h0, h1, h2⟩ := hargs c
    rw [h0, h1, h2]
    funext i
    obtain ⟨r, s, rfl⟩ : ∃ (r : Fin 17408) (s : Fin 12288), i = ix2 r s := ⟨_, _, eq_ix2 i⟩
    refine (Cert.InProjRefIdeal.RefValue.refp _ _ r s).trans ?_
    exact Finset.sum_congr rfl fun k _ => congrArg₂ (· * ·) (Cert.InProjRefIdeal.RefValue.refn _ _ r k) rfl

end Cert.InProjIdeal.RefValue
end
-- ==== Proof.IdxProjEq.lean ====
module

public import proofs.«01_k».proof.Defs
public import proofs.«01_k».proof.Proof.Gen.IdxProjIdeal.Value
public import proofs.«01_k».proof.Proof.Gen.IdxProjRefIdeal.Run
public import proofs.«01_k».proof.Proof.Rms
public import Idealize.ShloMosaic.Lib.Pointwise
public import Idealize.ShloMosaic.Lib.KernelVsHost
public import Idealize.ShloMosaic.Lib.StableHlo.Predicate
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem Idealize.ShloMosaic.Tactic
open Idealize.ShloMosaic.Pipeline (Dat)
open Cert.Rms

namespace Cert.IdxProjIdeal.RefValue

open Cert.IdxProjIdeal Cert.IdxProjIdeal.Gen

theorem hz : (![0, 0] : Fin 2 → Nat) = fun _ => 0 := funext fun a => by fin_cases a <;> rfl

/-! ## What the two texts compute -/

/-- One projected element of a normed row. -/
def zz (h : FVec Ideal S17408x2048 .f32) (nw : FVec Ideal S2048 .f32) (w : FVec Ideal S2048x80 .f32) (r : Fin 17408) (s : Fin 80) : EReal :=
  ∑ k : Fin 2048, rms (fun l => h (ix2 r l)) (fun l => nw (ix1 l)) k * w (ix2 k s)

/-- One element of the norm of the first 64 projected elements of a row. -/
def kn (z : Fin 80 → EReal) (w : Fin 64 → EReal) (s : Fin 64) : EReal :=
  z ⟨s.val, by omega⟩ * Ideal.rsqrt (Ideal.div (∑ x : Fin 64, z ⟨x.val, by omega⟩ * z ⟨x.val, by omega⟩) (Ideal.ofBits FTy.f32 1115684864#32) + Ideal.ofBits FTy.f32 897988541#32) * w s

/-- 80 elements, and zeros after them. -/
def pad80 (z : Fin 80 → EReal) (l : Fin 128) : EReal := if hl : l.val < 80 then z ⟨l.val, hl⟩ else 0
/-- 64 elements, and zeros after them. -/
def padR (z : Fin 64 → EReal) (l : Fin 128) : EReal := if hl : l.val < 64 then z ⟨l.val, hl⟩ else 0
/-- 64 elements, and zeros before them. -/
def padL (z : Fin 64 → EReal) (l : Fin 128) : EReal := if hl : 64 ≤ l.val then z ⟨l.val - 64, by omega⟩ else 0

/-- The sum over a padded row is the sum over its first elements. -/
theorem sum_half (f : Fin 128 → EReal) (g : Fin 64 → EReal) (h1 : ∀ l : Fin 64, f ⟨l.val, by omega⟩ = g l) (h2 : ∀ l : Fin 128, 64 ≤ l.val → f l = 0) :
    ∑ l, f l = ∑ l, g l := by
  rw [show (∑ l : Fin 128, f l) = ∑ l : Fin (64 + 64), f l from rfl, Fin.sum_univ_add]
  exact (congrArg₂ (· + ·) (Finset.sum_congr rfl (fun l _ => h1 l)) (Finset.sum_eq_zero (fun l _ => h2 (Fin.natAdd 64 l) (by simp)))).trans (add_zero _)

/-- The padding value of the host's pads. -/
theorem padv : (sitofp (F := Ideal) .f32 (constantI S_ 32 0#32) : FVec Ideal S_ .f32) (Shape.Idx.first h_S_) = (0 : EReal) := by
  show (((0#32 : BitVec 32).toInt : ℝ) : EReal) = 0
  simp

variable (m : (ℓ : Loc nD τ sig) → Buf (Elt Ideal) ℓ)

theorem row_apply (x : FVec Ideal S2048 .f32) (s : Fin 2048) : shapeCast S1x2048 x shapeCasts_S2048_S1x2048 (ix2 (0 : Fin 1) s) = x (ix1 s) := by
  pointwise []
theorem row_apply' (x : FVec Ideal S128 .f32) (s : Fin 128) : shapeCast S1x128 x shapeCasts_S128_S1x128 (ix2 (0 : Fin 1) s) = x (ix1 s) := by
  pointwise []

/-- The projection's weight as the call reads it. -/
def wp (w : FVec Ideal S2048x80 .f32) : FVec Ideal S2048x128 .bf16 :=
  truncf .bf16 (pad S2048x128 ![0, 0] ![0, 48] ![0, 0] w (sitofp (F := Ideal) .f32 (constantI S_ 32 0#32)) pads_S2048x80_S2048x128_000_0480 h_S_ : FVec Ideal S2048x128 .f32) bitsLt_bf16_f32
/-- The key norm's weight as the call reads it. -/
def kp (w : FVec Ideal S64 .f32) : FVec Ideal S1x128 .f32 :=
  shapeCast S1x128 (pad S128 ![0] ![64] ![0] w (sitofp (F := Ideal) .f32 (constantI S_ 32 0#32)) pads_S64_S128_0640 h_S_ : FVec Ideal S128 .f32) shapeCasts_S128_S1x128

theorem wp_apply (w : FVec Ideal S2048x80 .f32) (k : Fin 2048) (l : Fin 128) : (wp w (ix2 k l) : EReal) = pad80 (fun s => w (ix2 k s)) l := by
  show pad S2048x128 ![0, 0] ![0, 48] ![0, 0] w (sitofp (F := Ideal) .f32 (constantI S_ 32 0#32)) pads_S2048x80_S2048x128_000_0480 h_S_ (ix2 k l) = _
  unfold pad80
  split
  · rename_i hl
    exact pad_apply_of_inside _ _ _ _ _ _ _ _ (ix2 k ⟨l.val, hl⟩) (fun a => match a with
      | ⟨0, _⟩ => by show k.val = 0 + k.val * (0 + 1); omega
      | ⟨1, _⟩ => by show l.val = 0 + l.val * (0 + 1); omega)
  · rename_i hl
    exact (pad_apply_of_not_inside _ _ _ _ _ _ _ _ (1 : Fin 2) (by
      show ¬(0 ≤ l.val ∧ (l.val - 0) % (0 + 1) = 0 ∧ (l.val - 0) / (0 + 1) < 80); omega)).trans padv

theorem kp_apply (w : FVec Ideal S64 .f32) (l : Fin 128) : (kp w (ix2 0 l) : EReal) = padR (fun s => w (ix1 s)) l := by
  refine (row_apply' _ l).trans ?_
  unfold padR
  split
  · rename_i hl
    exact pad_apply_of_inside _ _ _ _ _ _ _ _ (ix1 ⟨l.val, hl⟩) (fun a => match a with
      | ⟨0, _⟩ => by show l.val = 0 + l.val * (0 + 1); omega)
  · rename_i hl
    exact (pad_apply_of_not_inside _ _ _ _ _ _ _ _ (0 : Fin 1) (by
      show ¬(0 ≤ l.val ∧ (l.val - 0) % (0 + 1) = 0 ∧ (l.val - 0) / (0 + 1) < 64); omega)).trans padv

theorem V_main_v1 (c : Dev nD) : V m c main_v1 = wp (m ((c : Thread nD τ).loc main_arg2)) := by
  show StableHlo.after (List.flatten [hostOps0, hostOps0_1, hostOps0_2, hostOps0_3, hostOps0_4]) (fun b => m (c, b)) (Proc.devRef .tc main_v1) = _
  simp only [hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp <;> rfl

theorem V_main_v3 (c : Dev nD) : V m c main_v3 = kp (m ((c : Thread nD τ).loc main_arg3)) := by
  show StableHlo.after (List.flatten [hostOps0, hostOps0_1, hostOps0_2, hostOps0_3, hostOps0_4]) (fun b => m (c, b)) (Proc.devRef .tc main_v3) = _
  simp only [hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp <;> rfl

theorem V_main_v4 (c : Dev nD) : V m c main_v4 = shapeCast S1x2048 (m ((c : Thread nD τ).loc main_arg1) : FVec Ideal S2048 .f32) shapeCasts_S2048_S1x2048 := by
  show StableHlo.after (List.flatten [hostOps0, hostOps0_1, hostOps0_2, hostOps0_3, hostOps0_4]) (fun b => m (c, b)) (Proc.devRef .tc main_v4) = _
  simp only [hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp <;> rfl

/-- The window positions at point `t`: row block `t` of the row-tiled arrays, the whole of the others. -/
theorem idx_all : ∀ t : Fin cfg0.N,
    (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ t.val < 17 :=
  (by decide +kernel : ∀ t : Fin grid0.N, _)

/-- Window 0 stages the rows. -/
theorem blk0 (c : Dev nD) (t : Fin cfg0.N) (i : Fin 1024) (j : Fin 2048) (r : Fin 17408)
    (hr : r.val = t.val * 1024 + i.val) :
    (iblk m c 0 t : FVec Ideal S1024x2048 .f32) (ix2 i j) = m ((c : Thread nD τ).loc main_arg0) (ix2 r j) := by
  have h := idx_all t
  unfold iblk; rw [View.read_apply]
  show V m c main_arg0 _ = _
  rw [V_main_arg0]
  congr 1; funext a; apply Fin.ext
  match a with
  | ⟨0, _⟩ => show win0_0.index t 0 * 1024 + 1 * i.val = r.val; omega
  | ⟨1, _⟩ => show win0_0.index t 1 * 2048 + 1 * j.val = j.val; omega

/-- Window 1 stages the norm's weight. -/
theorem blk1 (c : Dev nD) (t : Fin cfg0.N) (j : Fin 2048) :
    (iblk m c 1 t : FVec Ideal S1x2048 .f32) (ix2 0 j) = m ((c : Thread nD τ).loc main_arg1) (ix1 j) := by
  have h := idx_all t
  unfold iblk; rw [View.read_apply]
  show V m c main_v4 _ = _
  rw [V_main_v4]
  have e : (((cfg0.win 1).blk t).view.emb (ix2 0 j)) = (ix2 (0 : Fin 1) j : S1x2048.Idx) := by
    funext a; apply Fin.ext
    match a with
    | ⟨0, _⟩ => show win0_1.index t 0 * 1 + 1 * 0 = 0; omega
    | ⟨1, _⟩ => show win0_1.index t 1 * 2048 + 1 * j.val = j.val; omega
  exact (congrArg _ e).trans (row_apply _ j)

/-- Window 2 stages the weight with its padding. -/
theorem blk2 (c : Dev nD) (t : Fin cfg0.N) (k : Fin 2048) (l : Fin 128) :
    ((iblk m c 2 t : FVec Ideal S2048x128 .bf16) (ix2 k l) : EReal) = pad80 (fun s => (m ((c : Thread nD τ).loc main_arg2) : FVec Ideal S2048x80 .f32) (ix2 k s)) l := by
  have h := idx_all t
  unfold iblk; rw [View.read_apply]
  show V m c main_v1 _ = _
  rw [V_main_v1]
  have e : (((cfg0.win 2).blk t).view.emb (ix2 k l)) = (ix2 k l : S2048x128.Idx) := by
    funext a; apply Fin.ext
    match a with
    | ⟨0, _⟩ => show win0_2.index t 0 * 2048 + 1 * k.val = k.val; omega
    | ⟨1, _⟩ => show win0_2.index t 1 * 128 + 1 * l.val = l.val; omega
  exact (congrArg _ e).trans (wp_apply _ k l)

/-- Window 3 stages the key norm's weight with its padding. -/
theorem blk3 (c : Dev nD) (t : Fin cfg0.N) (l : Fin 128) :
    ((iblk m c 3 t : FVec Ideal S1x128 .f32) (ix2 0 l) : EReal) = padR (fun s => (m ((c : Thread nD τ).loc main_arg3) : FVec Ideal S64 .f32) (ix1 s)) l := by
  have h := idx_all t
  unfold iblk; rw [View.read_apply]
  show V m c main_v3 _ = _
  rw [V_main_v3]
  have e : (((cfg0.win 3).blk t).view.emb (ix2 0 l)) = (ix2 (0 : Fin 1) l : S1x128.Idx) := by
    funext a; apply Fin.ext
    match a with
    | ⟨0, _⟩ => show win0_3.index t 0 * 1 + 1 * 0 = 0; omega
    | ⟨1, _⟩ => show win0_3.index t 1 * 128 + 1 * l.val = l.val; omega
  exact (congrArg _ e).trans (kp_apply _ l)

/-! ## A block -/

/-- One element of the block of the projected rows. -/
theorem pay3_apply (x0 : FVec Ideal S1024x2048 .f32) (x1 : FVec Ideal S1x2048 .f32) (x2 : FVec Ideal S2048x128 .bf16) (i : Fin 1024) (l : Fin 128) :
    (k0_pay3 (F := Ideal) x0 x1 x2 : FVec Ideal S1024x128 .f32) (ix2 i l) = ∑ k : Fin 2048, rms (fun l => x0 (ix2 i l)) (fun l => x1 (ix2 0 l)) k * x2 (ix2 k l) := by
  unfold rms
  pointwise [k0_pay3]

/-- A projected element where it belongs to the key, zero elsewhere. -/
def keyed (z : Fin 128 → EReal) (l : Fin 128) : EReal := Scalar.select (IntOp.cmpi CmpIPredicate.slt (BitVec.ofNat 32 l.val) 64#32) (z l) (Ideal.ofBits FTy.f32 0#32)

theorem keyed_eq (z : Fin 128 → EReal) (l : Fin 128) : keyed z l = if l.val < 64 then z l else 0 := by
  unfold keyed Scalar.select
  rw [Ideal.ofBits_zero]
  exact if_congr (StableHlo.Predicate.slt_ofNat_iff l.val 64 (by omega) (by omega)) rfl rfl

/-- One element of the block of the keys. -/
theorem pay4_apply (x0 : FVec Ideal S1024x2048 .f32) (x1 : FVec Ideal S1x2048 .f32) (x2 : FVec Ideal S2048x128 .bf16) (x3 : FVec Ideal S1x128 .f32) (i : Fin 1024) (l : Fin 128) :
    (k0_pay4 (F := Ideal) x0 x1 x2 x3 : FVec Ideal S1024x128 .f32) (ix2 i l) =
      keyed (fun l => k0_pay3 (F := Ideal) x0 x1 x2 (ix2 i l)) l * Ideal.rsqrt (Ideal.div (∑ x : Fin 128, keyed (fun l => k0_pay3 (F := Ideal) x0 x1 x2 (ix2 i l)) x * keyed (fun l => k0_pay3 (F := Ideal) x0 x1 x2 (ix2 i l)) x) (Ideal.ofBits FTy.f32 1115684864#32) + Ideal.ofBits FTy.f32 897988541#32) * x3 (ix2 0 l) := by
  unfold k0_pay4 keyed
  generalize (k0_pay3 (F := Ideal) x0 x1 x2) = u
  pointwise []

/-- The keys' block turned by half a row. -/
theorem pay2_apply (x : FVec Ideal S1024x128 .f32) (i : Fin 1024) (l : Fin 128) :
    ((k0_pay2 (F := Ideal) x : FVec Ideal S1024x128 .bf16) (ix2 i l) : EReal) = x (ix2 i ⟨(l.val + 64) % 128, by omega⟩) := by
  pointwise [k0_pay2]
  exact congrArg (fun a => (x (ix2 i a) : EReal)) (Fin.ext (by show (l.val + 128 - 64) % 128 = (l.val + 64) % 128; omega))

/-- The results, by rows. -/
def zr (c : Dev nD) (r : Fin 17408) : Fin 80 → EReal := zz (m ((c : Thread nD τ).loc main_arg0)) (m ((c : Thread nD τ).loc main_arg1)) (m ((c : Thread nD τ).loc main_arg2)) r
def kr (c : Dev nD) (r : Fin 17408) : Fin 64 → EReal := kn (zr m c r) (fun l => (m ((c : Thread nD τ).loc main_arg3) : FVec Ideal S64 .f32) (ix1 l))

theorem z_blk (c : Dev nD) (t : Fin cfg0.N) (i : Fin 1024) (l : Fin 128) (r : Fin 17408) (hr : r.val = t.val * 1024 + i.val) :
    (k0_pay3 (F := Ideal) (iblk m c 0 t) (iblk m c 1 t) (iblk m c 2 t) (ix2 i l) : EReal) = pad80 (zr m c r) l := by
  refine (pay3_apply _ _ _ i l).trans ?_
  have e : ∀ k : Fin 2048, rms (fun l => (iblk m c 0 t : FVec Ideal S1024x2048 .f32) (ix2 i l)) (fun l => (iblk m c 1 t : FVec Ideal S1x2048 .f32) (ix2 0 l)) k
      = rms (fun l => (m ((c : Thread nD τ).loc main_arg0) : FVec Ideal S17408x2048 .f32) (ix2 r l)) (fun l => (m ((c : Thread nD τ).loc main_arg1) : FVec Ideal S2048 .f32) (ix1 l)) k :=
    fun k => rms_congr (fun x => blk0 m c t i x r hr) (fun x => blk1 m c t x) k
  refine (Finset.sum_congr rfl fun k _ => congrArg₂ (· * ·) (e k) (blk2 m c t k l)).trans ?_
  unfold pad80
  split
  · rfl
  · exact Finset.sum_eq_zero fun k _ => mul_zero _

theorem k_blk (c : Dev nD) (t : Fin cfg0.N) (i : Fin 1024) (l : Fin 128) (r : Fin 17408) (hr : r.val = t.val * 1024 + i.val) :
    (k0_pay4 (F := Ideal) (iblk m c 0 t) (iblk m c 1 t) (iblk m c 2 t) (iblk m c 3 t) (ix2 i l) : EReal) = padR (kr m c r) l := by
  refine (pay4_apply _ _ _ _ i l).trans ?_
  have e : (fun l => (k0_pay3 (F := Ideal) (iblk m c 0 t) (iblk m c 1 t) (iblk m c 2 t) (ix2 i l) : EReal)) = pad80 (zr m c r) := funext fun l => z_blk m c t i l r hr
  rw [e, blk3 m c t l]
  have k1 : ∀ l : Fin 64, keyed (pad80 (zr m c r)) ⟨l.val, by omega⟩ = zr m c r ⟨l.val, by omega⟩ := fun l => by
    rw [keyed_eq, if_pos l.isLt]; unfold pad80; exact dif_pos (by show l.val < 80; omega)
  have k2 : ∀ l : Fin 128, 64 ≤ l.val → keyed (pad80 (zr m c r)) l = 0 := fun l hl => by
    rw [keyed_eq, if_neg (by omega)]
  rw [sum_half _ (fun l => zr m c r ⟨l.val, by omega⟩ * zr m c r ⟨l.val, by omega⟩) (fun l => by rw [k1 l]) (fun l hl => by rw [k2 l hl, zero_mul])]
  unfold padR
  split
  · rename_i hl
    rw [k1 ⟨l.val, hl⟩]
    rfl
  · rename_i hl
    rw [k2 l (by omega), zero_mul, zero_mul]

/-- The three results, from the launch memory. -/
def G4 (c : Dev nD) : FVec Ideal S17408x128 .f32 := fun i => pad80 (zr m c (i 0)) (i 1)
def G5 (c : Dev nD) : FVec Ideal S17408x128 .bf16 := fun i => padR (kr m c (i 0)) (i 1)
def G6 (c : Dev nD) : FVec Ideal S17408x128 .bf16 := fun i => padL (kr m c (i 0)) (i 1)

/-- What a grid point writes back to output window 4 is its block of `G4`. -/
theorem flushed4_eq (c : Dev nD) (t : Fin cfg0.N) :
    (dats m 0 c).flushed 4 t = ((cfg0.win 4).blk t).view.read (Elt Ideal) (G4 m c) := by
  have h := idx_all t
  rw [Value.flushed4]
  funext y
  show out0_4 (iblk m c 0 t) (iblk m c 1 t) (iblk m c 2 t) (iblk m c 3 t) ((cfg0.win 4).xinj (grid0.coords t) y) = G4 m c (((cfg0.win 4).blk t).view.emb y)
  have y0 : (y 0).val < 1024 := (y 0).isLt
  have y1 : (y 1).val < 128 := (y 1).isLt
  have e : (cfg0.win 4).xinj (grid0.coords t) y = (ix2 (⟨(y 0).val, y0⟩ : Fin 1024) (⟨(y 1).val, y1⟩ : Fin 128) : S1024x128.Idx) := by
    funext a; match a with
    | ⟨0, _⟩ => rfl
    | ⟨1, _⟩ => rfl
  have e' : (((cfg0.win 4).blk t).view.emb y) = (ix2 (⟨t.val * 1024 + (y 0).val, by omega⟩ : Fin 17408) (⟨(y 1).val, by omega⟩ : Fin 128) : S17408x128.Idx) := by
    funext a; apply Fin.ext; match a with
    | ⟨0, _⟩ => show win0_4.index t 0 * 1024 + 1 * (y 0).val = t.val * 1024 + (y 0).val; omega
    | ⟨1, _⟩ => show win0_4.index t 1 * 128 + 1 * (y 1).val = (y 1).val; omega
  rw [e, e']
  unfold out0_4
  rw [View.canon_unit_zero hz]
  simp only [View.ld_unit_zero (S := S1024x2048) hz, View.ld_unit_zero (S := S2048x128) hz, View.ld_unit_zero (S := S1x2048) hz]
  exact z_blk m c t _ _ _ rfl

/-- Every index of the array lies in some grid point's block. -/
theorem cover4 (i : S17408x128.Idx) : ∃ t : Fin cfg0.N, (cfg0.win 4).flush t = true ∧ i ∈ ((cfg0.win 4).blk t).view.set := by
  have h0 : (i 0).val < 17408 := (i 0).isLt
  have h1 : (i 1).val < 128 := (i 1).isLt
  have hN : cfg0.N = 17 := N_0
  obtain ⟨t, ht⟩ : ∃ t : Fin cfg0.N, t.val = (i 0).val / 1024 := ⟨⟨(i 0).val / 1024, by omega⟩, rfl⟩
  refine ⟨t, (by decide +kernel : ∀ t : Fin grid0.N, win0_4.flush t = true) t, ?_⟩
  have h := idx_all t
  show i ∈ ((View.whole main_v5_0).slice (win0_4.rect t)).set
  rw [View.set_slice_whole, Rect.mem_set_unit]
  intro a
  match a with
  | ⟨0, _⟩ => show win0_4.index t 0 * 1024 ≤ (i 0).val ∧ (i 0).val < win0_4.index t 0 * 1024 + 1024; omega
  | ⟨1, _⟩ => show win0_4.index t 1 * 128 ≤ (i 1).val ∧ (i 1).val < win0_4.index t 1 * 128 + 128; omega

/-- The array after the run. -/
theorem final4 (c : Dev nD) : (dats m 0 c).arrAt 4 cfg0.N = G4 m c :=
  (dats m 0 c).arrAt_eq_of_cover 4 (G4 m c) (fun t _ => flushed4_eq m c t) cover4

/-- What a grid point writes back to output window 5 is its block of `G5`. -/
theorem flushed5_eq (c : Dev nD) (t : Fin cfg0.N) :
    (dats m 0 c).flushed 5 t = ((cfg0.win 5).blk t).view.read (Elt Ideal) (G5 m c) := by
  have h := idx_all t
  rw [Value.flushed5]
  funext y
  show out0_5 (iblk m c 0 t) (iblk m c 1 t) (iblk m c 2 t) (iblk m c 3 t) ((cfg0.win 5).xinj (grid0.coords t) y) = G5 m c (((cfg0.win 5).blk t).view.emb y)
  have y0 : (y 0).val < 1024 := (y 0).isLt
  have y1 : (y 1).val < 128 := (y 1).isLt
  have e : (cfg0.win 5).xinj (grid0.coords t) y = (ix2 (⟨(y 0).val, y0⟩ : Fin 1024) (⟨(y 1).val, y1⟩ : Fin 128) : S1024x128.Idx) := by
    funext a; match a with
    | ⟨0, _⟩ => rfl
    | ⟨1, _⟩ => rfl
  have e' : (((cfg0.win 5).blk t).view.emb y) = (ix2 (⟨t.val * 1024 + (y 0).val, by omega⟩ : Fin 17408) (⟨(y 1).val, by omega⟩ : Fin 128) : S17408x128.Idx) := by
    funext a; apply Fin.ext; match a with
    | ⟨0, _⟩ => show win0_5.index t 0 * 1024 + 1 * (y 0).val = t.val * 1024 + (y 0).val; omega
    | ⟨1, _⟩ => show win0_5.index t 1 * 128 + 1 * (y 1).val = (y 1).val; omega
  rw [e, e']
  unfold out0_5
  rw [View.canon_unit_zero hz]
  show k0_pay5 (F := Ideal) (iblk m c 0 t) (iblk m c 1 t) (iblk m c 2 t) (iblk m c 3 t) (ix2 _ _) = padR _ _
  unfold k0_pay5
  simp only [View.ld_unit_zero (S := S1024x2048) hz, View.ld_unit_zero (S := S2048x128) hz, View.ld_unit_zero (S := S1x2048) hz, View.ld_unit_zero (S := S1x128) hz]
  exact k_blk m c t _ _ _ rfl

/-- Every index of the array lies in some grid point's block. -/
theorem cover5 (i : S17408x128.Idx) : ∃ t : Fin cfg0.N, (cfg0.win 5).flush t = true ∧ i ∈ ((cfg0.win 5).blk t).view.set := by
  have h0 : (i 0).val < 17408 := (i 0).isLt
  have h1 : (i 1).val < 128 := (i 1).isLt
  have hN : cfg0.N = 17 := N_0
  obtain ⟨t, ht⟩ : ∃ t : Fin cfg0.N, t.val = (i 0).val / 1024 := ⟨⟨(i 0).val / 1024, by omega⟩, rfl⟩
  refine ⟨t, (by decide +kernel : ∀ t : Fin grid0.N, win0_5.flush t = true) t, ?_⟩
  have h := idx_all t
  show i ∈ ((View.whole main_v5_1).slice (win0_5.rect t)).set
  rw [View.set_slice_whole, Rect.mem_set_unit]
  intro a
  match a with
  | ⟨0, _⟩ => show win0_5.index t 0 * 1024 ≤ (i 0).val ∧ (i 0).val < win0_5.index t 0 * 1024 + 1024; omega
  | ⟨1, _⟩ => show win0_5.index t 1 * 128 ≤ (i 1).val ∧ (i 1).val < win0_5.index t 1 * 128 + 128; omega

/-- The array after the run. -/
theorem final5 (c : Dev nD) : (dats m 0 c).arrAt 5 cfg0.N = G5 m c :=
  (dats m 0 c).arrAt_eq_of_cover 5 (G5 m c) (fun t _ => flushed5_eq m c t) cover5

/-- What a grid point writes back to output window 6 is its block of `G6`. -/
theorem flushed6_eq (c : Dev nD) (t : Fin cfg0.N) :
    (dats m 0 c).flushed 6 t = ((cfg0.win 6).blk t).view.read (Elt Ideal) (G6 m c) := by
  have h := idx_all t
  rw [Value.flushed6]
  funext y
  show out0_6 (iblk m c 0 t) (iblk m c 1 t) (iblk m c 2 t) (iblk m c 3 t) ((cfg0.win 6).xinj (grid0.coords t) y) = G6 m c (((cfg0.win 6).blk t).view.emb y)
  have y0 : (y 0).val < 1024 := (y 0).isLt
  have y1 : (y 1).val < 128 := (y 1).isLt
  have e : (cfg0.win 6).xinj (grid0.coords t) y = (ix2 (⟨(y 0).val, y0⟩ : Fin 1024) (⟨(y 1).val, y1⟩ : Fin 128) : S1024x128.Idx) := by
    funext a; match a with
    | ⟨0, _⟩ => rfl
    | ⟨1, _⟩ => rfl
  have e' : (((cfg0.win 6).blk t).view.emb y) = (ix2 (⟨t.val * 1024 + (y 0).val, by omega⟩ : Fin 17408) (⟨(y 1).val, by omega⟩ : Fin 128) : S17408x128.Idx) := by
    funext a; apply Fin.ext; match a with
    | ⟨0, _⟩ => show win0_6.index t 0 * 1024 + 1 * (y 0).val = t.val * 1024 + (y 0).val; omega
    | ⟨1, _⟩ => show win0_6.index t 1 * 128 + 1 * (y 1).val = (y 1).val; omega
  rw [e, e']
  unfold out0_6
  rw [View.canon_unit_zero hz]
  refine (pay2_apply _ _ _).trans ?_
  unfold k0_pay5
  simp only [View.ld_unit_zero (S := S1024x2048) hz, View.ld_unit_zero (S := S2048x128) hz, View.ld_unit_zero (S := S1x2048) hz, View.ld_unit_zero (S := S1x128) hz]
  refine (k_blk m c t _ _ ⟨t.val * 1024 + (y 0).val, by omega⟩ rfl).trans ?_
  show padR _ _ = padL _ _
  unfold padR padL
  by_cases hl : 64 ≤ (y 1).val
  · rw [dif_pos (by show ((y 1).val + 64) % 128 < 64; omega), dif_pos (by exact hl)]
    refine congrArg _ (Fin.ext ?_)
    show ((y 1).val + 64) % 128 = (y 1).val - 64; omega
  · rw [dif_neg (by show ¬((y 1).val + 64) % 128 < 64; omega), dif_neg (by exact hl)]

/-- Every index of the array lies in some grid point's block. -/
theorem cover6 (i : S17408x128.Idx) : ∃ t : Fin cfg0.N, (cfg0.win 6).flush t = true ∧ i ∈ ((cfg0.win 6).blk t).view.set := by
  have h0 : (i 0).val < 17408 := (i 0).isLt
  have h1 : (i 1).val < 128 := (i 1).isLt
  have hN : cfg0.N = 17 := N_0
  obtain ⟨t, ht⟩ : ∃ t : Fin cfg0.N, t.val = (i 0).val / 1024 := ⟨⟨(i 0).val / 1024, by omega⟩, rfl⟩
  refine ⟨t, (by decide +kernel : ∀ t : Fin grid0.N, win0_6.flush t = true) t, ?_⟩
  have h := idx_all t
  show i ∈ ((View.whole main_v5_2).slice (win0_6.rect t)).set
  rw [View.set_slice_whole, Rect.mem_set_unit]
  intro a
  match a with
  | ⟨0, _⟩ => show win0_6.index t 0 * 1024 ≤ (i 0).val ∧ (i 0).val < win0_6.index t 0 * 1024 + 1024; omega
  | ⟨1, _⟩ => show win0_6.index t 1 * 128 ≤ (i 1).val ∧ (i 1).val < win0_6.index t 1 * 128 + 128; omega

/-- The array after the run. -/
theorem final6 (c : Dev nD) : (dats m 0 c).arrAt 6 cfg0.N = G6 m c :=
  (dats m 0 c).arrAt_eq_of_cover 6 (G6 m c) (fun t _ => flushed6_eq m c t) cover6

end Cert.IdxProjIdeal.RefValue

namespace Cert.IdxProjRefIdeal.RefValue
open Cert.IdxProjRefIdeal Cert.IdxProjRefIdeal.Gen
open Cert.IdxProjIdeal.RefValue (zz kn pad80 padR padL)

/-- The plain text's norm of the rows. -/
def nrm (h : FVec Ideal S17408x2048 .f32) (nw : FVec Ideal S2048 .f32) : FVec Ideal S17408x2048 .f32 :=
  (mulf (mulf h (broadcastInDim S17408x2048 ![0, 1] bcast_S17408x1_S17408x2048_0_1 (Host.rsqrt (addf (Host.divf (broadcastInDim S17408x1 ![0] bcast_S17408_S17408x1_0 (Host.reduceAdd (mulf h h) (constant S_ .f32 0x00000000#32) reducesTo_S17408x2048_S17408_d1 h_S_)) (broadcastInDim S17408x1 ![] bcast_S_S17408x1 (constant S_ .f32 0x45000000#32))) (broadcastInDim S17408x1 ![] bcast_S_S17408x1 (constant S_ .f32 0x358637BD#32)))))) (broadcastInDim S17408x2048 ![0, 1] bcast_S1x2048_S17408x2048_0_1 (broadcastInDim S1x2048 ![1] bcast_S2048_S1x2048_1 nw)))
/-- The plain text's projected rows. -/
def prj (u : FVec Ideal S17408x2048 .f32) (w : FVec Ideal S2048x80 .f32) : FVec Ideal S17408x80 .f32 :=
  Host.dotGeneral dot_S17408x2048_S2048x80_S17408x80_1_0_0_1_n_n none u w
/-- The plain text's key columns. -/
def ik (z : FVec Ideal S17408x80 .f32) : FVec Ideal S17408x64 .f32 := extractStridedSlice S17408x64 ![0, 0] z slices_S17408x80_S17408x64_0_0
/-- The plain text's norm of the keys. -/
def knr (z : FVec Ideal S17408x64 .f32) (w : FVec Ideal S64 .f32) : FVec Ideal S17408x64 .bf16 :=
  truncf .bf16 (mulf (mulf z (broadcastInDim S17408x64 ![0, 1] bcast_S17408x1_S17408x64_0_1 (Host.rsqrt (addf (Host.divf (broadcastInDim S17408x1 ![0] bcast_S17408_S17408x1_0 (Host.reduceAdd (mulf z z) (constant S_ .f32 0x00000000#32) reducesTo_S17408x64_S17408_d1 h_S_)) (broadcastInDim S17408x1 ![] bcast_S_S17408x1 (constant S_ .f32 0x42800000#32))) (broadcastInDim S17408x1 ![] bcast_S_S17408x1 (constant S_ .f32 0x358637BD#32)))))) (broadcastInDim S17408x64 ![0, 1] bcast_S1x64_S17408x64_0_1 (broadcastInDim S1x64 ![1] bcast_S64_S1x64_1 w))) bitsLt_bf16_f32

theorem nrm_apply (h : FVec Ideal S17408x2048 .f32) (nw : FVec Ideal S2048 .f32) (r : Fin 17408) (s : Fin 2048) :
    (nrm h nw (ix2 r s) : EReal) = rms (fun l => h (ix2 r l)) (fun l => nw (ix1 l)) s := by
  unfold rms
  pointwise [nrm]

theorem prj_apply (u : FVec Ideal S17408x2048 .f32) (w : FVec Ideal S2048x80 .f32) (r : Fin 17408) (s : Fin 80) :
    (prj u w (ix2 r s) : EReal) = ∑ k : Fin 2048, u (ix2 r k) * w (ix2 k s) := by
  pointwise [prj]

theorem zz_eq (h : FVec Ideal S17408x2048 .f32) (nw : FVec Ideal S2048 .f32) (w : FVec Ideal S2048x80 .f32) (r : Fin 17408) (s : Fin 80) :
    (prj (nrm h nw) w (ix2 r s) : EReal) = zz h nw w r s :=
  (prj_apply _ _ r s).trans (Finset.sum_congr rfl fun k _ => congrArg (· * (w (ix2 k s) : EReal)) (nrm_apply h nw r k))

theorem ik_apply (z : FVec Ideal S17408x80 .f32) (r : Fin 17408) (s : Fin 64) : (ik z (ix2 r s) : EReal) = z (ix2 r ⟨s.val, by omega⟩) := by
  pointwise [ik]
  try rfl

theorem knr_apply (z : FVec Ideal S17408x64 .f32) (w : FVec Ideal S64 .f32) (r : Fin 17408) (s : Fin 64) :
    (knr z w (ix2 r s) : EReal) = z (ix2 r s) * Ideal.rsqrt (Ideal.div (∑ x : Fin 64, z (ix2 r x) * z (ix2 r x)) (Ideal.ofBits FTy.f32 1115684864#32) + Ideal.ofBits FTy.f32 897988541#32) * w (ix1 s) := by
  pointwise [knr]

theorem kn_eq (h : FVec Ideal S17408x2048 .f32) (nw : FVec Ideal S2048 .f32) (w : FVec Ideal S2048x80 .f32) (kw : FVec Ideal S64 .f32) (r : Fin 17408) (s : Fin 64) :
    (knr (ik (prj (nrm h nw) w)) kw (ix2 r s) : EReal) = kn (zz h nw w r) (fun l => kw (ix1 l)) s := by
  rw [knr_apply]
  simp only [ik_apply, zz_eq]
  rfl

/-- The padding value of the host's pads. -/
theorem padv' (x : FVec Ideal S_ .bf16) (hx : x = sitofp (F := Ideal) .bf16 (constantI S_ 32 0#32)) : x (Shape.Idx.first h_S_) = (0 : EReal) := by
  subst hx
  show (((0#32 : BitVec 32).toInt : ℝ) : EReal) = 0
  simp

/-- The first result. -/
theorem ref4 (z : FVec Ideal S17408x80 .f32) (r : Fin 17408) (l : Fin 128) :
    ((pad S17408x128 ![0, 0] ![0, 48] ![0, 0] z (sitofp (F := Ideal) .f32 (constantI S_ 32 0#32)) pads_S17408x80_S17408x128_000_0480 h_S_ : FVec Ideal S17408x128 .f32) (ix2 r l) : EReal) =
      pad80 (fun s => z (ix2 r s)) l := by
  unfold pad80
  split
  · rename_i hl
    exact pad_apply_of_inside _ _ _ _ _ _ _ _ (ix2 r ⟨l.val, hl⟩) (fun a => match a with
      | ⟨0, _⟩ => by show r.val = 0 + r.val * (0 + 1); omega
      | ⟨1, _⟩ => by show l.val = 0 + l.val * (0 + 1); omega)
  · rename_i hl
    exact (pad_apply_of_not_inside _ _ _ _ _ _ _ _ (1 : Fin 2) (by
      show ¬(0 ≤ l.val ∧ (l.val - 0) % (0 + 1) = 0 ∧ (l.val - 0) / (0 + 1) < 80); omega)).trans Cert.IdxProjIdeal.RefValue.padv

/-- The second result. -/
theorem ref5 (z : FVec Ideal S17408x64 .bf16) (v : FVec Ideal S_ .bf16) (hv : v (Shape.Idx.first h_S_) = (0 : EReal)) (r : Fin 17408) (l : Fin 128) :
    ((pad S17408x128 ![0, 0] ![0, 64] ![0, 0] z v pads_S17408x64_S17408x128_000_0640 h_S_ : FVec Ideal S17408x128 .bf16) (ix2 r l) : EReal) =
      padR (fun s => z (ix2 r s)) l := by
  unfold padR
  split
  · rename_i hl
    exact pad_apply_of_inside _ _ _ _ _ _ _ _ (ix2 r ⟨l.val, hl⟩) (fun a => match a with
      | ⟨0, _⟩ => by show r.val = 0 + r.val * (0 + 1); omega
      | ⟨1, _⟩ => by show l.val = 0 + l.val * (0 + 1); omega)
  · rename_i hl
    exact (pad_apply_of_not_inside _ _ _ _ _ _ _ _ (1 : Fin 2) (by
      show ¬(0 ≤ l.val ∧ (l.val - 0) % (0 + 1) = 0 ∧ (l.val - 0) / (0 + 1) < 64); omega)).trans hv

/-- The third result. -/
theorem ref6 (z : FVec Ideal S17408x64 .bf16) (v : FVec Ideal S_ .bf16) (hv : v (Shape.Idx.first h_S_) = (0 : EReal)) (r : Fin 17408) (l : Fin 128) :
    ((pad S17408x128 ![0, 64] ![0, 0] ![0, 0] z v pads_S17408x64_S17408x128_000_6400 h_S_ : FVec Ideal S17408x128 .bf16) (ix2 r l) : EReal) =
      padL (fun s => z (ix2 r s)) l := by
  unfold padL
  split
  · rename_i hl
    exact pad_apply_of_inside _ _ _ _ _ _ _ _ (ix2 r ⟨l.val - 64, by omega⟩) (fun a => match a with
      | ⟨0, _⟩ => by show r.val = 0 + r.val * (0 + 1); omega
      | ⟨1, _⟩ => by show l.val = 64 + (l.val - 64) * (0 + 1); omega)
  · rename_i hl
    exact (pad_apply_of_not_inside _ _ _ _ _ _ _ _ (1 : Fin 2) (by
      show ¬(64 ≤ l.val ∧ (l.val - 64) % (0 + 1) = 0 ∧ (l.val - 64) / (0 + 1) < 64); omega)).trans hv

end Cert.IdxProjRefIdeal.RefValue

namespace Cert.IdxProjIdeal.RefValue
open Cert.IdxProjRefIdeal.RefValue (zz_eq kn_eq ref4 ref5 ref6 padv')

/-- The kernel and the plain text end with the same three results, for any argument values. -/
theorem algebraic : Cert.algebraic_IdxProjIdeal_IdxProjRefIdeal (hIdxProjIdeal := Cert.IdxProjIdeal.Gen.facts) (hIdxProjRefIdeal := Cert.IdxProjRefIdeal.Gen.facts) := by
  intro m g m' g' _ hargs
  refine ⟨fun c => G4 m c, fun c => G5 m c, fun c => G6 m c, ?_, ?_⟩
  · exact (θ_run Cert.IdxProjIdeal.defs _ _).mono (fun r h c => ⟨((h c).1).trans (final4 m c), ((h c).2.1).trans (final5 m c), ((h c).2.2.1).trans (final6 m c), (h c).2.2.2⟩) (Cert.IdxProjIdeal.Value.run_blocks (F := Ideal) m g)
  · refine (θ_run Cert.IdxProjRefIdeal.defs _ _).mono (fun r h c => ⟨((h c).1).trans ?_, ((h c).2.1).trans ?_, ((h c).2.2.1).trans ?_, (h c).2.2.2⟩) (Cert.IdxProjRefIdeal.Value.run (F := Ideal) m' g')
    · obtain ⟨h0, h1, h2, h3⟩ := hargs c
      rw [h0, h1, h2]
      funext i
      obtain ⟨r, s, rfl⟩ : ∃ (r : Fin 17408) (s : Fin 128), i = ix2 r s := ⟨_, _, eq_ix2 i⟩
      refine (ref4 _ r s).trans ?_
      exact congrArg (fun z => pad80 z s) (funext fun x => zz_eq _ _ _ r x)
    · obtain ⟨h0, h1, h2, h3⟩ := hargs c
      rw [h0, h1, h2, h3]
      funext i
      obtain ⟨r, s, rfl⟩ : ∃ (r : Fin 17408) (s : Fin 128), i = ix2 r s := ⟨_, _, eq_ix2 i⟩
      refine (ref5 _ _ (padv' _ rfl) r s).trans ?_
      exact congrArg (fun z => padR z s) (funext fun x => kn_eq _ _ _ _ r x)
    · obtain ⟨h0, h1, h2, h3⟩ := hargs c
      rw [h0, h1, h2, h3]
      funext i
      obtain ⟨r, s, rfl⟩ : ∃ (r : Fin 17408) (s : Fin 128), i = ix2 r s := ⟨_, _, eq_ix2 i⟩
      refine (ref6 _ _ (padv' _ rfl) r s).trans ?_
      exact congrArg (fun z => padL z s) (funext fun x => kn_eq _ _ _ _ r x)

end Cert.IdxProjIdeal.RefValue
end
-- ==== Proof.MergeEq.lean ====
module

public import proofs.«01_k».proof.Defs
public import proofs.«01_k».proof.Proof.Gen.MergeIdeal.Value
public import proofs.«01_k».proof.Proof.Gen.MergeRefIdeal.Run
public import Idealize.ShloMosaic.Lib.Pointwise
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MergeIdeal.RefValue

open Cert.MergeIdeal Cert.MergeIdeal.Gen

theorem hz : (![0, 0] : Fin 2 → Nat) = fun _ => 0 := funext fun a => by fin_cases a <;> rfl

/-- One element of the gated sum of the two branches. -/
def spec (yh ya : FVec Ideal S17408x1024 .bf16) (z : FVec Ideal S17408x12288 .bf16) (wh wa : FVec Ideal S1024x2048 .f32)
    (r : Fin 17408) (c : Fin 2048) : EReal :=
  Ideal.logistic (z (ix2 r ⟨8192 + c, by omega⟩)) * ∑ k : Fin 1024, yh (ix2 r k) * wh (ix2 k c)
    + Ideal.logistic (z (ix2 r ⟨10240 + c, by omega⟩)) * ∑ k : Fin 1024, ya (ix2 r k) * wa (ix2 k c)

variable (m : (ℓ : Loc nD τ sig) → Buf (Elt Ideal) ℓ)

theorem V_v0 (c : Dev nD) : V m c main_v0 = m ((c : Thread nD τ).loc main_arg3) := by
  show StableHlo.after hostOps0 (fun b => m (c, b)) (Proc.devRef .tc main_v0) = _
  after_results; rfl
theorem V_v1 (c : Dev nD) : V m c main_v1 = m ((c : Thread nD τ).loc main_arg4) := by
  show StableHlo.after hostOps0 (fun b => m (c, b)) (Proc.devRef .tc main_v1) = _
  after_results; rfl

/-- The window positions at point `t`: row block `t / 2`, column block `t % 2`. -/
theorem idx_all : ∀ t : Fin cfg0.N,
    (win0_0.index t 0 = t.val / 2 ∧ win0_0.index t 1 = 0) ∧ (win0_1.index t 0 = t.val / 2 ∧ win0_1.index t 1 = 0)
    ∧ (win0_2.index t 0 = t.val / 2 ∧ win0_2.index t 1 = 8 + t.val % 2) ∧ (win0_3.index t 0 = t.val / 2 ∧ win0_3.index t 1 = 10 + t.val % 2)
    ∧ (win0_4.index t 0 = 0 ∧ win0_4.index t 1 = t.val % 2) ∧ (win0_5.index t 0 = 0 ∧ win0_5.index t 1 = t.val % 2)
    ∧ (win0_6.index t 0 = t.val / 2 ∧ win0_6.index t 1 = t.val % 2) ∧ t.val < 34 :=
  (by decide +kernel : ∀ t : Fin grid0.N, _)

/-- One element of a grid point's block of the result, from the point's input blocks. -/
theorem out_pay (x0 x1 x2 x3 x4 x5 : FVec Ideal S1024x1024 .bf16) (j0 j1 : Fin 1024) :
    (k0_pay1 x0 x4 x1 x5 x2 x3 : FVec Ideal S1024x1024 .bf16) (ix2 j0 j1) =
      Ideal.logistic (x2 (ix2 j0 j1)) * ∑ k : Fin 1024, x0 (ix2 j0 k) * x4 (ix2 k j1)
    + Ideal.logistic (x3 (ix2 j0 j1)) * ∑ k : Fin 1024, x1 (ix2 j0 k) * x5 (ix2 k j1) := by
  pointwise [k0_pay1]

/-- Window 0 stages the first branch's rows. -/
theorem blk0 (c : Dev nD) (t : Fin cfg0.N) (i : Fin 1024) (j : Fin 1024) (r : Fin 17408) (s : Fin 1024)
    (hr : r.val = t.val / 2 * 1024 + i.val) (hs : s.val = j.val) :
    (iblk m c 0 t : FVec Ideal S1024x1024 .bf16) (ix2 i j) = m ((c : Thread nD τ).loc main_arg0) (ix2 r s) := by
  have h := idx_all t
  unfold iblk; rw [View.read_apply]
  show V m c main_arg0 _ = _
  rw [V_main_arg0]
  congr 1; funext a; apply Fin.ext
  match a with
  | ⟨0, _⟩ => show win0_0.index t 0 * 1024 + 1 * i.val = r.val; omega
  | ⟨1, _⟩ => show win0_0.index t 1 * 1024 + 1 * j.val = s.val; omega

/-- Window 1 stages the second branch's rows. -/
theorem blk1 (c : Dev nD) (t : Fin cfg0.N) (i : Fin 1024) (j : Fin 1024) (r : Fin 17408) (s : Fin 1024)
    (hr : r.val = t.val / 2 * 1024 + i.val) (hs : s.val = j.val) :
    (iblk m c 1 t : FVec Ideal S1024x1024 .bf16) (ix2 i j) = m ((c : Thread nD τ).loc main_arg1) (ix2 r s) := by
  have h := idx_all t
  unfold iblk; rw [View.read_apply]
  show V m c main_arg1 _ = _
  rw [V_main_arg1]
  congr 1; funext a; apply Fin.ext
  match a with
  | ⟨0, _⟩ => show win0_1.index t 0 * 1024 + 1 * i.val = r.val; omega
  | ⟨1, _⟩ => show win0_1.index t 1 * 1024 + 1 * j.val = s.val; omega

/-- Window 2 stages the first gate's columns. -/
theorem blk2 (c : Dev nD) (t : Fin cfg0.N) (i : Fin 1024) (j : Fin 1024) (r : Fin 17408) (s : Fin 12288)
    (hr : r.val = t.val / 2 * 1024 + i.val) (hs : s.val = 8192 + t.val % 2 * 1024 + j.val) :
    (iblk m c 2 t : FVec Ideal S1024x1024 .bf16) (ix2 i j) = m ((c : Thread nD τ).loc main_arg2) (ix2 r s) := by
  have h := idx_all t
  unfold iblk; rw [View.read_apply]
  show V m c main_arg2 _ = _
  rw [V_main_arg2]
  congr 1; funext a; apply Fin.ext
  match a with
  | ⟨0, _⟩ => show win0_2.index t 0 * 1024 + 1 * i.val = r.val; omega
  | ⟨1, _⟩ => show win0_2.index t 1 * 1024 + 1 * j.val = s.val; omega

/-- Window 3 stages the second gate's columns. -/
theorem blk3 (c : Dev nD) (t : Fin cfg0.N) (i : Fin 1024) (j : Fin 1024) (r : Fin 17408) (s : Fin 12288)
    (hr : r.val = t.val / 2 * 1024 + i.val) (hs : s.val = 10240 + t.val % 2 * 1024 + j.val) :
    (iblk m c 3 t : FVec Ideal S1024x1024 .bf16) (ix2 i j) = m ((c : Thread nD τ).loc main_arg2) (ix2 r s) := by
  have h := idx_all t
  unfold iblk; rw [View.read_apply]
  show V m c main_arg2 _ = _
  rw [V_main_arg2]
  congr 1; funext a; apply Fin.ext
  match a with
  | ⟨0, _⟩ => show win0_3.index t 0 * 1024 + 1 * i.val = r.val; omega
  | ⟨1, _⟩ => show win0_3.index t 1 * 1024 + 1 * j.val = s.val; omega

/-- Window 4 stages a column block of the first weight. -/
theorem blk4 (c : Dev nD) (t : Fin cfg0.N) (i : Fin 1024) (j : Fin 1024) (r : Fin 1024) (s : Fin 2048)
    (hr : r.val = i.val) (hs : s.val = t.val % 2 * 1024 + j.val) :
    (iblk m c 4 t : FVec Ideal S1024x1024 .bf16) (ix2 i j) = m ((c : Thread nD τ).loc main_arg3) (ix2 r s) := by
  have h := idx_all t
  unfold iblk; rw [View.read_apply]
  show V m c main_v0 _ = _
  rw [V_v0]
  congr 1; funext a; apply Fin.ext
  match a with
  | ⟨0, _⟩ => show win0_4.index t 0 * 1024 + 1 * i.val = r.val; omega
  | ⟨1, _⟩ => show win0_4.index t 1 * 1024 + 1 * j.val = s.val; omega

/-- Window 5 stages a column block of the second weight. -/
theorem blk5 (c : Dev nD) (t : Fin cfg0.N) (i : Fin 1024) (j : Fin 1024) (r : Fin 1024) (s : Fin 2048)
    (hr : r.val = i.val) (hs : s.val = t.val % 2 * 1024 + j.val) :
    (iblk m c 5 t : FVec Ideal S1024x1024 .bf16) (ix2 i j) = m ((c : Thread nD τ).loc main_arg4) (ix2 r s) := by
  have h := idx_all t
  unfold iblk; rw [View.read_apply]
  show V m c main_v1 _ = _
  rw [V_v1]
  congr 1; funext a; apply Fin.ext
  match a with
  | ⟨0, _⟩ => show win0_5.index t 0 * 1024 + 1 * i.val = r.val; omega
  | ⟨1, _⟩ => show win0_5.index t 1 * 1024 + 1 * j.val = s.val; omega

/-- The whole result, from the launch memory. -/
def G (c : Dev nD) : FVec Ideal S17408x2048 .bf16 := fun i =>
  spec (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1)

theorem G_apply (c : Dev nD) (r : Fin 17408) (s : Fin 2048) : G m c (ix2 r s) =
    spec (m ((c : Thread nD τ).loc main_arg0)) (m ((c : Thread nD τ).loc main_arg1)) (m ((c : Thread nD τ).loc main_arg2))
    (m ((c : Thread nD τ).loc main_arg3)) (m ((c : Thread nD τ).loc main_arg4)) r s := rfl

/-- What a grid point writes back is its block of `G`. -/
theorem flushed_eq (c : Dev nD) (t : Fin cfg0.N) :
    (dats m 0 c).flushed 6 t = ((cfg0.win 6).blk t).view.read (Elt Ideal) (G m c) := by
  have h := idx_all t
  rw [Value.flushed6]
  funext y
  have y0 : (y 0).val < 1024 := (y 0).isLt
  have y1 : (y 1).val < 1024 := (y 1).isLt
  show out0_6 (iblk m c 0 t) (iblk m c 1 t) (iblk m c 2 t) (iblk m c 3 t) (iblk m c 4 t) (iblk m c 5 t) ((cfg0.win 6).xinj (grid0.coords t) y) = G m c (((cfg0.win 6).blk t).view.emb y)
  have e : (cfg0.win 6).xinj (grid0.coords t) y = (ix2 (⟨(y 0).val, y0⟩ : Fin 1024) (⟨(y 1).val, y1⟩ : Fin 1024) : S1024x1024.Idx) := by
    funext a; match a with
    | ⟨0, _⟩ => rfl
    | ⟨1, _⟩ => rfl
  rw [e]
  have e' : (((cfg0.win 6).blk t).view.emb y) = (ix2 (⟨t.val / 2 * 1024 + (y 0).val, by omega⟩ : Fin 17408) (⟨t.val % 2 * 1024 + (y 1).val, by omega⟩ : Fin 2048) : S17408x2048.Idx) := by
    funext a; apply Fin.ext; match a with
    | ⟨0, _⟩ => show win0_6.index t 0 * 1024 + 1 * (y 0).val = t.val / 2 * 1024 + (y 0).val; omega
    | ⟨1, _⟩ => show win0_6.index t 1 * 1024 + 1 * (y 1).val = t.val % 2 * 1024 + (y 1).val; omega
  rw [e']
  unfold out0_6
  rw [View.canon_unit_zero hz]
  simp only [View.ld_unit_zero (S := S1024x1024) hz]
  rw [out_pay]
  refine Eq.trans ?_ (G_apply m c _ _).symm
  unfold spec
  refine congrArg₂ (· + ·) (congrArg₂ (· * ·) (congrArg _ (blk2 m c t _ _ _ _ rfl (by simp only []; omega))) (Finset.sum_congr rfl fun k _ => congrArg₂ (· * ·) (blk0 m c t _ k _ k rfl rfl) (blk4 m c t k _ k _ rfl rfl)))
    (congrArg₂ (· * ·) (congrArg _ (blk3 m c t _ _ _ _ rfl (by simp only []; omega))) (Finset.sum_congr rfl fun k _ => congrArg₂ (· * ·) (blk1 m c t _ k _ k rfl rfl) (blk5 m c t k _ k _ rfl rfl)))

/-- Every index of the result lies in some grid point's block. -/
theorem cover (i : S17408x2048.Idx) : ∃ t : Fin cfg0.N, (cfg0.win 6).flush t = true ∧ i ∈ ((cfg0.win 6).blk t).view.set := by
  have h0 : (i 0).val < 17408 := (i 0).isLt
  have h1 : (i 1).val < 2048 := (i 1).isLt
  have hN : cfg0.N = 34 := N_0
  obtain ⟨t, ht⟩ : ∃ t : Fin cfg0.N, t.val = 2 * ((i 0).val / 1024) + (i 1).val / 1024 := ⟨⟨2 * ((i 0).val / 1024) + (i 1).val / 1024, by omega⟩, rfl⟩
  refine ⟨t, (by decide +kernel : ∀ t : Fin grid0.N, win0_6.flush t = true) t, ?_⟩
  have h := idx_all t
  show i ∈ ((View.whole main_v2).slice (win0_6.rect t)).set
  rw [View.set_slice_whole, Rect.mem_set_unit]
  intro a
  match a with
  | ⟨0, _⟩ => show win0_6.index t 0 * 1024 ≤ (i 0).val ∧ (i 0).val < win0_6.index t 0 * 1024 + 1024; omega
  | ⟨1, _⟩ => show win0_6.index t 1 * 1024 ≤ (i 1).val ∧ (i 1).val < win0_6.index t 1 * 1024 + 1024; omega

/-- The result array after the run. -/
theorem final (c : Dev nD) : (dats m 0 c).arrAt 6 cfg0.N = G m c :=
  (dats m 0 c).arrAt_eq_of_cover 6 (G m c) (fun t _ => flushed_eq m c t) cover

end Cert.MergeIdeal.RefValue

namespace Cert.MergeRefIdeal.RefValue
open Cert.MergeRefIdeal Cert.MergeRefIdeal.Gen

theorem ref_apply (yh ya : FVec Ideal S17408x1024 .bf16) (z : FVec Ideal S17408x12288 .bf16) (wh wa : FVec Ideal S1024x2048 .f32)
    (r : Fin 17408) (c : Fin 2048) : (truncf .bf16 (addf (mulf (Host.divf (broadcastInDim S17408x2048 ![] bcast_S_S17408x2048 (constant S_ .f32 0x3F800000#32)) (addf (broadcastInDim S17408x2048 ![] bcast_S_S17408x2048 (constant S_ .f32 0x3F800000#32)) (Host.exp (Host.negf (extractStridedSlice S17408x2048 ![0, 8192] (extf .f32 z bitsLt_bf16_f32) slices_S17408x12288_S17408x2048_0_8192))))) (Host.dotGeneral dot_S17408x1024_S1024x2048_S17408x2048_1_0_0_1_n_n none (extf .f32 (yh) bitsLt_bf16_f32) (wh))) (mulf (Host.divf (broadcastInDim S17408x2048 ![] bcast_S_S17408x2048 (constant S_ .f32 0x3F800000#32)) (addf (broadcastInDim S17408x2048 ![] bcast_S_S17408x2048 (constant S_ .f32 0x3F800000#32)) (Host.exp (Host.negf (extractStridedSlice S17408x2048 ![0, 10240] (extf .f32 z bitsLt_bf16_f32) slices_S17408x12288_S17408x2048_0_10240))))) (Host.dotGeneral dot_S17408x1024_S1024x2048_S17408x2048_1_0_0_1_n_n none (extf .f32 (ya) bitsLt_bf16_f32) (wa)))) bitsLt_bf16_f32 : FVec Ideal S17408x2048 .bf16) (ix2 r c)
     = Cert.MergeIdeal.RefValue.spec yh ya z wh wa r c := by
  unfold Cert.MergeIdeal.RefValue.spec
  pointwise [Ideal.logistic]

end Cert.MergeRefIdeal.RefValue

namespace Cert.MergeIdeal.RefValue

/-- The kernel and the plain text end with the same gated sum, for any argument values. -/
theorem algebraic : Cert.algebraic_MergeIdeal_MergeRefIdeal (hMergeIdeal := Cert.MergeIdeal.Gen.facts) (hMergeRefIdeal := Cert.MergeRefIdeal.Gen.facts) := by
  intro m g m' g' _ hargs
  refine ⟨fun c => G m c, ?_, ?_⟩
  · exact (θ_run Cert.MergeIdeal.defs _ _).mono (fun r h c => ⟨((h c).1).trans (final m c), (h c).2⟩) (Cert.MergeIdeal.Value.run_blocks (F := Ideal) m g)
  · refine (θ_run Cert.MergeRefIdeal.defs _ _).mono (fun r h c => ⟨((h c).1).trans ?_, (h c).2⟩) (Cert.MergeRefIdeal.Value.run (F := Ideal) m' g')
    obtain ⟨h0, h1, h2, h3, h4⟩ := hargs c
    rw [h0, h1, h2, h3, h4]
    funext i
    obtain ⟨r, s, rfl⟩ : ∃ (r : Fin 17408) (s : Fin 2048), i = ix2 r s := ⟨_, _, eq_ix2 i⟩
    exact Cert.MergeRefIdeal.RefValue.ref_apply _ _ _ _ _ r s

end Cert.MergeIdeal.RefValue
end
-- ==== Proof.OutProjEq.lean ====
module

public import proofs.«01_k».proof.Defs
public import proofs.«01_k».proof.Proof.Gen.OutProjIdeal.Value
public import proofs.«01_k».proof.Proof.Gen.OutProjRefIdeal.Run
public import proofs.«01_k».proof.Proof.Rms
public import Idealize.ShloMosaic.Lib.Pointwise
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Cert.Rms

namespace Cert.OutProjIdeal.RefValue

open Cert.OutProjIdeal Cert.OutProjIdeal.Gen

theorem hz : (![0, 0] : Fin 2 → Nat) = fun _ => 0 := funext fun a => by fin_cases a <;> rfl

variable (m : (ℓ : Loc nD τ sig) → Buf (Elt Ideal) ℓ)

theorem row_apply (x : FVec Ideal S2048 .f32) (s : Fin 2048) : shapeCast S1x2048 x shapeCasts_S2048_S1x2048 (ix2 (0 : Fin 1) s) = x (ix1 s) := by
  pointwise []

theorem V_main_v0 (c : Dev nD) : V m c main_v0 = m ((c : Thread nD τ).loc main_arg2) := by
  show StableHlo.after hostOps0 (fun b => m (c, b)) (Proc.devRef .tc main_v0) = _
  after_results; rfl

theorem V_main_v1 (c : Dev nD) : V m c main_v1 = shapeCast S1x2048 (m ((c : Thread nD τ).loc main_arg3) : FVec Ideal S2048 .f32) shapeCasts_S2048_S1x2048 := by
  show StableHlo.after hostOps0 (fun b => m (c, b)) (Proc.devRef .tc main_v1) = _
  after_results; rfl

/-- The window positions at point `t`: row block `t` of the row-tiled arrays, the whole of the others. -/
theorem idx_all : ∀ t : Fin cfg0.N,
    (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0) ∧ t.val < 34 :=
  (by decide +kernel : ∀ t : Fin grid0.N, _)

/-- Window 0 stages the residual's rows. -/
theorem blk0 (c : Dev nD) (t : Fin cfg0.N) (i : Fin 512) (j : Fin 2048) (r : Fin 17408) (s : Fin 2048)
    (hr : r.val = t.val * 512 + i.val) (hs : s.val = j.val) :
    (iblk m c 0 t : FVec Ideal S512x2048 .f32) (ix2 i j) = m ((c : Thread nD τ).loc main_arg0) (ix2 r s) := by
  have h := idx_all t
  unfold iblk; rw [View.read_apply]
  show V m c main_arg0 _ = _
  rw [V_main_arg0]
  congr 1; funext a; apply Fin.ext
  match a with
  | ⟨0, _⟩ => show win0_0.index t 0 * 512 + 1 * i.val = r.val; omega
  | ⟨1, _⟩ => show win0_0.index t 1 * 2048 + 1 * j.val = s.val; omega

/-- Window 1 stages the merged rows. -/
theorem blk1 (c : Dev nD) (t : Fin cfg0.N) (i : Fin 512) (j : Fin 2048) (r : Fin 17408) (s : Fin 2048)
    (hr : r.val = t.val * 512 + i.val) (hs : s.val = j.val) :
    (iblk m c 1 t : FVec Ideal S512x2048 .bf16) (ix2 i j) = m ((c : Thread nD τ).loc main_arg1) (ix2 r s) := by
  have h := idx_all t
  unfold iblk; rw [View.read_apply]
  show V m c main_arg1 _ = _
  rw [V_main_arg1]
  congr 1; funext a; apply Fin.ext
  match a with
  | ⟨0, _⟩ => show win0_1.index t 0 * 512 + 1 * i.val = r.val; omega
  | ⟨1, _⟩ => show win0_1.index t 1 * 2048 + 1 * j.val = s.val; omega

/-- Window 2 stages the weight. -/
theorem blk2 (c : Dev nD) (t : Fin cfg0.N) (i : Fin 2048) (j : Fin 2048) (r : Fin 2048) (s : Fin 2048)
    (hr : r.val = i.val) (hs : s.val = j.val) :
    (iblk m c 2 t : FVec Ideal S2048x2048 .bf16) (ix2 i j) = m ((c : Thread nD τ).loc main_arg2) (ix2 r s) := by
  have h := idx_all t
  unfold iblk; rw [View.read_apply]
  show V m c main_v0 _ = _
  rw [V_main_v0]
  congr 1; funext a; apply Fin.ext
  match a with
  | ⟨0, _⟩ => show win0_2.index t 0 * 2048 + 1 * i.val = r.val; omega
  | ⟨1, _⟩ => show win0_2.index t 1 * 2048 + 1 * j.val = s.val; omega

/-- Window 3 stages the norm's weight. -/
theorem blk3 (c : Dev nD) (t : Fin cfg0.N) (i : Fin 1) (j : Fin 2048) (s : Fin 2048) (hs : s.val = j.val) :
    (iblk m c 3 t : FVec Ideal S1x2048 .f32) (ix2 i j) = m ((c : Thread nD τ).loc main_arg3) (ix1 s) := by
  have h := idx_all t
  unfold iblk; rw [View.read_apply]
  show V m c main_v1 _ = _
  rw [V_main_v1]
  have e : (((cfg0.win 3).blk t).view.emb (ix2 i j)) = (ix2 (0 : Fin 1) s : S1x2048.Idx) := by
    funext a; apply Fin.ext
    match a with
    | ⟨0, _⟩ => show win0_3.index t 0 * 1 + 1 * i.val = 0; omega
    | ⟨1, _⟩ => show win0_3.index t 1 * 2048 + 1 * j.val = s.val; omega
  refine (congrArg _ e).trans ?_
  exact row_apply _ s

/-- One element of the block of the first result: the residual plus the projection. -/
theorem pay1_apply (x0 : FVec Ideal S512x2048 .f32) (x1 : FVec Ideal S512x2048 .bf16) (x2 : FVec Ideal S2048x2048 .bf16) (i : Fin 512) (j : Fin 2048) :
    (k0_pay1 x0 x1 x2 : FVec Ideal S512x2048 .f32) (ix2 i j) = x0 (ix2 i j) + ∑ k : Fin 2048, x1 (ix2 i k) * x2 (ix2 k j) := by
  pointwise [k0_pay1]

/-- One element of the block of the second result: the norm of the first result's row. -/
theorem pay2_apply (x0 : FVec Ideal S512x2048 .f32) (x1 : FVec Ideal S512x2048 .bf16) (x2 : FVec Ideal S2048x2048 .bf16) (x3 : FVec Ideal S1x2048 .f32) (i : Fin 512) (j : Fin 2048) :
    (k0_pay2 x0 x1 x2 x3 : FVec Ideal S512x2048 .bf16) (ix2 i j) =
      rms (fun l => (k0_pay1 x0 x1 x2 : FVec Ideal S512x2048 .f32) (ix2 i l)) (fun l => x3 (ix2 0 l)) j := by
  unfold k0_pay2 rms
  generalize (k0_pay1 (F := Ideal) x0 x1 x2) = u
  pointwise []

/-- The residual plus the projected row: one element of the first result. -/
def u1 (h : FVec Ideal S17408x2048 .f32) (mm : FVec Ideal S17408x2048 .bf16) (w : FVec Ideal S2048x2048 .f32) (r : Fin 17408) (s : Fin 2048) : EReal :=
  h (ix2 r s) + ∑ k : Fin 2048, mm (ix2 r k) * w (ix2 k s)

/-- The first result, from the launch memory. -/
def G4 (c : Dev nD) : FVec Ideal S17408x2048 .f32 := fun i =>
  u1 (m ((c : Thread nD τ).loc main_arg0)) (m ((c : Thread nD τ).loc main_arg1)) (m ((c : Thread nD τ).loc main_arg2)) (i 0) (i 1)
theorem G4_apply (c : Dev nD) (r : Fin 17408) (s : Fin 2048) : G4 m c (ix2 r s) =
  u1 (m ((c : Thread nD τ).loc main_arg0)) (m ((c : Thread nD τ).loc main_arg1)) (m ((c : Thread nD τ).loc main_arg2)) r s := rfl

/-- The second result, from the launch memory. -/
def G5 (c : Dev nD) : FVec Ideal S17408x2048 .bf16 := fun i =>
  rms (u1 (m ((c : Thread nD τ).loc main_arg0)) (m ((c : Thread nD τ).loc main_arg1)) (m ((c : Thread nD τ).loc main_arg2)) (i 0))
    (fun l => m ((c : Thread nD τ).loc main_arg3) (ix1 l)) (i 1)
theorem G5_apply (c : Dev nD) (r : Fin 17408) (s : Fin 2048) : G5 m c (ix2 r s) =
  rms (u1 (m ((c : Thread nD τ).loc main_arg0)) (m ((c : Thread nD τ).loc main_arg1)) (m ((c : Thread nD τ).loc main_arg2)) r)
    (fun l => m ((c : Thread nD τ).loc main_arg3) (ix1 l)) s := rfl

/-- A point's block of the first result is the residual plus the projection of the point's rows. -/
theorem row_eq (c : Dev nD) (t : Fin cfg0.N) (i : Fin 512) (j : Fin 2048) (r : Fin 17408) (hr : r.val = t.val * 512 + i.val) :
    (k0_pay1 (iblk m c 0 t) (iblk m c 1 t) (iblk m c 2 t) : FVec Ideal S512x2048 .f32) (ix2 i j) =
      u1 (m ((c : Thread nD τ).loc main_arg0)) (m ((c : Thread nD τ).loc main_arg1)) (m ((c : Thread nD τ).loc main_arg2)) r j := by
  refine (pay1_apply _ _ _ i j).trans ?_
  exact congrArg₂ (· + ·) (blk0 m c t i j r j hr rfl) (Finset.sum_congr rfl fun k _ => congrArg₂ (· * ·) (blk1 m c t i k r k hr rfl) (blk2 m c t k j k j rfl rfl))

/-- What a grid point writes back to output window 4 is its block of `G4`. -/
theorem flushed4_eq (c : Dev nD) (t : Fin cfg0.N) :
    (dats m 0 c).flushed 4 t = ((cfg0.win 4).blk t).view.read (Elt Ideal) (G4 m c) := by
  have h := idx_all t
  rw [Value.flushed4]
  funext y
  show out0_4 (iblk m c 0 t) (iblk m c 1 t) (iblk m c 2 t) (iblk m c 3 t) ((cfg0.win 4).xinj (grid0.coords t) y) = G4 m c (((cfg0.win 4).blk t).view.emb y)
  have y0 : (y 0).val < 512 := (y 0).isLt
  have y1 : (y 1).val < 2048 := (y 1).isLt
  have e : (cfg0.win 4).xinj (grid0.coords t) y = (ix2 (⟨(y 0).val, y0⟩ : Fin 512) (⟨(y 1).val, y1⟩ : Fin 2048) : S512x2048.Idx) := by
    funext a; match a with
    | ⟨0, _⟩ => rfl
    | ⟨1, _⟩ => rfl
  have e' : (((cfg0.win 4).blk t).view.emb y) = (ix2 (⟨t.val * 512 + (y 0).val, by omega⟩ : Fin 17408) (⟨(y 1).val, by omega⟩ : Fin 2048) : S17408x2048.Idx) := by
    funext a; apply Fin.ext; match a with
    | ⟨0, _⟩ => show win0_4.index t 0 * 512 + 1 * (y 0).val = t.val * 512 + (y 0).val; omega
    | ⟨1, _⟩ => show win0_4.index t 1 * 2048 + 1 * (y 1).val = (y 1).val; omega
  rw [e, e']
  unfold out0_4
  rw [View.canon_unit_zero hz]
  simp only [View.ld_unit_zero (S := S512x2048) hz, View.ld_unit_zero (S := S2048x2048) hz, View.ld_unit_zero (S := S1x2048) hz]
  refine Eq.trans ?_ (G4_apply m c _ _).symm
  exact row_eq m c t _ _ _ rfl

/-- Every index of the array lies in some grid point's block. -/
theorem cover4 (i : S17408x2048.Idx) : ∃ t : Fin cfg0.N, (cfg0.win 4).flush t = true ∧ i ∈ ((cfg0.win 4).blk t).view.set := by
  have h0 : (i 0).val < 17408 := (i 0).isLt
  have h1 : (i 1).val < 2048 := (i 1).isLt
  have hN : cfg0.N = 34 := N_0
  obtain ⟨t, ht⟩ : ∃ t : Fin cfg0.N, t.val = (i 0).val / 512 := ⟨⟨(i 0).val / 512, by omega⟩, rfl⟩
  refine ⟨t, (by decide +kernel : ∀ t : Fin grid0.N, win0_4.flush t = true) t, ?_⟩
  have h := idx_all t
  show i ∈ ((View.whole main_v2_0).slice (win0_4.rect t)).set
  rw [View.set_slice_whole, Rect.mem_set_unit]
  intro a
  match a with
  | ⟨0, _⟩ => show win0_4.index t 0 * 512 ≤ (i 0).val ∧ (i 0).val < win0_4.index t 0 * 512 + 512; omega
  | ⟨1, _⟩ => show win0_4.index t 1 * 2048 ≤ (i 1).val ∧ (i 1).val < win0_4.index t 1 * 2048 + 2048; omega

/-- The array after the run. -/
theorem final4 (c : Dev nD) : (dats m 0 c).arrAt 4 cfg0.N = G4 m c :=
  (dats m 0 c).arrAt_eq_of_cover 4 (G4 m c) (fun t _ => flushed4_eq m c t) cover4

/-- What a grid point writes back to output window 5 is its block of `G5`. -/
theorem flushed5_eq (c : Dev nD) (t : Fin cfg0.N) :
    (dats m 0 c).flushed 5 t = ((cfg0.win 5).blk t).view.read (Elt Ideal) (G5 m c) := by
  have h := idx_all t
  rw [Value.flushed5]
  funext y
  show out0_5 (iblk m c 0 t) (iblk m c 1 t) (iblk m c 2 t) (iblk m c 3 t) ((cfg0.win 5).xinj (grid0.coords t) y) = G5 m c (((cfg0.win 5).blk t).view.emb y)
  have y0 : (y 0).val < 512 := (y 0).isLt
  have y1 : (y 1).val < 2048 := (y 1).isLt
  have e : (cfg0.win 5).xinj (grid0.coords t) y = (ix2 (⟨(y 0).val, y0⟩ : Fin 512) (⟨(y 1).val, y1⟩ : Fin 2048) : S512x2048.Idx) := by
    funext a; match a with
    | ⟨0, _⟩ => rfl
    | ⟨1, _⟩ => rfl
  have e' : (((cfg0.win 5).blk t).view.emb y) = (ix2 (⟨t.val * 512 + (y 0).val, by omega⟩ : Fin 17408) (⟨(y 1).val, by omega⟩ : Fin 2048) : S17408x2048.Idx) := by
    funext a; apply Fin.ext; match a with
    | ⟨0, _⟩ => show win0_5.index t 0 * 512 + 1 * (y 0).val = t.val * 512 + (y 0).val; omega
    | ⟨1, _⟩ => show win0_5.index t 1 * 2048 + 1 * (y 1).val = (y 1).val; omega
  rw [e, e']
  unfold out0_5
  rw [View.canon_unit_zero hz]
  simp only [View.ld_unit_zero (S := S512x2048) hz, View.ld_unit_zero (S := S2048x2048) hz, View.ld_unit_zero (S := S1x2048) hz]
  refine Eq.trans ?_ (G5_apply m c _ _).symm
  refine (pay2_apply _ _ _ _ _ _).trans ?_
  exact rms_congr (fun x => row_eq m c t _ x _ rfl) (fun x => blk3 m c t 0 x x rfl) _

/-- Every index of the array lies in some grid point's block. -/
theorem cover5 (i : S17408x2048.Idx) : ∃ t : Fin cfg0.N, (cfg0.win 5).flush t = true ∧ i ∈ ((cfg0.win 5).blk t).view.set := by
  have h0 : (i 0).val < 17408 := (i 0).isLt
  have h1 : (i 1).val < 2048 := (i 1).isLt
  have hN : cfg0.N = 34 := N_0
  obtain ⟨t, ht⟩ : ∃ t : Fin cfg0.N, t.val = (i 0).val / 512 := ⟨⟨(i 0).val / 512, by omega⟩, rfl⟩
  refine ⟨t, (by decide +kernel : ∀ t : Fin grid0.N, win0_5.flush t = true) t, ?_⟩
  have h := idx_all t
  show i ∈ ((View.whole main_v2_1).slice (win0_5.rect t)).set
  rw [View.set_slice_whole, Rect.mem_set_unit]
  intro a
  match a with
  | ⟨0, _⟩ => show win0_5.index t 0 * 512 ≤ (i 0).val ∧ (i 0).val < win0_5.index t 0 * 512 + 512; omega
  | ⟨1, _⟩ => show win0_5.index t 1 * 2048 ≤ (i 1).val ∧ (i 1).val < win0_5.index t 1 * 2048 + 2048; omega

/-- The array after the run. -/
theorem final5 (c : Dev nD) : (dats m 0 c).arrAt 5 cfg0.N = G5 m c :=
  (dats m 0 c).arrAt_eq_of_cover 5 (G5 m c) (fun t _ => flushed5_eq m c t) cover5

end Cert.OutProjIdeal.RefValue

namespace Cert.OutProjRefIdeal.RefValue
open Cert.OutProjRefIdeal Cert.OutProjRefIdeal.Gen

theorem ref1 (h : FVec Ideal S17408x2048 .f32) (mm : FVec Ideal S17408x2048 .bf16) (w : FVec Ideal S2048x2048 .f32) (r : Fin 17408) (s : Fin 2048) :
    (addf h (Host.dotGeneral dot_S17408x2048_S2048x2048_S17408x2048_1_0_0_1_n_n none (extf .f32 mm bitsLt_bf16_f32) w) : FVec Ideal S17408x2048 .f32) (ix2 r s)
      = Cert.OutProjIdeal.RefValue.u1 h mm w r s := by
  unfold Cert.OutProjIdeal.RefValue.u1
  pointwise []

theorem ref2 (u : FVec Ideal S17408x2048 .f32) (w : FVec Ideal S2048 .f32) (r : Fin 17408) (s : Fin 2048) :
  (truncf .bf16 (mulf (mulf u (broadcastInDim S17408x2048 ![0, 1] bcast_S17408x1_S17408x2048_0_1 (Host.rsqrt (addf (Host.divf (broadcastInDim S17408x1 ![0] bcast_S17408_S17408x1_0 (Host.reduceAdd (mulf u u) (constant S_ .f32 0x00000000#32) reducesTo_S17408x2048_S17408_d1 h_S_)) (broadcastInDim S17408x1 ![] bcast_S_S17408x1 (constant S_ .f32 0x45000000#32))) (broadcastInDim S17408x1 ![] bcast_S_S17408x1 (constant S_ .f32 0x358637BD#32)))))) (broadcastInDim S17408x2048 ![0, 1] bcast_S1x2048_S17408x2048_0_1 (broadcastInDim S1x2048 ![1] bcast_S2048_S1x2048_1 w))) bitsLt_bf16_f32 : FVec Ideal S17408x2048 .bf16) (ix2 r s) =
    rms (fun l => u (ix2 r l)) (fun l => w (ix1 l)) s := by
  unfold rms
  pointwise []

end Cert.OutProjRefIdeal.RefValue

namespace Cert.OutProjIdeal.RefValue

/-- The kernel and the plain text end with the same two results, for any argument values. -/
theorem algebraic : Cert.algebraic_OutProjIdeal_OutProjRefIdeal (hOutProjIdeal := Cert.OutProjIdeal.Gen.facts) (hOutProjRefIdeal := Cert.OutProjRefIdeal.Gen.facts) := by
  intro m g m' g' _ hargs
  refine ⟨fun c => G4 m c, fun c => G5 m c, ?_, ?_⟩
  · exact (θ_run Cert.OutProjIdeal.defs _ _).mono (fun r h c => ⟨((h c).1).trans (final4 m c), ((h c).2.1).trans (final5 m c), (h c).2.2⟩) (Cert.OutProjIdeal.Value.run_blocks (F := Ideal) m g)
  · refine (θ_run Cert.OutProjRefIdeal.defs _ _).mono (fun r h c => ⟨((h c).1).trans ?_, ((h c).2.1).trans ?_, (h c).2.2⟩) (Cert.OutProjRefIdeal.Value.run (F := Ideal) m' g')
    · obtain ⟨h0, h1, h2, h3⟩ := hargs c
      rw [h0, h1, h2]
      funext i
      obtain ⟨r, s, rfl⟩ : ∃ (r : Fin 17408) (s : Fin 2048), i = ix2 r s := ⟨_, _, eq_ix2 i⟩
      exact Cert.OutProjRefIdeal.RefValue.ref1 _ _ _ r s
    · obtain ⟨h0, h1, h2, h3⟩ := hargs c
      rw [h0, h1, h2, h3]
      funext i
      obtain ⟨r, s, rfl⟩ : ∃ (r : Fin 17408) (s : Fin 2048), i = ix2 r s := ⟨_, _, eq_ix2 i⟩
      refine (Cert.OutProjRefIdeal.RefValue.ref2 _ _ r s).trans ?_
      exact rms_congr (fun x => Cert.OutProjRefIdeal.RefValue.ref1 _ _ _ r x) (fun _ => rfl) s

end Cert.OutProjIdeal.RefValue
end
-- ==== Proof.FfnUpEq.lean ====
module

public import proofs.«01_k».proof.Defs
public import proofs.«01_k».proof.Proof.Gen.FfnUpIdeal.Value
public import proofs.«01_k».proof.Proof.Gen.FfnUpRefIdeal.Run
public import Idealize.ShloMosaic.Lib.Pointwise
public import Idealize.ShloMosaic.Lib.KernelVsHost
public import Idealize.ShloMosaic.Lib.Pipeline.ReadBack
public import Idealize.ShloMosaic.Lib.Pipeline.ValueKit.Tiles
public import Idealize.ShloMosaic.Lib.StableHlo.Predicate
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.FfnUpIdeal.RefValue

open Cert.FfnUpIdeal Cert.FfnUpIdeal.Gen

theorem hz : (![0, 0] : Fin 2 → Nat) = fun _ => 0 := funext fun a => by fin_cases a <;> rfl

variable (m : (ℓ : Loc nD τ sig) → Buf (Elt Ideal) ℓ)

theorem row_apply (x : FVec Ideal S5632 .f32) (s : Fin 5632) : shapeCast S1x5632 x shapeCasts_S5632_S1x5632 (ix2 (0 : Fin 1) s) = x (ix1 s) := by
  pointwise []

theorem V_main_v0 (c : Dev nD) : V m c main_v0 = pad S8x5632 ![0, 0] ![5, 0] ![0, 0] (m ((c : Thread nD τ).loc main_arg3) : FVec Ideal S3x5632 .f32) (sitofp (F := Ideal) .f32 (constantI S_ 32 0#32)) pads_S3x5632_S8x5632_050_000 h_S_ := by
  show StableHlo.after (List.flatten [hostOps0, hostOps0_1, hostOps0_2]) (fun b => m (c, b)) (Proc.devRef .tc main_v0) = _
  simp only [hostOps0, hostOps0_1, hostOps0_2, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp <;> rfl

theorem V_main_v1 (c : Dev nD) : V m c main_v1 = m ((c : Thread nD τ).loc main_arg1) := by
  show StableHlo.after (List.flatten [hostOps0, hostOps0_1, hostOps0_2]) (fun b => m (c, b)) (Proc.devRef .tc main_v1) = _
  simp only [hostOps0, hostOps0_1, hostOps0_2, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp <;> rfl

theorem V_main_v2 (c : Dev nD) : V m c main_v2 = m ((c : Thread nD τ).loc main_arg2) := by
  show StableHlo.after (List.flatten [hostOps0, hostOps0_1, hostOps0_2]) (fun b => m (c, b)) (Proc.devRef .tc main_v2) = _
  simp only [hostOps0, hostOps0_1, hostOps0_2, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp <;> rfl

theorem V_main_v3 (c : Dev nD) : V m c main_v3 = shapeCast S1x5632 (m ((c : Thread nD τ).loc main_arg4) : FVec Ideal S5632 .f32) shapeCasts_S5632_S1x5632 := by
  show StableHlo.after (List.flatten [hostOps0, hostOps0_1, hostOps0_2]) (fun b => m (c, b)) (Proc.devRef .tc main_v3) = _
  simp only [hostOps0, hostOps0_1, hostOps0_2, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp <;> rfl

/-- The window positions at point `t`: row block `t % 34`, column block `t / 34`. -/
theorem idx_all : ∀ t : Fin cfg0.N,
    (win0_0.index t 0 = t.val % 34 ∧ win0_0.index t 1 = 0) ∧ (win0_1.index t 0 = 0 ∧ win0_1.index t 1 = t.val / 34)
    ∧ (win0_2.index t 0 = 0 ∧ win0_2.index t 1 = t.val / 34) ∧ (win0_3.index t 0 = 0 ∧ win0_3.index t 1 = t.val / 34)
    ∧ (win0_4.index t 0 = 0 ∧ win0_4.index t 1 = t.val / 34) ∧ (win0_5.index t 0 = t.val % 34 ∧ win0_5.index t 1 = t.val / 34) ∧ t.val < 374 :=
  (by decide +kernel : ∀ t : Fin grid0.N, _)

/-- Window 0 stages the activations' rows. -/
theorem blk0 (c : Dev nD) (t : Fin cfg0.N) (i : Fin 512) (j : Fin 2048) (r : Fin 17408) (s : Fin 2048)
    (hr : r.val = t.val % 34 * 512 + i.val) (hs : s.val = j.val) :
    (iblk m c 0 t : FVec Ideal S512x2048 .bf16) (ix2 i j) = m ((c : Thread nD τ).loc main_arg0) (ix2 r s) := by
  have h := idx_all t
  unfold iblk; rw [View.read_apply]
  show V m c main_arg0 _ = _
  rw [V_main_arg0]
  congr 1; funext a; apply Fin.ext
  match a with
  | ⟨0, _⟩ => show win0_0.index t 0 * 512 + 1 * i.val = r.val; omega
  | ⟨1, _⟩ => show win0_0.index t 1 * 2048 + 1 * j.val = s.val; omega

/-- Window 1 stages a column block of the gate's weight. -/
theorem blk1 (c : Dev nD) (t : Fin cfg0.N) (i : Fin 2048) (j : Fin 512) (r : Fin 2048) (s : Fin 5632)
    (hr : r.val = i.val) (hs : s.val = t.val / 34 * 512 + j.val) :
    (iblk m c 1 t : FVec Ideal S2048x512 .bf16) (ix2 i j) = m ((c : Thread nD τ).loc main_arg1) (ix2 r s) := by
  have h := idx_all t
  unfold iblk; rw [View.read_apply]
  show V m c main_v1 _ = _
  rw [V_main_v1]
  congr 1; funext a; apply Fin.ext
  match a with
  | ⟨0, _⟩ => show win0_1.index t 0 * 2048 + 1 * i.val = r.val; omega
  | ⟨1, _⟩ => show win0_1.index t 1 * 512 + 1 * j.val = s.val; omega

/-- Window 2 stages a column block of the other weight. -/
theorem blk2 (c : Dev nD) (t : Fin cfg0.N) (i : Fin 2048) (j : Fin 512) (r : Fin 2048) (s : Fin 5632)
    (hr : r.val = i.val) (hs : s.val = t.val / 34 * 512 + j.val) :
    (iblk m c 2 t : FVec Ideal S2048x512 .bf16) (ix2 i j) = m ((c : Thread nD τ).loc main_arg2) (ix2 r s) := by
  have h := idx_all t
  unfold iblk; rw [View.read_apply]
  show V m c main_v2 _ = _
  rw [V_main_v2]
  congr 1; funext a; apply Fin.ext
  match a with
  | ⟨0, _⟩ => show win0_2.index t 0 * 2048 + 1 * i.val = r.val; omega
  | ⟨1, _⟩ => show win0_2.index t 1 * 512 + 1 * j.val = s.val; omega

theorem pad_row (x : FVec Ideal S3x5632 .f32) (i : Fin 8) (k : Fin 3) (hk : k.val = i.val) (j : Fin 5632) :
    (pad S8x5632 ![0, 0] ![5, 0] ![0, 0] x (sitofp (F := Ideal) .f32 (constantI S_ 32 0#32)) pads_S3x5632_S8x5632_050_000 h_S_ : FVec Ideal S8x5632 .f32) (ix2 i j) = x (ix2 k j) := by
  have hi : i.val < 3 := hk ▸ k.isLt
  obtain rfl : k = ⟨i.val, hi⟩ := Fin.ext hk
  pointwise []
  exact dif_pos hi

/-- Window 3 stages a column block of the convolution's three taps, padded below to eight rows. -/
theorem blk3 (c : Dev nD) (t : Fin cfg0.N) (i : Fin 8) (k : Fin 3) (hk : k.val = i.val) (j : Fin 512) (s : Fin 5632) (hs : s.val = t.val / 34 * 512 + j.val) :
    (iblk m c 3 t : FVec Ideal S8x512 .f32) (ix2 i j) = m ((c : Thread nD τ).loc main_arg3) (ix2 k s) := by
  have h := idx_all t
  unfold iblk; rw [View.read_apply]
  show V m c main_v0 _ = _
  rw [V_main_v0]
  have e : (((cfg0.win 3).blk t).view.emb (ix2 i j)) = (ix2 i s : S8x5632.Idx) := by
    funext a; apply Fin.ext
    match a with
    | ⟨0, _⟩ => show win0_3.index t 0 * 8 + 1 * i.val = i.val; omega
    | ⟨1, _⟩ => show win0_3.index t 1 * 512 + 1 * j.val = s.val; omega
  refine (congrArg _ e).trans ?_
  exact pad_row _ i k hk s

/-- Window 4 stages a column block of the convolution's bias. -/
theorem blk4 (c : Dev nD) (t : Fin cfg0.N) (i : Fin 1) (j : Fin 512) (s : Fin 5632) (hs : s.val = t.val / 34 * 512 + j.val) :
    (iblk m c 4 t : FVec Ideal S1x512 .f32) (ix2 i j) = m ((c : Thread nD τ).loc main_arg4) (ix1 s) := by
  have h := idx_all t
  unfold iblk; rw [View.read_apply]
  show V m c main_v3 _ = _
  rw [V_main_v3]
  have e : (((cfg0.win 4).blk t).view.emb (ix2 i j)) = (ix2 (0 : Fin 1) s : S1x5632.Idx) := by
    funext a; apply Fin.ext
    match a with
    | ⟨0, _⟩ => show win0_4.index t 0 * 1 + 1 * i.val = 0; omega
    | ⟨1, _⟩ => show win0_4.index t 1 * 512 + 1 * j.val = s.val; omega
  refine (congrArg _ e).trans ?_
  exact row_apply _ s

/-- A block of the result from the staged blocks and the eight kept rows. -/
def blockOut (x0 : FVec Ideal S512x2048 .bf16) (x1 x2 : FVec Ideal S2048x512 .bf16) (x3 : FVec Ideal S8x512 .f32) (x4 : FVec Ideal S1x512 .f32) (xs : FVec Ideal S8x512 .f32) : FVec Ideal S512x512 .bf16 :=
  k0_pay2 (F := Ideal) (k0_pay4 x0 x1) (k0_pay5 x0 x2) (iota Kind.tc S512x1 32 [0] iota_S512x1_d0_w32) (View.ld (Val := Elt Ideal) (S := S8x512) (e' := EltTy.f32) xs (Rect.unit ![7, 0] ![1, 512] inb_S8x512_S1x512_7_0)) (View.ld (Val := Elt Ideal) (S := S8x512) (e' := EltTy.f32) xs (Rect.unit ![6, 0] ![1, 512] inb_S8x512_S1x512_6_0))
    (k0_pay6 x0 x1 (View.ld (Val := Elt Ideal) (S := S8x512) (e' := EltTy.f32) xs (Rect.unit ![7, 0] ![1, 512] inb_S8x512_S1x512_7_0))) k0_pay7 (1#32) (View.ld (Val := Elt Ideal) (S := S8x512) (e' := EltTy.f32) x3 (Rect.unit ![0, 0] ![1, 512] inb_S8x512_S1x512_0_0)) (View.ld (Val := Elt Ideal) (S := S8x512) (e' := EltTy.f32) x3 (Rect.unit ![1, 0] ![1, 512] inb_S8x512_S1x512_1_0)) (View.ld (Val := Elt Ideal) (S := S8x512) (e' := EltTy.f32) x3 (Rect.unit ![2, 0] ![1, 512] inb_S8x512_S1x512_2_0)) x4

theorem ld_row (x : FVec Ideal S8x512 .f32) (k : Fin 8) (inb) (j : Fin 512) :
    (View.ld (Val := Elt Ideal) (S := S8x512) (e' := EltTy.f32) x (Rect.unit ![k.val, 0] ![1, 512] inb) : FVec Ideal S1x512 .f32) (ix2 0 j) = x (ix2 k j) :=
  View.ld_unit_apply_of (Val := Elt Ideal) (S := S8x512) (e := EltTy.f32) x ![k.val, 0] ![1, 512] inb (ix2 0 j) (ix2 k j) (fun a => match a with
    | ⟨0, _⟩ => rfl
    | ⟨1, _⟩ => (Nat.zero_add _).symm)

theorem outA (c : Dev nD) (i : grid0.Coords) (a2 : Memref sig .tc .vmem S512x2048 .bf16) (h2 : a2.IsWhole) (a3 : Memref sig .tc .vmem S2048x512 .bf16) (h3 : a3.IsWhole) (a4 : Memref sig .tc .vmem S2048x512 .bf16) (h4 : a4.IsWhole) (a5 : Memref sig .tc .vmem S8x512 .f32) (h5 : a5.IsWhole) (a6 : Memref sig .tc .vmem S1x512 .f32) (h6 : a6.IsWhole) (a7 : Memref sig .tc .vmem S512x512 .bf16) (h7 : a7.IsWhole) (a8 : Memref sig .tc .vmem S8x512 .f32) (h8 : a8.IsWhole) (hc : cond0_0 i)
    (x0 : FVec Ideal S512x2048 .bf16) (x1 x2 : FVec Ideal S2048x512 .bf16) (x3 : FVec Ideal S8x512 .f32) (x4 : FVec Ideal S1x512 .f32) :
    out0_A_5 (F := Ideal) c i a2 h2 a3 h3 a4 h4 a5 h5 a6 h6 a7 h7 a8 h8 hc x0 x1 x2 x3 x4 = blockOut x0 x1 x2 x3 x4 (k0_pay3 (F := Ideal)) := by
  unfold out0_A_5
  rw [View.read_writes_eq_canon _ _ _ (cover0_A_5 (F := Ideal) c i a2 h2 a3 h3 a4 h4 a5 h5 a6 h6 a7 h7 a8 h8 hc x0 x1 x2 x3 x4)]
  unfold kernelRun0_A
  dsimp only
  sl_unfold_words
  rw [View.canon_unit_zero hz]
  simp only [View.readAt_eq_ld, h2.read_unread, h3.read_unread, h4.read_unread, h5.read_unread, h6.read_unread, h8.read_unread, View.ld_unit_zero (S := S512x2048) hz, View.ld_unit_zero (S := S2048x512) hz, View.ld_unit_zero (S := S1x512) hz]
  have f7 : a8.view.readCov [(⟨Rect.unit ![0, 0] ![8, 512] inb_S8x512_S8x512_0_0, k0_pay3 (F := Ideal)⟩ : View.Piece (Elt Ideal) S8x512 .f32)] (Rect.unit ![7, 0] ![1, 512] inb_S8x512_S1x512_7_0).toLoadRect = View.ld (Val := Elt Ideal) (S := S8x512) (e' := EltTy.f32) (k0_pay3 (F := Ideal)) (Rect.unit ![7, 0] ![1, 512] inb_S8x512_S1x512_7_0) :=
    View.readCov_fill (Val := Elt Ideal) (e := EltTy.f32) (s := S8x512) a8.view inb_S8x512_S8x512_0_0 (k0_pay3 (F := Ideal)) [] _ (fun a => congrFun hz a)
  have f6 : a8.view.readCov [(⟨Rect.unit ![0, 0] ![8, 512] inb_S8x512_S8x512_0_0, k0_pay3 (F := Ideal)⟩ : View.Piece (Elt Ideal) S8x512 .f32)] (Rect.unit ![6, 0] ![1, 512] inb_S8x512_S1x512_6_0).toLoadRect = View.ld (Val := Elt Ideal) (S := S8x512) (e' := EltTy.f32) (k0_pay3 (F := Ideal)) (Rect.unit ![6, 0] ![1, 512] inb_S8x512_S1x512_6_0) :=
    View.readCov_fill (Val := Elt Ideal) (e := EltTy.f32) (s := S8x512) a8.view inb_S8x512_S8x512_0_0 (k0_pay3 (F := Ideal)) [] _ (fun a => congrFun hz a)
  rw [f7, f6]
  unfold blockOut
  rfl

theorem soutA (c : Dev nD) (i : grid0.Coords) (a2 : Memref sig .tc .vmem S512x2048 .bf16) (h2 : a2.IsWhole) (a3 : Memref sig .tc .vmem S2048x512 .bf16) (h3 : a3.IsWhole) (a4 : Memref sig .tc .vmem S2048x512 .bf16) (h4 : a4.IsWhole) (a5 : Memref sig .tc .vmem S8x512 .f32) (h5 : a5.IsWhole) (a6 : Memref sig .tc .vmem S1x512 .f32) (h6 : a6.IsWhole) (a7 : Memref sig .tc .vmem S512x512 .bf16) (h7 : a7.IsWhole) (a8 : Memref sig .tc .vmem S8x512 .f32) (h8 : a8.IsWhole) (hc : cond0_0 i)
    (x0 : FVec Ideal S512x2048 .bf16) (x1 x2 : FVec Ideal S2048x512 .bf16) (x3 : FVec Ideal S8x512 .f32) (x4 : FVec Ideal S1x512 .f32) :
    sout0_A_0 (F := Ideal) c i a2 h2 a3 h3 a4 h4 a5 h5 a6 h6 a7 h7 a8 h8 hc x0 x1 x2 x3 x4 = k0_pay1 (F := Ideal) (k0_pay4 (F := Ideal) x0 x1) := by
  unfold sout0_A_0
  rw [View.read_writes_eq_canon _ _ _ (scover0_A_0 (F := Ideal) c i a2 h2 a3 h3 a4 h4 a5 h5 a6 h6 a7 h7 a8 h8 hc x0 x1 x2 x3 x4)]
  unfold kernelRun0_A
  dsimp only
  sl_unfold_words
  first | rw [View.canon_unit_zero hz] | rw [View.canon_cons_unit_zero hz]
  simp only [View.readAt_eq_ld, h2.read_unread, h3.read_unread, h4.read_unread, h5.read_unread, h6.read_unread, h8.read_unread, View.ld_unit_zero (S := S512x2048) hz, View.ld_unit_zero (S := S2048x512) hz, View.ld_unit_zero (S := S1x512) hz]

theorem outB (c : Dev nD) (i : grid0.Coords) (a2 : Memref sig .tc .vmem S512x2048 .bf16) (h2 : a2.IsWhole) (a3 : Memref sig .tc .vmem S2048x512 .bf16) (h3 : a3.IsWhole) (a4 : Memref sig .tc .vmem S2048x512 .bf16) (h4 : a4.IsWhole) (a5 : Memref sig .tc .vmem S8x512 .f32) (h5 : a5.IsWhole) (a6 : Memref sig .tc .vmem S1x512 .f32) (h6 : a6.IsWhole) (a7 : Memref sig .tc .vmem S512x512 .bf16) (h7 : a7.IsWhole) (a8 : Memref sig .tc .vmem S8x512 .f32) (h8 : a8.IsWhole) (hc : ¬cond0_0 i)
    (x0 : FVec Ideal S512x2048 .bf16) (x1 x2 : FVec Ideal S2048x512 .bf16) (x3 : FVec Ideal S8x512 .f32) (x4 : FVec Ideal S1x512 .f32) (xs : FVec Ideal S8x512 .f32) :
    out0_B_5 (F := Ideal) c i a2 h2 a3 h3 a4 h4 a5 h5 a6 h6 a7 h7 a8 h8 hc x0 x1 x2 x3 x4 xs = blockOut x0 x1 x2 x3 x4 xs := by
  unfold out0_B_5
  rw [View.read_writes_eq_canon _ _ _ (cover0_B_5 (F := Ideal) c i a2 h2 a3 h3 a4 h4 a5 h5 a6 h6 a7 h7 a8 h8 hc x0 x1 x2 x3 x4 xs)]
  unfold kernelRun0_B
  dsimp only
  sl_unfold_words
  rw [View.canon_unit_zero hz]
  simp only [View.readAt_eq_ld, h2.read_unread, h3.read_unread, h4.read_unread, h5.read_unread, h6.read_unread, h8.read_unread, View.ld_unit_zero (S := S512x2048) hz, View.ld_unit_zero (S := S2048x512) hz, View.ld_unit_zero (S := S1x512) hz]
  unfold blockOut
  rfl

theorem soutB (c : Dev nD) (i : grid0.Coords) (a2 : Memref sig .tc .vmem S512x2048 .bf16) (h2 : a2.IsWhole) (a3 : Memref sig .tc .vmem S2048x512 .bf16) (h3 : a3.IsWhole) (a4 : Memref sig .tc .vmem S2048x512 .bf16) (h4 : a4.IsWhole) (a5 : Memref sig .tc .vmem S8x512 .f32) (h5 : a5.IsWhole) (a6 : Memref sig .tc .vmem S1x512 .f32) (h6 : a6.IsWhole) (a7 : Memref sig .tc .vmem S512x512 .bf16) (h7 : a7.IsWhole) (a8 : Memref sig .tc .vmem S8x512 .f32) (h8 : a8.IsWhole) (hc : ¬cond0_0 i)
    (x0 : FVec Ideal S512x2048 .bf16) (x1 x2 : FVec Ideal S2048x512 .bf16) (x3 : FVec Ideal S8x512 .f32) (x4 : FVec Ideal S1x512 .f32) (xs : FVec Ideal S8x512 .f32) :
    sout0_B_0 (F := Ideal) c i a2 h2 a3 h3 a4 h4 a5 h5 a6 h6 a7 h7 a8 h8 hc x0 x1 x2 x3 x4 xs = k0_pay1 (F := Ideal) (k0_pay4 (F := Ideal) x0 x1) := by
  unfold sout0_B_0
  rw [View.read_writes_eq_canon _ _ _ (scover0_B_0 (F := Ideal) c i a2 h2 a3 h3 a4 h4 a5 h5 a6 h6 a7 h7 a8 h8 hc x0 x1 x2 x3 x4 xs)]
  unfold kernelRun0_B
  dsimp only
  sl_unfold_words
  first | rw [View.canon_unit_zero hz] | rw [View.canon_cons_unit_zero hz]
  simp only [View.readAt_eq_ld, h2.read_unread, h3.read_unread, h4.read_unread, h5.read_unread, h6.read_unread, h8.read_unread, View.ld_unit_zero (S := S512x2048) hz, View.ld_unit_zero (S := S2048x512) hz, View.ld_unit_zero (S := S1x512) hz]

theorem sel (i : ℕ) (hi : i < 512) (k : ℕ) (hk : k < 512) (a b : EReal) :
    Scalar.select (IntOp.cmpi CmpIPredicate.eq (BitVec.ofNat 32 i) (BitVec.ofNat 32 k)) a b = if i = k then a else b := by
  unfold Scalar.select
  refine if_congr ?_ rfl rfl
  refine (StableHlo.Predicate.cmpi_eq_iff (w := 32)).trans ?_
  constructor
  · intro h
    have := congrArg BitVec.toNat h
    simp only [BitVec.toNat_ofNat] at this
    omega
  · intro h; rw [h]

/-- The gated activation of the convolved value `a` and the other product `u`. -/
def act (a u : EReal) : EReal := a * Ideal.logistic a * u

/-- One element of a kept row after a point: one of the last eight rows of the gate's product. -/
theorem pay1_apply (x0 : FVec Ideal S512x2048 .bf16) (x1 : FVec Ideal S2048x512 .bf16) (i : Fin 8) (j : Fin 512) :
    (k0_pay1 (k0_pay4 x0 x1) : FVec Ideal S8x512 .f32) (ix2 i j) = ∑ k : Fin 2048, x0 (ix2 (⟨504 + i.val, by omega⟩ : Fin 512) k) * x1 (ix2 k j) := by
  pointwise [k0_pay1, k0_pay4]

theorem pay3_apply (i : Fin 8) (j : Fin 512) : (k0_pay3 (F := Ideal) : FVec Ideal S8x512 .f32) (ix2 i j) = 0 := by
  pointwise [k0_pay3]

theorem pay4_apply (x0 : FVec Ideal S512x2048 .bf16) (x1 : FVec Ideal S2048x512 .bf16) (i j : Fin 512) :
    (k0_pay4 x0 x1 : FVec Ideal S512x512 .f32) (ix2 i j) = ∑ k : Fin 2048, x0 (ix2 i k) * x1 (ix2 k j) := by
  pointwise [k0_pay4]

theorem pay5_apply (x0 : FVec Ideal S512x2048 .bf16) (x1 : FVec Ideal S2048x512 .bf16) (i j : Fin 512) :
    (k0_pay5 x0 x1 : FVec Ideal S512x512 .f32) (ix2 i j) = ∑ k : Fin 2048, x0 (ix2 i k) * x1 (ix2 k j) := by
  pointwise [k0_pay5]

theorem pay6_apply (x0 : FVec Ideal S512x2048 .bf16) (x1 : FVec Ideal S2048x512 .bf16) (p1 : FVec Ideal S1x512 .f32) (i j : Fin 512) :
    (k0_pay6 x0 x1 p1 : FVec Ideal S512x512 .f32) (ix2 i j) =
      if i.val = 0 then p1 (ix2 0 j) else (k0_pay4 x0 x1 : FVec Ideal S512x512 .f32) (ix2 (⟨(i.val + 512 - 1) % 512, Nat.mod_lt _ (by decide)⟩ : Fin 512) j) := by
  unfold k0_pay6
  generalize (k0_pay4 (F := Ideal) x0 x1) = g
  pointwise []
  exact sel i.val i.isLt 0 (by decide) _ _

theorem pay2_apply (g u : FVec Ideal S512x512 .f32) (p1 p2 w0 w1 w2 b : FVec Ideal S1x512 .f32) (r1 : FVec Ideal S512x512 .f32) (i j : Fin 512) :
    (k0_pay2 g u (iota .tc S512x1 32 [0] iota_S512x1_d0_w32) p1 p2 r1 k0_pay7 1#32 w0 w1 w2 b : FVec Ideal S512x512 .bf16) (ix2 i j) =
      act (w0 (ix2 0 j) * (if i.val = 0 then p2 (ix2 0 j) else if i.val = 1 then p1 (ix2 0 j) else g (ix2 (⟨(i.val + 512 - 2) % 512, Nat.mod_lt _ (by decide)⟩ : Fin 512) j))
        + w1 (ix2 0 j) * r1 (ix2 i j) + w2 (ix2 0 j) * g (ix2 i j) + b (ix2 0 j)) (u (ix2 i j)) := by
  rw [← sel i.val i.isLt 1 (by decide), ← sel i.val i.isLt 0 (by decide)]
  unfold act
  pointwise [k0_pay2, k0_pay7, Ideal.logistic]

/-- One element of the gate's product, and of the other product. -/
def gate (u : FVec Ideal S17408x2048 .bf16) (w : FVec Ideal S2048x5632 .f32) (r : Fin 17408) (s : Fin 5632) : EReal :=
  ∑ k : Fin 2048, u (ix2 r k) * w (ix2 k s)

/-- The gate's product `d` rows before row `r` of its batch, zero before the batch's first row. -/
def prev (u : FVec Ideal S17408x2048 .bf16) (w : FVec Ideal S2048x5632 .f32) (d : ℕ) (r : Fin 17408) (s : Fin 5632) : EReal :=
  if d ≤ r.val % 8704 then gate u w ⟨r.val - d, Nat.lt_of_le_of_lt (Nat.sub_le _ _) r.isLt⟩ s else 0

/-- The convolved value: three taps over the gate's product, and the bias. -/
def conv (u : FVec Ideal S17408x2048 .bf16) (w : FVec Ideal S2048x5632 .f32) (cw : FVec Ideal S3x5632 .f32) (b : FVec Ideal S5632 .f32) (r : Fin 17408) (s : Fin 5632) : EReal :=
  cw (ix2 0 s) * prev u w 2 r s + cw (ix2 1 s) * prev u w 1 r s + cw (ix2 2 s) * gate u w r s + b (ix1 s)

/-- One element of the result. -/
def res (u : FVec Ideal S17408x2048 .bf16) (w w' : FVec Ideal S2048x5632 .f32) (cw : FVec Ideal S3x5632 .f32) (b : FVec Ideal S5632 .f32) (r : Fin 17408) (s : Fin 5632) : EReal :=
  act (conv u w cw b r s) (gate u w' r s)

/-- The result, from the launch memory. -/
def G (c : Dev nD) : FVec Ideal S17408x5632 .bf16 := fun i =>
  res (m ((c : Thread nD τ).loc main_arg0)) (m ((c : Thread nD τ).loc main_arg1)) (m ((c : Thread nD τ).loc main_arg2)) (m ((c : Thread nD τ).loc main_arg3)) (m ((c : Thread nD τ).loc main_arg4)) (i 0) (i 1)
theorem G_apply (c : Dev nD) (r : Fin 17408) (s : Fin 5632) : G m c (ix2 r s) = res (m ((c : Thread nD τ).loc main_arg0)) (m ((c : Thread nD τ).loc main_arg1)) (m ((c : Thread nD τ).loc main_arg2)) (m ((c : Thread nD τ).loc main_arg3)) (m ((c : Thread nD τ).loc main_arg4)) r s := rfl

/-- An element of the gate's product over a point's blocks. -/
theorem gate_blk (c : Dev nD) (t : Fin cfg0.N) (i j : Fin 512) (r : Fin 17408) (hr : r.val = t.val % 34 * 512 + i.val) (s : Fin 5632) (hs : s.val = t.val / 34 * 512 + j.val)
    (x0 : FVec Ideal S512x2048 .bf16) (e0 : x0 = iblk m c 0 t) (x1 : FVec Ideal S2048x512 .bf16) (e1 : x1 = iblk m c 1 t) :
    ∑ k : Fin 2048, x0 (ix2 i k) * x1 (ix2 k j) = gate (m ((c : Thread nD τ).loc main_arg0)) (m ((c : Thread nD τ).loc main_arg1)) r s := by
  subst e0 e1
  exact Finset.sum_congr rfl fun k _ => congrArg₂ (· * ·) (blk0 m c t i k r k hr rfl) (blk1 m c t k j k s rfl hs)

theorem up_blk (c : Dev nD) (t : Fin cfg0.N) (i j : Fin 512) (r : Fin 17408) (hr : r.val = t.val % 34 * 512 + i.val) (s : Fin 5632) (hs : s.val = t.val / 34 * 512 + j.val)
    (x0 : FVec Ideal S512x2048 .bf16) (e0 : x0 = iblk m c 0 t) (x2 : FVec Ideal S2048x512 .bf16) (e2 : x2 = iblk m c 2 t) :
    ∑ k : Fin 2048, x0 (ix2 i k) * x2 (ix2 k j) = gate (m ((c : Thread nD τ).loc main_arg0)) (m ((c : Thread nD τ).loc main_arg2)) r s := by
  subst e0 e2
  exact Finset.sum_congr rfl fun k _ => congrArg₂ (· * ·) (blk0 m c t i k r k hr rfl) (blk2 m c t k j k s rfl hs)

theorem scr (c : Dev nD) (t : Fin cfg0.N) :
    (outsAt0 (F := Ideal) m c t.val t.isLt).2 = k0_pay1 (F := Ideal) (k0_pay4 (F := Ideal) (iblk m c 0 t) (iblk m c 1 t)) := by
  by_cases h0 : t.val % 17 = 0
  · rw [outsAt0_A m c t h0]
    dsimp only
    rw [soutA]
  · rw [outsAt0_B m c t h0]
    dsimp only
    rw [soutB]

theorem resA (c : Dev nD) (t : Fin cfg0.N) (h0 : t.val % 17 = 0) :
    (outsAt0 (F := Ideal) m c t.val t.isLt).1 = blockOut (iblk m c 0 t) (iblk m c 1 t) (iblk m c 2 t) (iblk m c 3 t) (iblk m c 4 t) (k0_pay3 (F := Ideal)) := by
  rw [outsAt0_A m c t h0]
  dsimp only
  rw [outA]

theorem resB (c : Dev nD) (t : Fin cfg0.N) (h0 : ¬t.val % 17 = 0) :
    (outsAt0 (F := Ideal) m c t.val t.isLt).1 = blockOut (iblk m c 0 t) (iblk m c 1 t) (iblk m c 2 t) (iblk m c 3 t) (iblk m c 4 t) (outsAt0 (F := Ideal) m c (t.val - 1) (Nat.lt_of_le_of_lt (Nat.sub_le _ _) t.isLt)).2 := by
  rw [outsAt0_B m c t h0]
  dsimp only
  rw [outB]

/-- A point's block of the result, from kept rows that hold the gate's product in the rows just before the point's. -/
theorem point_eq (c : Dev nD) (t : Fin cfg0.N) (xs : FVec Ideal S8x512 .f32)
    (hk : ∀ (i : Fin 8) (j : Fin 512) (s : Fin 5632) (d e : ℕ) (r : Fin 17408), s.val = t.val / 34 * 512 + j.val → i.val + d = 8 → 0 < d → e < d + 1 → r.val = t.val % 34 * 512 + e →
      xs (ix2 i j) = prev (m ((c : Thread nD τ).loc main_arg0)) (m ((c : Thread nD τ).loc main_arg1)) (d + e) r s)
    (i j : Fin 512) (r : Fin 17408) (hr : r.val = t.val % 34 * 512 + i.val) (s : Fin 5632) (hs : s.val = t.val / 34 * 512 + j.val) :
    blockOut (iblk m c 0 t) (iblk m c 1 t) (iblk m c 2 t) (iblk m c 3 t) (iblk m c 4 t) xs (ix2 i j) = res (m ((c : Thread nD τ).loc main_arg0)) (m ((c : Thread nD τ).loc main_arg1)) (m ((c : Thread nD τ).loc main_arg2)) (m ((c : Thread nD τ).loc main_arg3)) (m ((c : Thread nD τ).loc main_arg4)) r s := by
  unfold blockOut
  refine (pay2_apply _ _ _ _ _ _ _ _ _ i j).trans ?_
  have hi := i.isLt
  have hrl := r.isLt
  unfold res conv
  refine congrArg₂ act ?_ ((pay5_apply _ _ i j).trans (up_blk m c t i j r hr s hs _ rfl _ rfl))
  refine congrArg₂ (· + ·) (congrArg₂ (· + ·) (congrArg₂ (· + ·) (congrArg₂ (· * ·) ?_ ?_) (congrArg₂ (· * ·) ?_ ?_)) (congrArg₂ (· * ·) ?_ ?_)) ?_
  · exact (ld_row _ (0 : Fin 8) _ j).trans (blk3 m c t 0 0 rfl j s hs)
  · by_cases h0 : i.val = 0
    · rw [if_pos h0]
      exact (ld_row _ (6 : Fin 8) _ j).trans (hk 6 j s 2 0 r hs rfl (by decide) (by decide) (by rw [hr, h0]))
    · rw [if_neg h0]
      by_cases h1 : i.val = 1
      · rw [if_pos h1]
        exact (ld_row _ (7 : Fin 8) _ j).trans (hk 7 j s 1 1 r hs rfl (by decide) (by decide) (by rw [hr, h1]))
      · rw [if_neg h1]
        refine (pay4_apply _ _ _ j).trans ?_
        have hd : 2 ≤ r.val % 8704 := by clear hk; generalize t.val % 34 = n at hr; omega
        unfold prev
        rw [if_pos hd]
        exact gate_blk m c t _ j _ (by show r.val - 2 = t.val % 34 * 512 + (i.val + 512 - 2) % 512; clear hk; generalize t.val % 34 = n at hr; omega) s hs _ rfl _ rfl
  · exact (ld_row _ (1 : Fin 8) _ j).trans (blk3 m c t 1 1 rfl j s hs)
  · refine (pay6_apply _ _ _ i j).trans ?_
    by_cases h0 : i.val = 0
    · rw [if_pos h0]
      exact (ld_row _ (7 : Fin 8) _ j).trans (hk 7 j s 1 0 r hs rfl (by decide) (by decide) (by rw [hr, h0]))
    · rw [if_neg h0]
      refine (pay4_apply _ _ _ j).trans ?_
      have hd : 1 ≤ r.val % 8704 := by clear hk; generalize t.val % 34 = n at hr; omega
      unfold prev
      rw [if_pos hd]
      exact gate_blk m c t _ j _ (by show r.val - 1 = t.val % 34 * 512 + (i.val + 512 - 1) % 512; clear hk; generalize t.val % 34 = n at hr; omega) s hs _ rfl _ rfl
  · exact (ld_row _ (2 : Fin 8) _ j).trans (blk3 m c t 2 2 rfl j s hs)
  · exact (pay4_apply _ _ i j).trans (gate_blk m c t i j r hr s hs _ rfl _ rfl)
  · exact blk4 m c t 0 j s hs

theorem natA (n : ℕ) (h : n % 17 = 0) (d e r : ℕ) (he : e < d + 1) (hd : 0 < d) (hd8 : d ≤ 8) (hr : r = n % 34 * 512 + e) : ¬ d + e ≤ r % 8704 := by
  have : n % 34 = 0 ∨ n % 34 = 17 := by omega
  omega

theorem natB (n : ℕ) (h : ¬n % 17 = 0) : (n - 1) / 34 = n / 34 ∧ (n - 1) % 34 + 1 = n % 34 ∧ ¬ n % 34 = 0 ∧ ¬ n % 34 = 17 ∧ n % 34 < 34 := by omega

theorem natB' (q d e r i : ℕ) (h0 : ¬q = 0) (h17 : ¬q = 17) (h34 : q < 34) (he : e < d + 1) (hd8 : i + d = 8) (hr : r = q * 512 + e) :
    d + e ≤ r % 8704 ∧ r - (d + e) = (q - 1) * 512 + (504 + i) := by omega

/-- What a point leaves in the output's block. -/
theorem out_eq (c : Dev nD) (t : Fin cfg0.N) (i j : Fin 512) (r : Fin 17408) (s : Fin 5632) (hr : r.val = t.val % 34 * 512 + i.val) (hs : s.val = t.val / 34 * 512 + j.val) :
    ((outsAt0 (F := Ideal) m c t.val t.isLt).1 : FVec Ideal S512x512 .bf16) (ix2 i j) = G m c (ix2 r s) := by
  rw [G_apply]
  by_cases h0 : t.val % 17 = 0
  · rw [resA m c t h0]
    refine point_eq m c t _ (fun i j s d e r hs hid hd he hr => ?_) i j r hr s hs
    rw [pay3_apply]
    unfold prev
    exact (if_neg (natA t.val h0 d e r.val he hd (hid ▸ Nat.le_add_left _ _) hr)).symm
  · rw [resB m c t h0]
    refine point_eq m c t _ (fun i j s d e r hs hid hd he hr => ?_) i j r hr s hs
    obtain ⟨n1, n2, n3, n4, n5⟩ := natB t.val h0
    obtain ⟨k1, k2⟩ := natB' (t.val % 34) d e r.val i.val n3 n4 n5 he hid hr
    have hsc := scr m c ⟨t.val - 1, Nat.lt_of_le_of_lt (Nat.sub_le _ _) t.isLt⟩
    dsimp only at hsc
    rw [hsc]
    unfold prev
    rw [if_pos k1]
    refine (pay1_apply _ _ i j).trans ?_
    exact gate_blk m c ⟨t.val - 1, Nat.lt_of_le_of_lt (Nat.sub_le _ _) t.isLt⟩ _ j _ (by show r.val - (d + e) = (t.val - 1) % 34 * 512 + (504 + i.val); rw [k2, ← n2]; rfl) s (by show s.val = (t.val - 1) / 34 * 512 + j.val; rw [n1]; exact hs) _ rfl _ rfl

/-- What a grid point writes back is its block of `G`. -/
theorem flushed_eq (c : Dev nD) (t : Fin cfg0.N) :
    (dats m 0 c).flushed 5 t = ((cfg0.win 5).blk t).view.read (Elt Ideal) (G m c) := by
  have h := idx_all t
  rw [Value.flushed5]
  funext y
  show ((outsAt0 m c t.val t.isLt).1 : FVec Ideal S512x512 .bf16) ((cfg0.win 5).xinj (grid0.coords t) y) = G m c (((cfg0.win 5).blk t).view.emb y)
  have y0 : (y 0).val < 512 := (y 0).isLt
  have y1 : (y 1).val < 512 := (y 1).isLt
  have e : (cfg0.win 5).xinj (grid0.coords t) y = (ix2 (⟨(y 0).val, y0⟩ : Fin 512) (⟨(y 1).val, y1⟩ : Fin 512) : S512x512.Idx) := by
    funext a; match a with
    | ⟨0, _⟩ => rfl
    | ⟨1, _⟩ => rfl
  have e' : (((cfg0.win 5).blk t).view.emb y) = (ix2 (⟨t.val % 34 * 512 + (y 0).val, by omega⟩ : Fin 17408) (⟨t.val / 34 * 512 + (y 1).val, by omega⟩ : Fin 5632) : S17408x5632.Idx) := by
    funext a; apply Fin.ext; match a with
    | ⟨0, _⟩ => show win0_5.index t 0 * 512 + 1 * (y 0).val = t.val % 34 * 512 + (y 0).val; omega
    | ⟨1, _⟩ => show win0_5.index t 1 * 512 + 1 * (y 1).val = t.val / 34 * 512 + (y 1).val; omega
  rw [e, e']
  exact out_eq m c t _ _ _ _ rfl rfl

/-- The array after the run. -/
theorem final (c : Dev nD) : (dats m 0 c).arrAt 5 cfg0.N = G m c :=
  (dats m 0 c).arrAt_eq_of_cover 5 (G m c) (fun t _ => flushed_eq m c t) (fun i => (Value.covered_iff5 i).2 (by
    have h0 : (i 0).val < 17408 := (i 0).isLt; have h1 : (i 1).val < 5632 := (i 1).isLt; omega))

end Cert.FfnUpIdeal.RefValue

namespace Cert.FfnUpRefIdeal.RefValue
open Cert.FfnUpRefIdeal Cert.FfnUpRefIdeal.Gen
open Cert.FfnUpIdeal.RefValue (gate prev conv act res)

/-- The plain text's convolution of the gate's product `GG`. -/
def convV (GG : FVec Ideal S2x8704x5632 .f32) (w : FVec Ideal S3x5632 .f32) (b : FVec Ideal S5632 .f32) : FVec Ideal S2x8704x5632 .f32 :=
  (addf (addf (addf (addf (broadcastInDim S2x8704x5632 ![] bcast_S_S2x8704x5632 (constant S_ .f32 0x00000000#32)) (mulf (extractStridedSlice S2x8704x5632 ![0, 0, 0] (pad S2x8706x5632 ![0, 2, 0] ![0, 0, 0] ![0, 0, 0] GG (sitofp .f32 (constantI S_ 32 0#32)) pads_S2x8704x5632_S2x8706x5632_000_200_000 h_S_) slices_S2x8706x5632_S2x8704x5632_0_0_0) (broadcastInDim S2x8704x5632 ![0, 1, 2] bcast_S1x1x5632_S2x8704x5632_0_1_2 (broadcastInDim S1x1x5632 ![2] bcast_S5632_S1x1x5632_2 (shapeCast _ (extractStridedSlice S1x5632 ![0, 0] w slices_S3x5632_S1x5632_0_0) shapeCasts_S1x5632_S5632))))) (mulf (extractStridedSlice S2x8704x5632 ![0, 1, 0] (pad S2x8706x5632 ![0, 2, 0] ![0, 0, 0] ![0, 0, 0] GG (sitofp .f32 (constantI S_ 32 0#32)) pads_S2x8704x5632_S2x8706x5632_000_200_000 h_S_) slices_S2x8706x5632_S2x8704x5632_0_1_0) (broadcastInDim S2x8704x5632 ![0, 1, 2] bcast_S1x1x5632_S2x8704x5632_0_1_2 (broadcastInDim S1x1x5632 ![2] bcast_S5632_S1x1x5632_2 (shapeCast _ (extractStridedSlice S1x5632 ![1, 0] w slices_S3x5632_S1x5632_1_0) shapeCasts_S1x5632_S5632))))) (mulf (extractStridedSlice S2x8704x5632 ![0, 2, 0] (pad S2x8706x5632 ![0, 2, 0] ![0, 0, 0] ![0, 0, 0] GG (sitofp .f32 (constantI S_ 32 0#32)) pads_S2x8704x5632_S2x8706x5632_000_200_000 h_S_) slices_S2x8706x5632_S2x8704x5632_0_2_0) (broadcastInDim S2x8704x5632 ![0, 1, 2] bcast_S1x1x5632_S2x8704x5632_0_1_2 (broadcastInDim S1x1x5632 ![2] bcast_S5632_S1x1x5632_2 (shapeCast _ (extractStridedSlice S1x5632 ![2, 0] w slices_S3x5632_S1x5632_2_0) shapeCasts_S1x5632_S5632))))) (broadcastInDim S2x8704x5632 ![0, 1, 2] bcast_S1x1x5632_S2x8704x5632_0_1_2 (broadcastInDim S1x1x5632 ![2] bcast_S5632_S1x1x5632_2 b)))

theorem convV_apply (GG : FVec Ideal S2x8704x5632 .f32) (w : FVec Ideal S3x5632 .f32) (b : FVec Ideal S5632 .f32) (p : Fin 2) (q : Fin 8704) (s : Fin 5632) :
    convV GG w b (ix3 p q s) =
      (if h : 2 ≤ q.val ∧ q.val - 2 < 8704 then GG (ix3 p ⟨q.val - 2, h.2⟩ s) else FloatOps.sitofp (F := Ideal) FTy.f32 0#32) * w (ix2 0 s)
      + (if h : 2 ≤ 1 + q.val ∧ 1 + q.val - 2 < 8704 then GG (ix3 p ⟨1 + q.val - 2, h.2⟩ s) else FloatOps.sitofp (F := Ideal) FTy.f32 0#32) * w (ix2 1 s)
      + GG (ix3 p q s) * w (ix2 2 s) + b (ix1 s) := by
  unfold convV
  pointwise []

/-- The plain text's products. -/
def dotV (u : FVec Ideal S17408x2048 .bf16) (w : FVec Ideal S2048x5632 .f32) : FVec Ideal S2x8704x5632 .f32 :=
  Host.dotGeneral dot_S2x8704x2048_S2048x5632_S2x8704x5632_2_0_01_1_n_n none (shapeCast _ (extf .f32 u bitsLt_bf16_f32) shapeCasts_S17408x2048_S2x8704x2048) w

theorem dotV_apply (u : FVec Ideal S17408x2048 .bf16) (w : FVec Ideal S2048x5632 .f32) (p : Fin 2) (q : Fin 8704) (s : Fin 5632) (r : Fin 17408) (hr : r.val = p.val * 8704 + q.val) :
    dotV u w (ix3 p q s) = gate u w r s := by
  have hlt : p.val * 8704 + q.val < 17408 := by have := p.isLt; have := q.isLt; omega
  obtain rfl : r = ⟨p.val * 8704 + q.val, hlt⟩ := Fin.ext hr
  unfold dotV gate
  pointwise []

theorem sitofp0 : (FloatOps.sitofp (F := Ideal) FTy.f32 (0#32 : BitVec 32) : EReal) = 0 := sitofp_zero

theorem conv_eq (u : FVec Ideal S17408x2048 .bf16) (wg : FVec Ideal S2048x5632 .f32) (w : FVec Ideal S3x5632 .f32) (b : FVec Ideal S5632 .f32) (p : Fin 2) (q : Fin 8704) (s : Fin 5632) (r : Fin 17408) (hr : r.val = p.val * 8704 + q.val) :
    convV (dotV u wg) w b (ix3 p q s) = conv u wg w b r s := by
  have hq := q.isLt
  have hm : r.val % 8704 = q.val := by omega
  rw [convV_apply]
  unfold conv prev
  rw [hm]
  refine congrArg₂ (· + ·) (congrArg₂ (· + ·) (congrArg₂ (· + ·) ?_ ?_) ?_) rfl
  · rw [mul_comm]
    refine congrArg₂ (· * ·) rfl ?_
    by_cases h : 2 ≤ q.val
    · rw [dif_pos ⟨h, by omega⟩, if_pos h]
      exact dotV_apply _ _ _ _ _ _ (by show r.val - 2 = p.val * 8704 + (q.val - 2); omega)
    · rw [dif_neg (fun h' => h h'.1), if_neg h, sitofp0]
  · rw [mul_comm]
    refine congrArg₂ (· * ·) rfl ?_
    by_cases h : 1 ≤ q.val
    · rw [dif_pos ⟨by omega, by omega⟩, if_pos h]
      exact dotV_apply _ _ _ _ _ _ (by show r.val - 1 = p.val * 8704 + (1 + q.val - 2); omega)
    · rw [dif_neg (fun h' => h (by have := h'.1; omega)), if_neg h, sitofp0]
  · rw [mul_comm, dotV_apply _ _ _ _ _ _ hr]

theorem fin_eq (A U : FVec Ideal S2x8704x5632 .f32) (r : Fin 17408) (s : Fin 5632) :
  (shapeCast S17408x5632 (truncf .bf16 (mulf (mulf A (Host.divf (broadcastInDim S2x8704x5632 ![] bcast_S_S2x8704x5632 (constant S_ .f32 0x3F800000#32)) (addf (broadcastInDim S2x8704x5632 ![] bcast_S_S2x8704x5632 (constant S_ .f32 0x3F800000#32)) (Host.exp (Host.negf A))))) U) bitsLt_bf16_f32) shapeCasts_S2x8704x5632_S17408x5632 : FVec Ideal S17408x5632 .bf16) (ix2 r s)
    = act (A (ix3 (⟨r.val / 8704, by omega⟩ : Fin 2) (⟨r.val % 8704, by omega⟩ : Fin 8704) s)) (U (ix3 (⟨r.val / 8704, by omega⟩ : Fin 2) (⟨r.val % 8704, by omega⟩ : Fin 8704) s)) := by
  unfold act
  pointwise [Ideal.logistic]

/-- The plain text's result, at an index. -/
theorem ref_eq (m : (ℓ : Loc nD τ sig) → Buf (Elt Ideal) ℓ) (c : Dev nD) (r : Fin 17408) (s : Fin 5632) :
    (Value.res_main_v33 m c : FVec Ideal S17408x5632 .bf16) (ix2 r s) = res (m ((c : Thread nD τ).loc main_arg0)) (m ((c : Thread nD τ).loc main_arg1)) (m ((c : Thread nD τ).loc main_arg2)) (m ((c : Thread nD τ).loc main_arg3)) (m ((c : Thread nD τ).loc main_arg4)) r s := by
  have hr : r.val = r.val / 8704 * 8704 + r.val % 8704 := by omega
  refine (fin_eq (convV (dotV (m ((c : Thread nD τ).loc main_arg0)) (m ((c : Thread nD τ).loc main_arg1))) (m ((c : Thread nD τ).loc main_arg3)) (m ((c : Thread nD τ).loc main_arg4))) (dotV (m ((c : Thread nD τ).loc main_arg0)) (m ((c : Thread nD τ).loc main_arg2))) r s).trans ?_
  unfold res
  exact congrArg₂ act (conv_eq _ _ _ _ _ _ _ _ hr) (dotV_apply _ _ _ _ _ _ hr)

end Cert.FfnUpRefIdeal.RefValue

namespace Cert.FfnUpIdeal.RefValue

/-- The kernel and the plain text end with the same gated activations, for any argument values. -/
theorem algebraic : Cert.algebraic_FfnUpIdeal_FfnUpRefIdeal (hFfnUpIdeal := Cert.FfnUpIdeal.Gen.facts) (hFfnUpRefIdeal := Cert.FfnUpRefIdeal.Gen.facts) := by
  intro m g m' g' _ hargs
  refine ⟨fun c => G m c, ?_, ?_⟩
  · exact (θ_run Cert.FfnUpIdeal.defs _ _).mono (fun r h c => ⟨((h c).1).trans (final m c), (h c).2⟩) (Cert.FfnUpIdeal.Value.run_blocks (F := Ideal) m g)
  · refine (θ_run Cert.FfnUpRefIdeal.defs _ _).mono (fun r h c => ⟨((h c).1).trans ?_, (h c).2⟩) (Cert.FfnUpRefIdeal.Value.run (F := Ideal) m' g')
    obtain ⟨h0, h1, h2, h3, h4⟩ := hargs c
    funext i
    obtain ⟨r, s, rfl⟩ : ∃ (r : Fin 17408) (s : Fin 5632), i = ix2 r s := ⟨_, _, eq_ix2 i⟩
    refine (Cert.FfnUpRefIdeal.RefValue.ref_eq m' c r s).trans ?_
    show _ = G m c (ix2 r s)
    rw [G_apply, h0, h1, h2, h3, h4]

end Cert.FfnUpIdeal.RefValue
end
-- ==== Proof.FfnDownEq.lean ====
module

public import proofs.«01_k».proof.Defs
public import proofs.«01_k».proof.Proof.Gen.FfnDownIdeal.Value
public import proofs.«01_k».proof.Proof.Gen.FfnDownRefIdeal.Run
public import proofs.«01_k».proof.Proof.Rms
public import Idealize.ShloMosaic.Lib.Pointwise
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem
open Idealize.ShloMosaic.Pipeline (Dat)
open Cert.Rms

namespace Cert.FfnDownIdeal.RefValue

open Cert.FfnDownIdeal Cert.FfnDownIdeal.Gen

theorem hz : (![0, 0] : Fin 2 → Nat) = fun _ => 0 := funext fun a => by fin_cases a <;> rfl

variable (m : (ℓ : Loc nD τ sig) → Buf (Elt Ideal) ℓ)

theorem row_apply (x : FVec Ideal S2048 .f32) (s : Fin 2048) : shapeCast S1x2048 x shapeCasts_S2048_S1x2048 (ix2 (0 : Fin 1) s) = x (ix1 s) := by
  pointwise []

theorem V_main_v0 (c : Dev nD) : V m c main_v0 = m ((c : Thread nD τ).loc main_arg1) := by
  show StableHlo.after hostOps0 (fun b => m (c, b)) (Proc.devRef .tc main_v0) = _
  after_results; rfl

theorem V_main_v1 (c : Dev nD) : V m c main_v1 = shapeCast S1x2048 (m ((c : Thread nD τ).loc main_arg3) : FVec Ideal S2048 .f32) shapeCasts_S2048_S1x2048 := by
  show StableHlo.after hostOps0 (fun b => m (c, b)) (Proc.devRef .tc main_v1) = _
  after_results; rfl

/-- The row block of the activations a point works on: the first block of each of the two batches is skipped. -/
abbrev R (n : ℕ) : ℕ := n / 4 / 16 * 17 + 1 + n / 4 % 16

/-- The window positions at point `t`. -/
theorem idx_all : ∀ t : Fin cfg0.N,
    (win0_0.index t 0 = R t.val ∧ win0_0.index t 1 = t.val % 4) ∧ (win0_1.index t 0 = t.val % 4 ∧ win0_1.index t 1 = 0)
    ∧ (win0_2.index t 0 = R t.val ∧ win0_2.index t 1 = 0) ∧ (win0_3.index t 0 = 0 ∧ win0_3.index t 1 = 0)
    ∧ (win0_4.index t 0 = t.val / 4 ∧ win0_4.index t 1 = 0) ∧ t.val < 128 :=
  (by decide +kernel : ∀ t : Fin grid0.N, _)

/-- Window 0 stages a chunk of the activations' rows. -/
theorem blk0 (c : Dev nD) (t : Fin cfg0.N) (i : Fin 512) (j : Fin 1408) (r : Fin 17408) (s : Fin 5632)
    (hr : r.val = R t.val * 512 + i.val) (hs : s.val = t.val % 4 * 1408 + j.val) :
    (iblk m c 0 t : FVec Ideal S512x1408 .bf16) (ix2 i j) = m ((c : Thread nD τ).loc main_arg0) (ix2 r s) := by
  have h := idx_all t
  unfold iblk; rw [View.read_apply]
  show V m c main_arg0 _ = _
  rw [V_main_arg0]
  congr 1; funext a; apply Fin.ext
  match a with
  | ⟨0, _⟩ => show win0_0.index t 0 * 512 + 1 * i.val = r.val; omega
  | ⟨1, _⟩ => show win0_0.index t 1 * 1408 + 1 * j.val = s.val; omega

/-- Window 1 stages a chunk of the weight. -/
theorem blk1 (c : Dev nD) (t : Fin cfg0.N) (i : Fin 1408) (j : Fin 2048) (r : Fin 5632) (s : Fin 2048)
    (hr : r.val = t.val % 4 * 1408 + i.val) (hs : s.val = j.val) :
    (iblk m c 1 t : FVec Ideal S1408x2048 .bf16) (ix2 i j) = m ((c : Thread nD τ).loc main_arg1) (ix2 r s) := by
  have h := idx_all t
  unfold iblk; rw [View.read_apply]
  show V m c main_v0 _ = _
  rw [V_main_v0]
  congr 1; funext a; apply Fin.ext
  match a with
  | ⟨0, _⟩ => show win0_1.index t 0 * 1408 + 1 * i.val = r.val; omega
  | ⟨1, _⟩ => show win0_1.index t 1 * 2048 + 1 * j.val = s.val; omega

/-- Window 2 stages the residual's rows. -/
theorem blk2 (c : Dev nD) (t : Fin cfg0.N) (i : Fin 512) (j : Fin 2048) (r : Fin 17408) (s : Fin 2048)
    (hr : r.val = R t.val * 512 + i.val) (hs : s.val = j.val) :
    (iblk m c 2 t : FVec Ideal S512x2048 .f32) (ix2 i j) = m ((c : Thread nD τ).loc main_arg2) (ix2 r s) := by
  have h := idx_all t
  unfold iblk; rw [View.read_apply]
  show V m c main_arg2 _ = _
  rw [V_main_arg2]
  congr 1; funext a; apply Fin.ext
  match a with
  | ⟨0, _⟩ => show win0_2.index t 0 * 512 + 1 * i.val = r.val; omega
  | ⟨1, _⟩ => show win0_2.index t 1 * 2048 + 1 * j.val = s.val; omega

/-- Window 3 stages the norm's weight. -/
theorem blk3 (c : Dev nD) (t : Fin cfg0.N) (i : Fin 1) (j : Fin 2048) (s : Fin 2048) (hs : s.val = j.val) :
    (iblk m c 3 t : FVec Ideal S1x2048 .f32) (ix2 i j) = m ((c : Thread nD τ).loc main_arg3) (ix1 s) := by
  have h := idx_all t
  unfold iblk; rw [View.read_apply]
  show V m c main_v1 _ = _
  rw [V_main_v1]
  have e : (((cfg0.win 3).blk t).view.emb (ix2 i j)) = (ix2 (0 : Fin 1) s : S1x2048.Idx) := by
    funext a; apply Fin.ext
    match a with
    | ⟨0, _⟩ => show win0_3.index t 0 * 1 + 1 * i.val = 0; omega
    | ⟨1, _⟩ => show win0_3.index t 1 * 2048 + 1 * j.val = s.val; omega
  refine (congrArg _ e).trans ?_
  exact row_apply _ s

/-- One element of the running sum after a chunk is added. -/
theorem pay2_apply (a : FVec Ideal S512x2048 .f32) (x0 : FVec Ideal S512x1408 .bf16) (x1 : FVec Ideal S1408x2048 .bf16) (i : Fin 512) (j : Fin 2048) :
    (k0_pay2 a x0 x1 : FVec Ideal S512x2048 .f32) (ix2 i j) = a (ix2 i j) + ∑ k : Fin 1408, x0 (ix2 i k) * x1 (ix2 k j) := by
  pointwise [k0_pay2]

theorem pay1_eq (a : FVec Ideal S512x2048 .f32) : k0_pay1 (F := Ideal) a = a := by
  funext i
  obtain ⟨r, s, rfl⟩ : ∃ (r : Fin 512) (s : Fin 2048), i = ix2 r s := ⟨_, _, eq_ix2 i⟩
  pointwise [k0_pay1]

/-- One element of the result's block: the norm of the sum's row. -/
theorem pay3_apply (a : FVec Ideal S512x2048 .f32) (x3 : FVec Ideal S1x2048 .f32) (i : Fin 512) (j : Fin 2048) :
    (k0_pay3 a x3 : FVec Ideal S512x2048 .f32) (ix2 i j) = rms (fun l => a (ix2 i l)) (fun l => x3 (ix2 0 l)) j := by
  unfold rms
  pointwise [k0_pay3]

theorem soutA (c : Dev nD) (i : grid0.Coords) (a2 : Memref sig .tc .vmem S512x1408 .bf16) (h2 : a2.IsWhole) (a3 : Memref sig .tc .vmem S1408x2048 .bf16) (h3 : a3.IsWhole) (a4 : Memref sig .tc .vmem S512x2048 .f32) (h4 : a4.IsWhole) (a5 : Memref sig .tc .vmem S1x2048 .f32) (h5 : a5.IsWhole) (a6 : Memref sig .tc .vmem S512x2048 .f32) (h6 : a6.IsWhole) (a7 : Memref sig .tc .vmem S512x2048 .f32) (h7 : a7.IsWhole) (hc : cond0_0 i) (hd : ¬cond0_1 i)
    (x0 : FVec Ideal S512x1408 .bf16) (x1 : FVec Ideal S1408x2048 .bf16) (x2 : FVec Ideal S512x2048 .f32) (x3 : FVec Ideal S1x2048 .f32) :
    sout0_A_0 (F := Ideal) c i a2 h2 a3 h3 a4 h4 a5 h5 a6 h6 a7 h7 hc hd x0 x1 x2 x3 = k0_pay2 (F := Ideal) x2 x0 x1 := by
  unfold sout0_A_0
  rw [View.read_writes_eq_canon _ _ _ (scover0_A_0 (F := Ideal) c i a2 h2 a3 h3 a4 h4 a5 h5 a6 h6 a7 h7 hc hd x0 x1 x2 x3)]
  unfold kernelRun0_A
  dsimp only
  sl_unfold_words
  rw [View.canon_cons_unit_zero hz]
  simp only [View.readAt_eq_ld, h2.read_unread, h3.read_unread, h4.read_unread, h5.read_unread, h7.read_unread, View.ld_unit_zero (S := S512x2048) hz, View.ld_unit_zero (S := S512x1408) hz, View.ld_unit_zero (S := S1408x2048) hz, View.ld_unit_zero (S := S1x2048) hz]
  rw [View.readCov_cons_toLoadRect, pay1_eq]

theorem soutB (c : Dev nD) (i : grid0.Coords) (a2 : Memref sig .tc .vmem S512x1408 .bf16) (h2 : a2.IsWhole) (a3 : Memref sig .tc .vmem S1408x2048 .bf16) (h3 : a3.IsWhole) (a4 : Memref sig .tc .vmem S512x2048 .f32) (h4 : a4.IsWhole) (a5 : Memref sig .tc .vmem S1x2048 .f32) (h5 : a5.IsWhole) (a6 : Memref sig .tc .vmem S512x2048 .f32) (h6 : a6.IsWhole) (a7 : Memref sig .tc .vmem S512x2048 .f32) (h7 : a7.IsWhole) (hc : ¬cond0_0 i) (hd : ¬cond0_1 i)
    (x0 : FVec Ideal S512x1408 .bf16) (x1 : FVec Ideal S1408x2048 .bf16) (x2 : FVec Ideal S512x2048 .f32) (x3 : FVec Ideal S1x2048 .f32) (xs : FVec Ideal S512x2048 .f32) :
    sout0_B_0 (F := Ideal) c i a2 h2 a3 h3 a4 h4 a5 h5 a6 h6 a7 h7 hc hd x0 x1 x2 x3 xs = k0_pay2 (F := Ideal) xs x0 x1 := by
  unfold sout0_B_0
  rw [View.read_writes_eq_canon _ _ _ (scover0_B_0 (F := Ideal) c i a2 h2 a3 h3 a4 h4 a5 h5 a6 h6 a7 h7 hc hd x0 x1 x2 x3 xs)]
  unfold kernelRun0_B
  dsimp only
  sl_unfold_words
  rw [View.canon_unit_zero hz]
  simp only [View.readAt_eq_ld, h2.read_unread, h3.read_unread, h4.read_unread, h5.read_unread, h7.read_unread, View.ld_unit_zero (S := S512x2048) hz, View.ld_unit_zero (S := S512x1408) hz, View.ld_unit_zero (S := S1408x2048) hz, View.ld_unit_zero (S := S1x2048) hz]

theorem outC (c : Dev nD) (i : grid0.Coords) (a2 : Memref sig .tc .vmem S512x1408 .bf16) (h2 : a2.IsWhole) (a3 : Memref sig .tc .vmem S1408x2048 .bf16) (h3 : a3.IsWhole) (a4 : Memref sig .tc .vmem S512x2048 .f32) (h4 : a4.IsWhole) (a5 : Memref sig .tc .vmem S1x2048 .f32) (h5 : a5.IsWhole) (a6 : Memref sig .tc .vmem S512x2048 .f32) (h6 : a6.IsWhole) (a7 : Memref sig .tc .vmem S512x2048 .f32) (h7 : a7.IsWhole) (hc : ¬cond0_0 i) (hd : cond0_1 i)
    (x0 : FVec Ideal S512x1408 .bf16) (x1 : FVec Ideal S1408x2048 .bf16) (x2 : FVec Ideal S512x2048 .f32) (x3 : FVec Ideal S1x2048 .f32) (xs : FVec Ideal S512x2048 .f32) :
    out0_C_4 (F := Ideal) c i a2 h2 a3 h3 a4 h4 a5 h5 a6 h6 a7 h7 hc hd x0 x1 x2 x3 xs = k0_pay3 (F := Ideal) (k0_pay2 (F := Ideal) xs x0 x1) x3 := by
  unfold out0_C_4
  rw [View.read_writes_eq_canon _ _ _ (cover0_C_4 (F := Ideal) c i a2 h2 a3 h3 a4 h4 a5 h5 a6 h6 a7 h7 hc hd x0 x1 x2 x3 xs)]
  unfold kernelRun0_C
  dsimp only
  sl_unfold_words
  rw [View.canon_unit_zero hz]
  simp only [View.readAt_eq_ld, h2.read_unread, h3.read_unread, h4.read_unread, h5.read_unread, h7.read_unread, View.ld_unit_zero (S := S512x2048) hz, View.ld_unit_zero (S := S512x1408) hz, View.ld_unit_zero (S := S1408x2048) hz, View.ld_unit_zero (S := S1x2048) hz]
  rw [View.readCov_cons_toLoadRect]

/-- The products of one dot, numbered by natural numbers. -/
def pr (g : FVec Ideal S17408x5632 .bf16) (w : FVec Ideal S5632x2048 .f32) (r : Fin 17408) (s : Fin 2048) (x : ℕ) : EReal :=
  if hx : x < 5632 then g (ix2 r ⟨x, hx⟩) * w (ix2 ⟨x, hx⟩ s) else 0

/-- An element of the residual. -/
def at2 (h : FVec Ideal S17408x2048 .f32) (r : Fin 17408) (s : Fin 2048) : EReal := h (ix2 r s)

/-- The residual plus the dot: one element before the norm. -/
def u1 (g : FVec Ideal S17408x5632 .bf16) (w : FVec Ideal S5632x2048 .f32) (h : FVec Ideal S17408x2048 .f32) (r : Fin 17408) (s : Fin 2048) : EReal :=
  h (ix2 r s) + ∑ k : Fin 5632, g (ix2 r k) * w (ix2 k s)

theorem u1_eq (g : FVec Ideal S17408x5632 .bf16) (w : FVec Ideal S5632x2048 .f32) (h : FVec Ideal S17408x2048 .f32) (r : Fin 17408) (s : Fin 2048) :
    h (ix2 r s) + ∑ x ∈ Finset.range (1408 * 4), pr g w r s x = u1 g w h r s := by
  unfold u1
  refine congrArg₂ (· + ·) rfl ?_
  rw [Finset.sum_range]
  refine Finset.sum_congr rfl fun k _ => ?_
  unfold pr
  exact dif_pos k.isLt

/-- The array row an output row comes from: each batch's first 512 rows are left out. -/
def src (o : Fin 16384) : Fin 17408 := ⟨o.val / 8192 * 8704 + (512 + o.val % 8192), by omega⟩

/-- The result, from the launch memory. -/
def G (c : Dev nD) : FVec Ideal S16384x2048 .f32 := fun i =>
  rms (u1 (m ((c : Thread nD τ).loc main_arg0)) (m ((c : Thread nD τ).loc main_arg1)) (m ((c : Thread nD τ).loc main_arg2)) (src (i 0))) (fun l => m ((c : Thread nD τ).loc main_arg3) (ix1 l)) (i 1)
theorem G_apply (c : Dev nD) (r : Fin 16384) (s : Fin 2048) : G m c (ix2 r s) =
  rms (u1 (m ((c : Thread nD τ).loc main_arg0)) (m ((c : Thread nD τ).loc main_arg1)) (m ((c : Thread nD τ).loc main_arg2)) (src r)) (fun l => m ((c : Thread nD τ).loc main_arg3) (ix1 l)) s := rfl

/-- The sum of a chunk's products is that part of the numbered products. -/
theorem chunk (c : Dev nD) (t : Fin cfg0.N) (q : ℕ) (hq : t.val % 4 = q) (i : Fin 512) (j : Fin 2048) (r : Fin 17408) (hr : r.val = R t.val * 512 + i.val) (a : EReal)
    (x0 : FVec Ideal S512x1408 .bf16) (e0 : x0 = iblk m c 0 t) (x1 : FVec Ideal S1408x2048 .bf16) (e1 : x1 = iblk m c 1 t) :
    a + ∑ x ∈ Finset.range (1408 * q), pr (m ((c : Thread nD τ).loc main_arg0)) (m ((c : Thread nD τ).loc main_arg1)) r j x
      + ∑ k : Fin 1408, x0 (ix2 i k) * x1 (ix2 k j) =
    a + ∑ x ∈ Finset.range (1408 * (q + 1)), pr (m ((c : Thread nD τ).loc main_arg0)) (m ((c : Thread nD τ).loc main_arg1)) r j x := by
  subst e0 e1
  rw [Nat.mul_succ, Finset.sum_range_add, ← add_assoc]
  congr 1
  rw [Finset.sum_range]
  refine Finset.sum_congr rfl fun k _ => ?_
  have hk : 1408 * q + k.val < 5632 := by have := k.isLt; have : t.val % 4 < 4 := Nat.mod_lt _ (by decide); omega
  unfold pr
  rw [dif_pos hk]
  exact congrArg₂ (· * ·) (blk0 m c t i k r ⟨_, hk⟩ hr (by show 1408 * q + k.val = _; rw [hq, Nat.mul_comm])) (blk1 m c t k j ⟨_, hk⟩ j (by show 1408 * q + k.val = _; rw [hq, Nat.mul_comm]) rfl)

theorem scrA (c : Dev nD) (t : Fin cfg0.N) (h0 : t.val % 4 = 0) :
    (outsAt0 (F := Ideal) m c t.val t.isLt).2 = k0_pay2 (F := Ideal) (iblk m c 2 t) (iblk m c 0 t) (iblk m c 1 t) := by
  rw [outsAt0_A m c t h0 (by rw [h0]; decide)]
  dsimp only
  rw [soutA]

theorem scrB (c : Dev nD) (t : Fin cfg0.N) (h0 : ¬t.val % 4 = 0) (h1 : ¬t.val % 4 = 3) :
    (outsAt0 (F := Ideal) m c t.val t.isLt).2 = k0_pay2 (F := Ideal) (outsAt0 (F := Ideal) m c (t.val - 1) (Nat.lt_of_le_of_lt (Nat.sub_le _ _) t.isLt)).2 (iblk m c 0 t) (iblk m c 1 t) := by
  rw [outsAt0_B m c t h0 h1]
  dsimp only
  rw [soutB]

theorem resC (c : Dev nD) (t : Fin cfg0.N) (h1 : t.val % 4 = 3) :
    (outsAt0 (F := Ideal) m c t.val t.isLt).1 = k0_pay3 (F := Ideal) (k0_pay2 (F := Ideal) (outsAt0 (F := Ideal) m c (t.val - 1) (Nat.lt_of_le_of_lt (Nat.sub_le _ _) t.isLt)).2 (iblk m c 0 t) (iblk m c 1 t)) (iblk m c 3 t) := by
  rw [outsAt0_C m c t (by rw [h1]; decide) h1]
  dsimp only
  rw [outC]

theorem pred_facts (n q : ℕ) (h : n % 4 = q + 1) : (n - 1) % 4 = q ∧ R (n - 1) = R n := by
  have : (n - 1) / 4 = n / 4 := by omega
  refine ⟨by omega, ?_⟩
  unfold R; rw [this]

/-- After the point of chunk `q` the scratch holds the residual plus the first `q + 1` chunks of the dot. -/
theorem scr (c : Dev nD) : ∀ (q : ℕ) (hq3 : q < 3) (t : Fin cfg0.N) (hq : t.val % 4 = q) (i : Fin 512) (j : Fin 2048) (r : Fin 17408) (hr : r.val = R t.val * 512 + i.val),
    ((outsAt0 (F := Ideal) m c t.val t.isLt).2 : FVec Ideal S512x2048 .f32) (ix2 i j) =
      at2 (m ((c : Thread nD τ).loc main_arg2)) r j + ∑ x ∈ Finset.range (1408 * (q + 1)), pr (m ((c : Thread nD τ).loc main_arg0)) (m ((c : Thread nD τ).loc main_arg1)) r j x := by
  intro q
  induction q with
  | zero =>
    intro hq3 t hq i j r hr
    rw [scrA m c t hq]
    refine (pay2_apply _ _ _ i j).trans ?_
    refine Eq.trans ?_ (chunk m c t 0 hq i j r hr _ _ rfl _ rfl)
    refine congrArg₂ (· + ·) ?_ rfl
    refine (blk2 m c t i j r j hr rfl).trans ?_
    simp [at2]
  | succ q ih =>
    intro hq3 t hq i j r hr
    rw [scrB m c t (by rw [hq]; exact Nat.succ_ne_zero _) (by rw [hq]; exact Nat.ne_of_lt hq3)]
    refine (pay2_apply _ _ _ i j).trans ?_
    obtain ⟨p1, p2⟩ := pred_facts t.val q hq
    refine (congrArg₂ (· + ·) (ih (Nat.lt_of_succ_lt hq3) ⟨t.val - 1, Nat.lt_of_le_of_lt (Nat.sub_le _ _) t.isLt⟩ p1 i j r (by rw [p2]; exact hr)) rfl).trans ?_
    exact chunk m c t (q + 1) hq i j r hr _ _ rfl _ rfl

/-- What the last point of a run leaves in the output's block. -/
theorem out_eq (c : Dev nD) (t : Fin cfg0.N) (h3 : t.val % 4 = 3) (i : Fin 512) (j : Fin 2048) (o : Fin 16384) (ho : o.val = t.val / 4 * 512 + i.val) :
    ((outsAt0 (F := Ideal) m c t.val t.isLt).1 : FVec Ideal S512x2048 .f32) (ix2 i j) = G m c (ix2 o j) := by
  rw [G_apply, resC m c t h3]
  refine (pay3_apply _ _ i j).trans ?_
  have hr : (src o).val = R t.val * 512 + i.val := by
    show o.val / 8192 * 8704 + (512 + o.val % 8192) = (t.val / 4 / 16 * 17 + 1 + t.val / 4 % 16) * 512 + i.val
    have := i.isLt
    generalize t.val / 4 = n at ho
    omega
  refine rms_congr (fun l => ?_) (fun l => blk3 m c t 0 l l rfl) j
  refine (pay2_apply _ _ _ i l).trans ?_
  obtain ⟨p1, p2⟩ := pred_facts t.val 2 h3
  refine (congrArg₂ (· + ·) (scr m c 2 (by decide) ⟨t.val - 1, Nat.lt_of_le_of_lt (Nat.sub_le _ _) t.isLt⟩ p1 i l (src o) (by rw [p2]; exact hr)) rfl).trans ?_
  refine (chunk m c t 3 h3 i l (src o) hr _ _ rfl _ rfl).trans ?_
  exact u1_eq _ _ _ _ _

/-- What a grid point writes back is its block of `G`. -/
theorem flushed_eq (c : Dev nD) (t : Fin cfg0.N) (hf : (cfg0.win 4).flush t = true) :
    (dats m 0 c).flushed 4 t = ((cfg0.win 4).blk t).view.read (Elt Ideal) (G m c) := by
  have h := idx_all t
  have h3 : t.val % 4 = 3 := (flush0_4 t).mp hf
  rw [Value.flushed4]
  funext y
  show ((outsAt0 m c t.val t.isLt).1 : FVec Ideal S512x2048 .f32) ((cfg0.win 4).xinj (grid0.coords t) y) = G m c (((cfg0.win 4).blk t).view.emb y)
  have y0 : (y 0).val < 512 := (y 0).isLt
  have y1 : (y 1).val < 2048 := (y 1).isLt
  have e : (cfg0.win 4).xinj (grid0.coords t) y = (ix2 (⟨(y 0).val, y0⟩ : Fin 512) (⟨(y 1).val, y1⟩ : Fin 2048) : S512x2048.Idx) := by
    funext a; match a with
    | ⟨0, _⟩ => rfl
    | ⟨1, _⟩ => rfl
  have e' : (((cfg0.win 4).blk t).view.emb y) = (ix2 (⟨t.val / 4 * 512 + (y 0).val, by omega⟩ : Fin 16384) (⟨(y 1).val, by omega⟩ : Fin 2048) : S16384x2048.Idx) := by
    funext a; apply Fin.ext; match a with
    | ⟨0, _⟩ => show win0_4.index t 0 * 512 + 1 * (y 0).val = t.val / 4 * 512 + (y 0).val; omega
    | ⟨1, _⟩ => show win0_4.index t 1 * 2048 + 1 * (y 1).val = (y 1).val; omega
  rw [e, e']
  exact out_eq m c t h3 _ _ _ rfl

/-- The array after the run. -/
theorem final (c : Dev nD) : (dats m 0 c).arrAt 4 cfg0.N = G m c :=
  (dats m 0 c).arrAt_eq_of_cover 4 (G m c) (fun t hf => flushed_eq m c t hf) (fun i => (Value.covered_iff4 i).2 (by
    have h0 : (i 0).val < 16384 := (i 0).isLt; have h1 : (i 1).val < 2048 := (i 1).isLt; omega))

end Cert.FfnDownIdeal.RefValue

namespace Cert.FfnDownRefIdeal.RefValue
open Cert.FfnDownRefIdeal Cert.FfnDownRefIdeal.Gen

/-- The plain text's rows before the norm. -/
theorem refu (g : FVec Ideal S17408x5632 .bf16) (w : FVec Ideal S5632x2048 .f32) (h : FVec Ideal S17408x2048 .f32) (r : Fin 17408) (s : Fin 2048) :
    (addf h (Host.dotGeneral dot_S17408x5632_S5632x2048_S17408x2048_1_0_0_1_n_n none (extf .f32 g bitsLt_bf16_f32) w) : FVec Ideal S17408x2048 .f32) (ix2 r s)
      = Cert.FfnDownIdeal.RefValue.u1 g w h r s := by
  unfold Cert.FfnDownIdeal.RefValue.u1
  pointwise []

/-- The plain text's norm. -/
theorem refn (u : FVec Ideal S17408x2048 .f32) (w : FVec Ideal S2048 .f32) (r : Fin 17408) (k : Fin 2048) :
   (mulf (mulf u (broadcastInDim S17408x2048 ![0, 1] bcast_S17408x1_S17408x2048_0_1 (Host.rsqrt (addf (Host.divf (broadcastInDim S17408x1 ![0] bcast_S17408_S17408x1_0 (Host.reduceAdd (mulf u u) (constant S_ .f32 0x00000000#32) reducesTo_S17408x2048_S17408_d1 h_S_)) (broadcastInDim S17408x1 ![] bcast_S_S17408x1 (constant S_ .f32 0x45000000#32))) (broadcastInDim S17408x1 ![] bcast_S_S17408x1 (constant S_ .f32 0x358637BD#32)))))) (broadcastInDim S17408x2048 ![0, 1] bcast_S1x2048_S17408x2048_0_1 (broadcastInDim S1x2048 ![1] bcast_S2048_S1x2048_1 w)) : FVec Ideal S17408x2048 .f32) (ix2 r k) = rms (fun l => u (ix2 r l)) (fun l => w (ix1 l)) k := by
  unfold rms
  pointwise []

/-- The slice that drops each batch's first 512 rows, between two reshapes: a result row is a row of the array. -/
theorem refs (x : FVec Ideal S17408x2048 .f32) (o : Fin 16384) (s : Fin 2048) :
   (shapeCast S16384x2048 (extractStridedSlice S2x8192x2048 ![0, 512, 0] (shapeCast S2x8704x2048 x shapeCasts_S17408x2048_S2x8704x2048) slices_S2x8704x2048_S2x8192x2048_0_512_0) shapeCasts_S2x8192x2048_S16384x2048 : FVec Ideal S16384x2048 .f32) (ix2 o s)
    = x (ix2 (Cert.FfnDownIdeal.RefValue.src o) s) := by
  unfold Cert.FfnDownIdeal.RefValue.src
  pointwise []

end Cert.FfnDownRefIdeal.RefValue

namespace Cert.FfnDownIdeal.RefValue

/-- The kernel and the plain text end with the same normalised rows, for any argument values. -/
theorem algebraic : Cert.algebraic_FfnDownIdeal_FfnDownRefIdeal (hFfnDownIdeal := Cert.FfnDownIdeal.Gen.facts) (hFfnDownRefIdeal := Cert.FfnDownRefIdeal.Gen.facts) := by
  intro m g m' g' _ hargs
  refine ⟨fun c => G m c, ?_, ?_⟩
  · exact (θ_run Cert.FfnDownIdeal.defs _ _).mono (fun r h c => ⟨((h c).1).trans (final m c), (h c).2⟩) (Cert.FfnDownIdeal.Value.run_blocks (F := Ideal) m g)
  · refine (θ_run Cert.FfnDownRefIdeal.defs _ _).mono (fun r h c => ⟨((h c).1).trans ?_, (h c).2⟩) (Cert.FfnDownRefIdeal.Value.run (F := Ideal) m' g')
    obtain ⟨h0, h1, h2, h3⟩ := hargs c
    rw [h0, h1, h2, h3]
    funext i
    obtain ⟨r, s, rfl⟩ : ∃ (r : Fin 16384) (s : Fin 2048), i = ix2 r s := ⟨_, _, eq_ix2 i⟩
    refine (Cert.FfnDownRefIdeal.RefValue.refs _ r s).trans ?_
    refine (Cert.FfnDownRefIdeal.RefValue.refn _ _ _ s).trans ?_
    exact rms_congr (fun l => Cert.FfnDownRefIdeal.RefValue.refu _ _ _ _ l) (fun l => rfl) s

end Cert.FfnDownIdeal.RefValue
end
-- ==== Proof.lean ====
module

public import proofs.«01_k».proof.Defs
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.IdxProj
public import proofs.«01_k».proof.Proof.Gen.IdxProj.Skeleton
public import proofs.«01_k».proof.Proof.Gen.IdxProj.Launch
public import proofs.«01_k».proof.Proof.Gen.IdxProj.Points
public import proofs.«01_k».proof.Proof.Gen.IdxProj.Frame
public import proofs.«01_k».proof.Proof.Gen.IdxProjIdeal
public import proofs.«01_k».proof.Proof.Gen.IdxProjIdeal.Skeleton
public import proofs.«01_k».proof.Proof.Gen.IdxProjIdeal.Launch
public import proofs.«01_k».proof.Proof.Gen.IdxProjIdeal.Points
public import proofs.«01_k».proof.Proof.Gen.IdxProjIdeal.Frame
public import proofs.«01_k».proof.Proof.Gen.IdxProjIdeal.Value
public import proofs.«01_k».proof.Proof.Gen.IdxProjRefIdeal
public import proofs.«01_k».proof.Proof.Gen.IdxProjRefIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.FfnUpIdeal.Value
public import proofs.«01_k».proof.Proof.Gen.FfnUpRefIdeal
public import proofs.«01_k».proof.Proof.Gen.FfnUpRefIdeal.Run
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownIdeal.Value
public import proofs.«01_k».proof.Proof.Gen.FfnDownRefIdeal
public import proofs.«01_k».proof.Proof.Gen.FfnDownRefIdeal.Run
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.Attn.Loops
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnIdeal.Loops
public import proofs.«01_k».proof.Proof.Gen.AttnIdeal.Value
public import proofs.«01_k».proof.Proof.Gen.AttnRefIdeal
public import proofs.«01_k».proof.Proof.Gen.AttnRefIdeal.Run
public import proofs.«01_k».proof.Proof.AttnEq
public import proofs.«01_k».proof.Proof.InProjEq
public import proofs.«01_k».proof.Proof.IdxProjEq
public import proofs.«01_k».proof.Proof.MergeEq
public import proofs.«01_k».proof.Proof.OutProjEq
public import proofs.«01_k».proof.Proof.FfnUpEq
public import proofs.«01_k».proof.Proof.FfnDownEq
public import Idealize.ShloMosaic.Adequacy
public import Idealize.ShloMosaic.Init

@[expose] public section

noncomputable section

namespace Cert.Proof

open Idealize.ShloMosaic Idealize.SL.Sem

/-- The plain text of `Attn` runs, leaves its arguments unchanged and every semaphore counter at zero. -/
theorem frame_AttnRef : Cert.quiescent_AttnRefIdeal (hAttnRefIdeal := Cert.AttnRefIdeal.Gen.facts) := fun m ρ _ =>
  (θ_run Cert.AttnRefIdeal.defs _ _).mono (fun r h => ⟨fun c => (h c).2, Idealize.ShloMosaic.sem_eq_zero_of_no_sems (by decide) r.2⟩)
    (Cert.AttnRefIdeal.Value.run (F := Ideal) m ρ)

/-- The plain text of `InProj` runs, leaves its arguments unchanged and every semaphore counter at zero. -/
theorem frame_InProjRef : Cert.quiescent_InProjRefIdeal (hInProjRefIdeal := Cert.InProjRefIdeal.Gen.facts) := fun m ρ _ =>
  (θ_run Cert.InProjRefIdeal.defs _ _).mono (fun r h => ⟨fun c => (h c).2, Idealize.ShloMosaic.sem_eq_zero_of_no_sems (by decide) r.2⟩)
    (Cert.InProjRefIdeal.Value.run (F := Ideal) m ρ)

/-- The plain text of `IdxProj` runs, leaves its arguments unchanged and every semaphore counter at zero. -/
theorem frame_IdxProjRef : Cert.quiescent_IdxProjRefIdeal (hIdxProjRefIdeal := Cert.IdxProjRefIdeal.Gen.facts) := fun m ρ _ =>
  (θ_run Cert.IdxProjRefIdeal.defs _ _).mono (fun r h => ⟨fun c => (h c).2.2.2, Idealize.ShloMosaic.sem_eq_zero_of_no_sems (by decide) r.2⟩)
    (Cert.IdxProjRefIdeal.Value.run (F := Ideal) m ρ)

/-- The plain text of `Merge` runs, leaves its arguments unchanged and every semaphore counter at zero. -/
theorem frame_MergeRef : Cert.quiescent_MergeRefIdeal (hMergeRefIdeal := Cert.MergeRefIdeal.Gen.facts) := fun m ρ _ =>
  (θ_run Cert.MergeRefIdeal.defs _ _).mono (fun r h => ⟨fun c => (h c).2, Idealize.ShloMosaic.sem_eq_zero_of_no_sems (by decide) r.2⟩)
    (Cert.MergeRefIdeal.Value.run (F := Ideal) m ρ)

/-- The plain text of `OutProj` runs, leaves its arguments unchanged and every semaphore counter at zero. -/
theorem frame_OutProjRef : Cert.quiescent_OutProjRefIdeal (hOutProjRefIdeal := Cert.OutProjRefIdeal.Gen.facts) := fun m ρ _ =>
  (θ_run Cert.OutProjRefIdeal.defs _ _).mono (fun r h => ⟨fun c => (h c).2.2, Idealize.ShloMosaic.sem_eq_zero_of_no_sems (by decide) r.2⟩)
    (Cert.OutProjRefIdeal.Value.run (F := Ideal) m ρ)

/-- The plain text of `FfnUp` runs, leaves its arguments unchanged and every semaphore counter at zero. -/
theorem frame_FfnUpRef : Cert.quiescent_FfnUpRefIdeal (hFfnUpRefIdeal := Cert.FfnUpRefIdeal.Gen.facts) := fun m ρ _ =>
  (θ_run Cert.FfnUpRefIdeal.defs _ _).mono (fun r h => ⟨fun c => (h c).2, Idealize.ShloMosaic.sem_eq_zero_of_no_sems (by decide) r.2⟩)
    (Cert.FfnUpRefIdeal.Value.run (F := Ideal) m ρ)

/-- The plain text of `FfnDown` runs, leaves its arguments unchanged and every semaphore counter at zero. -/
theorem frame_FfnDownRef : Cert.quiescent_FfnDownRefIdeal (hFfnDownRefIdeal := Cert.FfnDownRefIdeal.Gen.facts) := fun m ρ _ =>
  (θ_run Cert.FfnDownRefIdeal.defs _ _).mono (fun r h => ⟨fun c => (h c).2, Idealize.ShloMosaic.sem_eq_zero_of_no_sems (by decide) r.2⟩)
    (Cert.FfnDownRefIdeal.Value.run (F := Ideal) m ρ)

/-- The two named constants of the attention kernel have their values. -/
theorem preserves_Attn : Cert.preserves_Attn_AttnIdeal :=
  ⟨IdealRules.named_const.statement Cert.AttnIdeal.κ "scale_log2e" .f32 0x3E0293EE#32 (((Real.sqrt 128)⁻¹ * (Real.log 2)⁻¹ : ℝ) : EReal) rfl,
    IdealRules.named_const.statement Cert.AttnIdeal.κ "mask" .f32 0xF149F2CA#32 ⊥ rfl⟩

/-- Every claim of the certificate. -/
theorem claim : Cert.Claim :=
  ⟨Cert.Attn.Gen.facts, Cert.AttnIdeal.Gen.facts, Cert.AttnRefIdeal.Gen.facts, Cert.InProj.Gen.facts,
    Cert.InProjIdeal.Gen.facts, Cert.InProjRefIdeal.Gen.facts, Cert.IdxProj.Gen.facts, Cert.IdxProjIdeal.Gen.facts,
    Cert.IdxProjRefIdeal.Gen.facts, Cert.Merge.Gen.facts, Cert.MergeIdeal.Gen.facts, Cert.MergeRefIdeal.Gen.facts,
    Cert.OutProj.Gen.facts, Cert.OutProjIdeal.Gen.facts, Cert.OutProjRefIdeal.Gen.facts, Cert.FfnUp.Gen.facts,
    Cert.FfnUpIdeal.Gen.facts, Cert.FfnUpRefIdeal.Gen.facts, Cert.FfnDown.Gen.facts, Cert.FfnDownIdeal.Gen.facts,
    Cert.FfnDownRefIdeal.Gen.facts, Cert.AttnPre.facts,
    fun m ρ _ => Cert.Attn.Gen.frame m ρ, fun m ρ _ => Cert.AttnIdeal.Gen.frame m ρ, fun m ρ _ => Cert.AttnIdeal.Gen.frame m ρ, frame_AttnRef,
    fun m ρ _ => frame_AttnRef m ρ trivial, fun m ρ _ => Cert.InProj.Gen.frame m ρ, fun m ρ _ => Cert.InProjIdeal.Gen.frame m ρ, frame_InProjRef,
    fun m ρ _ => Cert.IdxProj.Gen.frame m ρ, fun m ρ _ => Cert.IdxProjIdeal.Gen.frame m ρ, frame_IdxProjRef, fun m ρ _ => Cert.Merge.Gen.frame m ρ,
    fun m ρ _ => Cert.MergeIdeal.Gen.frame m ρ, frame_MergeRef, fun m ρ _ => Cert.OutProj.Gen.frame m ρ, fun m ρ _ => Cert.OutProjIdeal.Gen.frame m ρ,
    frame_OutProjRef, fun m ρ _ => Cert.FfnUp.Gen.frame m ρ, fun m ρ _ => Cert.FfnUpIdeal.Gen.frame m ρ, frame_FfnUpRef,
    fun m ρ _ => Cert.FfnDown.Gen.frame m ρ, fun m ρ _ => Cert.FfnDownIdeal.Gen.frame m ρ, frame_FfnDownRef,
    preserves_Attn, Cert.AttnIdeal.RefValue.algebraic, trivial, Cert.InProjIdeal.RefValue.algebraic,
    trivial, Cert.IdxProjIdeal.RefValue.algebraic, trivial, Cert.MergeIdeal.RefValue.algebraic,
    trivial, Cert.OutProjIdeal.RefValue.algebraic, trivial, Cert.FfnUpIdeal.RefValue.algebraic,
    trivial, Cert.FfnDownIdeal.RefValue.algebraic⟩

end Cert.Proof

end
